-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Edge (m : (ℓ : Loc Cert.Edge.nD Cert.Edge.τ Cert.Edge.sig) → Buf (Elt Bits) ℓ) : Prop :=
  True

def Pre_EdgeIdeal (m : (ℓ : Loc Cert.EdgeIdeal.nD Cert.EdgeIdeal.τ Cert.EdgeIdeal.sig) → Buf (Elt Ideal) ℓ) : Prop :=
  True

def Pre_EdgeIdeal_in_range [hPre_in_range : Cert.Pre_in_range.Facts] (m : (ℓ : Loc Cert.EdgeIdeal.nD Cert.EdgeIdeal.τ Cert.EdgeIdeal.sig) → Buf (Elt Ideal) ℓ) : Prop :=
  ∀ c : Dev Cert.EdgeIdeal.nD,
    (Cert.Pre_in_range.fn (F := Ideal) (m ((c.tc : Thread Cert.EdgeIdeal.nD Cert.EdgeIdeal.τ).loc Cert.EdgeIdeal.main_arg0)) (m ((c.tc : Thread Cert.EdgeIdeal.nD Cert.EdgeIdeal.τ).loc Cert.EdgeIdeal.main_arg1)) (m ((c.tc : Thread Cert.EdgeIdeal.nD Cert.EdgeIdeal.τ).loc Cert.EdgeIdeal.main_arg2)) (m ((c.tc : Thread Cert.EdgeIdeal.nD Cert.EdgeIdeal.τ).loc Cert.EdgeIdeal.main_arg3)) (m ((c.tc : Thread Cert.EdgeIdeal.nD Cert.EdgeIdeal.τ).loc Cert.EdgeIdeal.main_arg4)) (m ((c.tc : Thread Cert.EdgeIdeal.nD Cert.EdgeIdeal.τ).loc Cert.EdgeIdeal.main_arg5)) (m ((c.tc : Thread Cert.EdgeIdeal.nD Cert.EdgeIdeal.τ).loc Cert.EdgeIdeal.main_arg6)) (m ((c.tc : Thread Cert.EdgeIdeal.nD Cert.EdgeIdeal.τ).loc Cert.EdgeIdeal.main_arg7)) (m ((c.tc : Thread Cert.EdgeIdeal.nD Cert.EdgeIdeal.τ).loc Cert.EdgeIdeal.main_arg8)) (m ((c.tc : Thread Cert.EdgeIdeal.nD Cert.EdgeIdeal.τ).loc Cert.EdgeIdeal.main_arg9)) (m ((c.tc : Thread Cert.EdgeIdeal.nD Cert.EdgeIdeal.τ).loc Cert.EdgeIdeal.main_arg10))).1 = (fun _ => 1#1)
    ∧ (Cert.Pre_in_range.fn (F := Ideal) (m ((c.tc : Thread Cert.EdgeIdeal.nD Cert.EdgeIdeal.τ).loc Cert.EdgeIdeal.main_arg0)) (m ((c.tc : Thread Cert.EdgeIdeal.nD Cert.EdgeIdeal.τ).loc Cert.EdgeIdeal.main_arg1)) (m ((c.tc : Thread Cert.EdgeIdeal.nD Cert.EdgeIdeal.τ).loc Cert.EdgeIdeal.main_arg2)) (m ((c.tc : Thread Cert.EdgeIdeal.nD Cert.EdgeIdeal.τ).loc Cert.EdgeIdeal.main_arg3)) (m ((c.tc : Thread Cert.EdgeIdeal.nD Cert.EdgeIdeal.τ).loc Cert.EdgeIdeal.main_arg4)) (m ((c.tc : Thread Cert.EdgeIdeal.nD Cert.EdgeIdeal.τ).loc Cert.EdgeIdeal.main_arg5)) (m ((c.tc : Thread Cert.EdgeIdeal.nD Cert.EdgeIdeal.τ).loc Cert.EdgeIdeal.main_arg6)) (m ((c.tc : Thread Cert.EdgeIdeal.nD Cert.EdgeIdeal.τ).loc Cert.EdgeIdeal.main_arg7)) (m ((c.tc : Thread Cert.EdgeIdeal.nD Cert.EdgeIdeal.τ).loc Cert.EdgeIdeal.main_arg8)) (m ((c.tc : Thread Cert.EdgeIdeal.nD Cert.EdgeIdeal.τ).loc Cert.EdgeIdeal.main_arg9)) (m ((c.tc : Thread Cert.EdgeIdeal.nD Cert.EdgeIdeal.τ).loc Cert.EdgeIdeal.main_arg10))).2 = (fun _ => 1#1)

def Pre_EdgeRefIdeal (m : (ℓ : Loc Cert.EdgeRefIdeal.nD Cert.EdgeRefIdeal.τ Cert.EdgeRefIdeal.sig) → Buf (Elt Ideal) ℓ) : Prop :=
  True

def Pre_EdgeRefIdeal_in_range [hPre_in_range : Cert.Pre_in_range.Facts] (m : (ℓ : Loc Cert.EdgeRefIdeal.nD Cert.EdgeRefIdeal.τ Cert.EdgeRefIdeal.sig) → Buf (Elt Ideal) ℓ) : Prop :=
  ∀ c : Dev Cert.EdgeRefIdeal.nD,
    (Cert.Pre_in_range.fn (F := Ideal) (m ((c.tc : Thread Cert.EdgeRefIdeal.nD Cert.EdgeRefIdeal.τ).loc Cert.EdgeRefIdeal.main_arg0)) (m ((c.tc : Thread Cert.EdgeRefIdeal.nD Cert.EdgeRefIdeal.τ).loc Cert.EdgeRefIdeal.main_arg1)) (m ((c.tc : Thread Cert.EdgeRefIdeal.nD Cert.EdgeRefIdeal.τ).loc Cert.EdgeRefIdeal.main_arg2)) (m ((c.tc : Thread Cert.EdgeRefIdeal.nD Cert.EdgeRefIdeal.τ).loc Cert.EdgeRefIdeal.main_arg3)) (m ((c.tc : Thread Cert.EdgeRefIdeal.nD Cert.EdgeRefIdeal.τ).loc Cert.EdgeRefIdeal.main_arg4)) (m ((c.tc : Thread Cert.EdgeRefIdeal.nD Cert.EdgeRefIdeal.τ).loc Cert.EdgeRefIdeal.main_arg5)) (m ((c.tc : Thread Cert.EdgeRefIdeal.nD Cert.EdgeRefIdeal.τ).loc Cert.EdgeRefIdeal.main_arg6)) (m ((c.tc : Thread Cert.EdgeRefIdeal.nD Cert.EdgeRefIdeal.τ).loc Cert.EdgeRefIdeal.main_arg7)) (m ((c.tc : Thread Cert.EdgeRefIdeal.nD Cert.EdgeRefIdeal.τ).loc Cert.EdgeRefIdeal.main_arg8)) (m ((c.tc : Thread Cert.EdgeRefIdeal.nD Cert.EdgeRefIdeal.τ).loc Cert.EdgeRefIdeal.main_arg9)) (m ((c.tc : Thread Cert.EdgeRefIdeal.nD Cert.EdgeRefIdeal.τ).loc Cert.EdgeRefIdeal.main_arg10))).1 = (fun _ => 1#1)
    ∧ (Cert.Pre_in_range.fn (F := Ideal) (m ((c.tc : Thread Cert.EdgeRefIdeal.nD Cert.EdgeRefIdeal.τ).loc Cert.EdgeRefIdeal.main_arg0)) (m ((c.tc : Thread Cert.EdgeRefIdeal.nD Cert.EdgeRefIdeal.τ).loc Cert.EdgeRefIdeal.main_arg1)) (m ((c.tc : Thread Cert.EdgeRefIdeal.nD Cert.EdgeRefIdeal.τ).loc Cert.EdgeRefIdeal.main_arg2)) (m ((c.tc : Thread Cert.EdgeRefIdeal.nD Cert.EdgeRefIdeal.τ).loc Cert.EdgeRefIdeal.main_arg3)) (m ((c.tc : Thread Cert.EdgeRefIdeal.nD Cert.EdgeRefIdeal.τ).loc Cert.EdgeRefIdeal.main_arg4)) (m ((c.tc : Thread Cert.EdgeRefIdeal.nD Cert.EdgeRefIdeal.τ).loc Cert.EdgeRefIdeal.main_arg5)) (m ((c.tc : Thread Cert.EdgeRefIdeal.nD Cert.EdgeRefIdeal.τ).loc Cert.EdgeRefIdeal.main_arg6)) (m ((c.tc : Thread Cert.EdgeRefIdeal.nD Cert.EdgeRefIdeal.τ).loc Cert.EdgeRefIdeal.main_arg7)) (m ((c.tc : Thread Cert.EdgeRefIdeal.nD Cert.EdgeRefIdeal.τ).loc Cert.EdgeRefIdeal.main_arg8)) (m ((c.tc : Thread Cert.EdgeRefIdeal.nD Cert.EdgeRefIdeal.τ).loc Cert.EdgeRefIdeal.main_arg9)) (m ((c.tc : Thread Cert.EdgeRefIdeal.nD Cert.EdgeRefIdeal.τ).loc Cert.EdgeRefIdeal.main_arg10))).2 = (fun _ => 1#1)

def Pre_Node (m : (ℓ : Loc Cert.Node.nD Cert.Node.τ Cert.Node.sig) → Buf (Elt Bits) ℓ) : Prop :=
  True

def Pre_NodeIdeal (m : (ℓ : Loc Cert.NodeIdeal.nD Cert.NodeIdeal.τ Cert.NodeIdeal.sig) → Buf (Elt Ideal) ℓ) : Prop :=
  True

def Pre_NodeIdeal_labelled [hPre_labelled : Cert.Pre_labelled.Facts] (m : (ℓ : Loc Cert.NodeIdeal.nD Cert.NodeIdeal.τ Cert.NodeIdeal.sig) → Buf (Elt Ideal) ℓ) : Prop :=
  ∀ c : Dev Cert.NodeIdeal.nD,
    (Cert.Pre_labelled.fn (F := Ideal) (m ((c.tc : Thread Cert.NodeIdeal.nD Cert.NodeIdeal.τ).loc Cert.NodeIdeal.main_arg0)) (m ((c.tc : Thread Cert.NodeIdeal.nD Cert.NodeIdeal.τ).loc Cert.NodeIdeal.main_arg1))) = (fun _ => 1#1)

def Pre_NodeRefIdeal (m : (ℓ : Loc Cert.NodeRefIdeal.nD Cert.NodeRefIdeal.τ Cert.NodeRefIdeal.sig) → Buf (Elt Ideal) ℓ) : Prop :=
  True

def Pre_NodeRefIdeal_labelled [hPre_labelled : Cert.Pre_labelled.Facts] (m : (ℓ : Loc Cert.NodeRefIdeal.nD Cert.NodeRefIdeal.τ Cert.NodeRefIdeal.sig) → Buf (Elt Ideal) ℓ) : Prop :=
  ∀ c : Dev Cert.NodeRefIdeal.nD,
    (Cert.Pre_labelled.fn (F := Ideal) (m ((c.tc : Thread Cert.NodeRefIdeal.nD Cert.NodeRefIdeal.τ).loc Cert.NodeRefIdeal.main_arg0)) (m ((c.tc : Thread Cert.NodeRefIdeal.nD Cert.NodeRefIdeal.τ).loc Cert.NodeRefIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Edge [hEdge : Cert.Edge.Facts] : Prop :=
  ∀ (m : (ℓ : Loc Cert.Edge.nD Cert.Edge.τ Cert.Edge.sig) → Buf (Elt Bits) ℓ) (g : Dev Cert.Edge.nD → PrngReg), Pre_Edge m →
    θ_run (Cert.Edge.defs (F := Bits)) (onTc (τ := Cert.Edge.τ) (Cert.Edge.main (F := Bits))) ⟨m, fun _ => 0, g⟩ (fun r => (∀ c : Dev Cert.Edge.nD,
      r.2.mem ((c.tc : Thread Cert.Edge.nD Cert.Edge.τ).loc Cert.Edge.main_arg0) = m ((c.tc : Thread Cert.Edge.nD Cert.Edge.τ).loc Cert.Edge.main_arg0)
      ∧ r.2.mem ((c.tc : Thread Cert.Edge.nD Cert.Edge.τ).loc Cert.Edge.main_arg1) = m ((c.tc : Thread Cert.Edge.nD Cert.Edge.τ).loc Cert.Edge.main_arg1)
      ∧ r.2.mem ((c.tc : Thread Cert.Edge.nD Cert.Edge.τ).loc Cert.Edge.main_arg2) = m ((c.tc : Thread Cert.Edge.nD Cert.Edge.τ).loc Cert.Edge.main_arg2)
      ∧ r.2.mem ((c.tc : Thread Cert.Edge.nD Cert.Edge.τ).loc Cert.Edge.main_arg3) = m ((c.tc : Thread Cert.Edge.nD Cert.Edge.τ).loc Cert.Edge.main_arg3)
      ∧ r.2.mem ((c.tc : Thread Cert.Edge.nD Cert.Edge.τ).loc Cert.Edge.main_arg4) = m ((c.tc : Thread Cert.Edge.nD Cert.Edge.τ).loc Cert.Edge.main_arg4)
      ∧ r.2.mem ((c.tc : Thread Cert.Edge.nD Cert.Edge.τ).loc Cert.Edge.main_arg5) = m ((c.tc : Thread Cert.Edge.nD Cert.Edge.τ).loc Cert.Edge.main_arg5)
      ∧ r.2.mem ((c.tc : Thread Cert.Edge.nD Cert.Edge.τ).loc Cert.Edge.main_arg6) = m ((c.tc : Thread Cert.Edge.nD Cert.Edge.τ).loc Cert.Edge.main_arg6)
      ∧ r.2.mem ((c.tc : Thread Cert.Edge.nD Cert.Edge.τ).loc Cert.Edge.main_arg7) = m ((c.tc : Thread Cert.Edge.nD Cert.Edge.τ).loc Cert.Edge.main_arg7)
      ∧ r.2.mem ((c.tc : Thread Cert.Edge.nD Cert.Edge.τ).loc Cert.Edge.main_arg8) = m ((c.tc : Thread Cert.Edge.nD Cert.Edge.τ).loc Cert.Edge.main_arg8)
      ∧ r.2.mem ((c.tc : Thread Cert.Edge.nD Cert.Edge.τ).loc Cert.Edge.main_arg9) = m ((c.tc : Thread Cert.Edge.nD Cert.Edge.τ).loc Cert.Edge.main_arg9)
      ∧ r.2.mem ((c.tc : Thread Cert.Edge.nD Cert.Edge.τ).loc Cert.Edge.main_arg10) = m ((c.tc : Thread Cert.Edge.nD Cert.Edge.τ).loc Cert.Edge.main_arg10))
      ∧ r.2.sem = fun _ => 0)

def quiescent_EdgeIdeal [hEdgeIdeal : Cert.EdgeIdeal.Facts] : Prop :=
  ∀ (m : (ℓ : Loc Cert.EdgeIdeal.nD Cert.EdgeIdeal.τ Cert.EdgeIdeal.sig) → Buf (Elt Ideal) ℓ) (g : Dev Cert.EdgeIdeal.nD → PrngReg), Pre_EdgeIdeal m →
    θ_run (Cert.EdgeIdeal.defs (F := Ideal)) (onTc (τ := Cert.EdgeIdeal.τ) (Cert.EdgeIdeal.main (F := Ideal))) ⟨m, fun _ => 0, g⟩ (fun r => (∀ c : Dev Cert.EdgeIdeal.nD,
      r.2.mem ((c.tc : Thread Cert.EdgeIdeal.nD Cert.EdgeIdeal.τ).loc Cert.EdgeIdeal.main_arg0) = m ((c.tc : Thread Cert.EdgeIdeal.nD Cert.EdgeIdeal.τ).loc Cert.EdgeIdeal.main_arg0)
      ∧ r.2.mem ((c.tc : Thread Cert.EdgeIdeal.nD Cert.EdgeIdeal.τ).loc Cert.EdgeIdeal.main_arg1) = m ((c.tc : Thread Cert.EdgeIdeal.nD Cert.EdgeIdeal.τ).loc Cert.EdgeIdeal.main_arg1)
      ∧ r.2.mem ((c.tc : Thread Cert.EdgeIdeal.nD Cert.EdgeIdeal.τ).loc Cert.EdgeIdeal.main_arg2) = m ((c.tc : Thread Cert.EdgeIdeal.nD Cert.EdgeIdeal.τ).loc Cert.EdgeIdeal.main_arg2)
      ∧ r.2.mem ((c.tc : Thread Cert.EdgeIdeal.nD Cert.EdgeIdeal.τ).loc Cert.EdgeIdeal.main_arg3) = m ((c.tc : Thread Cert.EdgeIdeal.nD Cert.EdgeIdeal.τ).loc Cert.EdgeIdeal.main_arg3)
      ∧ r.2.mem ((c.tc : Thread Cert.EdgeIdeal.nD Cert.EdgeIdeal.τ).loc Cert.EdgeIdeal.main_arg4) = m ((c.tc : Thread Cert.EdgeIdeal.nD Cert.EdgeIdeal.τ).loc Cert.EdgeIdeal.main_arg4)
      ∧ r.2.mem ((c.tc : Thread Cert.EdgeIdeal.nD Cert.EdgeIdeal.τ).loc Cert.EdgeIdeal.main_arg5) = m ((c.tc : Thread Cert.EdgeIdeal.nD Cert.EdgeIdeal.τ).loc Cert.EdgeIdeal.main_arg5)
      ∧ r.2.mem ((c.tc : Thread Cert.EdgeIdeal.nD Cert.EdgeIdeal.τ).loc Cert.EdgeIdeal.main_arg6) = m ((c.tc : Thread Cert.EdgeIdeal.nD Cert.EdgeIdeal.τ).loc Cert.EdgeIdeal.main_arg6)
      ∧ r.2.mem ((c.tc : Thread Cert.EdgeIdeal.nD Cert.EdgeIdeal.τ).loc Cert.EdgeIdeal.main_arg7) = m ((c.tc : Thread Cert.EdgeIdeal.nD Cert.EdgeIdeal.τ).loc Cert.EdgeIdeal.main_arg7)
      ∧ r.2.mem ((c.tc : Thread Cert.EdgeIdeal.nD Cert.EdgeIdeal.τ).loc Cert.EdgeIdeal.main_arg8) = m ((c.tc : Thread Cert.EdgeIdeal.nD Cert.EdgeIdeal.τ).loc Cert.EdgeIdeal.main_arg8)
      ∧ r.2.mem ((c.tc : Thread Cert.EdgeIdeal.nD Cert.EdgeIdeal.τ).loc Cert.EdgeIdeal.main_arg9) = m ((c.tc : Thread Cert.EdgeIdeal.nD Cert.EdgeIdeal.τ).loc Cert.EdgeIdeal.main_arg9)
      ∧ r.2.mem ((c.tc : Thread Cert.EdgeIdeal.nD Cert.EdgeIdeal.τ).loc Cert.EdgeIdeal.main_arg10) = m ((c.tc : Thread Cert.EdgeIdeal.nD Cert.EdgeIdeal.τ).loc Cert.EdgeIdeal.main_arg10))
      ∧ r.2.sem = fun _ => 0)

def quiescent_EdgeIdeal_pre_in_range [hEdgeIdeal : Cert.EdgeIdeal.Facts] [hPre_in_range : Cert.Pre_in_range.Facts] : Prop :=
  ∀ (m : (ℓ : Loc Cert.EdgeIdeal.nD Cert.EdgeIdeal.τ Cert.EdgeIdeal.sig) → Buf (Elt Ideal) ℓ) (g : Dev Cert.EdgeIdeal.nD → PrngReg), Pre_EdgeIdeal_in_range m →
    θ_run (Cert.EdgeIdeal.defs (F := Ideal)) (onTc (τ := Cert.EdgeIdeal.τ) (Cert.EdgeIdeal.main (F := Ideal))) ⟨m, fun _ => 0, g⟩ (fun r => (∀ c : Dev Cert.EdgeIdeal.nD,
      r.2.mem ((c.tc : Thread Cert.EdgeIdeal.nD Cert.EdgeIdeal.τ).loc Cert.EdgeIdeal.main_arg0) = m ((c.tc : Thread Cert.EdgeIdeal.nD Cert.EdgeIdeal.τ).loc Cert.EdgeIdeal.main_arg0)
      ∧ r.2.mem ((c.tc : Thread Cert.EdgeIdeal.nD Cert.EdgeIdeal.τ).loc Cert.EdgeIdeal.main_arg1) = m ((c.tc : Thread Cert.EdgeIdeal.nD Cert.EdgeIdeal.τ).loc Cert.EdgeIdeal.main_arg1)
      ∧ r.2.mem ((c.tc : Thread Cert.EdgeIdeal.nD Cert.EdgeIdeal.τ).loc Cert.EdgeIdeal.main_arg2) = m ((c.tc : Thread Cert.EdgeIdeal.nD Cert.EdgeIdeal.τ).loc Cert.EdgeIdeal.main_arg2)
      ∧ r.2.mem ((c.tc : Thread Cert.EdgeIdeal.nD Cert.EdgeIdeal.τ).loc Cert.EdgeIdeal.main_arg3) = m ((c.tc : Thread Cert.EdgeIdeal.nD Cert.EdgeIdeal.τ).loc Cert.EdgeIdeal.main_arg3)
      ∧ r.2.mem ((c.tc : Thread Cert.EdgeIdeal.nD Cert.EdgeIdeal.τ).loc Cert.EdgeIdeal.main_arg4) = m ((c.tc : Thread Cert.EdgeIdeal.nD Cert.EdgeIdeal.τ).loc Cert.EdgeIdeal.main_arg4)
      ∧ r.2.mem ((c.tc : Thread Cert.EdgeIdeal.nD Cert.EdgeIdeal.τ).loc Cert.EdgeIdeal.main_arg5) = m ((c.tc : Thread Cert.EdgeIdeal.nD Cert.EdgeIdeal.τ).loc Cert.EdgeIdeal.main_arg5)
      ∧ r.2.mem ((c.tc : Thread Cert.EdgeIdeal.nD Cert.EdgeIdeal.τ).loc Cert.EdgeIdeal.main_arg6) = m ((c.tc : Thread Cert.EdgeIdeal.nD Cert.EdgeIdeal.τ).loc Cert.EdgeIdeal.main_arg6)
      ∧ r.2.mem ((c.tc : Thread Cert.EdgeIdeal.nD Cert.EdgeIdeal.τ).loc Cert.EdgeIdeal.main_arg7) = m ((c.tc : Thread Cert.EdgeIdeal.nD Cert.EdgeIdeal.τ).loc Cert.EdgeIdeal.main_arg7)
      ∧ r.2.mem ((c.tc : Thread Cert.EdgeIdeal.nD Cert.EdgeIdeal.τ).loc Cert.EdgeIdeal.main_arg8) = m ((c.tc : Thread Cert.EdgeIdeal.nD Cert.EdgeIdeal.τ).loc Cert.EdgeIdeal.main_arg8)
      ∧ r.2.mem ((c.tc : Thread Cert.EdgeIdeal.nD Cert.EdgeIdeal.τ).loc Cert.EdgeIdeal.main_arg9) = m ((c.tc : Thread Cert.EdgeIdeal.nD Cert.EdgeIdeal.τ).loc Cert.EdgeIdeal.main_arg9)
      ∧ r.2.mem ((c.tc : Thread Cert.EdgeIdeal.nD Cert.EdgeIdeal.τ).loc Cert.EdgeIdeal.main_arg10) = m ((c.tc : Thread Cert.EdgeIdeal.nD Cert.EdgeIdeal.τ).loc Cert.EdgeIdeal.main_arg10))
      ∧ r.2.sem = fun _ => 0)

def quiescent_EdgeRefIdeal [hEdgeRefIdeal : Cert.EdgeRefIdeal.Facts] : Prop :=
  ∀ (m : (ℓ : Loc Cert.EdgeRefIdeal.nD Cert.EdgeRefIdeal.τ Cert.EdgeRefIdeal.sig) → Buf (Elt Ideal) ℓ) (g : Dev Cert.EdgeRefIdeal.nD → PrngReg), Pre_EdgeRefIdeal m →
    θ_run (Cert.EdgeRefIdeal.defs (F := Ideal)) (onTc (τ := Cert.EdgeRefIdeal.τ) (Cert.EdgeRefIdeal.main (F := Ideal))) ⟨m, fun _ => 0, g⟩ (fun r => (∀ c : Dev Cert.EdgeRefIdeal.nD,
      r.2.mem ((c.tc : Thread Cert.EdgeRefIdeal.nD Cert.EdgeRefIdeal.τ).loc Cert.EdgeRefIdeal.main_arg0) = m ((c.tc : Thread Cert.EdgeRefIdeal.nD Cert.EdgeRefIdeal.τ).loc Cert.EdgeRefIdeal.main_arg0)
      ∧ r.2.mem ((c.tc : Thread Cert.EdgeRefIdeal.nD Cert.EdgeRefIdeal.τ).loc Cert.EdgeRefIdeal.main_arg1) = m ((c.tc : Thread Cert.EdgeRefIdeal.nD Cert.EdgeRefIdeal.τ).loc Cert.EdgeRefIdeal.main_arg1)
      ∧ r.2.mem ((c.tc : Thread Cert.EdgeRefIdeal.nD Cert.EdgeRefIdeal.τ).loc Cert.EdgeRefIdeal.main_arg2) = m ((c.tc : Thread Cert.EdgeRefIdeal.nD Cert.EdgeRefIdeal.τ).loc Cert.EdgeRefIdeal.main_arg2)
      ∧ r.2.mem ((c.tc : Thread Cert.EdgeRefIdeal.nD Cert.EdgeRefIdeal.τ).loc Cert.EdgeRefIdeal.main_arg3) = m ((c.tc : Thread Cert.EdgeRefIdeal.nD Cert.EdgeRefIdeal.τ).loc Cert.EdgeRefIdeal.main_arg3)
      ∧ r.2.mem ((c.tc : Thread Cert.EdgeRefIdeal.nD Cert.EdgeRefIdeal.τ).loc Cert.EdgeRefIdeal.main_arg4) = m ((c.tc : Thread Cert.EdgeRefIdeal.nD Cert.EdgeRefIdeal.τ).loc Cert.EdgeRefIdeal.main_arg4)
      ∧ r.2.mem ((c.tc : Thread Cert.EdgeRefIdeal.nD Cert.EdgeRefIdeal.τ).loc Cert.EdgeRefIdeal.main_arg5) = m ((c.tc : Thread Cert.EdgeRefIdeal.nD Cert.EdgeRefIdeal.τ).loc Cert.EdgeRefIdeal.main_arg5)
      ∧ r.2.mem ((c.tc : Thread Cert.EdgeRefIdeal.nD Cert.EdgeRefIdeal.τ).loc Cert.EdgeRefIdeal.main_arg6) = m ((c.tc : Thread Cert.EdgeRefIdeal.nD Cert.EdgeRefIdeal.τ).loc Cert.EdgeRefIdeal.main_arg6)
      ∧ r.2.mem ((c.tc : Thread Cert.EdgeRefIdeal.nD Cert.EdgeRefIdeal.τ).loc Cert.EdgeRefIdeal.main_arg7) = m ((c.tc : Thread Cert.EdgeRefIdeal.nD Cert.EdgeRefIdeal.τ).loc Cert.EdgeRefIdeal.main_arg7)
      ∧ r.2.mem ((c.tc : Thread Cert.EdgeRefIdeal.nD Cert.EdgeRefIdeal.τ).loc Cert.EdgeRefIdeal.main_arg8) = m ((c.tc : Thread Cert.EdgeRefIdeal.nD Cert.EdgeRefIdeal.τ).loc Cert.EdgeRefIdeal.main_arg8)
      ∧ r.2.mem ((c.tc : Thread Cert.EdgeRefIdeal.nD Cert.EdgeRefIdeal.τ).loc Cert.EdgeRefIdeal.main_arg9) = m ((c.tc : Thread Cert.EdgeRefIdeal.nD Cert.EdgeRefIdeal.τ).loc Cert.EdgeRefIdeal.main_arg9)
      ∧ r.2.mem ((c.tc : Thread Cert.EdgeRefIdeal.nD Cert.EdgeRefIdeal.τ).loc Cert.EdgeRefIdeal.main_arg10) = m ((c.tc : Thread Cert.EdgeRefIdeal.nD Cert.EdgeRefIdeal.τ).loc Cert.EdgeRefIdeal.main_arg10))
      ∧ r.2.sem = fun _ => 0)

def quiescent_EdgeRefIdeal_pre_in_range [hEdgeRefIdeal : Cert.EdgeRefIdeal.Facts] [hPre_in_range : Cert.Pre_in_range.Facts] : Prop :=
  ∀ (m : (ℓ : Loc Cert.EdgeRefIdeal.nD Cert.EdgeRefIdeal.τ Cert.EdgeRefIdeal.sig) → Buf (Elt Ideal) ℓ) (g : Dev Cert.EdgeRefIdeal.nD → PrngReg), Pre_EdgeRefIdeal_in_range m →
    θ_run (Cert.EdgeRefIdeal.defs (F := Ideal)) (onTc (τ := Cert.EdgeRefIdeal.τ) (Cert.EdgeRefIdeal.main (F := Ideal))) ⟨m, fun _ => 0, g⟩ (fun r => (∀ c : Dev Cert.EdgeRefIdeal.nD,
      r.2.mem ((c.tc : Thread Cert.EdgeRefIdeal.nD Cert.EdgeRefIdeal.τ).loc Cert.EdgeRefIdeal.main_arg0) = m ((c.tc : Thread Cert.EdgeRefIdeal.nD Cert.EdgeRefIdeal.τ).loc Cert.EdgeRefIdeal.main_arg0)
      ∧ r.2.mem ((c.tc : Thread Cert.EdgeRefIdeal.nD Cert.EdgeRefIdeal.τ).loc Cert.EdgeRefIdeal.main_arg1) = m ((c.tc : Thread Cert.EdgeRefIdeal.nD Cert.EdgeRefIdeal.τ).loc Cert.EdgeRefIdeal.main_arg1)
      ∧ r.2.mem ((c.tc : Thread Cert.EdgeRefIdeal.nD Cert.EdgeRefIdeal.τ).loc Cert.EdgeRefIdeal.main_arg2) = m ((c.tc : Thread Cert.EdgeRefIdeal.nD Cert.EdgeRefIdeal.τ).loc Cert.EdgeRefIdeal.main_arg2)
      ∧ r.2.mem ((c.tc : Thread Cert.EdgeRefIdeal.nD Cert.EdgeRefIdeal.τ).loc Cert.EdgeRefIdeal.main_arg3) = m ((c.tc : Thread Cert.EdgeRefIdeal.nD Cert.EdgeRefIdeal.τ).loc Cert.EdgeRefIdeal.main_arg3)
      ∧ r.2.mem ((c.tc : Thread Cert.EdgeRefIdeal.nD Cert.EdgeRefIdeal.τ).loc Cert.EdgeRefIdeal.main_arg4) = m ((c.tc : Thread Cert.EdgeRefIdeal.nD Cert.EdgeRefIdeal.τ).loc Cert.EdgeRefIdeal.main_arg4)
      ∧ r.2.mem ((c.tc : Thread Cert.EdgeRefIdeal.nD Cert.EdgeRefIdeal.τ).loc Cert.EdgeRefIdeal.main_arg5) = m ((c.tc : Thread Cert.EdgeRefIdeal.nD Cert.EdgeRefIdeal.τ).loc Cert.EdgeRefIdeal.main_arg5)
      ∧ r.2.mem ((c.tc : Thread Cert.EdgeRefIdeal.nD Cert.EdgeRefIdeal.τ).loc Cert.EdgeRefIdeal.main_arg6) = m ((c.tc : Thread Cert.EdgeRefIdeal.nD Cert.EdgeRefIdeal.τ).loc Cert.EdgeRefIdeal.main_arg6)
      ∧ r.2.mem ((c.tc : Thread Cert.EdgeRefIdeal.nD Cert.EdgeRefIdeal.τ).loc Cert.EdgeRefIdeal.main_arg7) = m ((c.tc : Thread Cert.EdgeRefIdeal.nD Cert.EdgeRefIdeal.τ).loc Cert.EdgeRefIdeal.main_arg7)
      ∧ r.2.mem ((c.tc : Thread Cert.EdgeRefIdeal.nD Cert.EdgeRefIdeal.τ).loc Cert.EdgeRefIdeal.main_arg8) = m ((c.tc : Thread Cert.EdgeRefIdeal.nD Cert.EdgeRefIdeal.τ).loc Cert.EdgeRefIdeal.main_arg8)
      ∧ r.2.mem ((c.tc : Thread Cert.EdgeRefIdeal.nD Cert.EdgeRefIdeal.τ).loc Cert.EdgeRefIdeal.main_arg9) = m ((c.tc : Thread Cert.EdgeRefIdeal.nD Cert.EdgeRefIdeal.τ).loc Cert.EdgeRefIdeal.main_arg9)
      ∧ r.2.mem ((c.tc : Thread Cert.EdgeRefIdeal.nD Cert.EdgeRefIdeal.τ).loc Cert.EdgeRefIdeal.main_arg10) = m ((c.tc : Thread Cert.EdgeRefIdeal.nD Cert.EdgeRefIdeal.τ).loc Cert.EdgeRefIdeal.main_arg10))
      ∧ r.2.sem = fun _ => 0)

def quiescent_Node [hNode : Cert.Node.Facts] : Prop :=
  ∀ (m : (ℓ : Loc Cert.Node.nD Cert.Node.τ Cert.Node.sig) → Buf (Elt Bits) ℓ) (g : Dev Cert.Node.nD → PrngReg), Pre_Node m →
    θ_run (Cert.Node.defs (F := Bits)) (onTc (τ := Cert.Node.τ) (Cert.Node.main (F := Bits))) ⟨m, fun _ => 0, g⟩ (fun r => (∀ c : Dev Cert.Node.nD,
      r.2.mem ((c.tc : Thread Cert.Node.nD Cert.Node.τ).loc Cert.Node.main_arg0) = m ((c.tc : Thread Cert.Node.nD Cert.Node.τ).loc Cert.Node.main_arg0)
      ∧ r.2.mem ((c.tc : Thread Cert.Node.nD Cert.Node.τ).loc Cert.Node.main_arg1) = m ((c.tc : Thread Cert.Node.nD Cert.Node.τ).loc Cert.Node.main_arg1))
      ∧ r.2.sem = fun _ => 0)

def quiescent_NodeIdeal [hNodeIdeal : Cert.NodeIdeal.Facts] : Prop :=
  ∀ (m : (ℓ : Loc Cert.NodeIdeal.nD Cert.NodeIdeal.τ Cert.NodeIdeal.sig) → Buf (Elt Ideal) ℓ) (g : Dev Cert.NodeIdeal.nD → PrngReg), Pre_NodeIdeal m →
    θ_run (Cert.NodeIdeal.defs (F := Ideal)) (onTc (τ := Cert.NodeIdeal.τ) (Cert.NodeIdeal.main (F := Ideal))) ⟨m, fun _ => 0, g⟩ (fun r => (∀ c : Dev Cert.NodeIdeal.nD,
      r.2.mem ((c.tc : Thread Cert.NodeIdeal.nD Cert.NodeIdeal.τ).loc Cert.NodeIdeal.main_arg0) = m ((c.tc : Thread Cert.NodeIdeal.nD Cert.NodeIdeal.τ).loc Cert.NodeIdeal.main_arg0)
      ∧ r.2.mem ((c.tc : Thread Cert.NodeIdeal.nD Cert.NodeIdeal.τ).loc Cert.NodeIdeal.main_arg1) = m ((c.tc : Thread Cert.NodeIdeal.nD Cert.NodeIdeal.τ).loc Cert.NodeIdeal.main_arg1))
      ∧ r.2.sem = fun _ => 0)

def quiescent_NodeIdeal_pre_labelled [hNodeIdeal : Cert.NodeIdeal.Facts] [hPre_labelled : Cert.Pre_labelled.Facts] : Prop :=
  ∀ (m : (ℓ : Loc Cert.NodeIdeal.nD Cert.NodeIdeal.τ Cert.NodeIdeal.sig) → Buf (Elt Ideal) ℓ) (g : Dev Cert.NodeIdeal.nD → PrngReg), Pre_NodeIdeal_labelled m →
    θ_run (Cert.NodeIdeal.defs (F := Ideal)) (onTc (τ := Cert.NodeIdeal.τ) (Cert.NodeIdeal.main (F := Ideal))) ⟨m, fun _ => 0, g⟩ (fun r => (∀ c : Dev Cert.NodeIdeal.nD,
      r.2.mem ((c.tc : Thread Cert.NodeIdeal.nD Cert.NodeIdeal.τ).loc Cert.NodeIdeal.main_arg0) = m ((c.tc : Thread Cert.NodeIdeal.nD Cert.NodeIdeal.τ).loc Cert.NodeIdeal.main_arg0)
      ∧ r.2.mem ((c.tc : Thread Cert.NodeIdeal.nD Cert.NodeIdeal.τ).loc Cert.NodeIdeal.main_arg1) = m ((c.tc : Thread Cert.NodeIdeal.nD Cert.NodeIdeal.τ).loc Cert.NodeIdeal.main_arg1))
      ∧ r.2.sem = fun _ => 0)

def quiescent_NodeRefIdeal [hNodeRefIdeal : Cert.NodeRefIdeal.Facts] : Prop :=
  ∀ (m : (ℓ : Loc Cert.NodeRefIdeal.nD Cert.NodeRefIdeal.τ Cert.NodeRefIdeal.sig) → Buf (Elt Ideal) ℓ) (g : Dev Cert.NodeRefIdeal.nD → PrngReg), Pre_NodeRefIdeal m →
    θ_run (Cert.NodeRefIdeal.defs (F := Ideal)) (onTc (τ := Cert.NodeRefIdeal.τ) (Cert.NodeRefIdeal.main (F := Ideal))) ⟨m, fun _ => 0, g⟩ (fun r => (∀ c : Dev Cert.NodeRefIdeal.nD,
      r.2.mem ((c.tc : Thread Cert.NodeRefIdeal.nD Cert.NodeRefIdeal.τ).loc Cert.NodeRefIdeal.main_arg0) = m ((c.tc : Thread Cert.NodeRefIdeal.nD Cert.NodeRefIdeal.τ).loc Cert.NodeRefIdeal.main_arg0)
      ∧ r.2.mem ((c.tc : Thread Cert.NodeRefIdeal.nD Cert.NodeRefIdeal.τ).loc Cert.NodeRefIdeal.main_arg1) = m ((c.tc : Thread Cert.NodeRefIdeal.nD Cert.NodeRefIdeal.τ).loc Cert.NodeRefIdeal.main_arg1))
      ∧ r.2.sem = fun _ => 0)

def quiescent_NodeRefIdeal_pre_labelled [hNodeRefIdeal : Cert.NodeRefIdeal.Facts] [hPre_labelled : Cert.Pre_labelled.Facts] : Prop :=
  ∀ (m : (ℓ : Loc Cert.NodeRefIdeal.nD Cert.NodeRefIdeal.τ Cert.NodeRefIdeal.sig) → Buf (Elt Ideal) ℓ) (g : Dev Cert.NodeRefIdeal.nD → PrngReg), Pre_NodeRefIdeal_labelled m →
    θ_run (Cert.NodeRefIdeal.defs (F := Ideal)) (onTc (τ := Cert.NodeRefIdeal.τ) (Cert.NodeRefIdeal.main (F := Ideal))) ⟨m, fun _ => 0, g⟩ (fun r => (∀ c : Dev Cert.NodeRefIdeal.nD,
      r.2.mem ((c.tc : Thread Cert.NodeRefIdeal.nD Cert.NodeRefIdeal.τ).loc Cert.NodeRefIdeal.main_arg0) = m ((c.tc : Thread Cert.NodeRefIdeal.nD Cert.NodeRefIdeal.τ).loc Cert.NodeRefIdeal.main_arg0)
      ∧ r.2.mem ((c.tc : Thread Cert.NodeRefIdeal.nD Cert.NodeRefIdeal.τ).loc Cert.NodeRefIdeal.main_arg1) = m ((c.tc : Thread Cert.NodeRefIdeal.nD Cert.NodeRefIdeal.τ).loc Cert.NodeRefIdeal.main_arg1))
      ∧ r.2.sem = fun _ => 0)

def preserves_Kernel_KernelIdeal : Prop :=
  IdealRules.sign_bit.Statement Cert.KernelIdeal.S1x6400 .f32

def preserves_Edge_EdgeIdeal : Prop :=
  IdealRules.sign_bit.Statement Cert.EdgeIdeal.S1x6400 .f32

def algebraic_EdgeIdeal_EdgeRefIdeal_pre_in_range [hEdgeIdeal : Cert.EdgeIdeal.Facts] [hEdgeRefIdeal : Cert.EdgeRefIdeal.Facts] [hPre_in_range : Cert.Pre_in_range.Facts] : Prop :=
  ∀ (m : (ℓ : Loc Cert.EdgeIdeal.nD Cert.EdgeIdeal.τ Cert.EdgeIdeal.sig) → Buf (Elt Ideal) ℓ) (g : Dev Cert.EdgeIdeal.nD → PrngReg)
    (m' : (ℓ : Loc Cert.EdgeRefIdeal.nD Cert.EdgeRefIdeal.τ Cert.EdgeRefIdeal.sig) → Buf (Elt Ideal) ℓ) (g' : Dev Cert.EdgeRefIdeal.nD → PrngReg), Pre_EdgeIdeal_in_range m →
    (∀ c : Dev Cert.EdgeIdeal.nD,
      m' ((c.tc : Thread Cert.EdgeRefIdeal.nD Cert.EdgeRefIdeal.τ).loc Cert.EdgeRefIdeal.main_arg0) = m ((c.tc : Thread Cert.EdgeIdeal.nD Cert.EdgeIdeal.τ).loc Cert.EdgeIdeal.main_arg0)
      ∧ m' ((c.tc : Thread Cert.EdgeRefIdeal.nD Cert.EdgeRefIdeal.τ).loc Cert.EdgeRefIdeal.main_arg1) = m ((c.tc : Thread Cert.EdgeIdeal.nD Cert.EdgeIdeal.τ).loc Cert.EdgeIdeal.main_arg1)
      ∧ m' ((c.tc : Thread Cert.EdgeRefIdeal.nD Cert.EdgeRefIdeal.τ).loc Cert.EdgeRefIdeal.main_arg2) = m ((c.tc : Thread Cert.EdgeIdeal.nD Cert.EdgeIdeal.τ).loc Cert.EdgeIdeal.main_arg2)
      ∧ m' ((c.tc : Thread Cert.EdgeRefIdeal.nD Cert.EdgeRefIdeal.τ).loc Cert.EdgeRefIdeal.main_arg3) = m ((c.tc : Thread Cert.EdgeIdeal.nD Cert.EdgeIdeal.τ).loc Cert.EdgeIdeal.main_arg3)
      ∧ m' ((c.tc : Thread Cert.EdgeRefIdeal.nD Cert.EdgeRefIdeal.τ).loc Cert.EdgeRefIdeal.main_arg4) = m ((c.tc : Thread Cert.EdgeIdeal.nD Cert.EdgeIdeal.τ).loc Cert.EdgeIdeal.main_arg4)
      ∧ m' ((c.tc : Thread Cert.EdgeRefIdeal.nD Cert.EdgeRefIdeal.τ).loc Cert.EdgeRefIdeal.main_arg5) = m ((c.tc : Thread Cert.EdgeIdeal.nD Cert.EdgeIdeal.τ).loc Cert.EdgeIdeal.main_arg5)
      ∧ m' ((c.tc : Thread Cert.EdgeRefIdeal.nD Cert.EdgeRefIdeal.τ).loc Cert.EdgeRefIdeal.main_arg6) = m ((c.tc : Thread Cert.EdgeIdeal.nD Cert.EdgeIdeal.τ).loc Cert.EdgeIdeal.main_arg6)
      ∧ m' ((c.tc : Thread Cert.EdgeRefIdeal.nD Cert.EdgeRefIdeal.τ).loc Cert.EdgeRefIdeal.main_arg7) = m ((c.tc : Thread Cert.EdgeIdeal.nD Cert.EdgeIdeal.τ).loc Cert.EdgeIdeal.main_arg7)
      ∧ m' ((c.tc : Thread Cert.EdgeRefIdeal.nD Cert.EdgeRefIdeal.τ).loc Cert.EdgeRefIdeal.main_arg8) = m ((c.tc : Thread Cert.EdgeIdeal.nD Cert.EdgeIdeal.τ).loc Cert.EdgeIdeal.main_arg8)
      ∧ m' ((c.tc : Thread Cert.EdgeRefIdeal.nD Cert.EdgeRefIdeal.τ).loc Cert.EdgeRefIdeal.main_arg9) = m ((c.tc : Thread Cert.EdgeIdeal.nD Cert.EdgeIdeal.τ).loc Cert.EdgeIdeal.main_arg9)
      ∧ m' ((c.tc : Thread Cert.EdgeRefIdeal.nD Cert.EdgeRefIdeal.τ).loc Cert.EdgeRefIdeal.main_arg10) = m ((c.tc : Thread Cert.EdgeIdeal.nD Cert.EdgeIdeal.τ).loc Cert.EdgeIdeal.main_arg10)) →
    ∃ (v0 : (c : Dev Cert.EdgeIdeal.nD) → Buf (Elt Ideal) ((c.tc : Thread Cert.EdgeIdeal.nD Cert.EdgeIdeal.τ).loc Cert.EdgeIdeal.main_v15)),
      θ_run (Cert.EdgeIdeal.defs (F := Ideal)) (onTc (τ := Cert.EdgeIdeal.τ) (Cert.EdgeIdeal.main (F := Ideal))) ⟨m, fun _ => 0, g⟩ (fun r => ∀ c : Dev Cert.EdgeIdeal.nD,
          r.2.mem ((c.tc : Thread Cert.EdgeIdeal.nD Cert.EdgeIdeal.τ).loc Cert.EdgeIdeal.main_v15) = v0 c
          ∧ r.2.mem ((c.tc : Thread Cert.EdgeIdeal.nD Cert.EdgeIdeal.τ).loc Cert.EdgeIdeal.main_arg0) = m ((c.tc : Thread Cert.EdgeIdeal.nD Cert.EdgeIdeal.τ).loc Cert.EdgeIdeal.main_arg0)
          ∧ r.2.mem ((c.tc : Thread Cert.EdgeIdeal.nD Cert.EdgeIdeal.τ).loc Cert.EdgeIdeal.main_arg1) = m ((c.tc : Thread Cert.EdgeIdeal.nD Cert.EdgeIdeal.τ).loc Cert.EdgeIdeal.main_arg1)
          ∧ r.2.mem ((c.tc : Thread Cert.EdgeIdeal.nD Cert.EdgeIdeal.τ).loc Cert.EdgeIdeal.main_arg2) = m ((c.tc : Thread Cert.EdgeIdeal.nD Cert.EdgeIdeal.τ).loc Cert.EdgeIdeal.main_arg2)
          ∧ r.2.mem ((c.tc : Thread Cert.EdgeIdeal.nD Cert.EdgeIdeal.τ).loc Cert.EdgeIdeal.main_arg3) = m ((c.tc : Thread Cert.EdgeIdeal.nD Cert.EdgeIdeal.τ).loc Cert.EdgeIdeal.main_arg3)
          ∧ r.2.mem ((c.tc : Thread Cert.EdgeIdeal.nD Cert.EdgeIdeal.τ).loc Cert.EdgeIdeal.main_arg4) = m ((c.tc : Thread Cert.EdgeIdeal.nD Cert.EdgeIdeal.τ).loc Cert.EdgeIdeal.main_arg4)
          ∧ r.2.mem ((c.tc : Thread Cert.EdgeIdeal.nD Cert.EdgeIdeal.τ).loc Cert.EdgeIdeal.main_arg5) = m ((c.tc : Thread Cert.EdgeIdeal.nD Cert.EdgeIdeal.τ).loc Cert.EdgeIdeal.main_arg5)
          ∧ r.2.mem ((c.tc : Thread Cert.EdgeIdeal.nD Cert.EdgeIdeal.τ).loc Cert.EdgeIdeal.main_arg6) = m ((c.tc : Thread Cert.EdgeIdeal.nD Cert.EdgeIdeal.τ).loc Cert.EdgeIdeal.main_arg6)
          ∧ r.2.mem ((c.tc : Thread Cert.EdgeIdeal.nD Cert.EdgeIdeal.τ).loc Cert.EdgeIdeal.main_arg7) = m ((c.tc : Thread Cert.EdgeIdeal.nD Cert.EdgeIdeal.τ).loc Cert.EdgeIdeal.main_arg7)
          ∧ r.2.mem ((c.tc : Thread Cert.EdgeIdeal.nD Cert.EdgeIdeal.τ).loc Cert.EdgeIdeal.main_arg8) = m ((c.tc : Thread Cert.EdgeIdeal.nD Cert.EdgeIdeal.τ).loc Cert.EdgeIdeal.main_arg8)
          ∧ r.2.mem ((c.tc : Thread Cert.EdgeIdeal.nD Cert.EdgeIdeal.τ).loc Cert.EdgeIdeal.main_arg9) = m ((c.tc : Thread Cert.EdgeIdeal.nD Cert.EdgeIdeal.τ).loc Cert.EdgeIdeal.main_arg9)
          ∧ r.2.mem ((c.tc : Thread Cert.EdgeIdeal.nD Cert.EdgeIdeal.τ).loc Cert.EdgeIdeal.main_arg10) = m ((c.tc : Thread Cert.EdgeIdeal.nD Cert.EdgeIdeal.τ).loc Cert.EdgeIdeal.main_arg10))
      ∧ θ_run (Cert.EdgeRefIdeal.defs (F := Ideal)) (onTc (τ := Cert.EdgeRefIdeal.τ) (Cert.EdgeRefIdeal.main (F := Ideal))) ⟨m', fun _ => 0, g'⟩ (fun r => ∀ c : Dev Cert.EdgeRefIdeal.nD,
          r.2.mem ((c.tc : Thread Cert.EdgeRefIdeal.nD Cert.EdgeRefIdeal.τ).loc Cert.EdgeRefIdeal.main_v133) = v0 c
          ∧ r.2.mem ((c.tc : Thread Cert.EdgeRefIdeal.nD Cert.EdgeRefIdeal.τ).loc Cert.EdgeRefIdeal.main_arg0) = m' ((c.tc : Thread Cert.EdgeRefIdeal.nD Cert.EdgeRefIdeal.τ).loc Cert.EdgeRefIdeal.main_arg0)
          ∧ r.2.mem ((c.tc : Thread Cert.EdgeRefIdeal.nD Cert.EdgeRefIdeal.τ).loc Cert.EdgeRefIdeal.main_arg1) = m' ((c.tc : Thread Cert.EdgeRefIdeal.nD Cert.EdgeRefIdeal.τ).loc Cert.EdgeRefIdeal.main_arg1)
          ∧ r.2.mem ((c.tc : Thread Cert.EdgeRefIdeal.nD Cert.EdgeRefIdeal.τ).loc Cert.EdgeRefIdeal.main_arg2) = m' ((c.tc : Thread Cert.EdgeRefIdeal.nD Cert.EdgeRefIdeal.τ).loc Cert.EdgeRefIdeal.main_arg2)
          ∧ r.2.mem ((c.tc : Thread Cert.EdgeRefIdeal.nD Cert.EdgeRefIdeal.τ).loc Cert.EdgeRefIdeal.main_arg3) = m' ((c.tc : Thread Cert.EdgeRefIdeal.nD Cert.EdgeRefIdeal.τ).loc Cert.EdgeRefIdeal.main_arg3)
          ∧ r.2.mem ((c.tc : Thread Cert.EdgeRefIdeal.nD Cert.EdgeRefIdeal.τ).loc Cert.EdgeRefIdeal.main_arg4) = m' ((c.tc : Thread Cert.EdgeRefIdeal.nD Cert.EdgeRefIdeal.τ).loc Cert.EdgeRefIdeal.main_arg4)
          ∧ r.2.mem ((c.tc : Thread Cert.EdgeRefIdeal.nD Cert.EdgeRefIdeal.τ).loc Cert.EdgeRefIdeal.main_arg5) = m' ((c.tc : Thread Cert.EdgeRefIdeal.nD Cert.EdgeRefIdeal.τ).loc Cert.EdgeRefIdeal.main_arg5)
          ∧ r.2.mem ((c.tc : Thread Cert.EdgeRefIdeal.nD Cert.EdgeRefIdeal.τ).loc Cert.EdgeRefIdeal.main_arg6) = m' ((c.tc : Thread Cert.EdgeRefIdeal.nD Cert.EdgeRefIdeal.τ).loc Cert.EdgeRefIdeal.main_arg6)
          ∧ r.2.mem ((c.tc : Thread Cert.EdgeRefIdeal.nD Cert.EdgeRefIdeal.τ).loc Cert.EdgeRefIdeal.main_arg7) = m' ((c.tc : Thread Cert.EdgeRefIdeal.nD Cert.EdgeRefIdeal.τ).loc Cert.EdgeRefIdeal.main_arg7)
          ∧ r.2.mem ((c.tc : Thread Cert.EdgeRefIdeal.nD Cert.EdgeRefIdeal.τ).loc Cert.EdgeRefIdeal.main_arg8) = m' ((c.tc : Thread Cert.EdgeRefIdeal.nD Cert.EdgeRefIdeal.τ).loc Cert.EdgeRefIdeal.main_arg8)
          ∧ r.2.mem ((c.tc : Thread Cert.EdgeRefIdeal.nD Cert.EdgeRefIdeal.τ).loc Cert.EdgeRefIdeal.main_arg9) = m' ((c.tc : Thread Cert.EdgeRefIdeal.nD Cert.EdgeRefIdeal.τ).loc Cert.EdgeRefIdeal.main_arg9)
          ∧ r.2.mem ((c.tc : Thread Cert.EdgeRefIdeal.nD Cert.EdgeRefIdeal.τ).loc Cert.EdgeRefIdeal.main_arg10) = m' ((c.tc : Thread Cert.EdgeRefIdeal.nD Cert.EdgeRefIdeal.τ).loc Cert.EdgeRefIdeal.main_arg10))

def preserves_Node_NodeIdeal : Prop :=
  True

def algebraic_NodeIdeal_NodeRefIdeal_pre_labelled [hNodeIdeal : Cert.NodeIdeal.Facts] [hNodeRefIdeal : Cert.NodeRefIdeal.Facts] [hPre_labelled : Cert.Pre_labelled.Facts] : Prop :=
  ∀ (m : (ℓ : Loc Cert.NodeIdeal.nD Cert.NodeIdeal.τ Cert.NodeIdeal.sig) → Buf (Elt Ideal) ℓ) (g : Dev Cert.NodeIdeal.nD → PrngReg)
    (m' : (ℓ : Loc Cert.NodeRefIdeal.nD Cert.NodeRefIdeal.τ Cert.NodeRefIdeal.sig) → Buf (Elt Ideal) ℓ) (g' : Dev Cert.NodeRefIdeal.nD → PrngReg), Pre_NodeIdeal_labelled m →
    (∀ c : Dev Cert.NodeIdeal.nD,
      m' ((c.tc : Thread Cert.NodeRefIdeal.nD Cert.NodeRefIdeal.τ).loc Cert.NodeRefIdeal.main_arg0) = m ((c.tc : Thread Cert.NodeIdeal.nD Cert.NodeIdeal.τ).loc Cert.NodeIdeal.main_arg0)
      ∧ m' ((c.tc : Thread Cert.NodeRefIdeal.nD Cert.NodeRefIdeal.τ).loc Cert.NodeRefIdeal.main_arg1) = m ((c.tc : Thread Cert.NodeIdeal.nD Cert.NodeIdeal.τ).loc Cert.NodeIdeal.main_arg1)) →
    ∃ (v0 : (c : Dev Cert.NodeIdeal.nD) → Buf (Elt Ideal) ((c.tc : Thread Cert.NodeIdeal.nD Cert.NodeIdeal.τ).loc Cert.NodeIdeal.main_v11)) (v1 : (c : Dev Cert.NodeIdeal.nD) → Buf (Elt Ideal) ((c.tc : Thread Cert.NodeIdeal.nD Cert.NodeIdeal.τ).loc Cert.NodeIdeal.main_v13)) (v2 : (c : Dev Cert.NodeIdeal.nD) → Buf (Elt Ideal) ((c.tc : Thread Cert.NodeIdeal.nD Cert.NodeIdeal.τ).loc Cert.NodeIdeal.main_v15)) (v3 : (c : Dev Cert.NodeIdeal.nD) → Buf (Elt Ideal) ((c.tc : Thread Cert.NodeIdeal.nD Cert.NodeIdeal.τ).loc Cert.NodeIdeal.main_v17)),
      θ_run (Cert.NodeIdeal.defs (F := Ideal)) (onTc (τ := Cert.NodeIdeal.τ) (Cert.NodeIdeal.main (F := Ideal))) ⟨m, fun _ => 0, g⟩ (fun r => ∀ c : Dev Cert.NodeIdeal.nD,
          r.2.mem ((c.tc : Thread Cert.NodeIdeal.nD Cert.NodeIdeal.τ).loc Cert.NodeIdeal.main_v11) = v0 c
          ∧ r.2.mem ((c.tc : Thread Cert.NodeIdeal.nD Cert.NodeIdeal.τ).loc Cert.NodeIdeal.main_v13) = v1 c
          ∧ r.2.mem ((c.tc : Thread Cert.NodeIdeal.nD Cert.NodeIdeal.τ).loc Cert.NodeIdeal.main_v15) = v2 c
          ∧ r.2.mem ((c.tc : Thread Cert.NodeIdeal.nD Cert.NodeIdeal.τ).loc Cert.NodeIdeal.main_v17) = v3 c
          ∧ r.2.mem ((c.tc : Thread Cert.NodeIdeal.nD Cert.NodeIdeal.τ).loc Cert.NodeIdeal.main_arg0) = m ((c.tc : Thread Cert.NodeIdeal.nD Cert.NodeIdeal.τ).loc Cert.NodeIdeal.main_arg0)
          ∧ r.2.mem ((c.tc : Thread Cert.NodeIdeal.nD Cert.NodeIdeal.τ).loc Cert.NodeIdeal.main_arg1) = m ((c.tc : Thread Cert.NodeIdeal.nD Cert.NodeIdeal.τ).loc Cert.NodeIdeal.main_arg1))
      ∧ θ_run (Cert.NodeRefIdeal.defs (F := Ideal)) (onTc (τ := Cert.NodeRefIdeal.τ) (Cert.NodeRefIdeal.main (F := Ideal))) ⟨m', fun _ => 0, g'⟩ (fun r => ∀ c : Dev Cert.NodeRefIdeal.nD,
          r.2.mem ((c.tc : Thread Cert.NodeRefIdeal.nD Cert.NodeRefIdeal.τ).loc Cert.NodeRefIdeal.main_v79) = v0 c
          ∧ r.2.mem ((c.tc : Thread Cert.NodeRefIdeal.nD Cert.NodeRefIdeal.τ).loc Cert.NodeRefIdeal.main_v32) = v1 c
          ∧ r.2.mem ((c.tc : Thread Cert.NodeRefIdeal.nD Cert.NodeRefIdeal.τ).loc Cert.NodeRefIdeal.main_v70) = v2 c
          ∧ r.2.mem ((c.tc : Thread Cert.NodeRefIdeal.nD Cert.NodeRefIdeal.τ).loc Cert.NodeRefIdeal.main_v68) = v3 c
          ∧ r.2.mem ((c.tc : Thread Cert.NodeRefIdeal.nD Cert.NodeRefIdeal.τ).loc Cert.NodeRefIdeal.main_arg0) = m' ((c.tc : Thread Cert.NodeRefIdeal.nD Cert.NodeRefIdeal.τ).loc Cert.NodeRefIdeal.main_arg0)
          ∧ r.2.mem ((c.tc : Thread Cert.NodeRefIdeal.nD Cert.NodeRefIdeal.τ).loc Cert.NodeRefIdeal.main_arg1) = m' ((c.tc : Thread Cert.NodeRefIdeal.nD Cert.NodeRefIdeal.τ).loc Cert.NodeRefIdeal.main_arg1))

def Claim : Prop :=
  ∃ (hKernel : Cert.Kernel.Facts) (hKernelIdeal : Cert.KernelIdeal.Facts) (hReferenceIdeal : Cert.ReferenceIdeal.Facts) (hEdge : Cert.Edge.Facts) (hEdgeIdeal : Cert.EdgeIdeal.Facts) (hEdgeRefIdeal : Cert.EdgeRefIdeal.Facts) (hNode : Cert.Node.Facts) (hNodeIdeal : Cert.NodeIdeal.Facts) (hNodeRefIdeal : Cert.NodeRefIdeal.Facts) (hPre_in_range : Cert.Pre_in_range.Facts) (hPre_labelled : Cert.Pre_labelled.Facts),
    quiescent_Kernel (hKernel := hKernel)
    ∧ quiescent_KernelIdeal (hKernelIdeal := hKernelIdeal)
    ∧ quiescent_ReferenceIdeal (hReferenceIdeal := hReferenceIdeal)
    ∧ quiescent_Edge (hEdge := hEdge)
    ∧ quiescent_EdgeIdeal (hEdgeIdeal := hEdgeIdeal)
    ∧ quiescent_EdgeIdeal_pre_in_range (hEdgeIdeal := hEdgeIdeal) (hPre_in_range := hPre_in_range)
    ∧ quiescent_EdgeRefIdeal (hEdgeRefIdeal := hEdgeRefIdeal)
    ∧ quiescent_EdgeRefIdeal_pre_in_range (hEdgeRefIdeal := hEdgeRefIdeal) (hPre_in_range := hPre_in_range)
    ∧ quiescent_Node (hNode := hNode)
    ∧ quiescent_NodeIdeal (hNodeIdeal := hNodeIdeal)
    ∧ quiescent_NodeIdeal_pre_labelled (hNodeIdeal := hNodeIdeal) (hPre_labelled := hPre_labelled)
    ∧ quiescent_NodeRefIdeal (hNodeRefIdeal := hNodeRefIdeal)
    ∧ quiescent_NodeRefIdeal_pre_labelled (hNodeRefIdeal := hNodeRefIdeal) (hPre_labelled := hPre_labelled)
    ∧ preserves_Kernel_KernelIdeal
    ∧ preserves_Edge_EdgeIdeal
    ∧ algebraic_EdgeIdeal_EdgeRefIdeal_pre_in_range (hEdgeIdeal := hEdgeIdeal) (hEdgeRefIdeal := hEdgeRefIdeal) (hPre_in_range := hPre_in_range)
    ∧ preserves_Node_NodeIdeal
    ∧ algebraic_NodeIdeal_NodeRefIdeal_pre_labelled (hNodeIdeal := hNodeIdeal) (hNodeRefIdeal := hNodeRefIdeal) (hPre_labelled := hPre_labelled)
-- ==== Pre_in_range.lean ====
abbrev S100x1000 : Shape := ⟨2, ![100, 1000]⟩
abbrev S1600000 : Shape := ⟨1, ![1600000]⟩
abbrev S_ : Shape := ⟨0, ![]⟩

class Facts : Prop where
  bcast_S_S1600000 : S_.BroadcastsInDim S1600000 (![] : Fin 0 → Fin S1600000.rank)

variable [Facts]

def fn {F : FTy → Type} [FloatOps F] (main_arg0 : FVec F S100x1000 .f32) (main_arg1 : FVec F S100x1000 .f32) (main_arg2 : FVec F S100x1000 .f32) (main_arg3 : FVec F S100x1000 .f32) (main_arg4 : FVec F S100x1000 .f32) (main_arg5 : FVec F S100x1000 .f32) (main_arg6 : FVec F S100x1000 .f32) (main_arg7 : FVec F S100x1000 .f32) (main_arg8 : FVec F S100x1000 .f32) (main_arg9 : IVec S1600000 32) (main_arg10 : IVec S1600000 32) : IVec S1600000 1 × IVec S1600000 1 :=
  let main_c : IVec S_ 32 := constantI S_ 32 0#32
  let main_v0 : IVec S1600000 32 := broadcastInDim S1600000 ![] bcast_S_S1600000 main_c
  let main_v1 : IVec S1600000 1 := cmpi .sge main_arg9 main_v0
  let main_c_0 : IVec S_ 32 := constantI S_ 32 100000#32
  let main_v2 : IVec S1600000 32 := broadcastInDim S1600000 ![] bcast_S_S1600000 main_c_0
  let main_v3 : IVec S1600000 1 := cmpi .slt main_arg9 main_v2
  let main_v4 : IVec S1600000 1 := andi main_v1 main_v3
  let main_c_1 : IVec S_ 32 := constantI S_ 32 0#32
  let main_v5 : IVec S1600000 32 := broadcastInDim S1600000 ![] bcast_S_S1600000 main_c_1
  let main_v6 : IVec S1600000 1 := cmpi .sge main_arg10 main_v5
  let main_c_2 : IVec S_ 32 := constantI S_ 32 100000#32
  let main_v7 : IVec S1600000 32 := broadcastInDim S1600000 ![] bcast_S_S1600000 main_c_2
  let main_v8 : IVec S1600000 1 := cmpi .slt main_arg10 main_v7
  let main_v9 : IVec S1600000 1 := andi main_v6 main_v8
  (main_v4, main_v9)
-- ==== Pre_labelled.lean ====
abbrev S100000x3 : Shape := ⟨2, ![100000, 3]⟩
abbrev S100000 : Shape := ⟨1, ![100000]⟩
abbrev S_ : Shape := ⟨0, ![]⟩

class Facts : Prop where
  bcast_S_S100000 : S_.BroadcastsInDim S100000 (![] : Fin 0 → Fin S100000.rank)

variable [Facts]

def fn {F : FTy → Type} [FloatOps F] (main_arg0 : FVec F S100000x3 .f32) (main_arg1 : IVec S100000 32) : IVec S100000 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 1000#32
  let main_v2 : IVec S100000 32 := broadcastInDim S100000 ![] bcast_S_S100000 main_c_0
  let main_v3 : IVec S100000 1 := cmpi .slt main_arg1 main_v2
  let main_v4 : IVec S100000 1 := andi main_v1 main_v3
  main_v4
-- ==== Kernel.lean ====
abbrev S100000x3 : Shape := ⟨2, ![100000, 3]⟩
abbrev S100000 : Shape := ⟨1, ![100000]⟩
abbrev S1600000 : Shape := ⟨1, ![1600000]⟩
abbrev S100x1000 : Shape := ⟨2, ![100, 1000]⟩
abbrev S100000x1 : Shape := ⟨2, ![100000, 1]⟩
abbrev S8x1000 : Shape := ⟨2, ![8, 1000]⟩
abbrev S100x1 : Shape := ⟨2, ![100, 1]⟩
abbrev S1x1 : Shape := ⟨2, ![1, 1]⟩
abbrev S99x1 : Shape := ⟨2, ![99, 1]⟩
abbrev S100x999 : Shape := ⟨2, ![100, 999]⟩
abbrev S1000x1000 : Shape := ⟨2, ![1000, 1000]⟩
abbrev S1000x1 : Shape := ⟨2, ![1000, 1]⟩
abbrev S16x1000 : Shape := ⟨2, ![16, 1000]⟩
abbrev S1x1000 : Shape := ⟨2, ![1, 1000]⟩
abbrev S6x1000 : Shape := ⟨2, ![6, 1000]⟩
abbrev S3x1000 : Shape := ⟨2, ![3, 1000]⟩
abbrev S1000 : Shape := ⟨1, ![1000]⟩
abbrev S5x1000 : Shape := ⟨2, ![5, 1000]⟩
abbrev S100x100 : Shape := ⟨2, ![100, 100]⟩
abbrev S100x2 : Shape := ⟨2, ![100, 2]⟩
abbrev S100x998 : Shape := ⟨2, ![100, 998]⟩
abbrev S100x4 : Shape := ⟨2, ![100, 4]⟩
abbrev S100x996 : Shape := ⟨2, ![100, 996]⟩
abbrev S100x8 : Shape := ⟨2, ![100, 8]⟩
abbrev S100x992 : Shape := ⟨2, ![100, 992]⟩
abbrev S100x16 : Shape := ⟨2, ![100, 16]⟩
abbrev S100x984 : Shape := ⟨2, ![100, 984]⟩
abbrev S100x32 : Shape := ⟨2, ![100, 32]⟩
abbrev S100x968 : Shape := ⟨2, ![100, 968]⟩
abbrev S100x64 : Shape := ⟨2, ![100, 64]⟩
abbrev S100x936 : Shape := ⟨2, ![100, 936]⟩
abbrev S100x128 : Shape := ⟨2, ![100, 128]⟩
abbrev S100x872 : Shape := ⟨2, ![100, 872]⟩
abbrev S100x256 : Shape := ⟨2, ![100, 256]⟩
abbrev S100x744 : Shape := ⟨2, ![100, 744]⟩
abbrev S100x512 : Shape := ⟨2, ![100, 512]⟩
abbrev S100x488 : Shape := ⟨2, ![100, 488]⟩
abbrev S2x1 : Shape := ⟨2, ![2, 1]⟩
abbrev S98x1 : Shape := ⟨2, ![98, 1]⟩
abbrev S4x1 : Shape := ⟨2, ![4, 1]⟩
abbrev S96x1 : Shape := ⟨2, ![96, 1]⟩
abbrev S8x1 : Shape := ⟨2, ![8, 1]⟩
abbrev S92x1 : Shape := ⟨2, ![92, 1]⟩
abbrev S16x1 : Shape := ⟨2, ![16, 1]⟩
abbrev S84x1 : Shape := ⟨2, ![84, 1]⟩
abbrev S32x1 : Shape := ⟨2, ![32, 1]⟩
abbrev S68x1 : Shape := ⟨2, ![68, 1]⟩
abbrev S64x1 : Shape := ⟨2, ![64, 1]⟩
abbrev S36x1 : Shape := ⟨2, ![36, 1]⟩
abbrev S1x100x1000 : Shape := ⟨3, ![1, 100, 1000]⟩
abbrev S5x100x1000 : Shape := ⟨3, ![5, 100, 1000]⟩
abbrev S5x100000 : Shape := ⟨2, ![5, 100000]⟩
abbrev S100000x5 : Shape := ⟨2, ![100000, 5]⟩
abbrev S1x100000 : Shape := ⟨2, ![1, 100000]⟩
abbrev S_ : Shape := ⟨0, ![]⟩
abbrev S7x100000 : Shape := ⟨2, ![7, 100000]⟩
abbrev S16x100000 : Shape := ⟨2, ![16, 100000]⟩
abbrev S1600000x1 : Shape := ⟨2, ![1600000, 1]⟩
abbrev S1 : Shape := ⟨1, ![1]⟩
abbrev S16x1600000 : Shape := ⟨2, ![16, 1600000]⟩
abbrev S8x1600000 : Shape := ⟨2, ![8, 1600000]⟩
abbrev S16x6400 : Shape := ⟨2, ![16, 6400]⟩
abbrev S8x6400 : Shape := ⟨2, ![8, 6400]⟩
abbrev S1x6400 : Shape := ⟨2, ![1, 6400]⟩
abbrev S3x6400 : Shape := ⟨2, ![3, 6400]⟩
abbrev S6400 : Shape := ⟨1, ![6400]⟩
abbrev S7x1600000 : Shape := ⟨2, ![7, 1600000]⟩
abbrev S1600000x7 : Shape := ⟨2, ![1600000, 7]⟩
abbrev S1000x3 : Shape := ⟨2, ![1000, 3]⟩

abbrev nBuf : Space → Nat
  | .hbm => 101
  | .vmem => 26
  | .smem => 0
  | _ => 0

abbrev bufTy : (tb : Table) → Fin (tcTables nBuf tb) → BufTy
  | .hbm, ⟨0, _⟩ => ⟨S100000x3, .f32⟩
  | .hbm, ⟨1, _⟩ => ⟨S100000, .i32⟩
  | .hbm, ⟨2, _⟩ => ⟨S1600000, .i32⟩
  | .hbm, ⟨3, _⟩ => ⟨S1600000, .i32⟩
  | .hbm, ⟨4, _⟩ => ⟨S100x1000, .i32⟩
  | .hbm, ⟨5, _⟩ => ⟨S100000x1, .f32⟩
  | .hbm, ⟨6, _⟩ => ⟨S100000, .f32⟩
  | .hbm, ⟨7, _⟩ => ⟨S100x1000, .f32⟩
  | .hbm, ⟨8, _⟩ => ⟨S100000x1, .f32⟩
  | .hbm, ⟨9, _⟩ => ⟨S100000, .f32⟩
  | .hbm, ⟨10, _⟩ => ⟨S100x1000, .f32⟩
  | .hbm, ⟨11, _⟩ => ⟨S100000x1, .f32⟩
  | .hbm, ⟨12, _⟩ => ⟨S100000, .f32⟩
  | .hbm, ⟨13, _⟩ => ⟨S100x1000, .f32⟩
  | .hbm, ⟨14, _⟩ => ⟨S100x1000, .f32⟩
  | .hbm, ⟨15, _⟩ => ⟨S100x1000, .f32⟩
  | .hbm, ⟨16, _⟩ => ⟨S100x1000, .f32⟩
  | .hbm, ⟨17, _⟩ => ⟨S100x1000, .f32⟩
  | .hbm, ⟨18, _⟩ => ⟨S100x1000, .f32⟩
  | .hbm, ⟨19, _⟩ => ⟨S100x1000, .f32⟩
  | .hbm, ⟨20, _⟩ => ⟨S100x1000, .f32⟩
  | .hbm, ⟨21, _⟩ => ⟨S100x1000, .f32⟩
  | .hbm, ⟨22, _⟩ => ⟨S100x1000, .f32⟩
  | .hbm, ⟨23, _⟩ => ⟨S100x1000, .f32⟩
  | .hbm, ⟨24, _⟩ => ⟨S100x1000, .f32⟩
  | .hbm, ⟨25, _⟩ => ⟨S8x1000, .f32⟩
  | .hbm, ⟨26, _⟩ => ⟨S1x100x1000, .f32⟩
  | .hbm, ⟨27, _⟩ => ⟨S1x100x1000, .f32⟩
  | .hbm, ⟨28, _⟩ => ⟨S1x100x1000, .f32⟩
  | .hbm, ⟨29, _⟩ => ⟨S1x100x1000, .f32⟩
  | .hbm, ⟨30, _⟩ => ⟨S1x100x1000, .f32⟩
  | .hbm, ⟨31, _⟩ => ⟨S5x100x1000, .f32⟩
  | .hbm, ⟨32, _⟩ => ⟨S5x100000, .f32⟩
  | .hbm, ⟨33, _⟩ => ⟨S100000x5, .f32⟩
  | .hbm, ⟨34, _⟩ => ⟨S1x100000, .f32⟩
  | .hbm, ⟨35, _⟩ => ⟨S1x100000, .f32⟩
  | .hbm, ⟨36, _⟩ => ⟨S1x100000, .f32⟩
  | .hbm, ⟨37, _⟩ => ⟨S1x100000, .f32⟩
  | .hbm, ⟨38, _⟩ => ⟨S1x100000, .f32⟩
  | .hbm, ⟨39, _⟩ => ⟨S1x100000, .f32⟩
  | .hbm, ⟨40, _⟩ => ⟨S1x100000, .f32⟩
  | .hbm, ⟨41, _⟩ => ⟨S1x100000, .f32⟩
  | .hbm, ⟨42, _⟩ => ⟨S1x100000, .f32⟩
  | .hbm, ⟨43, _⟩ => ⟨S_, .f32⟩
  | .hbm, ⟨44, _⟩ => ⟨S7x100000, .f32⟩
  | .hbm, ⟨45, _⟩ => ⟨S16x100000, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1, .i32⟩
  | .hbm, ⟨55, _⟩ => ⟨S_, .i32⟩
  | .hbm, ⟨56, _⟩ => ⟨S1600000x1, .i32⟩
  | .hbm, ⟨57, _⟩ => ⟨S1600000x1, .i1⟩
  | .hbm, ⟨58, _⟩ => ⟨S1x1, .i32⟩
  | .hbm, ⟨59, _⟩ => ⟨S1600000x1, .i32⟩
  | .hbm, ⟨60, _⟩ => ⟨S1600000x1, .i1⟩
  | .hbm, ⟨61, _⟩ => ⟨S1600000x1, .i1⟩
  | .hbm, ⟨62, _⟩ => ⟨S_, .i1⟩
  | .hbm, ⟨63, _⟩ => ⟨S1600000, .i1⟩
  | .hbm, ⟨64, _⟩ => ⟨S16x1600000, .f32⟩
  | .hbm, ⟨65, _⟩ => ⟨S16x1600000, .i1⟩
  | .hbm, ⟨66, _⟩ => ⟨S_, .f32⟩
  | .hbm, ⟨67, _⟩ => ⟨S16x1600000, .f32⟩
  | .hbm, ⟨68, _⟩ => ⟨S16x1600000, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1, .i32⟩
  | .hbm, ⟨78, _⟩ => ⟨S_, .i32⟩
  | .hbm, ⟨79, _⟩ => ⟨S1600000x1, .i32⟩
  | .hbm, ⟨80, _⟩ => ⟨S1600000x1, .i1⟩
  | .hbm, ⟨81, _⟩ => ⟨S1x1, .i32⟩
  | .hbm, ⟨82, _⟩ => ⟨S1600000x1, .i32⟩
  | .hbm, ⟨83, _⟩ => ⟨S1600000x1, .i1⟩
  | .hbm, ⟨84, _⟩ => ⟨S1600000x1, .i1⟩
  | .hbm, ⟨85, _⟩ => ⟨S_, .i1⟩
  | .hbm, ⟨86, _⟩ => ⟨S1600000, .i1⟩
  | .hbm, ⟨87, _⟩ => ⟨S16x1600000, .f32⟩
  | .hbm, ⟨88, _⟩ => ⟨S16x1600000, .i1⟩
  | .hbm, ⟨89, _⟩ => ⟨S_, .f32⟩
  | .hbm, ⟨90, _⟩ => ⟨S16x1600000, .f32⟩
  | .hbm, ⟨91, _⟩ => ⟨S16x1600000, .f32⟩
  | .hbm, ⟨92, _⟩ => ⟨S8x1600000, .f32⟩
  | .hbm, ⟨93, _⟩ => ⟨S7x1600000, .f32⟩
  | .hbm, ⟨94, _⟩ => ⟨S1600000x7, .f32⟩
  | .hbm, ⟨95, _⟩ => ⟨S1x1000, .f32⟩
  | .hbm, ⟨96, _⟩ => ⟨S1000, .f32⟩
  | .hbm, ⟨97, _⟩ => ⟨S1x1000, .f32⟩
  | .hbm, ⟨98, _⟩ => ⟨S1000, .f32⟩
  | .hbm, ⟨99, _⟩ => ⟨S3x1000, .f32⟩
  | .hbm, ⟨100, _⟩ => ⟨S1000x3, .f32⟩
  | .local _ .vmem, ⟨0, _⟩ => ⟨S100x1000, .i32⟩
  | .local _ .vmem, ⟨1, _⟩ => ⟨S100x1000, .f32⟩
  | .local _ .vmem, ⟨2, _⟩ => ⟨S100x1000, .f32⟩
  | .local _ .vmem, ⟨3, _⟩ => ⟨S100x1000, .f32⟩
  | .local _ .vmem, ⟨4, _⟩ => ⟨S100x1000, .f32⟩
  | .local _ .vmem, ⟨5, _⟩ => ⟨S100x1000, .f32⟩
  | .local _ .vmem, ⟨6, _⟩ => ⟨S100x1000, .f32⟩
  | .local _ .vmem, ⟨7, _⟩ => ⟨S100x1000, .f32⟩
  | .local _ .vmem, ⟨8, _⟩ => ⟨S100x1000, .f32⟩
  | .local _ .vmem, ⟨9, _⟩ => ⟨S100x1000, .f32⟩
  | .local _ .vmem, ⟨10, _⟩ => ⟨S100x1000, .f32⟩
  | .local _ .vmem, ⟨11, _⟩ => ⟨S100x1000, .f32⟩
  | .local _ .vmem, ⟨12, _⟩ => ⟨S100x1000, .f32⟩
  | .local _ .vmem, ⟨13, _⟩ => ⟨S100x1000, .f32⟩
  | .local _ .vmem, ⟨14, _⟩ => ⟨S100x1000, .f32⟩
  | .local _ .vmem, ⟨15, _⟩ => ⟨S8x1000, .f32⟩
  | .local _ .vmem, ⟨16, _⟩ => ⟨S100x1000, .f32⟩
  | .local _ .vmem, ⟨17, _⟩ => ⟨S100x1000, .f32⟩
  | .local _ .vmem, ⟨18, _⟩ => ⟨S100x1000, .f32⟩
  | .local _ .vmem, ⟨19, _⟩ => ⟨S100x1000, .f32⟩
  | .local _ .vmem, ⟨20, _⟩ => ⟨S16x6400, .f32⟩
  | .local _ .vmem, ⟨21, _⟩ => ⟨S16x6400, .f32⟩
  | .local _ .vmem, ⟨22, _⟩ => ⟨S16x6400, .f32⟩
  | .local _ .vmem, ⟨23, _⟩ => ⟨S16x6400, .f32⟩
  | .local _ .vmem, ⟨24, _⟩ => ⟨S8x6400, .f32⟩
  | .local _ .vmem, ⟨25, _⟩ => ⟨S8x6400, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev main_v10_3 : Ref sig .tc := ⟨.hbm, 17, rfl⟩
abbrev main_v10_4 : Ref sig .tc := ⟨.hbm, 18, rfl⟩
abbrev main_v10_5 : Ref sig .tc := ⟨.hbm, 19, rfl⟩
abbrev main_v10_6 : Ref sig .tc := ⟨.hbm, 20, rfl⟩
abbrev main_v10_7 : Ref sig .tc := ⟨.hbm, 21, rfl⟩
abbrev main_v10_8 : Ref sig .tc := ⟨.hbm, 22, rfl⟩
abbrev main_v10_9 : Ref sig .tc := ⟨.hbm, 23, rfl⟩
abbrev main_v10_10 : Ref sig .tc := ⟨.hbm, 24, rfl⟩
abbrev main_v10_11 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst : Ref sig .tc := ⟨.hbm, 43, rfl⟩
abbrev main_v28 : Ref sig .tc := ⟨.hbm, 44, rfl⟩
abbrev main_v29 : Ref sig .tc := ⟨.hbm, 45, rfl⟩
abbrev main_call0_c : Ref sig .tc := ⟨.hbm, 46, rfl⟩
abbrev main_call0_v0 : Ref sig .tc := ⟨.hbm, 47, rfl⟩
abbrev main_call0_v1 : Ref sig .tc := ⟨.hbm, 48, rfl⟩
abbrev main_call0_c_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_c_1 : Ref sig .tc := ⟨.hbm, 54, rfl⟩
abbrev main_call0_c_2 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_3 : Ref sig .tc := ⟨.hbm, 62, rfl⟩
abbrev main_call0_v12 : Ref sig .tc := ⟨.hbm, 63, rfl⟩
abbrev main_call0_v13 : Ref sig .tc := ⟨.hbm, 64, rfl⟩
abbrev main_call0_v14 : Ref sig .tc := ⟨.hbm, 65, rfl⟩
abbrev main_call0_cst : Ref sig .tc := ⟨.hbm, 66, rfl⟩
abbrev main_call0_v15 : Ref sig .tc := ⟨.hbm, 67, rfl⟩
abbrev main_v30 : Ref sig .tc := ⟨.hbm, 68, rfl⟩
abbrev main_call1_c : Ref sig .tc := ⟨.hbm, 69, rfl⟩
abbrev main_call1_v0 : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_c_1 : Ref sig .tc := ⟨.hbm, 77, rfl⟩
abbrev main_call1_c_2 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_3 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_call1_cst : Ref sig .tc := ⟨.hbm, 89, rfl⟩
abbrev main_call1_v15 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c100_i32 : BitVec 32 := 100#32
  let v74 : BitVec 32 := Scalar.addi c0_i32 c100_i32
  let c1_i32 : BitVec 32 := 1#32
  ⟨c0_i32, v74, c1_i32⟩
def k0_off1 (k0_t1 : Fin k0_t1_loop.trips) : Fin 2 → Nat :=
  let c0_i32 : BitVec 32 := 0#32
  let c1_i32 : BitVec 32 := 1#32
  let arg20 : BitVec 32 := Scf.iv c0_i32 c1_i32 k0_t1
  let v221 : Index := Scalar.indexCast arg20
  let c0_67 : Index := 0#32
  ![v221.toNat, 0]
@[reducible] def k0_t2_loop : Scf.Loop 32 :=
  let c0_i32_27 : BitVec 32 := 0#32
  let c100_i32_28 : BitVec 32 := 100#32
  let v110 : BitVec 32 := Scalar.addi c0_i32_27 c100_i32_28
  let c1_i32_29 : BitVec 32 := 1#32
  ⟨c0_i32_27, v110, c1_i32_29⟩
def k0_off2 (k0_t2 : Fin k0_t2_loop.trips) : Fin 2 → Nat :=
  let c0_i32_27 : BitVec 32 := 0#32
  let c1_i32_29 : BitVec 32 := 1#32
  let arg20 : BitVec 32 := Scf.iv c0_i32_27 c1_i32_29 k0_t2
  let v221 : Index := Scalar.indexCast arg20
  let c0_67 : Index := 0#32
  ![v221.toNat, 0]
@[reducible] def k0_t3_loop : Scf.Loop 32 :=
  let c0_i32_63 : BitVec 32 := 0#32
  let c100_i32_64 : BitVec 32 := 100#32
  let v220 : BitVec 32 := Scalar.addi c0_i32_63 c100_i32_64
  let c1_i32_65 : BitVec 32 := 1#32
  ⟨c0_i32_63, v220, c1_i32_65⟩
def k0_off3 (k0_t3 : Fin k0_t3_loop.trips) : Fin 2 → Nat :=
  let c0_i32_63 : BitVec 32 := 0#32
  let c1_i32_65 : BitVec 32 := 1#32
  let arg20 : BitVec 32 := Scf.iv c0_i32_63 c1_i32_65 k0_t3
  let v221 : Index := Scalar.indexCast arg20
  let c0_67 : Index := 0#32
  ![v221.toNat, 0]
abbrev stage0_0 : Fin 1 → Memref sig .tc .vmem S100x1000 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S100x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S100x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S100x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S100x1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S100x1000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S100x1000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S100x1000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S100x1000 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S100x1000 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S100x1000 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S100x1000 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S100x1000 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S100x1000 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S100x1000 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8x1000 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S16x6400 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x6400 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x6400 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== KernelIdeal.lean ====
variable {F : FTy → Type} [FloatOps F]
-- ==== ReferenceIdeal.lean ====
abbrev S100000x3 : Shape := ⟨2, ![100000, 3]⟩
abbrev S100000 : Shape := ⟨1, ![100000]⟩
abbrev S1600000 : Shape := ⟨1, ![1600000]⟩
abbrev S_ : Shape := ⟨0, ![]⟩
abbrev S1000x3 : Shape := ⟨2, ![1000, 3]⟩
abbrev S100000x1 : Shape := ⟨2, ![100000, 1]⟩
abbrev S1000 : Shape := ⟨1, ![1000]⟩
abbrev S1000x1 : Shape := ⟨2, ![1000, 1]⟩
abbrev S1x100000 : Shape := ⟨2, ![1, 100000]⟩
abbrev S1000x100000 : Shape := ⟨2, ![1000, 100000]⟩
abbrev S1 : Shape := ⟨1, ![1]⟩
abbrev S99999 : Shape := ⟨1, ![99999]⟩
abbrev S1x1 : Shape := ⟨2, ![1, 1]⟩
abbrev S1600000x1 : Shape := ⟨2, ![1600000, 1]⟩
abbrev S99999x3 : Shape := ⟨2, ![99999, 3]⟩
abbrev S1x3 : Shape := ⟨2, ![1, 3]⟩
abbrev S1600000x3 : Shape := ⟨2, ![1600000, 3]⟩
abbrev S100000x5 : Shape := ⟨2, ![100000, 5]⟩
abbrev S1600000x7 : Shape := ⟨2, ![1600000, 7]⟩

abbrev nBuf : Space → Nat
  | .hbm => 620
  | .vmem => 0
  | .smem => 0
  | _ => 0

abbrev hbmTy0_0 (i : Nat) : BufTy := match i % 128 with
  | 0 => ⟨S100000x3, .f32⟩
  | 1 => ⟨S100000, .i32⟩
  | 2 => ⟨S1600000, .i32⟩
  | 3 => ⟨S1600000, .i32⟩
  | 4 => ⟨S100000x3, .f32⟩
  | 5 => ⟨S_, .f32⟩
  | 6 => ⟨S1000x3, .f32⟩
  | 7 => ⟨S100000x1, .i32⟩
  | 8 => ⟨S1000x3, .f32⟩
  | 9 => ⟨S_, .f32⟩
  | 10 => ⟨S100000, .f32⟩
  | 11 => ⟨S_, .f32⟩
  | 12 => ⟨S1000, .f32⟩
  | 13 => ⟨S100000x1, .i32⟩
  | 14 => ⟨S1000, .f32⟩
  | 15 => ⟨S1000x1, .f32⟩
  | 16 => ⟨S_, .f32⟩
  | 17 => ⟨S1000x1, .f32⟩
  | 18 => ⟨S1000x1, .f32⟩
  | 19 => ⟨S1000x3, .f32⟩
  | 20 => ⟨S1000x3, .f32⟩
  | 21 => ⟨S_, .f32⟩
  | 22 => ⟨S1000x3, .f32⟩
  | 23 => ⟨S100000x1, .i32⟩
  | 24 => ⟨S1000x3, .f32⟩
  | 25 => ⟨S_, .f32⟩
  | 26 => ⟨S100000, .f32⟩
  | 27 => ⟨S_, .f32⟩
  | 28 => ⟨S1000, .f32⟩
  | 29 => ⟨S100000x1, .i32⟩
  | 30 => ⟨S1000, .f32⟩
  | 31 => ⟨S1000x1, .f32⟩
  | 32 => ⟨S_, .f32⟩
  | 33 => ⟨S1000x1, .f32⟩
  | 34 => ⟨S1000x1, .f32⟩
  | 35 => ⟨S1000x3, .f32⟩
  | 36 => ⟨S1000x3, .f32⟩
  | 37 => ⟨S1000x3, .f32⟩
  | 38 => ⟨S1000x3, .f32⟩
  | 39 => ⟨S_, .f32⟩
  | 40 => ⟨S1000x3, .f32⟩
  | 41 => ⟨S1000x3, .f32⟩
  | 42 => ⟨S1000x3, .f32⟩
  | 43 => ⟨S1000x3, .f32⟩
  | 44 => ⟨S_, .f32⟩
  | 45 => ⟨S1000, .f32⟩
  | 46 => ⟨S1000, .f32⟩
  | 47 => ⟨S_, .i32⟩
  | 48 => ⟨S100000, .i32⟩
  | 49 => ⟨S_, .i32⟩
  | 50 => ⟨S_, .i32⟩
  | 51 => ⟨S100000, .i32⟩
  | 52 => ⟨S1000, .i32⟩
  | 53 => ⟨S1000x1, .i32⟩
  | 54 => ⟨S1x100000, .i32⟩
  | 55 => ⟨S1000x100000, .i32⟩
  | 56 => ⟨S1000x100000, .i32⟩
  | 57 => ⟨S1000x100000, .i1⟩
  | 58 => ⟨S1x100000, .i32⟩
  | 59 => ⟨S_, .i32⟩
  | 60 => ⟨S1000x100000, .i32⟩
  | 61 => ⟨S1000x100000, .i32⟩
  | 62 => ⟨S1000x100000, .i32⟩
  | 63 => ⟨S_, .i32⟩
  | 64 => ⟨S1000, .i32⟩
  | 65 => ⟨S1, .i32⟩
  | 66 => ⟨S99999, .i32⟩
  | 67 => ⟨S100000, .i32⟩
  | 68 => ⟨S100000, .i32⟩
  | 69 => ⟨S100000, .i32⟩
  | 70 => ⟨S_, .i32⟩
  | 71 => ⟨S100000, .i32⟩
  | 72 => ⟨S100000, .i1⟩
  | 73 => ⟨S100000, .i32⟩
  | 74 => ⟨S100000, .i32⟩
  | 75 => ⟨S_, .i32⟩
  | 76 => ⟨S1000, .i32⟩
  | 77 => ⟨S100000x1, .i32⟩
  | 78 => ⟨S1000, .i32⟩
  | 79 => ⟨S_, .i32⟩
  | 80 => ⟨S100000, .i32⟩
  | 81 => ⟨S100000, .i1⟩
  | 82 => ⟨S_, .i32⟩
  | 83 => ⟨S100000, .i32⟩
  | 84 => ⟨S100000, .i32⟩
  | 85 => ⟨S100000, .i32⟩
  | 86 => ⟨S100000x1, .i32⟩
  | 87 => ⟨S1, .i32⟩
  | 88 => ⟨S_, .i32⟩
  | 89 => ⟨S100000x1, .i32⟩
  | 90 => ⟨S100000x1, .i1⟩
  | 91 => ⟨S1x1, .i32⟩
  | 92 => ⟨S100000x1, .i32⟩
  | 93 => ⟨S100000x1, .i1⟩
  | 94 => ⟨S100000x1, .i1⟩
  | 95 => ⟨S_, .i1⟩
  | 96 => ⟨S100000, .i1⟩
  | 97 => ⟨S100000, .i32⟩
  | 98 => ⟨S_, .i32⟩
  | 99 => ⟨S100000, .i32⟩
  | 100 => ⟨S100000, .i32⟩
  | 101 => ⟨S100000, .i32⟩
  | 102 => ⟨S_, .i32⟩
  | 103 => ⟨S100000, .i32⟩
  | 104 => ⟨S100000, .i1⟩
  | 105 => ⟨S_, .i32⟩
  | 106 => ⟨S100000, .i32⟩
  | 107 => ⟨S100000, .i32⟩
  | 108 => ⟨S100000, .i32⟩
  | 109 => ⟨S100000x1, .i32⟩
  | 110 => ⟨S1, .i32⟩
  | 111 => ⟨S_, .i32⟩
  | 112 => ⟨S100000x1, .i32⟩
  | 113 => ⟨S100000x1, .i1⟩
  | 114 => ⟨S1x1, .i32⟩
  | 115 => ⟨S100000x1, .i32⟩
  | 116 => ⟨S100000x1, .i1⟩
  | 117 => ⟨S100000x1, .i1⟩
  | 118 => ⟨S_, .i1⟩
  | 119 => ⟨S100000, .i1⟩
  | 120 => ⟨S100000, .i32⟩
  | 121 => ⟨S_, .i32⟩
  | 122 => ⟨S100000, .i32⟩
  | 123 => ⟨S100000, .i32⟩
  | 124 => ⟨S100000, .i32⟩
  | 125 => ⟨S_, .i32⟩
  | 126 => ⟨S100000, .i32⟩
  | 127 => ⟨S_, .i32⟩
  | _ => ⟨S100000x3, .f32⟩

abbrev hbmTy0_1 (i : Nat) : BufTy := match i % 128 with
  | 0 => ⟨S1000, .i32⟩
  | 1 => ⟨S100000x1, .i32⟩
  | 2 => ⟨S1000, .i32⟩
  | 3 => ⟨S_, .i32⟩
  | 4 => ⟨S100000, .i32⟩
  | 5 => ⟨S100000, .i1⟩
  | 6 => ⟨S_, .i32⟩
  | 7 => ⟨S100000, .i32⟩
  | 8 => ⟨S100000, .i32⟩
  | 9 => ⟨S100000, .i32⟩
  | 10 => ⟨S100000x1, .i32⟩
  | 11 => ⟨S1, .i32⟩
  | 12 => ⟨S_, .i32⟩
  | 13 => ⟨S100000x1, .i32⟩
  | 14 => ⟨S100000x1, .i1⟩
  | 15 => ⟨S1x1, .i32⟩
  | 16 => ⟨S100000x1, .i32⟩
  | 17 => ⟨S100000x1, .i1⟩
  | 18 => ⟨S100000x1, .i1⟩
  | 19 => ⟨S_, .i1⟩
  | 20 => ⟨S100000, .i1⟩
  | 21 => ⟨S100000, .i32⟩
  | 22 => ⟨S_, .i32⟩
  | 23 => ⟨S100000, .i32⟩
  | 24 => ⟨S100000, .i32⟩
  | 25 => ⟨S100000, .f32⟩
  | 26 => ⟨S100000, .f32⟩
  | 27 => ⟨S100000, .f32⟩
  | 28 => ⟨S100000x1, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S1600000x1, .f32⟩
  | 49 => ⟨S99999x3, .f32⟩
  | 50 => ⟨S1x3, .f32⟩
  | 51 => ⟨S100000x3, .f32⟩
  | 52 => ⟨S100000x3, .f32⟩
  | 53 => ⟨S99999, .i32⟩
  | 54 => ⟨S1, .i32⟩
  | 55 => ⟨S100000, .i32⟩
  | 56 => ⟨S100000, .i32⟩
  | 57 => ⟨S100000, .i32⟩
  | 58 => ⟨S_, .i32⟩
  | 59 => ⟨S100000, .i32⟩
  | 60 => ⟨S100000, .i1⟩
  | 61 => ⟨S100000x1, .i1⟩
  | 62 => ⟨S100000x1, .i1⟩
  | 63 => ⟨S100000x1, .i1⟩
  | 64 => ⟨S100000x3, .i1⟩
  | 65 => ⟨S_, .f32⟩
  | 66 => ⟨S_, .f32⟩
  | 67 => ⟨S100000x3, .f32⟩
  | 68 => ⟨S100000x3, .f32⟩
  | 69 => ⟨S_, .i32⟩
  | 70 => ⟨S100000, .i32⟩
  | 71 => ⟨S100000, .i1⟩
  | 72 => ⟨S_, .i32⟩
  | 73 => ⟨S100000, .i32⟩
  | 74 => ⟨S100000, .i32⟩
  | 75 => ⟨S100000, .i32⟩
  | 76 => ⟨S100000x1, .i32⟩
  | 77 => ⟨S1, .i32⟩
  | 78 => ⟨S_, .i32⟩
  | 79 => ⟨S100000x1, .i32⟩
  | 80 => ⟨S100000x1, .i1⟩
  | 81 => ⟨S1x1, .i32⟩
  | 82 => ⟨S100000x1, .i32⟩
  | 83 => ⟨S100000x1, .i1⟩
  | 84 => ⟨S100000x1, .i1⟩
  | 85 => ⟨S_, .i1⟩
  | 86 => ⟨S100000, .i1⟩
  | 87 => ⟨S100000, .f32⟩
  | 88 => ⟨S_, .f32⟩
  | 89 => ⟨S100000, .f32⟩
  | 90 => ⟨S100000, .f32⟩
  | 91 => ⟨S100000x1, .f32⟩
  | 92 => ⟨S100000x3, .f32⟩
  | 93 => ⟨S100000x3, .f32⟩
  | 94 => ⟨S100000x3, .f32⟩
  | 95 => ⟨S100000x3, .f32⟩
  | 96 => ⟨S100000x3, .f32⟩
  | 97 => ⟨S_, .f32⟩
  | 98 => ⟨S100000, .f32⟩
  | 99 => ⟨S_, .f32⟩
  | 100 => ⟨S100000, .f32⟩
  | 101 => ⟨S100000, .f32⟩
  | 102 => ⟨S100000, .f32⟩
  | 103 => ⟨S_, .f32⟩
  | 104 => ⟨S_, .f32⟩
  | 105 => ⟨S100000, .f32⟩
  | 106 => ⟨S1000, .i32⟩
  | 107 => ⟨S1000x1, .i32⟩
  | 108 => ⟨S1x100000, .i32⟩
  | 109 => ⟨S1000x100000, .i32⟩
  | 110 => ⟨S1000x100000, .i32⟩
  | 111 => ⟨S1000x100000, .i1⟩
  | 112 => ⟨S1x100000, .f32⟩
  | 113 => ⟨S_, .f32⟩
  | 114 => ⟨S1000x100000, .f32⟩
  | 115 => ⟨S1000x100000, .f32⟩
  | 116 => ⟨S1000x100000, .f32⟩
  | 117 => ⟨S_, .f32⟩
  | 118 => ⟨S1000, .f32⟩
  | 119 => ⟨S1, .i32⟩
  | 120 => ⟨S99999, .i32⟩
  | 121 => ⟨S100000, .i32⟩
  | 122 => ⟨S100000, .i32⟩
  | 123 => ⟨S100000, .i32⟩
  | 124 => ⟨S_, .i32⟩
  | 125 => ⟨S100000, .i32⟩
  | 126 => ⟨S100000, .i1⟩
  | 127 => ⟨S100000, .f32⟩
  | _ => ⟨S100000x3, .f32⟩

abbrev hbmTy0_2 (i : Nat) : BufTy := match i % 128 with
  | 0 => ⟨S100000, .f32⟩
  | 1 => ⟨S_, .f32⟩
  | 2 => ⟨S1000, .f32⟩
  | 3 => ⟨S100000x1, .i32⟩
  | 4 => ⟨S1000, .f32⟩
  | 5 => ⟨S_, .i32⟩
  | 6 => ⟨S100000, .i32⟩
  | 7 => ⟨S100000, .i1⟩
  | 8 => ⟨S_, .i32⟩
  | 9 => ⟨S100000, .i32⟩
  | 10 => ⟨S100000, .i32⟩
  | 11 => ⟨S100000, .i32⟩
  | 12 => ⟨S100000x1, .i32⟩
  | 13 => ⟨S1, .i32⟩
  | 14 => ⟨S_, .i32⟩
  | 15 => ⟨S100000x1, .i32⟩
  | 16 => ⟨S100000x1, .i1⟩
  | 17 => ⟨S1x1, .i32⟩
  | 18 => ⟨S100000x1, .i32⟩
  | 19 => ⟨S100000x1, .i1⟩
  | 20 => ⟨S100000x1, .i1⟩
  | 21 => ⟨S_, .i1⟩
  | 22 => ⟨S100000, .i1⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S100000, .i32⟩
  | 30 => ⟨S100000, .i1⟩
  | 31 => ⟨S_, .i32⟩
  | 32 => ⟨S100000, .i32⟩
  | 33 => ⟨S100000, .i32⟩
  | 34 => ⟨S100000, .i32⟩
  | 35 => ⟨S100000x1, .i32⟩
  | 36 => ⟨S1, .i32⟩
  | 37 => ⟨S_, .i32⟩
  | 38 => ⟨S100000x1, .i32⟩
  | 39 => ⟨S100000x1, .i1⟩
  | 40 => ⟨S1x1, .i32⟩
  | 41 => ⟨S100000x1, .i32⟩
  | 42 => ⟨S100000x1, .i1⟩
  | 43 => ⟨S100000x1, .i1⟩
  | 44 => ⟨S_, .i1⟩
  | 45 => ⟨S100000, .i1⟩
  | 46 => ⟨S100000, .f32⟩
  | 47 => ⟨S_, .f32⟩
  | 48 => ⟨S100000, .f32⟩
  | 49 => ⟨S100000, .f32⟩
  | 50 => ⟨S100000, .f32⟩
  | 51 => ⟨S100000x1, .f32⟩
  | 52 => ⟨S100000, .f32⟩
  | 53 => ⟨S_, .f32⟩
  | 54 => ⟨S_, .f32⟩
  | 55 => ⟨S100000, .f32⟩
  | 56 => ⟨S1000, .i32⟩
  | 57 => ⟨S1000x1, .i32⟩
  | 58 => ⟨S1x100000, .i32⟩
  | 59 => ⟨S1000x100000, .i32⟩
  | 60 => ⟨S1000x100000, .i32⟩
  | 61 => ⟨S1000x100000, .i1⟩
  | 62 => ⟨S1x100000, .f32⟩
  | 63 => ⟨S_, .f32⟩
  | 64 => ⟨S1000x100000, .f32⟩
  | 65 => ⟨S1000x100000, .f32⟩
  | 66 => ⟨S1000x100000, .f32⟩
  | 67 => ⟨S_, .f32⟩
  | 68 => ⟨S1000, .f32⟩
  | 69 => ⟨S1, .i32⟩
  | 70 => ⟨S99999, .i32⟩
  | 71 => ⟨S100000, .i32⟩
  | 72 => ⟨S100000, .i32⟩
  | 73 => ⟨S100000, .i32⟩
  | 74 => ⟨S_, .i32⟩
  | 75 => ⟨S100000, .i32⟩
  | 76 => ⟨S100000, .i1⟩
  | 77 => ⟨S100000, .f32⟩
  | 78 => ⟨S100000, .f32⟩
  | 79 => ⟨S_, .f32⟩
  | 80 => ⟨S1000, .f32⟩
  | 81 => ⟨S100000x1, .i32⟩
  | 82 => ⟨S1000, .f32⟩
  | 83 => ⟨S_, .i32⟩
  | 84 => ⟨S100000, .i32⟩
  | 85 => ⟨S100000, .i1⟩
  | 86 => ⟨S_, .i32⟩
  | 87 => ⟨S100000, .i32⟩
  | 88 => ⟨S100000, .i32⟩
  | 89 => ⟨S100000, .i32⟩
  | 90 => ⟨S100000x1, .i32⟩
  | 91 => ⟨S1, .i32⟩
  | 92 => ⟨S_, .i32⟩
  | 93 => ⟨S100000x1, .i32⟩
  | 94 => ⟨S100000x1, .i1⟩
  | 95 => ⟨S1x1, .i32⟩
  | 96 => ⟨S100000x1, .i32⟩
  | 97 => ⟨S100000x1, .i1⟩
  | 98 => ⟨S100000x1, .i1⟩
  | 99 => ⟨S_, .i1⟩
  | 100 => ⟨S100000, .i1⟩
  | 101 => ⟨S100000, .f32⟩
  | 102 => ⟨S_, .f32⟩
  | 103 => ⟨S100000, .f32⟩
  | 104 => ⟨S100000, .f32⟩
  | 105 => ⟨S100000, .f32⟩
  | 106 => ⟨S_, .i32⟩
  | 107 => ⟨S100000, .i32⟩
  | 108 => ⟨S100000, .i1⟩
  | 109 => ⟨S_, .i32⟩
  | 110 => ⟨S100000, .i32⟩
  | 111 => ⟨S100000, .i32⟩
  | 112 => ⟨S100000, .i32⟩
  | 113 => ⟨S100000x1, .i32⟩
  | 114 => ⟨S1, .i32⟩
  | 115 => ⟨S_, .i32⟩
  | 116 => ⟨S100000x1, .i32⟩
  | 117 => ⟨S100000x1, .i1⟩
  | 118 => ⟨S1x1, .i32⟩
  | 119 => ⟨S100000x1, .i32⟩
  | 120 => ⟨S100000x1, .i1⟩
  | 121 => ⟨S100000x1, .i1⟩
  | 122 => ⟨S_, .i1⟩
  | 123 => ⟨S100000, .i1⟩
  | 124 => ⟨S100000, .f32⟩
  | 125 => ⟨S_, .f32⟩
  | 126 => ⟨S100000, .f32⟩
  | 127 => ⟨S100000, .f32⟩
  | _ => ⟨S100000x3, .f32⟩

abbrev hbmTy0_3 (i : Nat) : BufTy := match i % 128 with
  | 0 => ⟨S100000, .f32⟩
  | 1 => ⟨S100000x1, .f32⟩
  | 2 => ⟨S100000x1, .f32⟩
  | 3 => ⟨S_, .f32⟩
  | 4 => ⟨S_, .f32⟩
  | 5 => ⟨S100000, .f32⟩
  | 6 => ⟨S1000, .i32⟩
  | 7 => ⟨S1000x1, .i32⟩
  | 8 => ⟨S1x100000, .i32⟩
  | 9 => ⟨S1000x100000, .i32⟩
  | 10 => ⟨S1000x100000, .i32⟩
  | 11 => ⟨S1000x100000, .i1⟩
  | 12 => ⟨S1x100000, .f32⟩
  | 13 => ⟨S_, .f32⟩
  | 14 => ⟨S1000x100000, .f32⟩
  | 15 => ⟨S1000x100000, .f32⟩
  | 16 => ⟨S1000x100000, .f32⟩
  | 17 => ⟨S_, .f32⟩
  | 18 => ⟨S1000, .f32⟩
  | 19 => ⟨S1, .i32⟩
  | 20 => ⟨S99999, .i32⟩
  | 21 => ⟨S100000, .i32⟩
  | 22 => ⟨S100000, .i32⟩
  | 23 => ⟨S100000, .i32⟩
  | 24 => ⟨S_, .i32⟩
  | 25 => ⟨S100000, .i32⟩
  | 26 => ⟨S100000, .i1⟩
  | 27 => ⟨S100000, .f32⟩
  | 28 => ⟨S100000, .f32⟩
  | 29 => ⟨S_, .f32⟩
  | 30 => ⟨S1000, .f32⟩
  | 31 => ⟨S100000x1, .i32⟩
  | 32 => ⟨S1000, .f32⟩
  | 33 => ⟨S_, .i32⟩
  | 34 => ⟨S100000, .i32⟩
  | 35 => ⟨S100000, .i1⟩
  | 36 => ⟨S_, .i32⟩
  | 37 => ⟨S100000, .i32⟩
  | 38 => ⟨S100000, .i32⟩
  | 39 => ⟨S100000, .i32⟩
  | 40 => ⟨S100000x1, .i32⟩
  | 41 => ⟨S1, .i32⟩
  | 42 => ⟨S_, .i32⟩
  | 43 => ⟨S100000x1, .i32⟩
  | 44 => ⟨S100000x1, .i1⟩
  | 45 => ⟨S1x1, .i32⟩
  | 46 => ⟨S100000x1, .i32⟩
  | 47 => ⟨S100000x1, .i1⟩
  | 48 => ⟨S100000x1, .i1⟩
  | 49 => ⟨S_, .i1⟩
  | 50 => ⟨S100000, .i1⟩
  | 51 => ⟨S100000, .f32⟩
  | 52 => ⟨S_, .f32⟩
  | 53 => ⟨S100000, .f32⟩
  | 54 => ⟨S100000, .f32⟩
  | 55 => ⟨S100000, .f32⟩
  | 56 => ⟨S_, .i32⟩
  | 57 => ⟨S100000, .i32⟩
  | 58 => ⟨S100000, .i1⟩
  | 59 => ⟨S_, .i32⟩
  | 60 => ⟨S100000, .i32⟩
  | 61 => ⟨S100000, .i32⟩
  | 62 => ⟨S100000, .i32⟩
  | 63 => ⟨S100000x1, .i32⟩
  | 64 => ⟨S1, .i32⟩
  | 65 => ⟨S_, .i32⟩
  | 66 => ⟨S100000x1, .i32⟩
  | 67 => ⟨S100000x1, .i1⟩
  | 68 => ⟨S1x1, .i32⟩
  | 69 => ⟨S100000x1, .i32⟩
  | 70 => ⟨S100000x1, .i1⟩
  | 71 => ⟨S100000x1, .i1⟩
  | 72 => ⟨S_, .i1⟩
  | 73 => ⟨S100000, .i1⟩
  | 74 => ⟨S100000, .f32⟩
  | 75 => ⟨S_, .f32⟩
  | 76 => ⟨S100000, .f32⟩
  | 77 => ⟨S100000, .f32⟩
  | 78 => ⟨S100000, .f32⟩
  | 79 => ⟨S100000x1, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x3, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x3, .f32⟩
  | 98 => ⟨S1600000x3, .f32⟩
  | 99 => ⟨S1600000x3, .f32⟩
  | 100 => ⟨S_, .f32⟩
  | 101 => ⟨S1600000, .f32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x3, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x3, .f32⟩
  | 121 => ⟨S1600000x3, .f32⟩
  | 122 => ⟨S_, .f32⟩
  | 123 => ⟨S1600000, .f32⟩
  | 124 => ⟨S1600000x1, .f32⟩
  | 125 => ⟨S1600000x1, .f32⟩
  | 126 => ⟨S_, .i32⟩
  | 127 => ⟨S1600000, .i32⟩
  | _ => ⟨S100000x3, .f32⟩

abbrev hbmTy0_4 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x1, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000x1, .f32⟩
  | 16 => ⟨S1600000x1, .f32⟩
  | 17 => ⟨S1600000x1, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x1, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x1, .f32⟩
  | 36 => ⟨S1600000x1, .f32⟩
  | 37 => ⟨S1600000x1, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x1, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x1, .f32⟩
  | 56 => ⟨S1600000x1, .f32⟩
  | 57 => ⟨S1600000x1, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x1, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x1, .f32⟩
  | 76 => ⟨S1600000x1, .f32⟩
  | 77 => ⟨S1600000x1, .f32⟩
  | 78 => ⟨S100000x5, .f32⟩
  | 79 => ⟨S1600000x7, .f32⟩
  | 80 => ⟨S_, .f32⟩
  | 81 => ⟨S1000x3, .f32⟩
  | 82 => ⟨S100000x1, .i32⟩
  | 83 => ⟨S1000x3, .f32⟩
  | 84 => ⟨S_, .f32⟩
  | 85 => ⟨S100000, .f32⟩
  | 86 => ⟨S_, .f32⟩
  | 87 => ⟨S1000, .f32⟩
  | 88 => ⟨S100000x1, .i32⟩
  | 89 => ⟨S1000, .f32⟩
  | 90 => ⟨S1000x1, .f32⟩
  | 91 => ⟨S_, .f32⟩
  | 92 => ⟨S1000x1, .f32⟩
  | 93 => ⟨S1000x1, .f32⟩
  | 94 => ⟨S1000x3, .f32⟩
  | 95 => ⟨S1000x3, .f32⟩
  | 96 => ⟨S1000x3, .f32⟩
  | 97 => ⟨S_, .f32⟩
  | 98 => ⟨S1000, .f32⟩
  | 99 => ⟨S1000x1, .f32⟩
  | 100 => ⟨S_, .f32⟩
  | 101 => ⟨S1000x1, .f32⟩
  | 102 => ⟨S1000x1, .f32⟩
  | 103 => ⟨S1000x1, .f32⟩
  | 104 => ⟨S1000x3, .f32⟩
  | 105 => ⟨S1000x3, .f32⟩
  | 106 => ⟨S1000, .f32⟩
  | 107 => ⟨S1000, .f32⟩
  | _ => ⟨S100000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_c : Ref sig .tc := ⟨.hbm, 47, rfl⟩
abbrev main_v33 : Ref sig .tc := ⟨.hbm, 48, rfl⟩
abbrev main_call0_call0_c : Ref sig .tc := ⟨.hbm, 49, rfl⟩
abbrev main_call0_call0_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_call1_v0 : Ref sig .tc := ⟨.hbm, 60, rfl⟩
abbrev main_call1_v1 : Ref sig .tc := ⟨.hbm, 61, rfl⟩
abbrev main_v42 : Ref sig .tc := ⟨.hbm, 62, rfl⟩
abbrev main_c_10 : Ref sig .tc := ⟨.hbm, 63, rfl⟩
abbrev main_v43 : Ref sig .tc := ⟨.hbm, 64, rfl⟩
abbrev main_call2_v0 : Ref sig .tc := ⟨.hbm, 65, rfl⟩
abbrev main_call2_v1 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_12 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call3_c : Ref sig .tc := ⟨.hbm, 79, rfl⟩
abbrev main_call3_v0 : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_c_1 : Ref sig .tc := ⟨.hbm, 87, rfl⟩
abbrev main_call3_c_2 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_c_3 : Ref sig .tc := ⟨.hbm, 95, rfl⟩
abbrev main_call3_v12 : Ref sig .tc := ⟨.hbm, 96, rfl⟩
abbrev main_call3_v13 : Ref sig .tc := ⟨.hbm, 97, rfl⟩
abbrev main_call3_c_4 : Ref sig .tc := ⟨.hbm, 98, rfl⟩
abbrev main_call3_v14 : Ref sig .tc := ⟨.hbm, 99, rfl⟩
abbrev main_v54 : Ref sig .tc := ⟨.hbm, 100, rfl⟩
abbrev main_v55 : Ref sig .tc := ⟨.hbm, 101, rfl⟩
abbrev main_call4_c : Ref sig .tc := ⟨.hbm, 102, rfl⟩
abbrev main_call4_v0 : Ref sig .tc := ⟨.hbm, 103, rfl⟩
abbrev main_call4_v1 : Ref sig .tc := ⟨.hbm, 104, rfl⟩
abbrev main_call4_c_0 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_call4_v5 : Ref sig .tc := ⟨.hbm, 109, rfl⟩
abbrev main_call4_c_1 : Ref sig .tc := ⟨.hbm, 110, rfl⟩
abbrev main_call4_c_2 : Ref sig .tc := ⟨.hbm, 111, rfl⟩
abbrev main_call4_v6 : Ref sig .tc := ⟨.hbm, 112, rfl⟩
abbrev main_call4_v7 : Ref sig .tc := ⟨.hbm, 113, rfl⟩
abbrev main_call4_v8 : Ref sig .tc := ⟨.hbm, 114, rfl⟩
abbrev main_call4_v9 : Ref sig .tc := ⟨.hbm, 115, rfl⟩
abbrev main_call4_v10 : Ref sig .tc := ⟨.hbm, 116, rfl⟩
abbrev main_call4_v11 : Ref sig .tc := ⟨.hbm, 117, rfl⟩
abbrev main_call4_c_3 : Ref sig .tc := ⟨.hbm, 118, rfl⟩
abbrev main_call4_v12 : Ref sig .tc := ⟨.hbm, 119, rfl⟩
abbrev main_call4_v13 : Ref sig .tc := ⟨.hbm, 120, rfl⟩
abbrev main_call4_c_4 : Ref sig .tc := ⟨.hbm, 121, rfl⟩
abbrev main_call4_v14 : Ref sig .tc := ⟨.hbm, 122, rfl⟩
abbrev main_v56 : Ref sig .tc := ⟨.hbm, 123, rfl⟩
abbrev main_v57 : Ref sig .tc := ⟨.hbm, 124, rfl⟩
abbrev main_c_13 : Ref sig .tc := ⟨.hbm, 125, rfl⟩
abbrev main_v58 : Ref sig .tc := ⟨.hbm, 126, rfl⟩
abbrev main_c_14 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_call5_c : Ref sig .tc := ⟨.hbm, 131, rfl⟩
abbrev main_call5_v0 : Ref sig .tc := ⟨.hbm, 132, rfl⟩
abbrev main_call5_v1 : Ref sig .tc := ⟨.hbm, 133, rfl⟩
abbrev main_call5_c_0 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_call5_v5 : Ref sig .tc := ⟨.hbm, 138, rfl⟩
abbrev main_call5_c_1 : Ref sig .tc := ⟨.hbm, 139, rfl⟩
abbrev main_call5_c_2 : Ref sig .tc := ⟨.hbm, 140, rfl⟩
abbrev main_call5_v6 : Ref sig .tc := ⟨.hbm, 141, rfl⟩
abbrev main_call5_v7 : Ref sig .tc := ⟨.hbm, 142, rfl⟩
abbrev main_call5_v8 : Ref sig .tc := ⟨.hbm, 143, rfl⟩
abbrev main_call5_v9 : Ref sig .tc := ⟨.hbm, 144, rfl⟩
abbrev main_call5_v10 : Ref sig .tc := ⟨.hbm, 145, rfl⟩
abbrev main_call5_v11 : Ref sig .tc := ⟨.hbm, 146, rfl⟩
abbrev main_call5_c_3 : Ref sig .tc := ⟨.hbm, 147, rfl⟩
abbrev main_call5_v12 : Ref sig .tc := ⟨.hbm, 148, rfl⟩
abbrev main_call5_v13 : Ref sig .tc := ⟨.hbm, 149, rfl⟩
abbrev main_call5_c_4 : Ref sig .tc := ⟨.hbm, 150, rfl⟩
abbrev main_call5_v14 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_c_15 : Ref sig .tc := ⟨.hbm, 157, rfl⟩
abbrev main_v67 : Ref sig .tc := ⟨.hbm, 158, rfl⟩
abbrev main_v68 : Ref sig .tc := ⟨.hbm, 159, rfl⟩
abbrev main_c_16 : Ref sig .tc := ⟨.hbm, 160, rfl⟩
abbrev main_v69 : Ref sig .tc := ⟨.hbm, 161, rfl⟩
abbrev main_v70 : Ref sig .tc := ⟨.hbm, 162, rfl⟩
abbrev main_v71 : Ref sig .tc := ⟨.hbm, 163, rfl⟩
abbrev main_v72 : Ref sig .tc := ⟨.hbm, 164, rfl⟩
abbrev main_v73 : Ref sig .tc := ⟨.hbm, 165, rfl⟩
abbrev main_c_17 : Ref sig .tc := ⟨.hbm, 166, rfl⟩
abbrev main_v74 : Ref sig .tc := ⟨.hbm, 167, rfl⟩
abbrev main_v75 : Ref sig .tc := ⟨.hbm, 168, rfl⟩
abbrev main_c_18 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_call6_v0 : Ref sig .tc := ⟨.hbm, 177, rfl⟩
abbrev main_call6_v1 : Ref sig .tc := ⟨.hbm, 178, rfl⟩
abbrev main_v83 : Ref sig .tc := ⟨.hbm, 179, rfl⟩
abbrev main_v84 : Ref sig .tc := ⟨.hbm, 180, rfl⟩
abbrev main_call7_v0 : Ref sig .tc := ⟨.hbm, 181, rfl⟩
abbrev main_call7_v1 : Ref sig .tc := ⟨.hbm, 182, rfl⟩
abbrev main_v85 : Ref sig .tc := ⟨.hbm, 183, rfl⟩
abbrev main_v86 : Ref sig .tc := ⟨.hbm, 184, rfl⟩
abbrev main_v87 : Ref sig .tc := ⟨.hbm, 185, rfl⟩
abbrev main_c_19 : Ref sig .tc := ⟨.hbm, 186, rfl⟩
abbrev main_v88 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩
abbrev main_cst_20 : Ref sig .tc := ⟨.hbm, 193, rfl⟩
abbrev main_call8_v0 : Ref sig .tc := ⟨.hbm, 194, rfl⟩
abbrev main_call8_v1 : Ref sig .tc := ⟨.hbm, 195, rfl⟩
abbrev main_v94 : Ref sig .tc := ⟨.hbm, 196, rfl⟩
abbrev main_call9_c : Ref sig .tc := ⟨.hbm, 197, rfl⟩
abbrev main_call9_v0 : Ref sig .tc := ⟨.hbm, 198, rfl⟩
abbrev main_call9_v1 : Ref sig .tc := ⟨.hbm, 199, rfl⟩
abbrev main_call9_c_0 : Ref sig .tc := ⟨.hbm, 200, rfl⟩
abbrev main_call9_v2 : Ref sig .tc := ⟨.hbm, 201, rfl⟩
abbrev main_call9_v3 : Ref sig .tc := ⟨.hbm, 202, rfl⟩
abbrev main_call9_v4 : Ref sig .tc := ⟨.hbm, 203, rfl⟩
abbrev main_call9_v5 : Ref sig .tc := ⟨.hbm, 204, rfl⟩
abbrev main_call9_c_1 : Ref sig .tc := ⟨.hbm, 205, rfl⟩
abbrev main_call9_c_2 : Ref sig .tc := ⟨.hbm, 206, rfl⟩
abbrev main_call9_v6 : Ref sig .tc := ⟨.hbm, 207, rfl⟩
abbrev main_call9_v7 : Ref sig .tc := ⟨.hbm, 208, rfl⟩
abbrev main_call9_v8 : Ref sig .tc := ⟨.hbm, 209, rfl⟩
abbrev main_call9_v9 : Ref sig .tc := ⟨.hbm, 210, rfl⟩
abbrev main_call9_v10 : Ref sig .tc := ⟨.hbm, 211, rfl⟩
abbrev main_call9_v11 : Ref sig .tc := ⟨.hbm, 212, rfl⟩
abbrev main_call9_c_3 : Ref sig .tc := ⟨.hbm, 213, rfl⟩
abbrev main_call9_v12 : Ref sig .tc := ⟨.hbm, 214, rfl⟩
abbrev main_call9_v13 : Ref sig .tc := ⟨.hbm, 215, rfl⟩
abbrev main_call9_cst : Ref sig .tc := ⟨.hbm, 216, rfl⟩
abbrev main_call9_v14 : Ref sig .tc := ⟨.hbm, 217, rfl⟩
abbrev main_v95 : Ref sig .tc := ⟨.hbm, 218, rfl⟩
abbrev main_v96 : Ref sig .tc := ⟨.hbm, 219, rfl⟩
abbrev main_v97 : Ref sig .tc := ⟨.hbm, 220, rfl⟩
abbrev main_v98 : Ref sig .tc := ⟨.hbm, 221, rfl⟩
abbrev main_v99 : Ref sig .tc := ⟨.hbm, 222, rfl⟩
abbrev main_v100 : Ref sig .tc := ⟨.hbm, 223, rfl⟩
abbrev main_v101 : Ref sig .tc := ⟨.hbm, 224, rfl⟩
abbrev main_cst_21 : Ref sig .tc := ⟨.hbm, 225, rfl⟩
abbrev main_v102 : Ref sig .tc := ⟨.hbm, 226, rfl⟩
abbrev main_cst_22 : Ref sig .tc := ⟨.hbm, 227, rfl⟩
abbrev main_v103 : Ref sig .tc := ⟨.hbm, 228, rfl⟩
abbrev main_v104 : Ref sig .tc := ⟨.hbm, 229, rfl⟩
abbrev main_v105 : Ref sig .tc := ⟨.hbm, 230, rfl⟩
abbrev main_call10_call0_cst : Ref sig .tc := ⟨.hbm, 231, rfl⟩
abbrev main_call10_call0_v0 : Ref sig .tc := ⟨.hbm, 232, rfl⟩
abbrev main_v106 : Ref sig .tc := ⟨.hbm, 233, rfl⟩
abbrev main_v107 : Ref sig .tc := ⟨.hbm, 234, rfl⟩
abbrev main_v108 : Ref sig .tc := ⟨.hbm, 235, rfl⟩
abbrev main_v109 : Ref sig .tc := ⟨.hbm, 236, rfl⟩
abbrev main_v110 : Ref sig .tc := ⟨.hbm, 237, rfl⟩
abbrev main_v111 : Ref sig .tc := ⟨.hbm, 238, rfl⟩
abbrev main_v112 : Ref sig .tc := ⟨.hbm, 239, rfl⟩
abbrev main_v113 : Ref sig .tc := ⟨.hbm, 240, rfl⟩
abbrev main_cst_23 : Ref sig .tc := ⟨.hbm, 241, rfl⟩
abbrev main_call11_v0 : Ref sig .tc := ⟨.hbm, 242, rfl⟩
abbrev main_call11_v1 : Ref sig .tc := ⟨.hbm, 243, rfl⟩
abbrev main_v114 : Ref sig .tc := ⟨.hbm, 244, rfl⟩
abbrev main_cst_24 : Ref sig .tc := ⟨.hbm, 245, rfl⟩
abbrev main_v115 : Ref sig .tc := ⟨.hbm, 246, rfl⟩
abbrev main_call12_v0 : Ref sig .tc := ⟨.hbm, 247, rfl⟩
abbrev main_call12_v1 : Ref sig .tc := ⟨.hbm, 248, rfl⟩
abbrev main_v116 : Ref sig .tc := ⟨.hbm, 249, rfl⟩
abbrev main_v117 : Ref sig .tc := ⟨.hbm, 250, rfl⟩
abbrev main_v118 : Ref sig .tc := ⟨.hbm, 251, rfl⟩
abbrev main_c_25 : Ref sig .tc := ⟨.hbm, 252, rfl⟩
abbrev main_v119 : Ref sig .tc := ⟨.hbm, 253, rfl⟩
abbrev main_v120 : Ref sig .tc := ⟨.hbm, 254, rfl⟩
abbrev main_v121 : Ref sig .tc := ⟨.hbm, 255, rfl⟩
abbrev main_v122 : Ref sig .tc := ⟨.hbm, 256, rfl⟩
abbrev main_cst_26 : Ref sig .tc := ⟨.hbm, 257, rfl⟩
abbrev main_v123 : Ref sig .tc := ⟨.hbm, 258, rfl⟩
abbrev main_v124 : Ref sig .tc := ⟨.hbm, 259, rfl⟩
abbrev main_v125 : Ref sig .tc := ⟨.hbm, 260, rfl⟩
abbrev main_call13_c : Ref sig .tc := ⟨.hbm, 261, rfl⟩
abbrev main_call13_v0 : Ref sig .tc := ⟨.hbm, 262, rfl⟩
abbrev main_call13_v1 : Ref sig .tc := ⟨.hbm, 263, rfl⟩
abbrev main_call13_c_0 : Ref sig .tc := ⟨.hbm, 264, rfl⟩
abbrev main_call13_v2 : Ref sig .tc := ⟨.hbm, 265, rfl⟩
abbrev main_call13_v3 : Ref sig .tc := ⟨.hbm, 266, rfl⟩
abbrev main_call13_v4 : Ref sig .tc := ⟨.hbm, 267, rfl⟩
abbrev main_call13_v5 : Ref sig .tc := ⟨.hbm, 268, rfl⟩
abbrev main_call13_c_1 : Ref sig .tc := ⟨.hbm, 269, rfl⟩
abbrev main_call13_c_2 : Ref sig .tc := ⟨.hbm, 270, rfl⟩
abbrev main_call13_v6 : Ref sig .tc := ⟨.hbm, 271, rfl⟩
abbrev main_call13_v7 : Ref sig .tc := ⟨.hbm, 272, rfl⟩
abbrev main_call13_v8 : Ref sig .tc := ⟨.hbm, 273, rfl⟩
abbrev main_call13_v9 : Ref sig .tc := ⟨.hbm, 274, rfl⟩
abbrev main_call13_v10 : Ref sig .tc := ⟨.hbm, 275, rfl⟩
abbrev main_call13_v11 : Ref sig .tc := ⟨.hbm, 276, rfl⟩
abbrev main_call13_c_3 : Ref sig .tc := ⟨.hbm, 277, rfl⟩
abbrev main_call13_v12 : Ref sig .tc := ⟨.hbm, 278, rfl⟩
abbrev main_call13_v13 : Ref sig .tc := ⟨.hbm, 279, rfl⟩
abbrev main_call13_cst : Ref sig .tc := ⟨.hbm, 280, rfl⟩
abbrev main_call13_v14 : Ref sig .tc := ⟨.hbm, 281, rfl⟩
abbrev main_v126 : Ref sig .tc := ⟨.hbm, 282, rfl⟩
abbrev main_v127 : Ref sig .tc := ⟨.hbm, 283, rfl⟩
abbrev main_call14_c : Ref sig .tc := ⟨.hbm, 284, rfl⟩
abbrev main_call14_v0 : Ref sig .tc := ⟨.hbm, 285, rfl⟩
abbrev main_call14_v1 : Ref sig .tc := ⟨.hbm, 286, rfl⟩
abbrev main_call14_c_0 : Ref sig .tc := ⟨.hbm, 287, rfl⟩
abbrev main_call14_v2 : Ref sig .tc := ⟨.hbm, 288, rfl⟩
abbrev main_call14_v3 : Ref sig .tc := ⟨.hbm, 289, rfl⟩
abbrev main_call14_v4 : Ref sig .tc := ⟨.hbm, 290, rfl⟩
abbrev main_call14_v5 : Ref sig .tc := ⟨.hbm, 291, rfl⟩
abbrev main_call14_c_1 : Ref sig .tc := ⟨.hbm, 292, rfl⟩
abbrev main_call14_c_2 : Ref sig .tc := ⟨.hbm, 293, rfl⟩
abbrev main_call14_v6 : Ref sig .tc := ⟨.hbm, 294, rfl⟩
abbrev main_call14_v7 : Ref sig .tc := ⟨.hbm, 295, rfl⟩
abbrev main_call14_v8 : Ref sig .tc := ⟨.hbm, 296, rfl⟩
abbrev main_call14_v9 : Ref sig .tc := ⟨.hbm, 297, rfl⟩
abbrev main_call14_v10 : Ref sig .tc := ⟨.hbm, 298, rfl⟩
abbrev main_call14_v11 : Ref sig .tc := ⟨.hbm, 299, rfl⟩
abbrev main_call14_c_3 : Ref sig .tc := ⟨.hbm, 300, rfl⟩
abbrev main_call14_v12 : Ref sig .tc := ⟨.hbm, 301, rfl⟩
abbrev main_call14_v13 : Ref sig .tc := ⟨.hbm, 302, rfl⟩
abbrev main_call14_cst : Ref sig .tc := ⟨.hbm, 303, rfl⟩
abbrev main_call14_v14 : Ref sig .tc := ⟨.hbm, 304, rfl⟩
abbrev main_v128 : Ref sig .tc := ⟨.hbm, 305, rfl⟩
abbrev main_v129 : Ref sig .tc := ⟨.hbm, 306, rfl⟩
abbrev main_v130 : Ref sig .tc := ⟨.hbm, 307, rfl⟩
abbrev main_v131 : Ref sig .tc := ⟨.hbm, 308, rfl⟩
abbrev main_call15_call0_cst : Ref sig .tc := ⟨.hbm, 309, rfl⟩
abbrev main_call15_call0_v0 : Ref sig .tc := ⟨.hbm, 310, rfl⟩
abbrev main_v132 : Ref sig .tc := ⟨.hbm, 311, rfl⟩
abbrev main_v133 : Ref sig .tc := ⟨.hbm, 312, rfl⟩
abbrev main_v134 : Ref sig .tc := ⟨.hbm, 313, rfl⟩
abbrev main_v135 : Ref sig .tc := ⟨.hbm, 314, rfl⟩
abbrev main_v136 : Ref sig .tc := ⟨.hbm, 315, rfl⟩
abbrev main_v137 : Ref sig .tc := ⟨.hbm, 316, rfl⟩
abbrev main_v138 : Ref sig .tc := ⟨.hbm, 317, rfl⟩
abbrev main_v139 : Ref sig .tc := ⟨.hbm, 318, rfl⟩
abbrev main_cst_27 : Ref sig .tc := ⟨.hbm, 319, rfl⟩
abbrev main_call16_v0 : Ref sig .tc := ⟨.hbm, 320, rfl⟩
abbrev main_call16_v1 : Ref sig .tc := ⟨.hbm, 321, rfl⟩
abbrev main_v140 : Ref sig .tc := ⟨.hbm, 322, rfl⟩
abbrev main_cst_28 : Ref sig .tc := ⟨.hbm, 323, rfl⟩
abbrev main_v141 : Ref sig .tc := ⟨.hbm, 324, rfl⟩
abbrev main_call17_v0 : Ref sig .tc := ⟨.hbm, 325, rfl⟩
abbrev main_call17_v1 : Ref sig .tc := ⟨.hbm, 326, rfl⟩
abbrev main_v142 : Ref sig .tc := ⟨.hbm, 327, rfl⟩
abbrev main_v143 : Ref sig .tc := ⟨.hbm, 328, rfl⟩
abbrev main_v144 : Ref sig .tc := ⟨.hbm, 329, rfl⟩
abbrev main_c_29 : Ref sig .tc := ⟨.hbm, 330, rfl⟩
abbrev main_v145 : Ref sig .tc := ⟨.hbm, 331, rfl⟩
abbrev main_v146 : Ref sig .tc := ⟨.hbm, 332, rfl⟩
abbrev main_v147 : Ref sig .tc := ⟨.hbm, 333, rfl⟩
abbrev main_v148 : Ref sig .tc := ⟨.hbm, 334, rfl⟩
abbrev main_cst_30 : Ref sig .tc := ⟨.hbm, 335, rfl⟩
abbrev main_v149 : Ref sig .tc := ⟨.hbm, 336, rfl⟩
abbrev main_v150 : Ref sig .tc := ⟨.hbm, 337, rfl⟩
abbrev main_v151 : Ref sig .tc := ⟨.hbm, 338, rfl⟩
abbrev main_call18_c : Ref sig .tc := ⟨.hbm, 339, rfl⟩
abbrev main_call18_v0 : Ref sig .tc := ⟨.hbm, 340, rfl⟩
abbrev main_call18_v1 : Ref sig .tc := ⟨.hbm, 341, rfl⟩
abbrev main_call18_c_0 : Ref sig .tc := ⟨.hbm, 342, rfl⟩
abbrev main_call18_v2 : Ref sig .tc := ⟨.hbm, 343, rfl⟩
abbrev main_call18_v3 : Ref sig .tc := ⟨.hbm, 344, rfl⟩
abbrev main_call18_v4 : Ref sig .tc := ⟨.hbm, 345, rfl⟩
abbrev main_call18_v5 : Ref sig .tc := ⟨.hbm, 346, rfl⟩
abbrev main_call18_c_1 : Ref sig .tc := ⟨.hbm, 347, rfl⟩
abbrev main_call18_c_2 : Ref sig .tc := ⟨.hbm, 348, rfl⟩
abbrev main_call18_v6 : Ref sig .tc := ⟨.hbm, 349, rfl⟩
abbrev main_call18_v7 : Ref sig .tc := ⟨.hbm, 350, rfl⟩
abbrev main_call18_v8 : Ref sig .tc := ⟨.hbm, 351, rfl⟩
abbrev main_call18_v9 : Ref sig .tc := ⟨.hbm, 352, rfl⟩
abbrev main_call18_v10 : Ref sig .tc := ⟨.hbm, 353, rfl⟩
abbrev main_call18_v11 : Ref sig .tc := ⟨.hbm, 354, rfl⟩
abbrev main_call18_c_3 : Ref sig .tc := ⟨.hbm, 355, rfl⟩
abbrev main_call18_v12 : Ref sig .tc := ⟨.hbm, 356, rfl⟩
abbrev main_call18_v13 : Ref sig .tc := ⟨.hbm, 357, rfl⟩
abbrev main_call18_cst : Ref sig .tc := ⟨.hbm, 358, rfl⟩
abbrev main_call18_v14 : Ref sig .tc := ⟨.hbm, 359, rfl⟩
abbrev main_v152 : Ref sig .tc := ⟨.hbm, 360, rfl⟩
abbrev main_v153 : Ref sig .tc := ⟨.hbm, 361, rfl⟩
abbrev main_call19_c : Ref sig .tc := ⟨.hbm, 362, rfl⟩
abbrev main_call19_v0 : Ref sig .tc := ⟨.hbm, 363, rfl⟩
abbrev main_call19_v1 : Ref sig .tc := ⟨.hbm, 364, rfl⟩
abbrev main_call19_c_0 : Ref sig .tc := ⟨.hbm, 365, rfl⟩
abbrev main_call19_v2 : Ref sig .tc := ⟨.hbm, 366, rfl⟩
abbrev main_call19_v3 : Ref sig .tc := ⟨.hbm, 367, rfl⟩
abbrev main_call19_v4 : Ref sig .tc := ⟨.hbm, 368, rfl⟩
abbrev main_call19_v5 : Ref sig .tc := ⟨.hbm, 369, rfl⟩
abbrev main_call19_c_1 : Ref sig .tc := ⟨.hbm, 370, rfl⟩
abbrev main_call19_c_2 : Ref sig .tc := ⟨.hbm, 371, rfl⟩
abbrev main_call19_v6 : Ref sig .tc := ⟨.hbm, 372, rfl⟩
abbrev main_call19_v7 : Ref sig .tc := ⟨.hbm, 373, rfl⟩
abbrev main_call19_v8 : Ref sig .tc := ⟨.hbm, 374, rfl⟩
abbrev main_call19_v9 : Ref sig .tc := ⟨.hbm, 375, rfl⟩
abbrev main_call19_v10 : Ref sig .tc := ⟨.hbm, 376, rfl⟩
abbrev main_call19_v11 : Ref sig .tc := ⟨.hbm, 377, rfl⟩
abbrev main_call19_c_3 : Ref sig .tc := ⟨.hbm, 378, rfl⟩
abbrev main_call19_v12 : Ref sig .tc := ⟨.hbm, 379, rfl⟩
abbrev main_call19_v13 : Ref sig .tc := ⟨.hbm, 380, rfl⟩
abbrev main_call19_cst : Ref sig .tc := ⟨.hbm, 381, rfl⟩
abbrev main_call19_v14 : Ref sig .tc := ⟨.hbm, 382, rfl⟩
abbrev main_v154 : Ref sig .tc := ⟨.hbm, 383, rfl⟩
abbrev main_v155 : Ref sig .tc := ⟨.hbm, 384, rfl⟩
abbrev main_v156 : Ref sig .tc := ⟨.hbm, 385, rfl⟩
abbrev main_v157 : Ref sig .tc := ⟨.hbm, 386, rfl⟩
abbrev main_call20_cst : Ref sig .tc := ⟨.hbm, 387, rfl⟩
abbrev main_call20_v0 : Ref sig .tc := ⟨.hbm, 388, rfl⟩
abbrev main_v158 : Ref sig .tc := ⟨.hbm, 389, rfl⟩
abbrev main_v159 : Ref sig .tc := ⟨.hbm, 390, rfl⟩
abbrev main_v160 : Ref sig .tc := ⟨.hbm, 391, rfl⟩
abbrev main_v161 : Ref sig .tc := ⟨.hbm, 392, rfl⟩
abbrev main_v162 : Ref sig .tc := ⟨.hbm, 393, rfl⟩
abbrev main_v163 : Ref sig .tc := ⟨.hbm, 394, rfl⟩
abbrev main_v164 : Ref sig .tc := ⟨.hbm, 395, rfl⟩
abbrev main_v165 : Ref sig .tc := ⟨.hbm, 396, rfl⟩
abbrev main_cst_31 : Ref sig .tc := ⟨.hbm, 397, rfl⟩
abbrev main_call21_v0 : Ref sig .tc := ⟨.hbm, 398, rfl⟩
abbrev main_call21_v1 : Ref sig .tc := ⟨.hbm, 399, rfl⟩
abbrev main_v166 : Ref sig .tc := ⟨.hbm, 400, rfl⟩
abbrev main_cst_32 : Ref sig .tc := ⟨.hbm, 401, rfl⟩
abbrev main_v167 : Ref sig .tc := ⟨.hbm, 402, rfl⟩
abbrev main_call22_v0 : Ref sig .tc := ⟨.hbm, 403, rfl⟩
abbrev main_call22_v1 : Ref sig .tc := ⟨.hbm, 404, rfl⟩
abbrev main_v168 : Ref sig .tc := ⟨.hbm, 405, rfl⟩
abbrev main_v169 : Ref sig .tc := ⟨.hbm, 406, rfl⟩
abbrev main_v170 : Ref sig .tc := ⟨.hbm, 407, rfl⟩
abbrev main_c_33 : Ref sig .tc := ⟨.hbm, 408, rfl⟩
abbrev main_v171 : Ref sig .tc := ⟨.hbm, 409, rfl⟩
abbrev main_v172 : Ref sig .tc := ⟨.hbm, 410, rfl⟩
abbrev main_v173 : Ref sig .tc := ⟨.hbm, 411, rfl⟩
abbrev main_v174 : Ref sig .tc := ⟨.hbm, 412, rfl⟩
abbrev main_cst_34 : Ref sig .tc := ⟨.hbm, 413, rfl⟩
abbrev main_v175 : Ref sig .tc := ⟨.hbm, 414, rfl⟩
abbrev main_v176 : Ref sig .tc := ⟨.hbm, 415, rfl⟩
abbrev main_v177 : Ref sig .tc := ⟨.hbm, 416, rfl⟩
abbrev main_call23_c : Ref sig .tc := ⟨.hbm, 417, rfl⟩
abbrev main_call23_v0 : Ref sig .tc := ⟨.hbm, 418, rfl⟩
abbrev main_call23_v1 : Ref sig .tc := ⟨.hbm, 419, rfl⟩
abbrev main_call23_c_0 : Ref sig .tc := ⟨.hbm, 420, rfl⟩
abbrev main_call23_v2 : Ref sig .tc := ⟨.hbm, 421, rfl⟩
abbrev main_call23_v3 : Ref sig .tc := ⟨.hbm, 422, rfl⟩
abbrev main_call23_v4 : Ref sig .tc := ⟨.hbm, 423, rfl⟩
abbrev main_call23_v5 : Ref sig .tc := ⟨.hbm, 424, rfl⟩
abbrev main_call23_c_1 : Ref sig .tc := ⟨.hbm, 425, rfl⟩
abbrev main_call23_c_2 : Ref sig .tc := ⟨.hbm, 426, rfl⟩
abbrev main_call23_v6 : Ref sig .tc := ⟨.hbm, 427, rfl⟩
abbrev main_call23_v7 : Ref sig .tc := ⟨.hbm, 428, rfl⟩
abbrev main_call23_v8 : Ref sig .tc := ⟨.hbm, 429, rfl⟩
abbrev main_call23_v9 : Ref sig .tc := ⟨.hbm, 430, rfl⟩
abbrev main_call23_v10 : Ref sig .tc := ⟨.hbm, 431, rfl⟩
abbrev main_call23_v11 : Ref sig .tc := ⟨.hbm, 432, rfl⟩
abbrev main_call23_c_3 : Ref sig .tc := ⟨.hbm, 433, rfl⟩
abbrev main_call23_v12 : Ref sig .tc := ⟨.hbm, 434, rfl⟩
abbrev main_call23_v13 : Ref sig .tc := ⟨.hbm, 435, rfl⟩
abbrev main_call23_cst : Ref sig .tc := ⟨.hbm, 436, rfl⟩
abbrev main_call23_v14 : Ref sig .tc := ⟨.hbm, 437, rfl⟩
abbrev main_v178 : Ref sig .tc := ⟨.hbm, 438, rfl⟩
abbrev main_v179 : Ref sig .tc := ⟨.hbm, 439, rfl⟩
abbrev main_call24_c : Ref sig .tc := ⟨.hbm, 440, rfl⟩
abbrev main_call24_v0 : Ref sig .tc := ⟨.hbm, 441, rfl⟩
abbrev main_call24_v1 : Ref sig .tc := ⟨.hbm, 442, rfl⟩
abbrev main_call24_c_0 : Ref sig .tc := ⟨.hbm, 443, rfl⟩
abbrev main_call24_v2 : Ref sig .tc := ⟨.hbm, 444, rfl⟩
abbrev main_call24_v3 : Ref sig .tc := ⟨.hbm, 445, rfl⟩
abbrev main_call24_v4 : Ref sig .tc := ⟨.hbm, 446, rfl⟩
abbrev main_call24_v5 : Ref sig .tc := ⟨.hbm, 447, rfl⟩
abbrev main_call24_c_1 : Ref sig .tc := ⟨.hbm, 448, rfl⟩
abbrev main_call24_c_2 : Ref sig .tc := ⟨.hbm, 449, rfl⟩
abbrev main_call24_v6 : Ref sig .tc := ⟨.hbm, 450, rfl⟩
abbrev main_call24_v7 : Ref sig .tc := ⟨.hbm, 451, rfl⟩
abbrev main_call24_v8 : Ref sig .tc := ⟨.hbm, 452, rfl⟩
abbrev main_call24_v9 : Ref sig .tc := ⟨.hbm, 453, rfl⟩
abbrev main_call24_v10 : Ref sig .tc := ⟨.hbm, 454, rfl⟩
abbrev main_call24_v11 : Ref sig .tc := ⟨.hbm, 455, rfl⟩
abbrev main_call24_c_3 : Ref sig .tc := ⟨.hbm, 456, rfl⟩
abbrev main_call24_v12 : Ref sig .tc := ⟨.hbm, 457, rfl⟩
abbrev main_call24_v13 : Ref sig .tc := ⟨.hbm, 458, rfl⟩
abbrev main_call24_cst : Ref sig .tc := ⟨.hbm, 459, rfl⟩
abbrev main_call24_v14 : Ref sig .tc := ⟨.hbm, 460, rfl⟩
abbrev main_v180 : Ref sig .tc := ⟨.hbm, 461, rfl⟩
abbrev main_v181 : Ref sig .tc := ⟨.hbm, 462, rfl⟩
abbrev main_v182 : Ref sig .tc := ⟨.hbm, 463, rfl⟩
abbrev main_c_35 : Ref sig .tc := ⟨.hbm, 464, rfl⟩
abbrev main_v183 : Ref sig .tc := ⟨.hbm, 465, rfl⟩
abbrev main_v184 : Ref sig .tc := ⟨.hbm, 466, rfl⟩
abbrev main_c_36 : Ref sig .tc := ⟨.hbm, 467, rfl⟩
abbrev main_v185 : Ref sig .tc := ⟨.hbm, 468, rfl⟩
abbrev main_v186 : Ref sig .tc := ⟨.hbm, 469, rfl⟩
abbrev main_v187 : Ref sig .tc := ⟨.hbm, 470, rfl⟩
abbrev main_v188 : Ref sig .tc := ⟨.hbm, 471, rfl⟩
abbrev main_v189 : Ref sig .tc := ⟨.hbm, 472, rfl⟩
abbrev main_c_37 : Ref sig .tc := ⟨.hbm, 473, rfl⟩
abbrev main_v190 : Ref sig .tc := ⟨.hbm, 474, rfl⟩
abbrev main_v191 : Ref sig .tc := ⟨.hbm, 475, rfl⟩
abbrev main_c_38 : Ref sig .tc := ⟨.hbm, 476, rfl⟩
abbrev main_v192 : Ref sig .tc := ⟨.hbm, 477, rfl⟩
abbrev main_v193 : Ref sig .tc := ⟨.hbm, 478, rfl⟩
abbrev main_v194 : Ref sig .tc := ⟨.hbm, 479, rfl⟩
abbrev main_v195 : Ref sig .tc := ⟨.hbm, 480, rfl⟩
abbrev main_v196 : Ref sig .tc := ⟨.hbm, 481, rfl⟩
abbrev main_v197 : Ref sig .tc := ⟨.hbm, 482, rfl⟩
abbrev main_v198 : Ref sig .tc := ⟨.hbm, 483, rfl⟩
abbrev main_cst_39 : Ref sig .tc := ⟨.hbm, 484, rfl⟩
abbrev main_v199 : Ref sig .tc := ⟨.hbm, 485, rfl⟩
abbrev main_v200 : Ref sig .tc := ⟨.hbm, 486, rfl⟩
abbrev main_c_40 : Ref sig .tc := ⟨.hbm, 487, rfl⟩
abbrev main_v201 : Ref sig .tc := ⟨.hbm, 488, rfl⟩
abbrev main_v202 : Ref sig .tc := ⟨.hbm, 489, rfl⟩
abbrev main_c_41 : Ref sig .tc := ⟨.hbm, 490, rfl⟩
abbrev main_v203 : Ref sig .tc := ⟨.hbm, 491, rfl⟩
abbrev main_v204 : Ref sig .tc := ⟨.hbm, 492, rfl⟩
abbrev main_v205 : Ref sig .tc := ⟨.hbm, 493, rfl⟩
abbrev main_v206 : Ref sig .tc := ⟨.hbm, 494, rfl⟩
abbrev main_v207 : Ref sig .tc := ⟨.hbm, 495, rfl⟩
abbrev main_c_42 : Ref sig .tc := ⟨.hbm, 496, rfl⟩
abbrev main_v208 : Ref sig .tc := ⟨.hbm, 497, rfl⟩
abbrev main_v209 : Ref sig .tc := ⟨.hbm, 498, rfl⟩
abbrev main_c_43 : Ref sig .tc := ⟨.hbm, 499, rfl⟩
abbrev main_v210 : Ref sig .tc := ⟨.hbm, 500, rfl⟩
abbrev main_v211 : Ref sig .tc := ⟨.hbm, 501, rfl⟩
abbrev main_v212 : Ref sig .tc := ⟨.hbm, 502, rfl⟩
abbrev main_v213 : Ref sig .tc := ⟨.hbm, 503, rfl⟩
abbrev main_v214 : Ref sig .tc := ⟨.hbm, 504, rfl⟩
abbrev main_v215 : Ref sig .tc := ⟨.hbm, 505, rfl⟩
abbrev main_cst_44 : Ref sig .tc := ⟨.hbm, 506, rfl⟩
abbrev main_v216 : Ref sig .tc := ⟨.hbm, 507, rfl⟩
abbrev main_v217 : Ref sig .tc := ⟨.hbm, 508, rfl⟩
abbrev main_v218 : Ref sig .tc := ⟨.hbm, 509, rfl⟩
abbrev main_c_45 : Ref sig .tc := ⟨.hbm, 510, rfl⟩
abbrev main_v219 : Ref sig .tc := ⟨.hbm, 511, rfl⟩
abbrev main_v220 : Ref sig .tc := ⟨.hbm, 512, rfl⟩
abbrev main_c_46 : Ref sig .tc := ⟨.hbm, 513, rfl⟩
abbrev main_v221 : Ref sig .tc := ⟨.hbm, 514, rfl⟩
abbrev main_v222 : Ref sig .tc := ⟨.hbm, 515, rfl⟩
abbrev main_v223 : Ref sig .tc := ⟨.hbm, 516, rfl⟩
abbrev main_v224 : Ref sig .tc := ⟨.hbm, 517, rfl⟩
abbrev main_v225 : Ref sig .tc := ⟨.hbm, 518, rfl⟩
abbrev main_c_47 : Ref sig .tc := ⟨.hbm, 519, rfl⟩
abbrev main_v226 : Ref sig .tc := ⟨.hbm, 520, rfl⟩
abbrev main_v227 : Ref sig .tc := ⟨.hbm, 521, rfl⟩
abbrev main_c_48 : Ref sig .tc := ⟨.hbm, 522, rfl⟩
abbrev main_v228 : Ref sig .tc := ⟨.hbm, 523, rfl⟩
abbrev main_v229 : Ref sig .tc := ⟨.hbm, 524, rfl⟩
abbrev main_v230 : Ref sig .tc := ⟨.hbm, 525, rfl⟩
abbrev main_v231 : Ref sig .tc := ⟨.hbm, 526, rfl⟩
abbrev main_v232 : Ref sig .tc := ⟨.hbm, 527, rfl⟩
abbrev main_v233 : Ref sig .tc := ⟨.hbm, 528, rfl⟩
abbrev main_v234 : Ref sig .tc := ⟨.hbm, 529, rfl⟩
abbrev main_c_49 : Ref sig .tc := ⟨.hbm, 530, rfl⟩
abbrev main_v235 : Ref sig .tc := ⟨.hbm, 531, rfl⟩
abbrev main_v236 : Ref sig .tc := ⟨.hbm, 532, rfl⟩
abbrev main_c_50 : Ref sig .tc := ⟨.hbm, 533, rfl⟩
abbrev main_v237 : Ref sig .tc := ⟨.hbm, 534, rfl⟩
abbrev main_v238 : Ref sig .tc := ⟨.hbm, 535, rfl⟩
abbrev main_v239 : Ref sig .tc := ⟨.hbm, 536, rfl⟩
abbrev main_v240 : Ref sig .tc := ⟨.hbm, 537, rfl⟩
abbrev main_v241 : Ref sig .tc := ⟨.hbm, 538, rfl⟩
abbrev main_c_51 : Ref sig .tc := ⟨.hbm, 539, rfl⟩
abbrev main_v242 : Ref sig .tc := ⟨.hbm, 540, rfl⟩
abbrev main_v243 : Ref sig .tc := ⟨.hbm, 541, rfl⟩
abbrev main_c_52 : Ref sig .tc := ⟨.hbm, 542, rfl⟩
abbrev main_v244 : Ref sig .tc := ⟨.hbm, 543, rfl⟩
abbrev main_v245 : Ref sig .tc := ⟨.hbm, 544, rfl⟩
abbrev main_v246 : Ref sig .tc := ⟨.hbm, 545, rfl⟩
abbrev main_v247 : Ref sig .tc := ⟨.hbm, 546, rfl⟩
abbrev main_v248 : Ref sig .tc := ⟨.hbm, 547, rfl⟩
abbrev main_v249 : Ref sig .tc := ⟨.hbm, 548, rfl⟩
abbrev main_v250 : Ref sig .tc := ⟨.hbm, 549, rfl⟩
abbrev main_c_53 : Ref sig .tc := ⟨.hbm, 550, rfl⟩
abbrev main_v251 : Ref sig .tc := ⟨.hbm, 551, rfl⟩
abbrev main_v252 : Ref sig .tc := ⟨.hbm, 552, rfl⟩
abbrev main_c_54 : Ref sig .tc := ⟨.hbm, 553, rfl⟩
abbrev main_v253 : Ref sig .tc := ⟨.hbm, 554, rfl⟩
abbrev main_v254 : Ref sig .tc := ⟨.hbm, 555, rfl⟩
abbrev main_v255 : Ref sig .tc := ⟨.hbm, 556, rfl⟩
abbrev main_v256 : Ref sig .tc := ⟨.hbm, 557, rfl⟩
abbrev main_v257 : Ref sig .tc := ⟨.hbm, 558, rfl⟩
abbrev main_c_55 : Ref sig .tc := ⟨.hbm, 559, rfl⟩
abbrev main_v258 : Ref sig .tc := ⟨.hbm, 560, rfl⟩
abbrev main_v259 : Ref sig .tc := ⟨.hbm, 561, rfl⟩
abbrev main_c_56 : Ref sig .tc := ⟨.hbm, 562, rfl⟩
abbrev main_v260 : Ref sig .tc := ⟨.hbm, 563, rfl⟩
abbrev main_v261 : Ref sig .tc := ⟨.hbm, 564, rfl⟩
abbrev main_v262 : Ref sig .tc := ⟨.hbm, 565, rfl⟩
abbrev main_v263 : Ref sig .tc := ⟨.hbm, 566, rfl⟩
abbrev main_v264 : Ref sig .tc := ⟨.hbm, 567, rfl⟩
abbrev main_v265 : Ref sig .tc := ⟨.hbm, 568, rfl⟩
abbrev main_v266 : Ref sig .tc := ⟨.hbm, 569, rfl⟩
abbrev main_c_57 : Ref sig .tc := ⟨.hbm, 570, rfl⟩
abbrev main_v267 : Ref sig .tc := ⟨.hbm, 571, rfl⟩
abbrev main_v268 : Ref sig .tc := ⟨.hbm, 572, rfl⟩
abbrev main_c_58 : Ref sig .tc := ⟨.hbm, 573, rfl⟩
abbrev main_v269 : Ref sig .tc := ⟨.hbm, 574, rfl⟩
abbrev main_v270 : Ref sig .tc := ⟨.hbm, 575, rfl⟩
abbrev main_v271 : Ref sig .tc := ⟨.hbm, 576, rfl⟩
abbrev main_v272 : Ref sig .tc := ⟨.hbm, 577, rfl⟩
abbrev main_v273 : Ref sig .tc := ⟨.hbm, 578, rfl⟩
abbrev main_c_59 : Ref sig .tc := ⟨.hbm, 579, rfl⟩
abbrev main_v274 : Ref sig .tc := ⟨.hbm, 580, rfl⟩
abbrev main_v275 : Ref sig .tc := ⟨.hbm, 581, rfl⟩
abbrev main_c_60 : Ref sig .tc := ⟨.hbm, 582, rfl⟩
abbrev main_v276 : Ref sig .tc := ⟨.hbm, 583, rfl⟩
abbrev main_v277 : Ref sig .tc := ⟨.hbm, 584, rfl⟩
abbrev main_v278 : Ref sig .tc := ⟨.hbm, 585, rfl⟩
abbrev main_v279 : Ref sig .tc := ⟨.hbm, 586, rfl⟩
abbrev main_v280 : Ref sig .tc := ⟨.hbm, 587, rfl⟩
abbrev main_v281 : Ref sig .tc := ⟨.hbm, 588, rfl⟩
abbrev main_v282 : Ref sig .tc := ⟨.hbm, 589, rfl⟩
abbrev main_v283 : Ref sig .tc := ⟨.hbm, 590, rfl⟩
abbrev main_v284 : Ref sig .tc := ⟨.hbm, 591, rfl⟩
abbrev main_cst_61 : Ref sig .tc := ⟨.hbm, 592, rfl⟩
abbrev main_v285 : Ref sig .tc := ⟨.hbm, 593, rfl⟩
abbrev main_v286 : Ref sig .tc := ⟨.hbm, 594, rfl⟩
abbrev main_v287 : Ref sig .tc := ⟨.hbm, 595, rfl⟩
abbrev main_cst_62 : Ref sig .tc := ⟨.hbm, 596, rfl⟩
abbrev main_v288 : Ref sig .tc := ⟨.hbm, 597, rfl⟩
abbrev main_cst_63 : Ref sig .tc := ⟨.hbm, 598, rfl⟩
abbrev main_v289 : Ref sig .tc := ⟨.hbm, 599, rfl⟩
abbrev main_v290 : Ref sig .tc := ⟨.hbm, 600, rfl⟩
abbrev main_v291 : Ref sig .tc := ⟨.hbm, 601, rfl⟩
abbrev main_v292 : Ref sig .tc := ⟨.hbm, 602, rfl⟩
abbrev main_cst_64 : Ref sig .tc := ⟨.hbm, 603, rfl⟩
abbrev main_v293 : Ref sig .tc := ⟨.hbm, 604, rfl⟩
abbrev main_v294 : Ref sig .tc := ⟨.hbm, 605, rfl⟩
abbrev main_v295 : Ref sig .tc := ⟨.hbm, 606, rfl⟩
abbrev main_v296 : Ref sig .tc := ⟨.hbm, 607, rfl⟩
abbrev main_v297 : Ref sig .tc := ⟨.hbm, 608, rfl⟩
abbrev main_cst_65 : Ref sig .tc := ⟨.hbm, 609, rfl⟩
abbrev main_v298 : Ref sig .tc := ⟨.hbm, 610, rfl⟩
abbrev main_v299 : Ref sig .tc := ⟨.hbm, 611, rfl⟩
abbrev main_cst_66 : Ref sig .tc := ⟨.hbm, 612, rfl⟩
abbrev main_v300 : Ref sig .tc := ⟨.hbm, 613, rfl⟩
abbrev main_v301 : Ref sig .tc := ⟨.hbm, 614, rfl⟩
abbrev main_v302 : Ref sig .tc := ⟨.hbm, 615, rfl⟩
abbrev main_v303 : Ref sig .tc := ⟨.hbm, 616, rfl⟩
abbrev main_v304 : Ref sig .tc := ⟨.hbm, 617, rfl⟩
abbrev main_v305 : Ref sig .tc := ⟨.hbm, 618, rfl⟩
abbrev main_v306 : Ref sig .tc := ⟨.hbm, 619, rfl⟩

abbrev nD : Nat := 1
abbrev τ : Topo := Topo.v7x

variable {F : FTy → Type} [FloatOps F]
-- ==== Edge.lean ====
abbrev S100x1000 : Shape := ⟨2, ![100, 1000]⟩
abbrev S1600000 : Shape := ⟨1, ![1600000]⟩
abbrev S1x100000 : Shape := ⟨2, ![1, 100000]⟩
abbrev S_ : Shape := ⟨0, ![]⟩
abbrev S7x100000 : Shape := ⟨2, ![7, 100000]⟩
abbrev S16x100000 : Shape := ⟨2, ![16, 100000]⟩
abbrev S1600000x1 : Shape := ⟨2, ![1600000, 1]⟩
abbrev S1 : Shape := ⟨1, ![1]⟩
abbrev S1x1 : Shape := ⟨2, ![1, 1]⟩
abbrev S16x1600000 : Shape := ⟨2, ![16, 1600000]⟩
abbrev S8x1600000 : Shape := ⟨2, ![8, 1600000]⟩
abbrev S16x6400 : Shape := ⟨2, ![16, 6400]⟩
abbrev S8x6400 : Shape := ⟨2, ![8, 6400]⟩
abbrev S1x6400 : Shape := ⟨2, ![1, 6400]⟩
abbrev S3x6400 : Shape := ⟨2, ![3, 6400]⟩
abbrev S6400 : Shape := ⟨1, ![6400]⟩
abbrev S7x1600000 : Shape := ⟨2, ![7, 1600000]⟩
abbrev S1600000x7 : Shape := ⟨2, ![1600000, 7]⟩

abbrev nBuf : Space → Nat
  | .hbm => 72
  | .vmem => 6
  | .smem => 0
  | _ => 0

abbrev bufTy : (tb : Table) → Fin (tcTables nBuf tb) → BufTy
  | .hbm, ⟨0, _⟩ => ⟨S100x1000, .f32⟩
  | .hbm, ⟨1, _⟩ => ⟨S100x1000, .f32⟩
  | .hbm, ⟨2, _⟩ => ⟨S100x1000, .f32⟩
  | .hbm, ⟨3, _⟩ => ⟨S100x1000, .f32⟩
  | .hbm, ⟨4, _⟩ => ⟨S100x1000, .f32⟩
  | .hbm, ⟨5, _⟩ => ⟨S100x1000, .f32⟩
  | .hbm, ⟨6, _⟩ => ⟨S100x1000, .f32⟩
  | .hbm, ⟨7, _⟩ => ⟨S100x1000, .f32⟩
  | .hbm, ⟨8, _⟩ => ⟨S100x1000, .f32⟩
  | .hbm, ⟨9, _⟩ => ⟨S1600000, .i32⟩
  | .hbm, ⟨10, _⟩ => ⟨S1600000, .i32⟩
  | .hbm, ⟨11, _⟩ => ⟨S1x100000, .f32⟩
  | .hbm, ⟨12, _⟩ => ⟨S1x100000, .f32⟩
  | .hbm, ⟨13, _⟩ => ⟨S1x100000, .f32⟩
  | .hbm, ⟨14, _⟩ => ⟨S1x100000, .f32⟩
  | .hbm, ⟨15, _⟩ => ⟨S1x100000, .f32⟩
  | .hbm, ⟨16, _⟩ => ⟨S1x100000, .f32⟩
  | .hbm, ⟨17, _⟩ => ⟨S1x100000, .f32⟩
  | .hbm, ⟨18, _⟩ => ⟨S1x100000, .f32⟩
  | .hbm, ⟨19, _⟩ => ⟨S1x100000, .f32⟩
  | .hbm, ⟨20, _⟩ => ⟨S_, .f32⟩
  | .hbm, ⟨21, _⟩ => ⟨S7x100000, .f32⟩
  | .hbm, ⟨22, _⟩ => ⟨S16x100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1, .i32⟩
  | .hbm, ⟨32, _⟩ => ⟨S_, .i32⟩
  | .hbm, ⟨33, _⟩ => ⟨S1600000x1, .i32⟩
  | .hbm, ⟨34, _⟩ => ⟨S1600000x1, .i1⟩
  | .hbm, ⟨35, _⟩ => ⟨S1x1, .i32⟩
  | .hbm, ⟨36, _⟩ => ⟨S1600000x1, .i32⟩
  | .hbm, ⟨37, _⟩ => ⟨S1600000x1, .i1⟩
  | .hbm, ⟨38, _⟩ => ⟨S1600000x1, .i1⟩
  | .hbm, ⟨39, _⟩ => ⟨S_, .i1⟩
  | .hbm, ⟨40, _⟩ => ⟨S1600000, .i1⟩
  | .hbm, ⟨41, _⟩ => ⟨S16x1600000, .f32⟩
  | .hbm, ⟨42, _⟩ => ⟨S16x1600000, .i1⟩
  | .hbm, ⟨43, _⟩ => ⟨S_, .f32⟩
  | .hbm, ⟨44, _⟩ => ⟨S16x1600000, .f32⟩
  | .hbm, ⟨45, _⟩ => ⟨S16x1600000, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1, .i32⟩
  | .hbm, ⟨55, _⟩ => ⟨S_, .i32⟩
  | .hbm, ⟨56, _⟩ => ⟨S1600000x1, .i32⟩
  | .hbm, ⟨57, _⟩ => ⟨S1600000x1, .i1⟩
  | .hbm, ⟨58, _⟩ => ⟨S1x1, .i32⟩
  | .hbm, ⟨59, _⟩ => ⟨S1600000x1, .i32⟩
  | .hbm, ⟨60, _⟩ => ⟨S1600000x1, .i1⟩
  | .hbm, ⟨61, _⟩ => ⟨S1600000x1, .i1⟩
  | .hbm, ⟨62, _⟩ => ⟨S_, .i1⟩
  | .hbm, ⟨63, _⟩ => ⟨S1600000, .i1⟩
  | .hbm, ⟨64, _⟩ => ⟨S16x1600000, .f32⟩
  | .hbm, ⟨65, _⟩ => ⟨S16x1600000, .i1⟩
  | .hbm, ⟨66, _⟩ => ⟨S_, .f32⟩
  | .hbm, ⟨67, _⟩ => ⟨S16x1600000, .f32⟩
  | .hbm, ⟨68, _⟩ => ⟨S16x1600000, .f32⟩
  | .hbm, ⟨69, _⟩ => ⟨S8x1600000, .f32⟩
  | .hbm, ⟨70, _⟩ => ⟨S7x1600000, .f32⟩
  | .hbm, ⟨71, _⟩ => ⟨S1600000x7, .f32⟩
  | .local _ .vmem, ⟨0, _⟩ => ⟨S16x6400, .f32⟩
  | .local _ .vmem, ⟨1, _⟩ => ⟨S16x6400, .f32⟩
  | .local _ .vmem, ⟨2, _⟩ => ⟨S16x6400, .f32⟩
  | .local _ .vmem, ⟨3, _⟩ => ⟨S16x6400, .f32⟩
  | .local _ .vmem, ⟨4, _⟩ => ⟨S8x6400, .f32⟩
  | .local _ .vmem, ⟨5, _⟩ => ⟨S8x6400, .f32⟩
  | _, _ => ⟨S100x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v11 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x6400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x6400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== EdgeIdeal.lean ====
variable {F : FTy → Type} [FloatOps F]
-- ==== EdgeRefIdeal.lean ====
abbrev S100x1000 : Shape := ⟨2, ![100, 1000]⟩
abbrev S1600000 : Shape := ⟨1, ![1600000]⟩
abbrev S100000 : Shape := ⟨1, ![100000]⟩
abbrev S100000x1 : Shape := ⟨2, ![100000, 1]⟩
abbrev S100000x3 : Shape := ⟨2, ![100000, 3]⟩
abbrev S_ : Shape := ⟨0, ![]⟩
abbrev S1600000x1 : Shape := ⟨2, ![1600000, 1]⟩
abbrev S1600000x3 : Shape := ⟨2, ![1600000, 3]⟩
abbrev S1600000x7 : Shape := ⟨2, ![1600000, 7]⟩

abbrev nBuf : Space → Nat
  | .hbm => 175
  | .vmem => 0
  | .smem => 0
  | _ => 0

abbrev hbmTy0_0 (i : Nat) : BufTy := match i % 128 with
  | 0 => ⟨S100x1000, .f32⟩
  | 1 => ⟨S100x1000, .f32⟩
  | 2 => ⟨S100x1000, .f32⟩
  | 3 => ⟨S100x1000, .f32⟩
  | 4 => ⟨S100x1000, .f32⟩
  | 5 => ⟨S100x1000, .f32⟩
  | 6 => ⟨S100x1000, .f32⟩
  | 7 => ⟨S100x1000, .f32⟩
  | 8 => ⟨S100x1000, .f32⟩
  | 9 => ⟨S1600000, .i32⟩
  | 10 => ⟨S1600000, .i32⟩
  | 11 => ⟨S100000, .f32⟩
  | 12 => ⟨S100000, .f32⟩
  | 13 => ⟨S100000, .f32⟩
  | 14 => ⟨S100000, .f32⟩
  | 15 => ⟨S100000x1, .f32⟩
  | 16 => ⟨S100000x1, .f32⟩
  | 17 => ⟨S100000x1, .f32⟩
  | 18 => ⟨S100000x3, .f32⟩
  | 19 => ⟨S100000, .f32⟩
  | 20 => ⟨S100000, .f32⟩
  | 21 => ⟨S100000, .f32⟩
  | 22 => ⟨S100000x1, .f32⟩
  | 23 => ⟨S100000x1, .f32⟩
  | 24 => ⟨S100000x1, .f32⟩
  | 25 => ⟨S100000x3, .f32⟩
  | 26 => ⟨S100000x1, .f32⟩
  | 27 => ⟨S100000x1, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S1600000x1, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x3, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x3, .f32⟩
  | 66 => ⟨S1600000x3, .f32⟩
  | 67 => ⟨S1600000x3, .f32⟩
  | 68 => ⟨S_, .f32⟩
  | 69 => ⟨S1600000, .f32⟩
  | 70 => ⟨S1600000, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x3, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x3, .f32⟩
  | 89 => ⟨S1600000x3, .f32⟩
  | 90 => ⟨S_, .f32⟩
  | 91 => ⟨S1600000, .f32⟩
  | 92 => ⟨S1600000x1, .f32⟩
  | 93 => ⟨S1600000x1, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x1, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x1, .f32⟩
  | 112 => ⟨S1600000x1, .f32⟩
  | 113 => ⟨S1600000x1, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x1, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100x1000, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x1, .f32⟩
  | 4 => ⟨S1600000x1, .f32⟩
  | 5 => ⟨S1600000x1, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x1, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x1, .f32⟩
  | 24 => ⟨S1600000x1, .f32⟩
  | 25 => ⟨S1600000x1, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x1, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x1, .f32⟩
  | 44 => ⟨S1600000x1, .f32⟩
  | 45 => ⟨S1600000x1, .f32⟩
  | 46 => ⟨S1600000x7, .f32⟩
  | _ => ⟨S100x1000, .f32⟩

abbrev hbmTy (i : Nat) : BufTy := match i / 128 with
  | 0 => hbmTy0_0 i
  | 1 => hbmTy0_1 i
  | _ => ⟨S100x1000, .f32⟩

abbrev bufTy : (tb : Table) → Fin (tcTables nBuf tb) → BufTy
  | .hbm, ⟨i, _⟩ => hbmTy i
  | _, _ => ⟨S100x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_1 : Ref sig .tc := ⟨.hbm, 37, rfl⟩
abbrev main_v24 : Ref sig .tc := ⟨.hbm, 38, rfl⟩
abbrev main_v25 : Ref sig .tc := ⟨.hbm, 39, rfl⟩
abbrev main_c_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_3 : Ref sig .tc := ⟨.hbm, 48, rfl⟩
abbrev main_v33 : Ref sig .tc := ⟨.hbm, 49, rfl⟩
abbrev main_v34 : Ref sig .tc := ⟨.hbm, 50, rfl⟩
abbrev main_c_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_5 : Ref sig .tc := ⟨.hbm, 57, rfl⟩
abbrev main_v40 : Ref sig .tc := ⟨.hbm, 58, rfl⟩
abbrev main_v41 : Ref sig .tc := ⟨.hbm, 59, rfl⟩
abbrev main_c_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst : Ref sig .tc := ⟨.hbm, 68, rfl⟩
abbrev main_v49 : Ref sig .tc := ⟨.hbm, 69, rfl⟩
abbrev main_v50 : Ref sig .tc := ⟨.hbm, 70, rfl⟩
abbrev main_c_7 : Ref sig .tc := ⟨.hbm, 71, rfl⟩
abbrev main_v51 : Ref sig .tc := ⟨.hbm, 72, rfl⟩
abbrev main_v52 : Ref sig .tc := ⟨.hbm, 73, rfl⟩
abbrev main_c_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_9 : Ref sig .tc := ⟨.hbm, 80, rfl⟩
abbrev main_v58 : Ref sig .tc := ⟨.hbm, 81, rfl⟩
abbrev main_v59 : Ref sig .tc := ⟨.hbm, 82, rfl⟩
abbrev main_c_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_11 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_12 : Ref sig .tc := ⟨.hbm, 94, rfl⟩
abbrev main_v69 : Ref sig .tc := ⟨.hbm, 95, rfl⟩
abbrev main_v70 : Ref sig .tc := ⟨.hbm, 96, rfl⟩
abbrev main_c_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_14 : Ref sig .tc := ⟨.hbm, 103, rfl⟩
abbrev main_v76 : Ref sig .tc := ⟨.hbm, 104, rfl⟩
abbrev main_v77 : Ref sig .tc := ⟨.hbm, 105, rfl⟩
abbrev main_c_15 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_c_16 : Ref sig .tc := ⟨.hbm, 114, rfl⟩
abbrev main_v85 : Ref sig .tc := ⟨.hbm, 115, rfl⟩
abbrev main_v86 : Ref sig .tc := ⟨.hbm, 116, rfl⟩
abbrev main_c_17 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c_18 : Ref sig .tc := ⟨.hbm, 123, rfl⟩
abbrev main_v92 : Ref sig .tc := ⟨.hbm, 124, rfl⟩
abbrev main_v93 : Ref sig .tc := ⟨.hbm, 125, rfl⟩
abbrev main_c_19 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_20 : Ref sig .tc := ⟨.hbm, 134, rfl⟩
abbrev main_v101 : Ref sig .tc := ⟨.hbm, 135, rfl⟩
abbrev main_v102 : Ref sig .tc := ⟨.hbm, 136, rfl⟩
abbrev main_c_21 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_22 : Ref sig .tc := ⟨.hbm, 143, rfl⟩
abbrev main_v108 : Ref sig .tc := ⟨.hbm, 144, rfl⟩
abbrev main_v109 : Ref sig .tc := ⟨.hbm, 145, rfl⟩
abbrev main_c_23 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_c_24 : Ref sig .tc := ⟨.hbm, 154, rfl⟩
abbrev main_v117 : Ref sig .tc := ⟨.hbm, 155, rfl⟩
abbrev main_v118 : Ref sig .tc := ⟨.hbm, 156, rfl⟩
abbrev main_c_25 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_c_26 : Ref sig .tc := ⟨.hbm, 163, rfl⟩
abbrev main_v124 : Ref sig .tc := ⟨.hbm, 164, rfl⟩
abbrev main_v125 : Ref sig .tc := ⟨.hbm, 165, rfl⟩
abbrev main_c_27 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩

abbrev nD : Nat := 1
abbrev τ : Topo := Topo.v7x

variable {F : FTy → Type} [FloatOps F]
-- ==== Node.lean ====
abbrev S100000x3 : Shape := ⟨2, ![100000, 3]⟩
abbrev S100000 : Shape := ⟨1, ![100000]⟩
abbrev S100x1000 : Shape := ⟨2, ![100, 1000]⟩
abbrev S100000x1 : Shape := ⟨2, ![100000, 1]⟩
abbrev S8x1000 : Shape := ⟨2, ![8, 1000]⟩
abbrev S100x1 : Shape := ⟨2, ![100, 1]⟩
abbrev S1x1 : Shape := ⟨2, ![1, 1]⟩
abbrev S99x1 : Shape := ⟨2, ![99, 1]⟩
abbrev S100x999 : Shape := ⟨2, ![100, 999]⟩
abbrev S1000x1000 : Shape := ⟨2, ![1000, 1000]⟩
abbrev S1000x1 : Shape := ⟨2, ![1000, 1]⟩
abbrev S16x1000 : Shape := ⟨2, ![16, 1000]⟩
abbrev S1x1000 : Shape := ⟨2, ![1, 1000]⟩
abbrev S6x1000 : Shape := ⟨2, ![6, 1000]⟩
abbrev S3x1000 : Shape := ⟨2, ![3, 1000]⟩
abbrev S1000 : Shape := ⟨1, ![1000]⟩
abbrev S5x1000 : Shape := ⟨2, ![5, 1000]⟩
abbrev S100x100 : Shape := ⟨2, ![100, 100]⟩
abbrev S100x2 : Shape := ⟨2, ![100, 2]⟩
abbrev S100x998 : Shape := ⟨2, ![100, 998]⟩
abbrev S100x4 : Shape := ⟨2, ![100, 4]⟩
abbrev S100x996 : Shape := ⟨2, ![100, 996]⟩
abbrev S100x8 : Shape := ⟨2, ![100, 8]⟩
abbrev S100x992 : Shape := ⟨2, ![100, 992]⟩
abbrev S100x16 : Shape := ⟨2, ![100, 16]⟩
abbrev S100x984 : Shape := ⟨2, ![100, 984]⟩
abbrev S100x32 : Shape := ⟨2, ![100, 32]⟩
abbrev S100x968 : Shape := ⟨2, ![100, 968]⟩
abbrev S100x64 : Shape := ⟨2, ![100, 64]⟩
abbrev S100x936 : Shape := ⟨2, ![100, 936]⟩
abbrev S100x128 : Shape := ⟨2, ![100, 128]⟩
abbrev S100x872 : Shape := ⟨2, ![100, 872]⟩
abbrev S100x256 : Shape := ⟨2, ![100, 256]⟩
abbrev S100x744 : Shape := ⟨2, ![100, 744]⟩
abbrev S100x512 : Shape := ⟨2, ![100, 512]⟩
abbrev S100x488 : Shape := ⟨2, ![100, 488]⟩
abbrev S2x1 : Shape := ⟨2, ![2, 1]⟩
abbrev S98x1 : Shape := ⟨2, ![98, 1]⟩
abbrev S4x1 : Shape := ⟨2, ![4, 1]⟩
abbrev S96x1 : Shape := ⟨2, ![96, 1]⟩
abbrev S8x1 : Shape := ⟨2, ![8, 1]⟩
abbrev S92x1 : Shape := ⟨2, ![92, 1]⟩
abbrev S16x1 : Shape := ⟨2, ![16, 1]⟩
abbrev S84x1 : Shape := ⟨2, ![84, 1]⟩
abbrev S32x1 : Shape := ⟨2, ![32, 1]⟩
abbrev S68x1 : Shape := ⟨2, ![68, 1]⟩
abbrev S64x1 : Shape := ⟨2, ![64, 1]⟩
abbrev S36x1 : Shape := ⟨2, ![36, 1]⟩
abbrev S1000x3 : Shape := ⟨2, ![1000, 3]⟩

abbrev nBuf : Space → Nat
  | .hbm => 31
  | .vmem => 20
  | .smem => 0
  | _ => 0

abbrev bufTy : (tb : Table) → Fin (tcTables nBuf tb) → BufTy
  | .hbm, ⟨0, _⟩ => ⟨S100000x3, .f32⟩
  | .hbm, ⟨1, _⟩ => ⟨S100000, .i32⟩
  | .hbm, ⟨2, _⟩ => ⟨S100x1000, .i32⟩
  | .hbm, ⟨3, _⟩ => ⟨S100000x1, .f32⟩
  | .hbm, ⟨4, _⟩ => ⟨S100000, .f32⟩
  | .hbm, ⟨5, _⟩ => ⟨S100x1000, .f32⟩
  | .hbm, ⟨6, _⟩ => ⟨S100000x1, .f32⟩
  | .hbm, ⟨7, _⟩ => ⟨S100000, .f32⟩
  | .hbm, ⟨8, _⟩ => ⟨S100x1000, .f32⟩
  | .hbm, ⟨9, _⟩ => ⟨S100000x1, .f32⟩
  | .hbm, ⟨10, _⟩ => ⟨S100000, .f32⟩
  | .hbm, ⟨11, _⟩ => ⟨S100x1000, .f32⟩
  | .hbm, ⟨12, _⟩ => ⟨S100x1000, .f32⟩
  | .hbm, ⟨13, _⟩ => ⟨S100x1000, .f32⟩
  | .hbm, ⟨14, _⟩ => ⟨S100x1000, .f32⟩
  | .hbm, ⟨15, _⟩ => ⟨S100x1000, .f32⟩
  | .hbm, ⟨16, _⟩ => ⟨S100x1000, .f32⟩
  | .hbm, ⟨17, _⟩ => ⟨S100x1000, .f32⟩
  | .hbm, ⟨18, _⟩ => ⟨S100x1000, .f32⟩
  | .hbm, ⟨19, _⟩ => ⟨S100x1000, .f32⟩
  | .hbm, ⟨20, _⟩ => ⟨S100x1000, .f32⟩
  | .hbm, ⟨21, _⟩ => ⟨S100x1000, .f32⟩
  | .hbm, ⟨22, _⟩ => ⟨S100x1000, .f32⟩
  | .hbm, ⟨23, _⟩ => ⟨S8x1000, .f32⟩
  | .hbm, ⟨24, _⟩ => ⟨S100000, .f32⟩
  | .hbm, ⟨25, _⟩ => ⟨S1x1000, .f32⟩
  | .hbm, ⟨26, _⟩ => ⟨S1000, .f32⟩
  | .hbm, ⟨27, _⟩ => ⟨S1x1000, .f32⟩
  | .hbm, ⟨28, _⟩ => ⟨S1000, .f32⟩
  | .hbm, ⟨29, _⟩ => ⟨S3x1000, .f32⟩
  | .hbm, ⟨30, _⟩ => ⟨S1000x3, .f32⟩
  | .local _ .vmem, ⟨0, _⟩ => ⟨S100x1000, .i32⟩
  | .local _ .vmem, ⟨1, _⟩ => ⟨S100x1000, .f32⟩
  | .local _ .vmem, ⟨2, _⟩ => ⟨S100x1000, .f32⟩
  | .local _ .vmem, ⟨3, _⟩ => ⟨S100x1000, .f32⟩
  | .local _ .vmem, ⟨4, _⟩ => ⟨S100x1000, .f32⟩
  | .local _ .vmem, ⟨5, _⟩ => ⟨S100x1000, .f32⟩
  | .local _ .vmem, ⟨6, _⟩ => ⟨S100x1000, .f32⟩
  | .local _ .vmem, ⟨7, _⟩ => ⟨S100x1000, .f32⟩
  | .local _ .vmem, ⟨8, _⟩ => ⟨S100x1000, .f32⟩
  | .local _ .vmem, ⟨9, _⟩ => ⟨S100x1000, .f32⟩
  | .local _ .vmem, ⟨10, _⟩ => ⟨S100x1000, .f32⟩
  | .local _ .vmem, ⟨11, _⟩ => ⟨S100x1000, .f32⟩
  | .local _ .vmem, ⟨12, _⟩ => ⟨S100x1000, .f32⟩
  | .local _ .vmem, ⟨13, _⟩ => ⟨S100x1000, .f32⟩
  | .local _ .vmem, ⟨14, _⟩ => ⟨S100x1000, .f32⟩
  | .local _ .vmem, ⟨15, _⟩ => ⟨S8x1000, .f32⟩
  | .local _ .vmem, ⟨16, _⟩ => ⟨S100x1000, .f32⟩
  | .local _ .vmem, ⟨17, _⟩ => ⟨S100x1000, .f32⟩
  | .local _ .vmem, ⟨18, _⟩ => ⟨S100x1000, .f32⟩
  | .local _ .vmem, ⟨19, _⟩ => ⟨S100x1000, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10_0 : Ref sig .tc := ⟨.hbm, 12, rfl⟩
abbrev main_v10_1 : Ref sig .tc := ⟨.hbm, 13, rfl⟩
abbrev main_v10_2 : Ref sig .tc := ⟨.hbm, 14, rfl⟩
abbrev main_v10_3 : Ref sig .tc := ⟨.hbm, 15, rfl⟩
abbrev main_v10_4 : Ref sig .tc := ⟨.hbm, 16, rfl⟩
abbrev main_v10_5 : Ref sig .tc := ⟨.hbm, 17, rfl⟩
abbrev main_v10_6 : Ref sig .tc := ⟨.hbm, 18, rfl⟩
abbrev main_v10_7 : Ref sig .tc := ⟨.hbm, 19, rfl⟩
abbrev main_v10_8 : Ref sig .tc := ⟨.hbm, 20, rfl⟩
abbrev main_v10_9 : Ref sig .tc := ⟨.hbm, 21, rfl⟩
abbrev main_v10_10 : Ref sig .tc := ⟨.hbm, 22, rfl⟩
abbrev main_v10_11 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c100_i32 : BitVec 32 := 100#32
  let v74 : BitVec 32 := Scalar.addi c0_i32 c100_i32
  let c1_i32 : BitVec 32 := 1#32
  ⟨c0_i32, v74, c1_i32⟩
def k0_off1 (k0_t1 : Fin k0_t1_loop.trips) : Fin 2 → Nat :=
  let c0_i32 : BitVec 32 := 0#32
  let c1_i32 : BitVec 32 := 1#32
  let arg20 : BitVec 32 := Scf.iv c0_i32 c1_i32 k0_t1
  let v221 : Index := Scalar.indexCast arg20
  let c0_67 : Index := 0#32
  ![v221.toNat, 0]
@[reducible] def k0_t2_loop : Scf.Loop 32 :=
  let c0_i32_27 : BitVec 32 := 0#32
  let c100_i32_28 : BitVec 32 := 100#32
  let v110 : BitVec 32 := Scalar.addi c0_i32_27 c100_i32_28
  let c1_i32_29 : BitVec 32 := 1#32
  ⟨c0_i32_27, v110, c1_i32_29⟩
def k0_off2 (k0_t2 : Fin k0_t2_loop.trips) : Fin 2 → Nat :=
  let c0_i32_27 : BitVec 32 := 0#32
  let c1_i32_29 : BitVec 32 := 1#32
  let arg20 : BitVec 32 := Scf.iv c0_i32_27 c1_i32_29 k0_t2
  let v221 : Index := Scalar.indexCast arg20
  let c0_67 : Index := 0#32
  ![v221.toNat, 0]
@[reducible] def k0_t3_loop : Scf.Loop 32 :=
  let c0_i32_63 : BitVec 32 := 0#32
  let c100_i32_64 : BitVec 32 := 100#32
  let v220 : BitVec 32 := Scalar.addi c0_i32_63 c100_i32_64
  let c1_i32_65 : BitVec 32 := 1#32
  ⟨c0_i32_63, v220, c1_i32_65⟩
def k0_off3 (k0_t3 : Fin k0_t3_loop.trips) : Fin 2 → Nat :=
  let c0_i32_63 : BitVec 32 := 0#32
  let c1_i32_65 : BitVec 32 := 1#32
  let arg20 : BitVec 32 := Scf.iv c0_i32_63 c1_i32_65 k0_t3
  let v221 : Index := Scalar.indexCast arg20
  let c0_67 : Index := 0#32
  ![v221.toNat, 0]
abbrev stage0_0 : Fin 1 → Memref sig .tc .vmem S100x1000 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S100x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S100x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S100x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S100x1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S100x1000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S100x1000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S100x1000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S100x1000 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S100x1000 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S100x1000 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S100x1000 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S100x1000 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S100x1000 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S100x1000 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8x1000 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== NodeRefIdeal.lean ====
abbrev S100000x3 : Shape := ⟨2, ![100000, 3]⟩
abbrev S100000 : Shape := ⟨1, ![100000]⟩
abbrev S_ : Shape := ⟨0, ![]⟩
abbrev S1000x3 : Shape := ⟨2, ![1000, 3]⟩
abbrev S100000x1 : Shape := ⟨2, ![100000, 1]⟩
abbrev S1000 : Shape := ⟨1, ![1000]⟩
abbrev S1000x1 : Shape := ⟨2, ![1000, 1]⟩
abbrev S99999x3 : Shape := ⟨2, ![99999, 3]⟩
abbrev S1x3 : Shape := ⟨2, ![1, 3]⟩
abbrev S99999 : Shape := ⟨1, ![99999]⟩
abbrev S1 : Shape := ⟨1, ![1]⟩
abbrev S1x1 : Shape := ⟨2, ![1, 1]⟩

abbrev nBuf : Space → Nat
  | .hbm => 131
  | .vmem => 0
  | .smem => 0
  | _ => 0

abbrev hbmTy0_0 (i : Nat) : BufTy := match i % 128 with
  | 0 => ⟨S100000x3, .f32⟩
  | 1 => ⟨S100000, .i32⟩
  | 2 => ⟨S100000x3, .f32⟩
  | 3 => ⟨S_, .f32⟩
  | 4 => ⟨S1000x3, .f32⟩
  | 5 => ⟨S100000x1, .i32⟩
  | 6 => ⟨S1000x3, .f32⟩
  | 7 => ⟨S_, .f32⟩
  | 8 => ⟨S100000, .f32⟩
  | 9 => ⟨S_, .f32⟩
  | 10 => ⟨S1000, .f32⟩
  | 11 => ⟨S100000x1, .i32⟩
  | 12 => ⟨S1000, .f32⟩
  | 13 => ⟨S1000x1, .f32⟩
  | 14 => ⟨S_, .f32⟩
  | 15 => ⟨S1000x1, .f32⟩
  | 16 => ⟨S1000x1, .f32⟩
  | 17 => ⟨S1000x3, .f32⟩
  | 18 => ⟨S1000x3, .f32⟩
  | 19 => ⟨S_, .f32⟩
  | 20 => ⟨S1000x3, .f32⟩
  | 21 => ⟨S100000x1, .i32⟩
  | 22 => ⟨S1000x3, .f32⟩
  | 23 => ⟨S_, .f32⟩
  | 24 => ⟨S100000, .f32⟩
  | 25 => ⟨S_, .f32⟩
  | 26 => ⟨S1000, .f32⟩
  | 27 => ⟨S100000x1, .i32⟩
  | 28 => ⟨S1000, .f32⟩
  | 29 => ⟨S1000x1, .f32⟩
  | 30 => ⟨S_, .f32⟩
  | 31 => ⟨S1000x1, .f32⟩
  | 32 => ⟨S1000x1, .f32⟩
  | 33 => ⟨S1000x3, .f32⟩
  | 34 => ⟨S1000x3, .f32⟩
  | 35 => ⟨S1000x3, .f32⟩
  | 36 => ⟨S1000x3, .f32⟩
  | 37 => ⟨S_, .f32⟩
  | 38 => ⟨S1000x3, .f32⟩
  | 39 => ⟨S1000x3, .f32⟩
  | 40 => ⟨S1000x3, .f32⟩
  | 41 => ⟨S1000x3, .f32⟩
  | 42 => ⟨S_, .f32⟩
  | 43 => ⟨S1000, .f32⟩
  | 44 => ⟨S1000, .f32⟩
  | 45 => ⟨S_, .i32⟩
  | 46 => ⟨S100000, .i32⟩
  | 47 => ⟨S_, .i32⟩
  | 48 => ⟨S1000, .i32⟩
  | 49 => ⟨S100000x1, .i32⟩
  | 50 => ⟨S1000, .i32⟩
  | 51 => ⟨S99999x3, .f32⟩
  | 52 => ⟨S1x3, .f32⟩
  | 53 => ⟨S100000x3, .f32⟩
  | 54 => ⟨S100000x3, .f32⟩
  | 55 => ⟨S99999, .i32⟩
  | 56 => ⟨S1, .i32⟩
  | 57 => ⟨S100000, .i32⟩
  | 58 => ⟨S100000, .i32⟩
  | 59 => ⟨S100000, .i32⟩
  | 60 => ⟨S_, .i32⟩
  | 61 => ⟨S100000, .i32⟩
  | 62 => ⟨S100000, .i1⟩
  | 63 => ⟨S100000x1, .i1⟩
  | 64 => ⟨S100000x1, .i1⟩
  | 65 => ⟨S100000x1, .i1⟩
  | 66 => ⟨S100000x3, .i1⟩
  | 67 => ⟨S_, .f32⟩
  | 68 => ⟨S_, .f32⟩
  | 69 => ⟨S100000x3, .f32⟩
  | 70 => ⟨S100000x3, .f32⟩
  | 71 => ⟨S_, .f32⟩
  | 72 => ⟨S1000x3, .f32⟩
  | 73 => ⟨S100000x1, .i32⟩
  | 74 => ⟨S1000x3, .f32⟩
  | 75 => ⟨S_, .f32⟩
  | 76 => ⟨S100000, .f32⟩
  | 77 => ⟨S_, .f32⟩
  | 78 => ⟨S1000, .f32⟩
  | 79 => ⟨S100000x1, .i32⟩
  | 80 => ⟨S1000, .f32⟩
  | 81 => ⟨S1000x1, .f32⟩
  | 82 => ⟨S_, .f32⟩
  | 83 => ⟨S1000x1, .f32⟩
  | 84 => ⟨S1000x1, .f32⟩
  | 85 => ⟨S1000x3, .f32⟩
  | 86 => ⟨S1000x3, .f32⟩
  | 87 => ⟨S1000x3, .f32⟩
  | 88 => ⟨S_, .f32⟩
  | 89 => ⟨S1000, .f32⟩
  | 90 => ⟨S1000x1, .f32⟩
  | 91 => ⟨S_, .f32⟩
  | 92 => ⟨S1000x1, .f32⟩
  | 93 => ⟨S1000x1, .f32⟩
  | 94 => ⟨S1000x1, .f32⟩
  | 95 => ⟨S1000x3, .f32⟩
  | 96 => ⟨S1000x3, .f32⟩
  | 97 => ⟨S1000, .f32⟩
  | 98 => ⟨S1000, .f32⟩
  | 99 => ⟨S_, .i32⟩
  | 100 => ⟨S100000, .i32⟩
  | 101 => ⟨S100000, .i1⟩
  | 102 => ⟨S_, .i32⟩
  | 103 => ⟨S100000, .i32⟩
  | 104 => ⟨S100000, .i32⟩
  | 105 => ⟨S100000, .i32⟩
  | 106 => ⟨S100000x1, .i32⟩
  | 107 => ⟨S1, .i32⟩
  | 108 => ⟨S_, .i32⟩
  | 109 => ⟨S100000x1, .i32⟩
  | 110 => ⟨S100000x1, .i1⟩
  | 111 => ⟨S1x1, .i32⟩
  | 112 => ⟨S100000x1, .i32⟩
  | 113 => ⟨S100000x1, .i1⟩
  | 114 => ⟨S100000x1, .i1⟩
  | 115 => ⟨S_, .i1⟩
  | 116 => ⟨S100000, .i1⟩
  | 117 => ⟨S100000, .f32⟩
  | 118 => ⟨S_, .f32⟩
  | 119 => ⟨S100000, .f32⟩
  | 120 => ⟨S100000, .f32⟩
  | 121 => ⟨S100000x1, .f32⟩
  | 122 => ⟨S100000x3, .f32⟩
  | 123 => ⟨S100000x3, .f32⟩
  | 124 => ⟨S100000x3, .f32⟩
  | 125 => ⟨S_, .f32⟩
  | 126 => ⟨S100000, .f32⟩
  | 127 => ⟨S_, .f32⟩
  | _ => ⟨S100000x3, .f32⟩

abbrev hbmTy0_1 (i : Nat) : BufTy := match i % 128 with
  | 0 => ⟨S100000, .f32⟩
  | 1 => ⟨S100000, .f32⟩
  | 2 => ⟨S100000, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_v33 : Ref sig .tc := ⟨.hbm, 46, rfl⟩
abbrev main_c_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call0_v0 : Ref sig .tc := ⟨.hbm, 51, rfl⟩
abbrev main_call0_v1 : Ref sig .tc := ⟨.hbm, 52, rfl⟩
abbrev main_v37 : Ref sig .tc := ⟨.hbm, 53, rfl⟩
abbrev main_v38 : Ref sig .tc := ⟨.hbm, 54, rfl⟩
abbrev main_call1_v0 : Ref sig .tc := ⟨.hbm, 55, rfl⟩
abbrev main_call1_v1 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_call2_v0 : Ref sig .tc := ⟨.hbm, 68, rfl⟩
abbrev main_call2_v1 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_13 : Ref sig .tc := ⟨.hbm, 75, rfl⟩
abbrev main_v52 : Ref sig .tc := ⟨.hbm, 76, rfl⟩
abbrev main_cst_14 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_15 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_16 : Ref sig .tc := ⟨.hbm, 88, rfl⟩
abbrev main_v62 : Ref sig .tc := ⟨.hbm, 89, rfl⟩
abbrev main_v63 : Ref sig .tc := ⟨.hbm, 90, rfl⟩
abbrev main_cst_17 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_cst : Ref sig .tc := ⟨.hbm, 118, rfl⟩
abbrev main_call3_v14 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_cst_18 : Ref sig .tc := ⟨.hbm, 125, rfl⟩
abbrev main_v76 : Ref sig .tc := ⟨.hbm, 126, rfl⟩
abbrev main_cst_19 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩

abbrev nD : Nat := 1
abbrev τ : Topo := Topo.v7x

variable {F : FTy → Type} [FloatOps F]
-- ==== Proof.Rows.lean ====
module

public import Idealize.ShloMosaic.Lib.VecWindow
public import Idealize.ShloMosaic.Lib.ValueIdxCore
public import Idealize.ShloMosaic.Lib.Exec

@[expose] public section

noncomputable section

/-! Row by row writes of a 100 by 1000 array: the list of row stores of a loop's first trips, what
the array reads afterwards, and what a load of one row reads. -/

namespace Rows

open Idealize.ShloMosaic

/-- The array's shape. -/
abbrev SA : Shape := ⟨2, ![100, 1000]⟩
/-- One row's shape. -/
abbrev SR : Shape := ⟨2, ![1, 1000]⟩

/-- The index of row `r` (taken below 100) and column `c`. -/
def at2 (r : ℕ) (c : Fin 1000) : SA.Idx := ValueIdx.ix2 (n0 := 100) (n1 := 1000) ⟨r % 100, Nat.mod_lt _ (by decide)⟩ c

/-- Row `k` of an array. -/
def row {α : Type} (X : SA.Idx → α) (k : ℕ) : SR.Idx → α := fun j => X (at2 k (j 1))

/-- The index of a row's column. -/
def col1 (c : Fin 1000) : SR.Idx := ValueIdx.ix2 (n0 := 1) (n1 := 1000) 0 c

/-- The array whose first `k` rows are the given ones and whose other rows are the old ones. -/
def upTo {α : Type} (pay : ℕ → SR.Idx → α) (old : SA.Idx → α) (k : ℕ) : SA.Idx → α :=
  fun i => if (i 0).val < k then pay (i 0).val (col1 (i 1)) else old i

theorem inb (k : ℕ) (h : k < 100) : ∀ a, (![k, 0] : Fin 2 → ℕ) a + SR.size a ≤ SA.size a := by
  intro a
  match a with
  | 0 => show k + 1 ≤ 100; omega
  | 1 => show 0 + 1000 ≤ 1000; omega

variable {sig : RefSig} {κ : Kind} {sp : Space} {e : EltTy} {Val : EltTy → Type}

/-- The row stores of the first `k` trips, last first. -/
def pieces (pay : ℕ → SR.Idx → Val e) : ℕ → List (View.Piece Val SA e)
  | 0 => []
  | k + 1 => if h : k < 100 then ⟨Rect.unit (s := SA) ![k, 0] SR.size (inb k h), pay k⟩ :: pieces pay k else pieces pay k

theorem pieces_succ (pay : ℕ → SR.Idx → Val e) (k : ℕ) (h : k < 100) :
    pieces pay (k + 1) = ⟨Rect.unit (s := SA) ![k, 0] SR.size (inb k h), pay k⟩ :: pieces pay k := by
  rw [pieces.eq_2]; exact dif_pos h

theorem piece_eq {off : Fin 2 → ℕ} {k : ℕ} (h : k < 100) (eo : off = ![k, 0])
    (ib : ∀ a, off a + SR.size a ≤ SA.size a) (w w' : SR.Idx → Val e) (hw : w = w') :
    (⟨Rect.unit (s := SA) off SR.size ib, w⟩ : View.Piece Val SA e) = ⟨Rect.unit (s := SA) ![k, 0] SR.size (inb k h), w'⟩ := by
  subst eo; subst hw; rfl

/-- One more trip's store on top of the earlier ones. -/
theorem writes_succ (v : View sig κ sp SA e) (G : v.ty.Contents Val) (pay : ℕ → SR.Idx → Val e) {off : Fin 2 → ℕ} {k : ℕ}
    (h : k < 100) (eo : off = ![k, 0]) (ib : ∀ a, off a + SR.size a ≤ SA.size a) (w : SR.Idx → Val e) (hw : w = pay k)
    (f : v.ty.Contents Val) (hf : f = v.writes Val G (pieces pay k)) :
    v.writes Val f [⟨Rect.unit (s := SA) off SR.size ib, w⟩] = v.writes Val G (pieces pay (k + 1)) := by
  rw [hf, ← View.writes_append, pieces_succ pay k h, piece_eq h eo ib w _ hw]; rfl

/-- What the array reads after the first `k` trips. -/
theorem read_pieces (v : View sig κ sp SA e) (G : v.ty.Contents Val) (pay : ℕ → SR.Idx → Val e) (k : ℕ) (hk : k ≤ 100) :
    v.read Val (v.writes Val G (pieces pay k)) = upTo pay (v.read Val G) k := by
  induction k with
  | zero => funext i; rfl
  | succ k ih =>
    have h : k < 100 := hk
    rw [pieces_succ pay k h, View.read_writes_cons_put v G (inb k h) (pay k) _ rfl, ih (by omega)]
    funext i
    have hi1 : (i 1).val < 1000 := (i 1).isLt
    unfold VecWindow.put upTo
    by_cases h1 : (i 0).val = k
    · rw [dif_pos (by
        intro a
        match a with
        | 0 => show k ≤ (i 0).val ∧ (i 0).val < k + 1; omega
        | 1 => show 0 ≤ (i 1).val ∧ (i 1).val < 0 + 1000; omega), if_pos (by omega)]
      refine (congrArg (pay k) ?_).trans (congrArg (fun n => pay n (col1 (i 1))) h1.symm)
      funext a
      match a with
      | 0 => exact Subsingleton.elim (α := Fin 1) _ _
      | 1 => exact Fin.ext (Nat.sub_zero _)
    · rw [dif_neg (by
        intro hh
        have h0 := hh 0
        have h2 : k ≤ (i 0).val ∧ (i 0).val < k + 1 := h0
        omega)]
      by_cases h2 : (i 0).val < k
      · rw [if_pos h2, if_pos (by omega)]
      · rw [if_neg h2, if_neg (by omega)]

/-- A load of row `k`. -/
theorem readAt_row (v : View sig κ sp SA e) (f : v.ty.Contents Val) {off : Fin 2 → ℕ} {k : ℕ} (h : k < 100) (eo : off = ![k, 0])
    (ib : ∀ a, off a + SR.size a ≤ SA.size a) :
    v.readAt Val (Rect.unit (s := SA) off SR.size ib).toLoadRect f = row (v.read Val f) k := by
  rw [View.readAt_unit v f ib eo (inb k h)]
  funext j
  unfold VecWindow.window row
  congr 1
  funext a
  match a with
  | 0 =>
    refine Fin.ext ?_
    show k + 1 * (j 0).val = k % 100
    have : (j 0).val = 0 := Nat.lt_one_iff.1 (j 0).isLt
    rw [this, Nat.mod_eq_of_lt h]; omega
  | 1 =>
    refine Fin.ext ?_
    show 0 + 1 * (j 1).val = (j 1).val
    omega

/-- A row not yet stored is the old row. -/
theorem row_upTo {α : Type} (pay : ℕ → SR.Idx → α) (old : SA.Idx → α) (k : ℕ) (h : k < 100) : row (upTo pay old k) k = row old k := by
  funext j
  unfold row upTo
  rw [if_neg]
  show ¬ k % 100 < k
  rw [Nat.mod_eq_of_lt h]; omega

/-- After all the trips every row is the stored one. -/
theorem upTo_all {α : Type} (pay : ℕ → SR.Idx → α) (old : SA.Idx → α) :
    upTo pay old 100 = fun i => pay (i 0).val (col1 (i 1)) := by
  funext i
  exact if_pos (show (i 0).val < 100 from (i 0).isLt)

end Rows

end
-- ==== Proof.KI.Loops.lean ====
module

public import proofs.«01_k».proof.Proof.Gen.KernelIdeal.Skeleton
public import proofs.«01_k».proof.Proof.Rows
public import Idealize.ShloMosaic.Lib.Exec
public import Idealize.ShloMosaic.Lib.Tactic
public import Idealize.ShloMosaic.Lib.Pipeline.Kit

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf RegionSeg HostSeg Seg)

variable {F : FTy → Type} [FloatOps F]

/-- The resource algebra of the run. -/
local notation "MM" => MT nD τ sig Unit (Elt F) ℕ (UR sig nD τ) ℕ

/-! The three counted loops of the node body. Each invariant states what every written array holds
before a trip: the rows stored by the earlier trips, over what the array held before the loop. -/

/-! ### What the trips store, as functions of the arrays read -/

/-- An array of words. -/
abbrev WA := S100x1000.Idx → BitVec 32
/-- An array of numbers. -/
abbrev FA (F : FTy → Type) := S100x1000.Idx → F .f32

/-- The carried sum of the first loop before trip `k`. -/
def acc1 (init : FVec F S16x1000 .f32) (B : WA) (px py pz dx dy dz : FA F) : ℕ → FVec F S16x1000 .f32
  | 0 => init
  | k + 1 => k0_pay36 (acc1 init B px py pz dx dy dz k) (Rows.row B k) (Rows.row px k) (Rows.row py k) (Rows.row pz k) (Rows.row dx k) (Rows.row dy k) (Rows.row dz k)

/-- The second loop's rows of the scaled displacements. -/
abbrev dxRow (v66 : IVec S1000x1 32) (w : FVec F S3x1000 .f32) (B : WA) (dx : FA F) (k : ℕ) : FVec F S1x1000 .f32 := k0_pay17 v66 w (Rows.row B k) (Rows.row dx k)
abbrev dyRow (v66 : IVec S1000x1 32) (w : FVec F S3x1000 .f32) (B : WA) (dy : FA F) (k : ℕ) : FVec F S1x1000 .f32 := k0_pay18 v66 w (Rows.row B k) (Rows.row dy k)
abbrev dzRow (v66 : IVec S1000x1 32) (w : FVec F S3x1000 .f32) (B : WA) (dz : FA F) (k : ℕ) : FVec F S1x1000 .f32 := k0_pay19 v66 w (Rows.row B k) (Rows.row dz k)
/-- The second loop's rows of the scaled coordinates. -/
abbrev pxRow (v66 : IVec S1000x1 32) (w : FVec F S3x1000 .f32) (B : WA) (px : FA F) (k : ℕ) : FVec F S1x1000 .f32 := k0_pay14 v66 w (Rows.row B k) (Rows.row px k)
abbrev pyRow (v66 : IVec S1000x1 32) (w : FVec F S3x1000 .f32) (B : WA) (py : FA F) (k : ℕ) : FVec F S1x1000 .f32 := k0_pay15 v66 w (Rows.row B k) (Rows.row py k)
abbrev pzRow (v66 : IVec S1000x1 32) (w : FVec F S3x1000 .f32) (B : WA) (pz : FA F) (k : ℕ) : FVec F S1x1000 .f32 := k0_pay16 v66 w (Rows.row B k) (Rows.row pz k)
/-- The second loop's rows of the displacement lengths. -/
abbrev dnRow (v66 : IVec S1000x1 32) (w : FVec F S3x1000 .f32) (B : WA) (dx dy dz : FA F) (k : ℕ) : FVec F S1x1000 .f32 := k0_pay20 (dxRow v66 w B dx k) (dyRow v66 w B dy k) (dzRow v66 w B dz k)
/-- The second loop's rows of the normalised positions. -/
abbrev tnRow (v66 : IVec S1000x1 32) (v67 : IVec S1x1 32) (v72 : FVec F S1x1 .f32) (w : FVec F S3x1000 .f32) (B : WA) (k : ℕ) : FVec F S1x1000 .f32 := k0_pay21 v67 v72 (Scf.iv 0#32 1#32 k) (k0_pay7 (F := F) (Rows.row B k)) (k0_pay11 v66 w (Rows.row B k)) (k0_pay12 v66 w (Rows.row B k))
/-- The carried sum of the second loop before trip `k`. -/
def acc2 (init : FVec F S8x1000 .f32) (v66 : IVec S1000x1 32) (w : FVec F S3x1000 .f32) (B : WA) (dx dy dz fp : FA F) : ℕ → FVec F S8x1000 .f32
  | 0 => init
  | k + 1 => k0_pay22 (acc2 init v66 w B dx dy dz fp k) (k0_pay9 v66 (Rows.row B k)) (dxRow v66 w B dx k) (dyRow v66 w B dy k) (dzRow v66 w B dz k) (Rows.row fp k)

/-- The third loop's rows. -/
abbrev cdRow (v66 : IVec S1000x1 32) (v67 : IVec S1x1 32) (v72 : FVec F S1x1 .f32) (v117 : FVec F S3x1000 .f32) (v219 : FVec F S1x1 .f32) (B : WA) (g : FA F) (k : ℕ) : FVec F S1x1000 .f32 := k0_pay4 v66 v67 v72 v117 v219 (Rows.row B k) (Rows.row g k)
abbrev cmRow (v66 : IVec S1000x1 32) (v67 : IVec S1x1 32) (v72 : FVec F S1x1 .f32) (v117 : FVec F S3x1000 .f32) (v219 : FVec F S1x1 .f32) (B : WA) (g : FA F) (k : ℕ) : FVec F S1x1000 .f32 := k0_pay5 v66 v67 v72 v117 v219 (Rows.row B k) (Rows.row g k)
abbrev cxRow (v66 : IVec S1000x1 32) (v117 : FVec F S3x1000 .f32) (B : WA) (g : FA F) (k : ℕ) : FVec F S1x1000 .f32 := k0_pay6 v66 v117 (Rows.row B k) (Rows.row g k)

section
variable (arg0 : Memref sig .tc .vmem S100x1000 .i32) (harg0 : arg0.IsWhole)
variable (arg1 : Memref sig .tc .vmem S100x1000 .f32) (harg1 : arg1.IsWhole)
variable (arg2 : Memref sig .tc .vmem S100x1000 .f32) (harg2 : arg2.IsWhole)
variable (arg3 : Memref sig .tc .vmem S100x1000 .f32) (harg3 : arg3.IsWhole)
variable (arg4 : Memref sig .tc .vmem S100x1000 .f32) (harg4 : arg4.IsWhole)
variable (arg5 : Memref sig .tc .vmem S100x1000 .f32) (harg5 : arg5.IsWhole)
variable (arg6 : Memref sig .tc .vmem S100x1000 .f32) (harg6 : arg6.IsWhole)
variable (arg7 : Memref sig .tc .vmem S100x1000 .f32) (harg7 : arg7.IsWhole)
variable (arg8 : Memref sig .tc .vmem S100x1000 .f32) (harg8 : arg8.IsWhole)
variable (arg9 : Memref sig .tc .vmem S100x1000 .f32) (harg9 : arg9.IsWhole)
variable (arg10 : Memref sig .tc .vmem S100x1000 .f32) (harg10 : arg10.IsWhole)
variable (arg11 : Memref sig .tc .vmem S100x1000 .f32) (harg11 : arg11.IsWhole)
variable (arg12 : Memref sig .tc .vmem S100x1000 .f32) (harg12 : arg12.IsWhole)
variable (arg13 : Memref sig .tc .vmem S100x1000 .f32) (harg13 : arg13.IsWhole)
variable (arg14 : Memref sig .tc .vmem S100x1000 .f32) (harg14 : arg14.IsWhole)
variable (arg15 : Memref sig .tc .vmem S8x1000 .f32) (harg15 : arg15.IsWhole)
variable (arg16 : Memref sig .tc .vmem S100x1000 .f32) (harg16 : arg16.IsWhole)
variable (arg17 : Memref sig .tc .vmem S100x1000 .f32) (harg17 : arg17.IsWhole)
variable (arg18 : Memref sig .tc .vmem S100x1000 .f32) (harg18 : arg18.IsWhole)
variable (arg19 : Memref sig .tc .vmem S100x1000 .f32) (harg19 : arg19.IsWhole)

/-- The invariants of the first loop. -/
abbrev Inv1Ty (𝒱 : Variants) (c : Dev nD) (bd : Option 𝒱.V) (E : Set ℕ) (v1 : IVec S100x1000 32) (v7 : FVec F S100x1000 .f32) (v30 : FVec F S100x1000 .f32) (v38 : FVec F S100x1000 .f32) (v46 : FVec F S100x1000 .f32) (v47 : FVec F S100x1 .f32) (init : FVec F S16x1000 .f32) :=
  Idealize.ShloMosaic.LoopInv (M := MM) Idealize.ShloMosaic.frame (wpE (defs₀ (F := F)) 𝒱 (c : Thread nD τ) bd) E
    k0_t1_loop.lb k0_t1_loop.ub k0_t1_loop.st k0_t1_ok init (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v7 v30 v38 v46 v47)

set_option warn.classDefReducibility false in
/-- The first loop's invariant. -/
@[sl_loop] def inv1 (𝒱 : Variants) (c : Dev nD) (bd : Option 𝒱.V) (E : Set ℕ) (v1 : IVec S100x1000 32) (v7 : FVec F S100x1000 .f32) (v30 : FVec F S100x1000 .f32) (v38 : FVec F S100x1000 .f32) (v46 : FVec F S100x1000 .f32) (v47 : FVec F S100x1 .f32) (X0 : BufTy.Contents (Elt F) arg0.view.ty) (X1 : BufTy.Contents (Elt F) arg1.view.ty) (X2 : BufTy.Contents (Elt F) arg2.view.ty) (X3 : BufTy.Contents (Elt F) arg3.view.ty) (X12 : BufTy.Contents (Elt F) arg12.view.ty) (X13 : BufTy.Contents (Elt F) arg13.view.ty) (X14 : BufTy.Contents (Elt F) arg14.view.ty)  (init : FVec F S16x1000 .f32) :
    Inv1Ty (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 𝒱 c bd E v1 v7 v30 v38 v46 v47 init where
  inv k acc := iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ ⌜acc = acc1 init (arg0.view.read (Elt F) X0) (arg1.view.read (Elt F) X1) (arg2.view.read (Elt F) X2) (arg3.view.read (Elt F) X3) (arg12.view.read (Elt F) X12) (arg13.view.read (Elt F) X13) (arg14.view.read (Elt F) X14) k⌝)
  step k acc := by
    have hk : k.val < 100 := Nat.lt_of_lt_of_le k.isLt k0_t1_abs.2.1
    iintro ⟨R0, R1, R2, R3, R12, R13, R14, %hacc⟩
    subst hacc
    unfold k0_t1_body
    sl_exec
    sl_step
    isplitl [R0]; · iexact R0
    isplitl [R1]; · iexact R1
    isplitl [R2]; · iexact R2
    isplitl [R3]; · iexact R3
    isplitl [R12]; · iexact R12
    isplitl [R13]; · iexact R13
    isplitl [R14]; · iexact R14
    ipureintro
    simp only [Rows.readAt_row _ _ hk (k0_off1_eq k)]; rfl

/-- The invariants of the second loop. -/
abbrev Inv2Ty (𝒱 : Variants) (c : Dev nD) (bd : Option 𝒱.V) (E : Set ℕ) (v62 : FVec F S1000x1000 .f32) (v65 : FVec F S1000x1000 .f32) (v66 : IVec S1000x1 32) (v67 : IVec S1x1 32) (v72 : FVec F S1x1 .f32) (v75 : FVec F S16x1000 .f32) (v76 : FVec F S1x1000 .f32) (v78 : FVec F S1x1000 .f32) (v90 : FVec F S1x1000 .f32) (init : FVec F S8x1000 .f32) :=
  Idealize.ShloMosaic.LoopInv (M := MM) Idealize.ShloMosaic.frame (wpE (defs₀ (F := F)) 𝒱 (c : Thread nD τ) bd) E
    k0_t2_loop.lb k0_t2_loop.ub k0_t2_loop.st k0_t2_ok init (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v62 v65 v66 v67 v72 v75 v76 v78 v90)

set_option maxHeartbeats 2000000 in
set_option warn.classDefReducibility false in
/-- The second loop's invariant. -/
@[sl_loop] def inv2 (𝒱 : Variants) (c : Dev nD) (bd : Option 𝒱.V) (E : Set ℕ) (v62 : FVec F S1000x1000 .f32) (v65 : FVec F S1000x1000 .f32) (v66 : IVec S1000x1 32) (v67 : IVec S1x1 32) (v72 : FVec F S1x1 .f32) (v75 : FVec F S16x1000 .f32) (v76 : FVec F S1x1000 .f32) (v78 : FVec F S1x1000 .f32) (v90 : FVec F S1x1000 .f32) (X0 : BufTy.Contents (Elt F) arg0.view.ty) (X1 : BufTy.Contents (Elt F) arg1.view.ty) (X2 : BufTy.Contents (Elt F) arg2.view.ty) (X3 : BufTy.Contents (Elt F) arg3.view.ty) (X16 : BufTy.Contents (Elt F) arg16.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G7 : BufTy.Contents (Elt F) arg7.view.ty) (G4 : BufTy.Contents (Elt F) arg4.view.ty) (init : FVec F S8x1000 .f32) :
    Inv2Ty (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 𝒱 c bd E v62 v65 v66 v67 v72 v75 v76 v78 v90 init where
  inv k acc := iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg16.view.loc (c : Thread nD τ) ↦[arg16.view.set]{fullShare} X16) ∗ (∃ f, (arg9.view.loc (c : Thread nD τ) ↦[arg9.view.set]{fullShare} f) ∗ ⌜f = arg9.view.writes (Elt F) G9 (Rows.pieces (pxRow v66 (k0_pay42 v65 v76 v90) (arg0.view.read (Elt F) X0) (arg1.view.read (Elt F) X1)) k)⌝) ∗ (∃ f, (arg10.view.loc (c : Thread nD τ) ↦[arg10.view.set]{fullShare} f) ∗ ⌜f = arg10.view.writes (Elt F) G10 (Rows.pieces (pyRow v66 (k0_pay42 v65 v76 v90) (arg0.view.read (Elt F) X0) (arg2.view.read (Elt F) X2)) k)⌝) ∗ (∃ f, (arg11.view.loc (c : Thread nD τ) ↦[arg11.view.set]{fullShare} f) ∗ ⌜f = arg11.view.writes (Elt F) G11 (Rows.pieces (pzRow v66 (k0_pay42 v65 v76 v90) (arg0.view.read (Elt F) X0) (arg3.view.read (Elt F) X3)) k)⌝) ∗ (∃ f, (arg12.view.loc (c : Thread nD τ) ↦[arg12.view.set]{fullShare} f) ∗ ⌜f = arg12.view.writes (Elt F) G12 (Rows.pieces (dxRow v66 (k0_pay42 v65 v76 v90) (arg0.view.read (Elt F) X0) (arg12.view.read (Elt F) G12)) k)⌝) ∗ (∃ f, (arg13.view.loc (c : Thread nD τ) ↦[arg13.view.set]{fullShare} f) ∗ ⌜f = arg13.view.writes (Elt F) G13 (Rows.pieces (dyRow v66 (k0_pay42 v65 v76 v90) (arg0.view.read (Elt F) X0) (arg13.view.read (Elt F) G13)) k)⌝) ∗ (∃ f, (arg14.view.loc (c : Thread nD τ) ↦[arg14.view.set]{fullShare} f) ∗ ⌜f = arg14.view.writes (Elt F) G14 (Rows.pieces (dzRow v66 (k0_pay42 v65 v76 v90) (arg0.view.read (Elt F) X0) (arg14.view.read (Elt F) G14)) k)⌝) ∗ (∃ f, (arg7.view.loc (c : Thread nD τ) ↦[arg7.view.set]{fullShare} f) ∗ ⌜f = arg7.view.writes (Elt F) G7 (Rows.pieces (dnRow v66 (k0_pay42 v65 v76 v90) (arg0.view.read (Elt F) X0) (arg12.view.read (Elt F) G12) (arg13.view.read (Elt F) G13) (arg14.view.read (Elt F) G14)) k)⌝) ∗ (∃ f, (arg4.view.loc (c : Thread nD τ) ↦[arg4.view.set]{fullShare} f) ∗ ⌜f = arg4.view.writes (Elt F) G4 (Rows.pieces (tnRow v66 v67 v72 (k0_pay42 v65 v76 v90) (arg0.view.read (Elt F) X0)) k)⌝) ∗ ⌜acc = acc2 init v66 (k0_pay42 v65 v76 v90) (arg0.view.read (Elt F) X0) (arg12.view.read (Elt F) G12) (arg13.view.read (Elt F) G13) (arg14.view.read (Elt F) G14) (arg16.view.read (Elt F) X16) k⌝)
  step k acc := by
    have hk : k.val < 100 := Nat.lt_of_lt_of_le k.isLt k0_t2_abs.2.1
    iintro ⟨R0, R1, R2, R3, R16, ⟨%f9, W9, %h9⟩, ⟨%f10, W10, %h10⟩, ⟨%f11, W11, %h11⟩, ⟨%f12, W12, %h12⟩, ⟨%f13, W13, %h13⟩, ⟨%f14, W14, %h14⟩, ⟨%f7, W7, %h7⟩, ⟨%f4, W4, %h4⟩, %hacc⟩
    subst hacc
    unfold k0_t2_body
    sl_exec
    sl_step
    isplitl [R0]; · iexact R0
    isplitl [R1]; · iexact R1
    isplitl [R2]; · iexact R2
    isplitl [R3]; · iexact R3
    isplitl [R16]; · iexact R16
    isplitl [W9]
    · iexists _
      isplitl [W9]; · iexact W9
      ipureintro
      refine Rows.writes_succ _ _ _ hk (k0_off2_eq k) _ _ ?_ _ h9
      simp only [Rows.readAt_row _ _ hk (k0_off2_eq k)]
    isplitl [W10]
    · iexists _
      isplitl [W10]; · iexact W10
      ipureintro
      refine Rows.writes_succ _ _ _ hk (k0_off2_eq k) _ _ ?_ _ h10
      simp only [Rows.readAt_row _ _ hk (k0_off2_eq k)]
    isplitl [W11]
    · iexists _
      isplitl [W11]; · iexact W11
      ipureintro
      refine Rows.writes_succ _ _ _ hk (k0_off2_eq k) _ _ ?_ _ h11
      simp only [Rows.readAt_row _ _ hk (k0_off2_eq k)]
    isplitl [W12]
    · iexists _
      isplitl [W12]; · iexact W12
      ipureintro
      refine Rows.writes_succ _ _ _ hk (k0_off2_eq k) _ _ ?_ _ h12
      unfold inv2.sl.r_4
      simp only [Rows.readAt_row _ _ hk (k0_off2_eq k)]
      simp only [h12, h13, h14, Rows.read_pieces _ _ _ _ hk.le, Rows.row_upTo _ _ _ hk]
    isplitl [W13]
    · iexists _
      isplitl [W13]; · iexact W13
      ipureintro
      refine Rows.writes_succ _ _ _ hk (k0_off2_eq k) _ _ ?_ _ h13
      unfold inv2.sl.r_5
      simp only [Rows.readAt_row _ _ hk (k0_off2_eq k)]
      simp only [h12, h13, h14, Rows.read_pieces _ _ _ _ hk.le, Rows.row_upTo _ _ _ hk]
    isplitl [W14]
    · iexists _
      isplitl [W14]; · iexact W14
      ipureintro
      refine Rows.writes_succ _ _ _ hk (k0_off2_eq k) _ _ ?_ _ h14
      unfold inv2.sl.r_6
      simp only [Rows.readAt_row _ _ hk (k0_off2_eq k)]
      simp only [h12, h13, h14, Rows.read_pieces _ _ _ _ hk.le, Rows.row_upTo _ _ _ hk]
    isplitl [W7]
    · iexists _
      isplitl [W7]; · iexact W7
      ipureintro
      refine Rows.writes_succ _ _ _ hk (k0_off2_eq k) _ _ ?_ _ h7
      unfold inv2.sl.r_4 inv2.sl.r_5 inv2.sl.r_6
      simp only [Rows.readAt_row _ _ hk (k0_off2_eq k)]
      simp only [h12, h13, h14, Rows.read_pieces _ _ _ _ hk.le, Rows.row_upTo _ _ _ hk]
    isplitl [W4]
    · iexists _
      isplitl [W4]; · iexact W4
      ipureintro
      refine Rows.writes_succ _ _ _ hk (k0_off2_eq k) _ _ ?_ _ h4
      unfold inv2.sl.arg20 inv2.sl.r inv2.sl.r_2 inv2.sl.r_3
      simp only [Rows.readAt_row _ _ hk (k0_off2_eq k)]
    ipureintro
    unfold inv2.sl.r_1 inv2.sl.r_4 inv2.sl.r_5 inv2.sl.r_6
    simp only [Rows.readAt_row _ _ hk (k0_off2_eq k)]
    simp only [h12, h13, h14, Rows.read_pieces _ _ _ _ hk.le, Rows.row_upTo _ _ _ hk]; rfl

/-- The invariants of the third loop. -/
abbrev Inv3Ty (𝒱 : Variants) (c : Dev nD) (bd : Option 𝒱.V) (E : Set ℕ) (v66 : IVec S1000x1 32) (v67 : IVec S1x1 32) (v72 : FVec F S1x1 .f32) (v117 : FVec F S3x1000 .f32) (v219 : FVec F S1x1 .f32) :=
  Idealize.ShloMosaic.LoopInv (M := MM) Idealize.ShloMosaic.frame (wpE (defs₀ (F := F)) 𝒱 (c : Thread nD τ) bd) E
    k0_t3_loop.lb k0_t3_loop.ub k0_t3_loop.st k0_t3_ok (⟨⟩ : PUnit) (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v66 v67 v72 v117 v219)

set_option warn.classDefReducibility false in
/-- The third loop's invariant. -/
@[sl_loop] def inv3 (𝒱 : Variants) (c : Dev nD) (bd : Option 𝒱.V) (E : Set ℕ) (v66 : IVec S1000x1 32) (v67 : IVec S1x1 32) (v72 : FVec F S1x1 .f32) (v117 : FVec F S3x1000 .f32) (v219 : FVec F S1x1 .f32) (X0 : BufTy.Contents (Elt F) arg0.view.ty) (X17 : BufTy.Contents (Elt F) arg17.view.ty) (X18 : BufTy.Contents (Elt F) arg18.view.ty) (X19 : BufTy.Contents (Elt F) arg19.view.ty) (G5 : BufTy.Contents (Elt F) arg5.view.ty) (G6 : BufTy.Contents (Elt F) arg6.view.ty) (G8 : BufTy.Contents (Elt F) arg8.view.ty) :
    Inv3Ty (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 𝒱 c bd E v66 v67 v72 v117 v219 where
  inv k acc := iprop((arg0.view.loc (c : Thread nD τ) ↦[arg0.view.set]{fullShare} X0) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (∃ f, (arg5.view.loc (c : Thread nD τ) ↦[arg5.view.set]{fullShare} f) ∗ ⌜f = arg5.view.writes (Elt F) G5 (Rows.pieces (cdRow v66 v67 v72 v117 v219 (arg0.view.read (Elt F) X0) (arg17.view.read (Elt F) X17)) k)⌝) ∗ (∃ f, (arg6.view.loc (c : Thread nD τ) ↦[arg6.view.set]{fullShare} f) ∗ ⌜f = arg6.view.writes (Elt F) G6 (Rows.pieces (cmRow v66 v67 v72 v117 v219 (arg0.view.read (Elt F) X0) (arg18.view.read (Elt F) X18)) k)⌝) ∗ (∃ f, (arg8.view.loc (c : Thread nD τ) ↦[arg8.view.set]{fullShare} f) ∗ ⌜f = arg8.view.writes (Elt F) G8 (Rows.pieces (cxRow v66 v117 (arg0.view.read (Elt F) X0) (arg19.view.read (Elt F) X19)) k)⌝))
  step k acc := by
    have hk : k.val < 100 := Nat.lt_of_lt_of_le k.isLt k0_t3_abs.2.1
    iintro ⟨R0, R17, R18, R19, ⟨%f5, W5, %h5⟩, ⟨%f6, W6, %h6⟩, ⟨%f8, W8, %h8⟩⟩
    unfold k0_t3_body
    sl_exec
    sl_step
    isplitl [R0]; · iexact R0
    isplitl [R17]; · iexact R17
    isplitl [R18]; · iexact R18
    isplitl [R19]; · iexact R19
    isplitl [W5]
    · iexists _
      isplitl [W5]; · iexact W5
      ipureintro
      refine Rows.writes_succ _ _ _ hk (k0_off3_eq k) _ _ ?_ _ h5
      simp only [Rows.readAt_row _ _ hk (k0_off3_eq k)]
    isplitl [W6]
    · iexists _
      isplitl [W6]; · iexact W6
      ipureintro
      refine Rows.writes_succ _ _ _ hk (k0_off3_eq k) _ _ ?_ _ h6
      simp only [Rows.readAt_row _ _ hk (k0_off3_eq k)]
    · iexists _
      isplitl [W8]; · iexact W8
      ipureintro
      refine Rows.writes_succ _ _ _ hk (k0_off3_eq k) _ _ ?_ _ h8
      simp only [Rows.readAt_row _ _ hk (k0_off3_eq k)]

end

end Cert.KernelIdeal.Own

end
-- ==== Proof.KI.NodeVals.lean ====
module

public import proofs.«01_k».proof.Proof.KI.Loops

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf RegionSeg HostSeg Seg)

variable {F : FTy → Type} [FloatOps F]

/-- The resource algebra of the run. -/
local notation "MM" => MT nD τ sig Unit (Elt F) ℕ (UR sig nD τ) ℕ

/-! The node body: what it leaves in each array it writes, as functions of the four it reads. -/

theorem trips100 : Scf.trips (0#32) (Scalar.addi 0#32 100#32) 1#32 = 100 := by decide +kernel

/-- The array of rows. -/
def allRows {α : Type} (pay : ℕ → S1x1000.Idx → α) : S100x1000.Idx → α := fun i => pay (i 0).val (Rows.col1 (i 1))

/-- The lane numbers of a column. -/
abbrev nCol : IVec S1000x1 32 := iota .tc S1000x1 32 [0] iota_S1000x1_d0_w32

section Values
variable (B : WA) (px py pz : FA F)
/-- Displacements to the next point. -/
def nDx : FA F := k0_pay27 (F := F) B px
def nDy : FA F := k0_pay28 (F := F) B py
def nDz : FA F := k0_pay30 (k0_pay24 pz) (k0_pay26 (F := F) B) (k0_pay29 pz)
/-- The first loop's sums. -/
def nAcc1 : FVec F S16x1000 .f32 := acc1 (k0_pay35 (F := F)) B px py pz (nDx B px) (nDy B py) (nDz B pz) 100
/-- The per-segment values the second loop spreads. -/
def nW : FVec F S3x1000 .f32 := k0_pay42 (k0_pay32 (F := F)) (k0_pay37 (nAcc1 B px py pz)) (k0_pay39 (nAcc1 B px py pz))
def nSeg : FVec F S8x1000 .f32 := k0_pay41 (nAcc1 B px py pz) (k0_pay37 (nAcc1 B px py pz)) (k0_pay38 (nAcc1 B px py pz)) (k0_pay39 (nAcc1 B px py pz))
/-- The first-point marks. -/
def nFp : FA F := k0_pay25 (F := F) B
/-- The second loop's sums. -/
def nAcc2 : FVec F S8x1000 .f32 := acc2 (k0_pay43 (F := F)) nCol (nW B px py pz) B (nDx B px) (nDy B py) (nDz B pz) (nFp (F := F) B) 100
def nPrev : FVec F S3x1000 .f32 := k0_pay44 (k0_pay32 (F := F)) (nAcc2 B px py pz)
def nPx : FA F := allRows (pxRow nCol (nW B px py pz) B px)
def nPy : FA F := allRows (pyRow nCol (nW B px py pz) B py)
def nPz : FA F := allRows (pzRow nCol (nW B px py pz) B pz)
def nQx : FA F := allRows (dxRow nCol (nW B px py pz) B (nDx B px))
def nQy : FA F := allRows (dyRow nCol (nW B px py pz) B (nDy B py))
def nQz : FA F := allRows (dzRow nCol (nW B px py pz) B (nDz B pz))
def nDn : FA F := allRows (dnRow nCol (nW B px py pz) B (nDx B px) (nDy B py) (nDz B pz))
def nTn : FA F := allRows (tnRow nCol (k0_pay33 (k0_pay23 (F := F) B)) (k0_pay34 (F := F) (k0_pay23 (F := F) B)) (nW B px py pz) B)
/-- Running sums and running maximum of the lengths. -/
def nG1 : FA F := k0_pay48 (k0_pay47 (k0_pay31 (F := F)) (nDn B px py pz))
def nG2 : FA F := k0_pay49 (k0_pay31 (F := F)) (k0_pay45 (nDn B px py pz)) (k0_pay46 (F := F))
def nMx : FA F := k0_pay53 (k0_pay50 (k0_pay45 (nDn B px py pz))) (k0_pay51 (F := F)) (k0_pay52 (k0_pay45 (nDn B px py pz)))
def nTop : FVec F S1x1 .f32 := k0_pay54 (k0_pay45 (nDn B px py pz))
def nCd : FA F := allRows (cdRow nCol (k0_pay33 (k0_pay23 (F := F) B)) (k0_pay34 (F := F) (k0_pay23 (F := F) B)) (nPrev B px py pz) (nTop B px py pz) B (nG1 B px py pz))
def nCm : FA F := allRows (cmRow nCol (k0_pay33 (k0_pay23 (F := F) B)) (k0_pay34 (F := F) (k0_pay23 (F := F) B)) (nPrev B px py pz) (nTop B px py pz) B (nG2 B px py pz))
def nCx : FA F := allRows (cxRow nCol (nPrev B px py pz) B (nMx B px py pz))
end Values

/-- What the array reads after all the row stores. -/
theorem read_all {sig' : RefSig} {κ : Kind} {sp : Space} {e : EltTy} (v : View sig' κ sp S100x1000 e) (G : v.ty.Contents (Elt F)) (pay : ℕ → S1x1000.Idx → Elt F e) :
    v.read (Elt F) (v.writes (Elt F) G (Rows.pieces pay 100)) = allRows pay := by
  exact (Rows.read_pieces v G pay 100 le_rfl).trans (Rows.upTo_all pay _)

/-- A load of the whole array. -/
theorem readAt_all {sig' : RefSig} {κ : Kind} {sp : Space} {e : EltTy} (v : View sig' κ sp S100x1000 e) (f : v.ty.Contents (Elt F)) :
    v.readAt (Elt F) (Rect.unit (s := S100x1000) ![0, 0] ![100, 1000] inb_S100x1000_S100x1000_0_0).toLoadRect f = v.read (Elt F) f :=
  View.readAt_full v f _

/-- A store of the whole array. -/
theorem read_store {sig' : RefSig} {κ : Kind} {sp : Space} {e : EltTy} (v : View sig' κ sp S100x1000 e) (f : v.ty.Contents (Elt F)) (w : S100x1000.Idx → Elt F e) :
    v.read (Elt F) (v.writes (Elt F) f [⟨Rect.unit (s := S100x1000) ![0, 0] ![100, 1000] inb_S100x1000_S100x1000_0_0, w⟩]) = w :=
  View.read_writes_full v f _ w []

/-- A store of the whole table of segment values. -/
theorem read_store8 {sig' : RefSig} {κ : Kind} {sp : Space} {e : EltTy} (v : View sig' κ sp S8x1000 e) (f : v.ty.Contents (Elt F)) (w : S8x1000.Idx → Elt F e) :
    v.read (Elt F) (v.writes (Elt F) f [⟨Rect.unit (s := S8x1000) ![0, 0] ![8, 1000] inb_S8x1000_S8x1000_0_0, w⟩]) = w :=
  View.read_writes_full v f _ w []

end Cert.KernelIdeal.Own

end
-- ==== Proof.KI.Node.lean ====
module

public import proofs.«01_k».proof.Proof.KI.NodeVals

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf RegionSeg HostSeg Seg)

variable {F : FTy → Type} [FloatOps F]

/-- The resource algebra of the run. -/
local notation "MM" => MT nD τ sig Unit (Elt F) ℕ (UR sig nD τ) ℕ

/-! The node body. -/

variable (arg0 : Memref sig .tc .vmem S100x1000 .i32) (harg0 : arg0.IsWhole)
variable (arg1 : Memref sig .tc .vmem S100x1000 .f32) (harg1 : arg1.IsWhole)
variable (arg2 : Memref sig .tc .vmem S100x1000 .f32) (harg2 : arg2.IsWhole)
variable (arg3 : Memref sig .tc .vmem S100x1000 .f32) (harg3 : arg3.IsWhole)
variable (arg4 : Memref sig .tc .vmem S100x1000 .f32) (harg4 : arg4.IsWhole)
variable (arg5 : Memref sig .tc .vmem S100x1000 .f32) (harg5 : arg5.IsWhole)
variable (arg6 : Memref sig .tc .vmem S100x1000 .f32) (harg6 : arg6.IsWhole)
variable (arg7 : Memref sig .tc .vmem S100x1000 .f32) (harg7 : arg7.IsWhole)
variable (arg8 : Memref sig .tc .vmem S100x1000 .f32) (harg8 : arg8.IsWhole)
variable (arg9 : Memref sig .tc .vmem S100x1000 .f32) (harg9 : arg9.IsWhole)
variable (arg10 : Memref sig .tc .vmem S100x1000 .f32) (harg10 : arg10.IsWhole)
variable (arg11 : Memref sig .tc .vmem S100x1000 .f32) (harg11 : arg11.IsWhole)
variable (arg12 : Memref sig .tc .vmem S100x1000 .f32) (harg12 : arg12.IsWhole)
variable (arg13 : Memref sig .tc .vmem S100x1000 .f32) (harg13 : arg13.IsWhole)
variable (arg14 : Memref sig .tc .vmem S100x1000 .f32) (harg14 : arg14.IsWhole)
variable (arg15 : Memref sig .tc .vmem S8x1000 .f32) (harg15 : arg15.IsWhole)
variable (arg16 : Memref sig .tc .vmem S100x1000 .f32) (harg16 : arg16.IsWhole)
variable (arg17 : Memref sig .tc .vmem S100x1000 .f32) (harg17 : arg17.IsWhole)
variable (arg18 : Memref sig .tc .vmem S100x1000 .f32) (harg18 : arg18.IsWhole)
variable (arg19 : Memref sig .tc .vmem S100x1000 .f32) (harg19 : arg19.IsWhole)

set_option maxHeartbeats 2000000 in
/-- The node body runs, and leaves these arrays. -/
theorem node_body (𝒱 : Variants) (c : Dev nD) (bd : Option 𝒱.V) (E : Set ℕ) (X0 : BufTy.Contents (Elt F) arg0.view.ty) (X1 : BufTy.Contents (Elt F) arg1.view.ty) (X2 : BufTy.Contents (Elt F) arg2.view.ty) (X3 : BufTy.Contents (Elt F) arg3.view.ty) (G4 : BufTy.Contents (Elt F) arg4.view.ty) (G5 : BufTy.Contents (Elt F) arg5.view.ty) (G6 : BufTy.Contents (Elt F) arg6.view.ty) (G7 : BufTy.Contents (Elt F) arg7.view.ty) (G8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) :
    iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} G4) ∗ (arg5.view.loc (c : Thread nD τ) ↦[arg5.view.set]{fullShare} G5) ∗ (arg6.view.loc (c : Thread nD τ) ↦[arg6.view.set]{fullShare} G6) ∗ (arg7.view.loc (c : Thread nD τ) ↦[arg7.view.set]{fullShare} G7) ∗ (arg8.view.loc (c : Thread nD τ) ↦[arg8.view.set]{fullShare} G8) ∗ (arg9.view.loc (c : Thread nD τ) ↦[arg9.view.set]{fullShare} G9) ∗ (arg10.view.loc (c : Thread nD τ) ↦[arg10.view.set]{fullShare} G10) ∗ (arg11.view.loc (c : Thread nD τ) ↦[arg11.view.set]{fullShare} G11) ∗ (arg12.view.loc (c : Thread nD τ) ↦[arg12.view.set]{fullShare} G12) ∗ (arg13.view.loc (c : Thread nD τ) ↦[arg13.view.set]{fullShare} G13) ∗ (arg14.view.loc (c : Thread nD τ) ↦[arg14.view.set]{fullShare} G14) ∗ (arg15.view.loc (c : Thread nD τ) ↦[arg15.view.set]{fullShare} G15) ∗ (arg16.view.loc (c : Thread nD τ) ↦[arg16.view.set]{fullShare} G16) ∗ (arg17.view.loc (c : Thread nD τ) ↦[arg17.view.set]{fullShare} G17) ∗ (arg18.view.loc (c : Thread nD τ) ↦[arg18.view.set]{fullShare} G18) ∗ (arg19.view.loc (c : Thread nD τ) ↦[arg19.view.set]{fullShare} G19))
    ⊢ wp (M := MM) frame (wpE (defs₀ (F := F)) 𝒱 (c : Thread nD τ) bd) E (cc0__node_kernel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (∃ f, (arg4.view.loc (c : Thread nD τ) ↦[arg4.view.set]{fullShare} f) ∗ ⌜arg4.view.read (Elt F) f = nTn (arg0.view.read (Elt F) X0) (arg1.view.read (Elt F) X1) (arg2.view.read (Elt F) X2) (arg3.view.read (Elt F) X3)⌝) ∗ (∃ f, (arg5.view.loc (c : Thread nD τ) ↦[arg5.view.set]{fullShare} f) ∗ ⌜arg5.view.read (Elt F) f = nCd (arg0.view.read (Elt F) X0) (arg1.view.read (Elt F) X1) (arg2.view.read (Elt F) X2) (arg3.view.read (Elt F) X3)⌝) ∗ (∃ f, (arg6.view.loc (c : Thread nD τ) ↦[arg6.view.set]{fullShare} f) ∗ ⌜arg6.view.read (Elt F) f = nCm (arg0.view.read (Elt F) X0) (arg1.view.read (Elt F) X1) (arg2.view.read (Elt F) X2) (arg3.view.read (Elt F) X3)⌝) ∗ (∃ f, (arg7.view.loc (c : Thread nD τ) ↦[arg7.view.set]{fullShare} f) ∗ ⌜arg7.view.read (Elt F) f = nDn (arg0.view.read (Elt F) X0) (arg1.view.read (Elt F) X1) (arg2.view.read (Elt F) X2) (arg3.view.read (Elt F) X3)⌝) ∗ (∃ f, (arg8.view.loc (c : Thread nD τ) ↦[arg8.view.set]{fullShare} f) ∗ ⌜arg8.view.read (Elt F) f = nCx (arg0.view.read (Elt F) X0) (arg1.view.read (Elt F) X1) (arg2.view.read (Elt F) X2) (arg3.view.read (Elt F) X3)⌝) ∗ (∃ f, (arg9.view.loc (c : Thread nD τ) ↦[arg9.view.set]{fullShare} f) ∗ ⌜arg9.view.read (Elt F) f = nPx (arg0.view.read (Elt F) X0) (arg1.view.read (Elt F) X1) (arg2.view.read (Elt F) X2) (arg3.view.read (Elt F) X3)⌝) ∗ (∃ f, (arg10.view.loc (c : Thread nD τ) ↦[arg10.view.set]{fullShare} f) ∗ ⌜arg10.view.read (Elt F) f = nPy (arg0.view.read (Elt F) X0) (arg1.view.read (Elt F) X1) (arg2.view.read (Elt F) X2) (arg3.view.read (Elt F) X3)⌝) ∗ (∃ f, (arg11.view.loc (c : Thread nD τ) ↦[arg11.view.set]{fullShare} f) ∗ ⌜arg11.view.read (Elt F) f = nPz (arg0.view.read (Elt F) X0) (arg1.view.read (Elt F) X1) (arg2.view.read (Elt F) X2) (arg3.view.read (Elt F) X3)⌝) ∗ (∃ f, (arg12.view.loc (c : Thread nD τ) ↦[arg12.view.set]{fullShare} f) ∗ ⌜arg12.view.read (Elt F) f = nQx (arg0.view.read (Elt F) X0) (arg1.view.read (Elt F) X1) (arg2.view.read (Elt F) X2) (arg3.view.read (Elt F) X3)⌝) ∗ (∃ f, (arg13.view.loc (c : Thread nD τ) ↦[arg13.view.set]{fullShare} f) ∗ ⌜arg13.view.read (Elt F) f = nQy (arg0.view.read (Elt F) X0) (arg1.view.read (Elt F) X1) (arg2.view.read (Elt F) X2) (arg3.view.read (Elt F) X3)⌝) ∗ (∃ f, (arg14.view.loc (c : Thread nD τ) ↦[arg14.view.set]{fullShare} f) ∗ ⌜arg14.view.read (Elt F) f = nQz (arg0.view.read (Elt F) X0) (arg1.view.read (Elt F) X1) (arg2.view.read (Elt F) X2) (arg3.view.read (Elt F) X3)⌝) ∗ (∃ f, (arg15.view.loc (c : Thread nD τ) ↦[arg15.view.set]{fullShare} f) ∗ ⌜arg15.view.read (Elt F) f = nSeg (arg0.view.read (Elt F) X0) (arg1.view.read (Elt F) X1) (arg2.view.read (Elt F) X2) (arg3.view.read (Elt F) X3)⌝) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)))) := by
  iintro ⟨H0, H1, H2, H3, H4, H5, H6, H7, H8, H9, H10, H11, H12, H13, H14, H15, H16, H17, H18, H19⟩
  rw [cc0__node_kernel_eq_skeleton]
  unfold cc0__node_kernel_skel
  sl_exec
  sl_step
  have t1 : Scf.trips k0_t1_loop.lb k0_t1_loop.ub k0_t1_loop.st = 100 := by decide +kernel
  have t2 : Scf.trips k0_t2_loop.lb k0_t2_loop.ub k0_t2_loop.st = 100 := by decide +kernel
  have t3 : Scf.trips k0_t3_loop.lb k0_t3_loop.ub k0_t3_loop.st = 100 := by decide +kernel
  have e0 : node_body.sl.r arg0 X0 = k0_pay23 (arg0.view.read (Elt F) X0) := by
    delta node_body.sl.r
    simp only [readAt_all]
    try rfl
  have e12 : arg12.view.read (Elt F) (arg12.view.writes (Elt F) arg12.view.junk (node_body.sl.H12_1 arg0 arg1 X0 X1)) = nDx (arg0.view.read (Elt F) X0) (arg1.view.read (Elt F) X1) := by
    delta node_body.sl.H12_1 node_body.sl.r_3
    simp only [read_store, readAt_all]
    try rfl
  have e13 : arg13.view.read (Elt F) (arg13.view.writes (Elt F) arg13.view.junk (node_body.sl.H13_1 arg0 arg2 X0 X2)) = nDy (arg0.view.read (Elt F) X0) (arg2.view.read (Elt F) X2) := by
    delta node_body.sl.H13_1 node_body.sl.r_4
    simp only [read_store, readAt_all]
    try rfl
  have e14 : arg14.view.read (Elt F) (arg14.view.writes (Elt F) arg14.view.junk (node_body.sl.H14_1 arg0 arg3 X0 X3)) = nDz (arg0.view.read (Elt F) X0) (arg3.view.read (Elt F) X3) := by
    delta node_body.sl.H14_1 node_body.sl.r_1 node_body.sl.r_2 node_body.sl.r_5
    simp only [read_store, readAt_all]
    try rfl
  have e16 : arg16.view.read (Elt F) (arg16.view.writes (Elt F) arg16.view.junk (node_body.sl.H16_1 arg0 X0)) = nFp (F := F) (arg0.view.read (Elt F) X0) := by
    delta node_body.sl.H16_1
    simp only [read_store, readAt_all]
    try rfl
  have e6 : node_body.sl.r_6 arg0 X0 = k0_pay33 (k0_pay23 (F := F) (arg0.view.read (Elt F) X0)) := by
    delta node_body.sl.r_6
    simp only [e0]
    try rfl
  have e7 : node_body.sl.r_7 arg0 X0 = k0_pay34 (F := F) (k0_pay23 (F := F) (arg0.view.read (Elt F) X0)) := by
    delta node_body.sl.r_7
    simp only [e0]
    try rfl
  have f8 : node_body.sl.r_8 arg0 arg1 arg2 arg3 arg12 arg13 arg14 X0 X1 X2 X3 = nAcc1 (arg0.view.read (Elt F) X0) (arg1.view.read (Elt F) X1) (arg2.view.read (Elt F) X2) (arg3.view.read (Elt F) X3) := by
    delta node_body.sl.r_8
    simp only [e12, e13, e14, t1]
    try rfl
  have f9 : node_body.sl.r_9 arg0 arg1 arg2 arg3 arg12 arg13 arg14 X0 X1 X2 X3 = k0_pay37 (nAcc1 (arg0.view.read (Elt F) X0) (arg1.view.read (Elt F) X1) (arg2.view.read (Elt F) X2) (arg3.view.read (Elt F) X3)) := by
    delta node_body.sl.r_9
    simp only [e12, e13, e14, t1]
    try rfl
  have f10 : node_body.sl.r_10 arg0 arg1 arg2 arg3 arg12 arg13 arg14 X0 X1 X2 X3 = k0_pay38 (nAcc1 (arg0.view.read (Elt F) X0) (arg1.view.read (Elt F) X1) (arg2.view.read (Elt F) X2) (arg3.view.read (Elt F) X3)) := by
    delta node_body.sl.r_10
    simp only [e12, e13, e14, t1]
    try rfl
  have f11 : node_body.sl.r_11 arg0 arg1 arg2 arg3 arg12 arg13 arg14 X0 X1 X2 X3 = k0_pay39 (nAcc1 (arg0.view.read (Elt F) X0) (arg1.view.read (Elt F) X1) (arg2.view.read (Elt F) X2) (arg3.view.read (Elt F) X3)) := by
    delta node_body.sl.r_11
    simp only [e12, e13, e14, t1]
    try rfl
  have g12 : node_body.sl.r_12 arg0 arg1 arg2 arg3 arg12 arg13 arg14 arg16 X0 X1 X2 X3 = nPrev (arg0.view.read (Elt F) X0) (arg1.view.read (Elt F) X1) (arg2.view.read (Elt F) X2) (arg3.view.read (Elt F) X3) := by
    delta node_body.sl.r_12 node_body.sl.v66
    simp only [e12, e13, e14, e16, f9, f11, t2]
    try rfl
  have g118 : node_body.sl.v118 arg0 arg1 arg2 arg3 arg7 arg12 arg13 arg14 X0 X1 X2 X3 = nDn (arg0.view.read (Elt F) X0) (arg1.view.read (Elt F) X1) (arg2.view.read (Elt F) X2) (arg3.view.read (Elt F) X3) := by
    delta node_body.sl.v118 node_body.sl.v66
    simp only [View.readCov, readAt_all, read_all, e12, e13, e14, f9, f11, t2]
    try rfl
  have g13 : node_body.sl.r_13 arg0 arg1 arg2 arg3 arg7 arg12 arg13 arg14 X0 X1 X2 X3 = k0_pay45 (nDn (arg0.view.read (Elt F) X0) (arg1.view.read (Elt F) X1) (arg2.view.read (Elt F) X2) (arg3.view.read (Elt F) X3)) := by
    delta node_body.sl.r_13
    simp only [g118]
    try rfl
  have g14 : node_body.sl.r_14 arg0 arg1 arg2 arg3 arg7 arg12 arg13 arg14 X0 X1 X2 X3 = k0_pay47 (k0_pay31 (F := F)) (nDn (arg0.view.read (Elt F) X0) (arg1.view.read (Elt F) X1) (arg2.view.read (Elt F) X2) (arg3.view.read (Elt F) X3)) := by
    delta node_body.sl.r_14
    simp only [g118]
    try rfl
  have g16 : node_body.sl.r_16 arg0 arg1 arg2 arg3 arg7 arg12 arg13 arg14 X0 X1 X2 X3 = k0_pay50 (k0_pay45 (nDn (arg0.view.read (Elt F) X0) (arg1.view.read (Elt F) X1) (arg2.view.read (Elt F) X2) (arg3.view.read (Elt F) X3))) := by
    delta node_body.sl.r_16
    simp only [g13]
    try rfl
  have g17 : node_body.sl.r_17 arg0 arg1 arg2 arg3 arg7 arg12 arg13 arg14 X0 X1 X2 X3 = k0_pay52 (k0_pay45 (nDn (arg0.view.read (Elt F) X0) (arg1.view.read (Elt F) X1) (arg2.view.read (Elt F) X2) (arg3.view.read (Elt F) X3))) := by
    delta node_body.sl.r_17
    simp only [g13]
    try rfl
  have g18 : node_body.sl.r_18 arg0 arg1 arg2 arg3 arg7 arg12 arg13 arg14 X0 X1 X2 X3 = nTop (arg0.view.read (Elt F) X0) (arg1.view.read (Elt F) X1) (arg2.view.read (Elt F) X2) (arg3.view.read (Elt F) X3) := by
    delta node_body.sl.r_18
    simp only [g13]
    try rfl
  have h17 : arg17.view.read (Elt F) (arg17.view.writes (Elt F) arg17.view.junk (node_body.sl.H17_1 arg0 arg1 arg2 arg3 arg7 arg12 arg13 arg14 X0 X1 X2 X3)) = nG1 (arg0.view.read (Elt F) X0) (arg1.view.read (Elt F) X1) (arg2.view.read (Elt F) X2) (arg3.view.read (Elt F) X3) := by
    delta node_body.sl.H17_1
    simp only [read_store, g14]
    try rfl
  have h18 : arg18.view.read (Elt F) (arg18.view.writes (Elt F) arg18.view.junk (node_body.sl.H18_1 arg0 arg1 arg2 arg3 arg7 arg12 arg13 arg14 X0 X1 X2 X3)) = nG2 (arg0.view.read (Elt F) X0) (arg1.view.read (Elt F) X1) (arg2.view.read (Elt F) X2) (arg3.view.read (Elt F) X3) := by
    delta node_body.sl.H18_1
    simp only [read_store, g13]
    try rfl
  have h19 : arg19.view.read (Elt F) (arg19.view.writes (Elt F) arg19.view.junk (node_body.sl.H19_1 arg0 arg1 arg2 arg3 arg7 arg12 arg13 arg14 X0 X1 X2 X3)) = nMx (arg0.view.read (Elt F) X0) (arg1.view.read (Elt F) X1) (arg2.view.read (Elt F) X2) (arg3.view.read (Elt F) X3) := by
    delta node_body.sl.H19_1
    simp only [read_store, g16, g17]
    try rfl
  isplitl [H0]; · iexact H0
  isplitl [H1]; · iexact H1
  isplitl [H2]; · iexact H2
  isplitl [H3]; · iexact H3
  isplitl [H4]
  · iexists _
    isplitl [H4]; · iexact H4
    ipureintro
    try delta node_body.sl.v66
    simp only [read_all, t2, e6, e7, f9, f11, e12, e13, e14]
    try rfl
  isplitl [H5]
  · iexists _
    isplitl [H5]; · iexact H5
    ipureintro
    try delta node_body.sl.v66
    simp only [read_all, t3, e6, e7, g12, g18, h17, h18, h19]
    try rfl
  isplitl [H6]
  · iexists _
    isplitl [H6]; · iexact H6
    ipureintro
    try delta node_body.sl.v66
    simp only [read_all, t3, e6, e7, g12, g18, h17, h18, h19]
    try rfl
  isplitl [H7]
  · iexists _
    isplitl [H7]; · iexact H7
    ipureintro
    try delta node_body.sl.v66
    simp only [read_all, t2, f9, f11, e12, e13, e14]
    try rfl
  isplitl [H8]
  · iexists _
    isplitl [H8]; · iexact H8
    ipureintro
    try delta node_body.sl.v66
    simp only [read_all, t3, e6, e7, g12, g18, h17, h18, h19]
    try rfl
  isplitl [H9]
  · iexists _
    isplitl [H9]; · iexact H9
    ipureintro
    try delta node_body.sl.v66
    simp only [View.writes_append, read_all, t2, f9, f11, e12, e13, e14]
    try rfl
  isplitl [H10]
  · iexists _
    isplitl [H10]; · iexact H10
    ipureintro
    try delta node_body.sl.v66
    simp only [View.writes_append, read_all, t2, f9, f11, e12, e13, e14]
    try rfl
  isplitl [H11]
  · iexists _
    isplitl [H11]; · iexact H11
    ipureintro
    try delta node_body.sl.v66
    simp only [View.writes_append, read_all, t2, f9, f11, e12, e13, e14]
    try rfl
  isplitl [H12]
  · iexists _
    isplitl [H12]; · iexact H12
    ipureintro
    try delta node_body.sl.v66
    simp only [View.writes_append, read_all, t2, f9, f11, e12, e13, e14]
    try rfl
  isplitl [H13]
  · iexists _
    isplitl [H13]; · iexact H13
    ipureintro
    try delta node_body.sl.v66
    simp only [View.writes_append, read_all, t2, f9, f11, e12, e13, e14]
    try rfl
  isplitl [H14]
  · iexists _
    isplitl [H14]; · iexact H14
    ipureintro
    try delta node_body.sl.v66
    simp only [View.writes_append, read_all, t2, f9, f11, e12, e13, e14]
    try rfl
  isplitl [H15]
  · iexists _
    isplitl [H15]; · iexact H15
    ipureintro
    try delta node_body.sl.H15_1
    simp only [read_store8, f8, f9, f10, f11]
    try rfl
  isplitl [H16]
  · iexists _; iexact H16
  isplitl [H17]
  · iexists _; iexact H17
  isplitl [H18]
  · iexists _; iexact H18
  · iexists _; iexact H19

end Cert.KernelIdeal.Own

end
-- ==== Proof.KI.NodeOwns.lean ====
module

public import proofs.«01_k».proof.Proof.KI.Node
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf RegionSeg HostSeg Seg)

variable {F : FTy → Type} [FloatOps F]

/-- The resource algebra of the run. -/
local notation "MM" => MT nD τ sig Unit (Elt F) ℕ (UR sig nD τ) ℕ

/-! The node body over memrefs held at their contents. -/

variable (arg0 : Memref sig .tc .vmem S100x1000 .i32) (harg0 : arg0.IsWhole)
variable (arg1 : Memref sig .tc .vmem S100x1000 .f32) (harg1 : arg1.IsWhole)
variable (arg2 : Memref sig .tc .vmem S100x1000 .f32) (harg2 : arg2.IsWhole)
variable (arg3 : Memref sig .tc .vmem S100x1000 .f32) (harg3 : arg3.IsWhole)
variable (arg4 : Memref sig .tc .vmem S100x1000 .f32) (harg4 : arg4.IsWhole)
variable (arg5 : Memref sig .tc .vmem S100x1000 .f32) (harg5 : arg5.IsWhole)
variable (arg6 : Memref sig .tc .vmem S100x1000 .f32) (harg6 : arg6.IsWhole)
variable (arg7 : Memref sig .tc .vmem S100x1000 .f32) (harg7 : arg7.IsWhole)
variable (arg8 : Memref sig .tc .vmem S100x1000 .f32) (harg8 : arg8.IsWhole)
variable (arg9 : Memref sig .tc .vmem S100x1000 .f32) (harg9 : arg9.IsWhole)
variable (arg10 : Memref sig .tc .vmem S100x1000 .f32) (harg10 : arg10.IsWhole)
variable (arg11 : Memref sig .tc .vmem S100x1000 .f32) (harg11 : arg11.IsWhole)
variable (arg12 : Memref sig .tc .vmem S100x1000 .f32) (harg12 : arg12.IsWhole)
variable (arg13 : Memref sig .tc .vmem S100x1000 .f32) (harg13 : arg13.IsWhole)
variable (arg14 : Memref sig .tc .vmem S100x1000 .f32) (harg14 : arg14.IsWhole)
variable (arg15 : Memref sig .tc .vmem S8x1000 .f32) (harg15 : arg15.IsWhole)
variable (arg16 : Memref sig .tc .vmem S100x1000 .f32) (harg16 : arg16.IsWhole)
variable (arg17 : Memref sig .tc .vmem S100x1000 .f32) (harg17 : arg17.IsWhole)
variable (arg18 : Memref sig .tc .vmem S100x1000 .f32) (harg18 : arg18.IsWhole)
variable (arg19 : Memref sig .tc .vmem S100x1000 .f32) (harg19 : arg19.IsWhole)

/-- A triple applied under a continuation. -/
theorem wp_use {α : Type} {𝒱 : Variants} {c : Dev nD} {E : Set ℕ} {p : Prog (TpuEff nD τ sig (Elt F) Λ₀ .tc) α} {P R : sProp MM} {Q : α → sProp MM}
    (h : P ⊢ wp frame (wpE (defs₀ (F := F)) 𝒱 (c : Thread nD τ) none) E p (fun _ => R)) :
    iprop(P ∗ (∀ a, R -∗ Q a)) ⊢ wp frame (wpE (defs₀ (F := F)) 𝒱 (c : Thread nD τ) none) E p Q :=
  (sep_mono h .rfl).trans (wp_wand_r _ _ _)

set_option maxHeartbeats 1000000 in
/-- The node body, each memref held at what it reads. -/
theorem node_owns (𝒱 : Variants) (c : Dev nD) (E : Set ℕ) (Y0 : S100x1000.Idx → Elt F .i32) (Y1 : S100x1000.Idx → Elt F .f32) (Y2 : S100x1000.Idx → Elt F .f32) (Y3 : S100x1000.Idx → Elt F .f32) :
    (iprop(owns (c : Thread nD τ) arg0 fullShare Y0 ∗ owns (c : Thread nD τ) arg1 fullShare Y1 ∗ owns (c : Thread nD τ) arg2 fullShare Y2 ∗ owns (c : Thread nD τ) arg3 fullShare Y3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) : sProp MM)
    ⊢ wp (M := MM) frame (wpE (defs₀ (F := F)) 𝒱 (c : Thread nD τ) none) E (cc0__node_kernel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop(owns (c : Thread nD τ) arg0 fullShare Y0 ∗ owns (c : Thread nD τ) arg1 fullShare Y1 ∗ owns (c : Thread nD τ) arg2 fullShare Y2 ∗ owns (c : Thread nD τ) arg3 fullShare Y3 ∗ owns (c : Thread nD τ) arg4 fullShare (nTn (F := F) Y0 Y1 Y2 Y3) ∗ owns (c : Thread nD τ) arg5 fullShare (nCd (F := F) Y0 Y1 Y2 Y3) ∗ owns (c : Thread nD τ) arg6 fullShare (nCm (F := F) Y0 Y1 Y2 Y3) ∗ owns (c : Thread nD τ) arg7 fullShare (nDn (F := F) Y0 Y1 Y2 Y3) ∗ owns (c : Thread nD τ) arg8 fullShare (nCx (F := F) Y0 Y1 Y2 Y3) ∗ owns (c : Thread nD τ) arg9 fullShare (nPx (F := F) Y0 Y1 Y2 Y3) ∗ owns (c : Thread nD τ) arg10 fullShare (nPy (F := F) Y0 Y1 Y2 Y3) ∗ owns (c : Thread nD τ) arg11 fullShare (nPz (F := F) Y0 Y1 Y2 Y3) ∗ owns (c : Thread nD τ) arg12 fullShare (nQx (F := F) Y0 Y1 Y2 Y3) ∗ owns (c : Thread nD τ) arg13 fullShare (nQy (F := F) Y0 Y1 Y2 Y3) ∗ owns (c : Thread nD τ) arg14 fullShare (nQz (F := F) Y0 Y1 Y2 Y3) ∗ owns (c : Thread nD τ) arg15 fullShare (nSeg (F := F) Y0 Y1 Y2 Y3) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d))) := by
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  subst hf0 hf1 hf2 hf3
  iapply (wp_use (node_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 𝒱 c none E f0 f1 f2 f3 f4 f5 f6 f7 f8 f9 f10 f11 f12 f13 f14 f15 f16 f17 f18 f19))
  isplitl [H0 H1 H2 H3 H4 H5 H6 H7 H8 H9 H10 H11 H12 H13 H14 H15 H16 H17 H18 H19]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  iintro %a ⟨H0, H1, H2, H3, ⟨%g4, H4, %hg4⟩, ⟨%g5, H5, %hg5⟩, ⟨%g6, H6, %hg6⟩, ⟨%g7, H7, %hg7⟩, ⟨%g8, H8, %hg8⟩, ⟨%g9, H9, %hg9⟩, ⟨%g10, H10, %hg10⟩, ⟨%g11, H11, %hg11⟩, ⟨%g12, H12, %hg12⟩, ⟨%g13, H13, %hg13⟩, ⟨%g14, H14, %hg14⟩, ⟨%g15, H15, %hg15⟩, ⟨%g16, H16⟩, ⟨%g17, H17⟩, ⟨%g18, H18⟩, ⟨%g19, H19⟩⟩
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; exact hg4
  isplitl [H5]; · iexists _; isplitr; swap; (· iexact H5); ipureintro; exact hg5
  isplitl [H6]; · iexists _; isplitr; swap; (· iexact H6); ipureintro; exact hg6
  isplitl [H7]; · iexists _; isplitr; swap; (· iexact H7); ipureintro; exact hg7
  isplitl [H8]; · iexists _; isplitr; swap; (· iexact H8); ipureintro; exact hg8
  isplitl [H9]; · iexists _; isplitr; swap; (· iexact H9); ipureintro; exact hg9
  isplitl [H10]; · iexists _; isplitr; swap; (· iexact H10); ipureintro; exact hg10
  isplitl [H11]; · iexists _; isplitr; swap; (· iexact H11); ipureintro; exact hg11
  isplitl [H12]; · iexists _; isplitr; swap; (· iexact H12); ipureintro; exact hg12
  isplitl [H13]; · iexists _; isplitr; swap; (· iexact H13); ipureintro; exact hg13
  isplitl [H14]; · iexists _; isplitr; swap; (· iexact H14); ipureintro; exact hg14
  isplitl [H15]; · iexists _; isplitr; swap; (· iexact H15); ipureintro; exact hg15
  isplitl [H16]; · iexists _; iexists _; isplitr; swap; (· iexact H16); ipureintro; rfl
  isplitl [H17]; · iexists _; iexists _; isplitr; swap; (· iexact H17); ipureintro; rfl
  isplitl [H18]; · iexists _; iexists _; isplitr; swap; (· iexact H18); ipureintro; rfl
  iexists _; iexists _; isplitr; swap; (· iexact H19); ipureintro; rfl

end Cert.KernelIdeal.Own

end
-- ==== Proof.KI.Edge.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.VecWindow
public import Idealize.ShloMosaic.Lib.Writes
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf RegionSeg HostSeg Seg)

variable {F : FTy → Type} [FloatOps F]

/-- The resource algebra of the run. -/
local notation "MM" => MT nD τ sig Unit (Elt F) ℕ (UR sig nD τ) ℕ

/-! The edge body: what it leaves in its block of eight rows, as a function of the two blocks it reads. -/

/-- The eight rows of a block of edges. -/
def eVal (v0 v2 : Vec F S16x6400 .f32) : FVec F S8x6400 .f32 := k1_pay1 v0 v2

/-- A load of a whole block. -/
theorem readAt_block {sig' : RefSig} {κ : Kind} {sp : Space} {e : EltTy} (v : View sig' κ sp S16x6400 e) (f : v.ty.Contents (Elt F)) :
    v.readAt (Elt F) (Rect.unit (s := S16x6400) ![0, 0] ![16, 6400] inb_S16x6400_S16x6400_0_0).toLoadRect f = v.read (Elt F) f :=
  View.readAt_full v f _

/-- A store of a whole block. -/
theorem read_store_block {sig' : RefSig} {κ : Kind} {sp : Space} {e : EltTy} (v : View sig' κ sp S8x6400 e) (f : v.ty.Contents (Elt F)) (w : S8x6400.Idx → Elt F e) :
    v.read (Elt F) (v.writes (Elt F) f [⟨Rect.unit (s := S8x6400) ![0, 0] ![8, 6400] inb_S8x6400_S8x6400_0_0, w⟩]) = w :=
  View.read_writes_full v f _ w []

variable (i : grid1.Coords)
variable (arg1 : Memref sig .tc .vmem S16x6400 .f32) (harg1 : arg1.IsWhole)
variable (arg2 : Memref sig .tc .vmem S16x6400 .f32) (harg2 : arg2.IsWhole)
variable (arg3 : Memref sig .tc .vmem S8x6400 .f32) (harg3 : arg3.IsWhole)

/-- The edge body runs, and leaves its eight rows. -/
theorem edge_body (𝒱 : Variants) (c : Dev nD) (bd : Option 𝒱.V) (E : Set ℕ) (X1 : BufTy.Contents (Elt F) arg1.view.ty) (X2 : BufTy.Contents (Elt F) arg2.view.ty) (G3 : BufTy.Contents (Elt F) arg3.view.ty) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} G3))
    ⊢ wp (M := MM) frame (wpE (defs₀ (F := F)) 𝒱 (c : Thread nD τ) bd) E (cc1__edge_kernel (F := F) i arg1 harg1 arg2 harg2 arg3 harg3)
      (fun _ => iprop((arg1.view.loc (c : Thread nD τ) ↦[arg1.view.set]{fullShare} X1) ∗ (arg2.view.loc (c : Thread nD τ) ↦[arg2.view.set]{fullShare} X2) ∗ (∃ f, (arg3.view.loc (c : Thread nD τ) ↦[arg3.view.set]{fullShare} f) ∗ ⌜arg3.view.read (Elt F) f = eVal (arg1.view.read (Elt F) X1) (arg2.view.read (Elt F) X2)⌝))) := by
  iintro ⟨H1, H2, H3⟩
  rw [cc1__edge_kernel_eq_skeleton]
  unfold cc1__edge_kernel_skel
  sl_exec
  sl_step
  isplitl [H1]; · iexact H1
  isplitl [H2]; · iexact H2
  iexists _
  isplitl [H3]; · iexact H3
  ipureintro
  refine (View.read_writes_full _ _ _ _ []).trans ?_
  delta edge_body.sl.r
  simp only [readAt_block]
  rfl

end Cert.KernelIdeal.Own

end
-- ==== Proof.KI.Region.lean ====
module

public import proofs.«01_k».proof.Proof.KI.NodeOwns
public import proofs.«01_k».proof.Proof.KI.Edge
public import proofs.«01_k».proof.Proof.Gen.KernelIdeal.Regions
public import proofs.«01_k».proof.Proof.Gen.KernelIdeal.Points
public import Idealize.ShloMosaic.Lib.Pipeline.Frame
public import Idealize.ShloMosaic.Lib.Pipeline.FrameBody
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf RegionSeg HostSeg Seg)

variable {F : FTy → Type} [FloatOps F]

/-- The resource algebra of the run. -/
local notation "MM" => MT nD τ sig Unit (Elt F) ℕ (UR sig nD τ) ℕ

/-! The two calls as regions of the launch: what each leaves in its arrays. -/

abbrev UU : Type := UR sig nD τ
/-- A valuation of the buffers of every core. -/
abbrev Vals (F : FTy → Type) : Type := (c : Dev nD) → (b : Ref sig .tc) → Buf (Elt F) ((c : Thread nD τ).loc b)
abbrev 𝒱₀ : Variants := Variants.none
/-- No core owes another anything. -/
abbrev L : GSem nD τ sig → Finset Unit := fun _ => ∅
abbrev lv : GSem nD τ sig → Unit → ℕ := fun _ _ => 0

section Node
variable (V : Vals F)
/-- Input 0 of the node call, as staged. -/
def sIn0 (c : Dev nD) : (cfg0.win 0).block.Idx → Elt F (cfg0.win 0).elt := ((cfg0.win 0).blk t0_0).view.read (Elt F) (V c main_v0)
/-- Input 1 of the node call, as staged. -/
def sIn1 (c : Dev nD) : (cfg0.win 1).block.Idx → Elt F (cfg0.win 1).elt := ((cfg0.win 1).blk t0_0).view.read (Elt F) (V c main_v3)
/-- Input 2 of the node call, as staged. -/
def sIn2 (c : Dev nD) : (cfg0.win 2).block.Idx → Elt F (cfg0.win 2).elt := ((cfg0.win 2).blk t0_0).view.read (Elt F) (V c main_v6)
/-- Input 3 of the node call, as staged. -/
def sIn3 (c : Dev nD) : (cfg0.win 3).block.Idx → Elt F (cfg0.win 3).elt := ((cfg0.win 3).blk t0_0).view.read (Elt F) (V c main_v9)
/-- The scoped buffers that the node call does not stage. -/
abbrev Φn (c : Dev nD) : sProp MM := Pipeline.scopedRest (Ix := Unit) (Name := ℕ) (U := UU) (Lvl := ℕ) (Val := Elt F) spec0 c

/-- The same, the scratch arrays apart. -/
def Φrest (c : Dev nD) : sProp MM := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))
theorem Φn_eq (c : Dev nD) : Φn (F := F) c = iprop((∃ f, owns (c : Thread nD τ) (Memref.whole cc0_scratch0) fullShare f) ∗ (∃ f, owns (c : Thread nD τ) (Memref.whole cc0_scratch1) fullShare f) ∗ (∃ f, owns (c : Thread nD τ) (Memref.whole cc0_scratch2) fullShare f) ∗ (∃ f, owns (c : Thread nD τ) (Memref.whole cc0_scratch3) fullShare f) ∗ Φrest c) := by
  unfold Φn
  rw [scopedRest0_eq]
  simp only [owns_whole]
  rfl

/-- The node call's data: the arrays on entry, and what the body leaves in each window. -/
def dat0 (c : Dev nD) : Dat τ (Elt F) Unit ℕ UU ℕ cfg0 c where
  A w := V c (Pipeline.arrRef spec0 w)
  after w _ := match w with
    | ⟨0, _⟩ => sIn0 V c
    | ⟨1, _⟩ => sIn1 V c
    | ⟨2, _⟩ => sIn2 V c
    | ⟨3, _⟩ => sIn3 V c
    | ⟨4, _⟩ => nTn (F := F) (sIn0 V c) (sIn1 V c) (sIn2 V c) (sIn3 V c)
    | ⟨5, _⟩ => nCd (F := F) (sIn0 V c) (sIn1 V c) (sIn2 V c) (sIn3 V c)
    | ⟨6, _⟩ => nCm (F := F) (sIn0 V c) (sIn1 V c) (sIn2 V c) (sIn3 V c)
    | ⟨7, _⟩ => nDn (F := F) (sIn0 V c) (sIn1 V c) (sIn2 V c) (sIn3 V c)
    | ⟨8, _⟩ => nCx (F := F) (sIn0 V c) (sIn1 V c) (sIn2 V c) (sIn3 V c)
    | ⟨9, _⟩ => nPx (F := F) (sIn0 V c) (sIn1 V c) (sIn2 V c) (sIn3 V c)
    | ⟨10, _⟩ => nPy (F := F) (sIn0 V c) (sIn1 V c) (sIn2 V c) (sIn3 V c)
    | ⟨11, _⟩ => nPz (F := F) (sIn0 V c) (sIn1 V c) (sIn2 V c) (sIn3 V c)
    | ⟨12, _⟩ => nQx (F := F) (sIn0 V c) (sIn1 V c) (sIn2 V c) (sIn3 V c)
    | ⟨13, _⟩ => nQy (F := F) (sIn0 V c) (sIn1 V c) (sIn2 V c) (sIn3 V c)
    | ⟨14, _⟩ => nQz (F := F) (sIn0 V c) (sIn1 V c) (sIn2 V c) (sIn3 V c)
    | ⟨15, _⟩ => nSeg (F := F) (sIn0 V c) (sIn1 V c) (sIn2 V c) (sIn3 V c)
    | ⟨_ + 16, h⟩ => absurd h (Nat.not_lt.mpr (Nat.le_add_left 16 _))
  Φ _ := Φn c
  q _ := fullShare
  owed _ := 0

theorem before0_0 (c : Dev nD) (d) : (dat0 V c).before 0 t0_0 d = sIn0 V c := by
  unfold Dat.before; rw [if_pos (by decide)]; rfl
theorem before0_1 (c : Dev nD) (d) : (dat0 V c).before 1 t0_0 d = sIn1 V c := by
  unfold Dat.before; rw [if_pos (by decide)]; rfl
theorem before0_2 (c : Dev nD) (d) : (dat0 V c).before 2 t0_0 d = sIn2 V c := by
  unfold Dat.before; rw [if_pos (by decide)]; rfl
theorem before0_3 (c : Dev nD) (d) : (dat0 V c).before 3 t0_0 d = sIn3 V c := by
  unfold Dat.before; rw [if_pos (by decide)]; rfl
theorem after0_0 (c : Dev nD) : (dat0 V c).after 0 t0_0 = sIn0 V c := by dsimp only [dat0]
theorem after0_1 (c : Dev nD) : (dat0 V c).after 1 t0_0 = sIn1 V c := by dsimp only [dat0]
theorem after0_2 (c : Dev nD) : (dat0 V c).after 2 t0_0 = sIn2 V c := by dsimp only [dat0]
theorem after0_3 (c : Dev nD) : (dat0 V c).after 3 t0_0 = sIn3 V c := by dsimp only [dat0]
theorem after0_4 (c : Dev nD) : (dat0 V c).after 4 t0_0 = nTn (F := F) (sIn0 V c) (sIn1 V c) (sIn2 V c) (sIn3 V c) := by dsimp only [dat0]
theorem after0_5 (c : Dev nD) : (dat0 V c).after 5 t0_0 = nCd (F := F) (sIn0 V c) (sIn1 V c) (sIn2 V c) (sIn3 V c) := by dsimp only [dat0]
theorem after0_6 (c : Dev nD) : (dat0 V c).after 6 t0_0 = nCm (F := F) (sIn0 V c) (sIn1 V c) (sIn2 V c) (sIn3 V c) := by dsimp only [dat0]
theorem after0_7 (c : Dev nD) : (dat0 V c).after 7 t0_0 = nDn (F := F) (sIn0 V c) (sIn1 V c) (sIn2 V c) (sIn3 V c) := by dsimp only [dat0]
theorem after0_8 (c : Dev nD) : (dat0 V c).after 8 t0_0 = nCx (F := F) (sIn0 V c) (sIn1 V c) (sIn2 V c) (sIn3 V c) := by dsimp only [dat0]
theorem after0_9 (c : Dev nD) : (dat0 V c).after 9 t0_0 = nPx (F := F) (sIn0 V c) (sIn1 V c) (sIn2 V c) (sIn3 V c) := by dsimp only [dat0]
theorem after0_10 (c : Dev nD) : (dat0 V c).after 10 t0_0 = nPy (F := F) (sIn0 V c) (sIn1 V c) (sIn2 V c) (sIn3 V c) := by dsimp only [dat0]
theorem after0_11 (c : Dev nD) : (dat0 V c).after 11 t0_0 = nPz (F := F) (sIn0 V c) (sIn1 V c) (sIn2 V c) (sIn3 V c) := by dsimp only [dat0]
theorem after0_12 (c : Dev nD) : (dat0 V c).after 12 t0_0 = nQx (F := F) (sIn0 V c) (sIn1 V c) (sIn2 V c) (sIn3 V c) := by dsimp only [dat0]
theorem after0_13 (c : Dev nD) : (dat0 V c).after 13 t0_0 = nQy (F := F) (sIn0 V c) (sIn1 V c) (sIn2 V c) (sIn3 V c) := by dsimp only [dat0]
theorem after0_14 (c : Dev nD) : (dat0 V c).after 14 t0_0 = nQz (F := F) (sIn0 V c) (sIn1 V c) (sIn2 V c) (sIn3 V c) := by dsimp only [dat0]
theorem after0_15 (c : Dev nD) : (dat0 V c).after 15 t0_0 = nSeg (F := F) (sIn0 V c) (sIn1 V c) (sIn2 V c) (sIn3 V c) := by dsimp only [dat0]

set_option maxHeartbeats 2000000 in
/-- The node body on its staged blocks. -/
theorem run0 (c : Dev nD) :
    iprop((dat0 V c).Φ t0_0.castSucc ∗ (dat0 V c).owesAt () t0_0.castSucc ∗ (∃ d, owns (c : Thread nD τ) (st0_0 t0_0) fullShare ((dat0 V c).before 0 t0_0 d)) ∗ (∃ d, owns (c : Thread nD τ) (st0_1 t0_0) fullShare ((dat0 V c).before 1 t0_0 d)) ∗ (∃ d, owns (c : Thread nD τ) (st0_2 t0_0) fullShare ((dat0 V c).before 2 t0_0 d)) ∗ (∃ d, owns (c : Thread nD τ) (st0_3 t0_0) fullShare ((dat0 V c).before 3 t0_0 d)) ∗ (∃ d, owns (c : Thread nD τ) (st0_4 t0_0) fullShare ((dat0 V c).before 4 t0_0 d)) ∗ (∃ d, owns (c : Thread nD τ) (st0_5 t0_0) fullShare ((dat0 V c).before 5 t0_0 d)) ∗ (∃ d, owns (c : Thread nD τ) (st0_6 t0_0) fullShare ((dat0 V c).before 6 t0_0 d)) ∗ (∃ d, owns (c : Thread nD τ) (st0_7 t0_0) fullShare ((dat0 V c).before 7 t0_0 d)) ∗ (∃ d, owns (c : Thread nD τ) (st0_8 t0_0) fullShare ((dat0 V c).before 8 t0_0 d)) ∗ (∃ d, owns (c : Thread nD τ) (st0_9 t0_0) fullShare ((dat0 V c).before 9 t0_0 d)) ∗ (∃ d, owns (c : Thread nD τ) (st0_10 t0_0) fullShare ((dat0 V c).before 10 t0_0 d)) ∗ (∃ d, owns (c : Thread nD τ) (st0_11 t0_0) fullShare ((dat0 V c).before 11 t0_0 d)) ∗ (∃ d, owns (c : Thread nD τ) (st0_12 t0_0) fullShare ((dat0 V c).before 12 t0_0 d)) ∗ (∃ d, owns (c : Thread nD τ) (st0_13 t0_0) fullShare ((dat0 V c).before 13 t0_0 d)) ∗ (∃ d, owns (c : Thread nD τ) (st0_14 t0_0) fullShare ((dat0 V c).before 14 t0_0 d)) ∗ (∃ d, owns (c : Thread nD τ) (st0_15 t0_0) fullShare ((dat0 V c).before 15 t0_0 d)))
    ⊢ wp frame (wpE (defs₀ (F := F)) 𝒱₀ (c : Thread nD τ) none) Set.univ (bodyAt0 t0_0) (fun _ =>
      iprop((dat0 V c).Φ t0_0.succ ∗ (dat0 V c).owesAt () t0_0.succ ∗ owns (c : Thread nD τ) (st0_0 t0_0) fullShare ((dat0 V c).after 0 t0_0) ∗ owns (c : Thread nD τ) (st0_1 t0_0) fullShare ((dat0 V c).after 1 t0_0) ∗ owns (c : Thread nD τ) (st0_2 t0_0) fullShare ((dat0 V c).after 2 t0_0) ∗ owns (c : Thread nD τ) (st0_3 t0_0) fullShare ((dat0 V c).after 3 t0_0) ∗ owns (c : Thread nD τ) (st0_4 t0_0) fullShare ((dat0 V c).after 4 t0_0) ∗ owns (c : Thread nD τ) (st0_5 t0_0) fullShare ((dat0 V c).after 5 t0_0) ∗ owns (c : Thread nD τ) (st0_6 t0_0) fullShare ((dat0 V c).after 6 t0_0) ∗ owns (c : Thread nD τ) (st0_7 t0_0) fullShare ((dat0 V c).after 7 t0_0) ∗ owns (c : Thread nD τ) (st0_8 t0_0) fullShare ((dat0 V c).after 8 t0_0) ∗ owns (c : Thread nD τ) (st0_9 t0_0) fullShare ((dat0 V c).after 9 t0_0) ∗ owns (c : Thread nD τ) (st0_10 t0_0) fullShare ((dat0 V c).after 10 t0_0) ∗ owns (c : Thread nD τ) (st0_11 t0_0) fullShare ((dat0 V c).after 11 t0_0) ∗ owns (c : Thread nD τ) (st0_12 t0_0) fullShare ((dat0 V c).after 12 t0_0) ∗ owns (c : Thread nD τ) (st0_13 t0_0) fullShare ((dat0 V c).after 13 t0_0) ∗ owns (c : Thread nD τ) (st0_14 t0_0) fullShare ((dat0 V c).after 14 t0_0) ∗ owns (c : Thread nD τ) (st0_15 t0_0) fullShare ((dat0 V c).after 15 t0_0))) := by
  rw [show (dat0 V c).Φ t0_0.castSucc = Φn c from rfl, show (dat0 V c).Φ t0_0.succ = Φn c from rfl,
    show (dat0 V c).owesAt () t0_0.succ = (dat0 V c).owesAt () t0_0.castSucc from rfl]
  simp only [before0_0, before0_1, before0_2, before0_3, after0_0, after0_1, after0_2, after0_3, after0_4, after0_5, after0_6, after0_7, after0_8, after0_9, after0_10, after0_11, after0_12, after0_13, after0_14, after0_15]
  rw [Φn_eq]
  iintro ⟨⟨S16, S17, S18, S19, Hrest⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (wp_use (node_owns (F := F) (st0_0 t0_0) (hstage0_0 0) (st0_1 t0_0) (hstage0_1 0) (st0_2 t0_0) (hstage0_2 0) (st0_3 t0_0) (hstage0_3 0) (st0_4 t0_0) (hstage0_4 0) (st0_5 t0_0) (hstage0_5 0) (st0_6 t0_0) (hstage0_6 0) (st0_7 t0_0) (hstage0_7 0) (st0_8 t0_0) (hstage0_8 0) (st0_9 t0_0) (hstage0_9 0) (st0_10 t0_0) (hstage0_10 0) (st0_11 t0_0) (hstage0_11 0) (st0_12 t0_0) (hstage0_12 0) (st0_13 t0_0) (hstage0_13 0) (st0_14 t0_0) (hstage0_14 0) (st0_15 t0_0) (hstage0_15 0) (Memref.whole cc0_scratch0) (Memref.isWhole_whole _) (Memref.whole cc0_scratch1) (Memref.isWhole_whole _) (Memref.whole cc0_scratch2) (Memref.isWhole_whole _) (Memref.whole cc0_scratch3) (Memref.isWhole_whole _) 𝒱₀ c Set.univ (sIn0 V c) (sIn1 V c) (sIn2 V c) (sIn3 V c)))
  isplitl [H0 H1 H2 H3 H4 H5 H6 H7 H8 H9 H10 H11 H12 H13 H14 H15 S16 S17 S18 S19]
  · isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [S16]; · iexact S16
    isplitl [S17]; · iexact S17
    isplitl [S18]; · iexact S18
    iexact S19
  iintro %a ⟨H0, H1, H2, H3, H4, H5, H6, H7, H8, H9, H10, H11, H12, H13, H14, H15, S16, S17, S18, S19⟩
  isplitl [S16 S17 S18 S19 Hrest]
  · isplitl [S16]; · iexact S16
    isplitl [S17]; · iexact S17
    isplitl [S18]; · iexact S18
    isplitl [S19]; · iexact S19
    iexact Hrest
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row is the body. -/
theorem row0 (t : Fin cfg0.N) : defs₀ (F := F) .tc cfg0.body (cfg0.bodyArgs t (cfg0.slots t)) = bodyAt0 t := by
  unfold defs₀; rw [Defs.onTc_tc]

/-- The node body meets its obligation. -/
theorem body0 (c : Dev nD) : BodyObligation (dat0 V c) (defs₀ (F := F)) 𝒱₀ () Set.univ := fun t => by
  obtain rfl := fin_N0 t
  rw [bigSep_W0, bigSep_W0, row0]
  exact triple_restated (run0 V c) rfl .rfl fun _ => .rfl
end Node

section EdgeCall
variable (V : Vals F)
/-- The block of input 0 of the edge call at a point. -/
def eIn0 (c : Dev nD) (t : Fin cfg1.N) : (cfg1.win 0).block.Idx → Elt F (cfg1.win 0).elt := ((cfg1.win 0).blk t).view.read (Elt F) (V c main_v30)
/-- The block of input 1 of the edge call at a point. -/
def eIn1 (c : Dev nD) (t : Fin cfg1.N) : (cfg1.win 1).block.Idx → Elt F (cfg1.win 1).elt := ((cfg1.win 1).blk t).view.read (Elt F) (V c main_v31)

/-- The edge call's data. -/
def dat1 (c : Dev nD) : Dat τ (Elt F) Unit ℕ UU ℕ cfg1 c where
  A w := V c (Pipeline.arrRef spec1 w)
  after w t := match w with
    | ⟨0, _⟩ => eIn0 V c t
    | ⟨1, _⟩ => eIn1 V c t
    | ⟨2, _⟩ => eVal (F := F) (eIn0 V c t) (eIn1 V c t)
  Φ _ := Pipeline.scopedRest (Ix := Unit) (Name := ℕ) (U := UU) (Lvl := ℕ) (Val := Elt F) spec1 c
  q _ := fullShare
  owed _ := 0

theorem before1_0 (c : Dev nD) (t) (d) : (dat1 V c).before 0 t d = eIn0 V c t := by
  rw [Dat.before_fetched _ _ _ (fetch1_0 t)]; unfold Dat.fetched Dat.blockOf; dsimp only [dat1]; rfl
theorem before1_1 (c : Dev nD) (t) (d) : (dat1 V c).before 1 t d = eIn1 V c t := by
  rw [Dat.before_fetched _ _ _ (fetch1_1 t)]; unfold Dat.fetched Dat.blockOf; dsimp only [dat1]; rfl
theorem after1_0 (c : Dev nD) (t) : (dat1 V c).after 0 t = eIn0 V c t := by dsimp only [dat1]
theorem after1_1 (c : Dev nD) (t) : (dat1 V c).after 1 t = eIn1 V c t := by dsimp only [dat1]
theorem after1_2 (c : Dev nD) (t) : (dat1 V c).after 2 t = eVal (F := F) (eIn0 V c t) (eIn1 V c t) := by dsimp only [dat1]

/-- The edge body on its staged blocks. -/
theorem run1 (c : Dev nD) (t : Fin cfg1.N) :
    iprop((dat1 V c).Φ t.castSucc ∗ (dat1 V c).owesAt () t.castSucc ∗ (∃ d, owns (c : Thread nD τ) (st1_0 t) fullShare ((dat1 V c).before 0 t d)) ∗ (∃ d, owns (c : Thread nD τ) (st1_1 t) fullShare ((dat1 V c).before 1 t d)) ∗ (∃ d, owns (c : Thread nD τ) (st1_2 t) fullShare ((dat1 V c).before 2 t d)))
    ⊢ wp frame (wpE (defs₀ (F := F)) 𝒱₀ (c : Thread nD τ) none) Set.univ (bodyAt1 t) (fun _ =>
      iprop((dat1 V c).Φ t.succ ∗ (dat1 V c).owesAt () t.succ ∗ owns (c : Thread nD τ) (st1_0 t) fullShare ((dat1 V c).after 0 t) ∗ owns (c : Thread nD τ) (st1_1 t) fullShare ((dat1 V c).after 1 t) ∗ owns (c : Thread nD τ) (st1_2 t) fullShare ((dat1 V c).after 2 t))) := by
  rw [show (dat1 V c).Φ t.succ = (dat1 V c).Φ t.castSucc from rfl,
    show (dat1 V c).owesAt () t.succ = (dat1 V c).owesAt () t.castSucc from rfl]
  simp only [before1_0, before1_1, after1_0, after1_1, after1_2]
  unfold owns
  iintro ⟨HΦ, Howes, ⟨%d0, %f0, %hf0, H0⟩, ⟨%d1, %f1, %hf1, H1⟩, ⟨%d2, %f2, -, H2⟩⟩
  rw [← hf0, ← hf1]
  iapply (wp_use (edge_body (F := F) (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) 𝒱₀ c none Set.univ f0 f1 f2))
  isplitl [H0 H1 H2]
  · isplitl [H0]; · iexact H0
    isplitl [H1]; · iexact H1
    iexact H2
  iintro %a ⟨H0, H1, ⟨%g2, H2, %hg2⟩⟩
  isplitl [HΦ]; · iexact HΦ
  isplitl [Howes]; · iexact Howes
  isplitl [H0]; · iexists _; isplitr; swap; (· iexact H0); ipureintro; rfl
  isplitl [H1]; · iexists _; isplitr; swap; (· iexact H1); ipureintro; rfl
  iexists _; isplitr; swap; (· iexact H2); ipureintro; exact hg2

theorem row1 (t : Fin cfg1.N) : defs₀ (F := F) .tc cfg1.body (cfg1.bodyArgs t (cfg1.slots t)) = bodyAt1 t := by
  unfold defs₀; rw [Defs.onTc_tc]

/-- The edge body meets its obligation at every point. -/
theorem body1 (c : Dev nD) : BodyObligation (dat1 V c) (defs₀ (F := F)) 𝒱₀ () Set.univ := fun t => by
  rw [bigSep_W1, bigSep_W1, row1]
  exact triple_restated (run1 V c t) rfl .rfl fun _ => .rfl
end EdgeCall

end Cert.KernelIdeal.Own

end
-- ==== Proof.KI.Calls.lean ====
module

public import proofs.«01_k».proof.Proof.KI.Region
public import Idealize.ShloMosaic.Lib.Pipeline.RegionsLoop
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf RegionSeg HostSeg Seg)

variable {F : FTy → Type} [FloatOps F]

/-- The resource algebra of the run. -/
local notation "MM" => MT nD τ sig Unit (Elt F) ℕ (UR sig nD τ) ℕ

/-! The whole program's run: every buffer at the end, from the launch contents. -/

/-- The two calls' data, each at its entry valuation. -/
def pdats (VA VB : Vals F) : (p : Fin 2) → (c : Dev nD) → Dat τ (Elt F) Unit ℕ UU ℕ (cfgs p) c
  | ⟨0, _⟩ => fun c => dat0 VA c
  | ⟨1, _⟩ => fun c => dat1 VB c

/-- The windows that a call writes, apart from those it reads. -/
theorem ref0_ne : ∀ w w' : Fin 16, w.val < 4 → 4 ≤ w'.val → Pipeline.arrRef spec0 w ≠ Pipeline.arrRef spec0 w' := by decide
theorem ref1_ne : ∀ w : Fin 3, w.val < 2 → Pipeline.arrRef spec1 w ≠ main_v32 := by decide

variable (VA VB Vp : Vals F)

theorem in0 : ∀ w : Fin 16, w.val < 4 → (spec0 w).isOut = false := by decide

set_option maxHeartbeats 1000000 in
set_option backward.isDefEq.respectTransparency.types false in
/-- The node call as a region: entered with every buffer at its entry valuation, left with its results in place. -/
def reg0 (hVp_out : ∀ (c : Dev nD) (w : Fin 16), 4 ≤ w.val → Vp c (Pipeline.arrRef spec0 w) = (dat0 VA c).arrAt w cfg0.N)
    (hVp_ne : ∀ (c : Dev nD) (b : Ref sig .tc), (∀ w : Fin 16, 4 ≤ w.val → b ≠ Pipeline.arrRef spec0 w) → Vp c b = VA c b) :
    RegionSeg (pcfgs (F := F)) adm (pdats VA VB) () defs₀ 𝒱₀ L lv 0 where
  win := launch0.win.to₀
  block_pos := launch0.block_pos
  stage_whole := launch0.stage_whole
  K := PEmpty
  osem k := k.elim
  ho := Pipeline.OwnSemFacts.none _
  hbody c := (body0 VA c).loose
  hwaits := Pipeline.hwaits_of_owed_zero _ _ _ _ L lv 0 fun _ _ => rfl
  pre c := iprop(unscopedBufs c (VA c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UU) (Lvl := ℕ) spec0 c (VA c)
  hentry c := by
    rw [Pipeline.ownSems0_none]
    have hsplit := Pipeline.arrays_of_unscopedBufs (p := 0) (pcfgs (F := F)) adm (pdats VA VB) launch0.win launch0.arr_whole c
      ((pdats VA VB 0 c).share_full fun _ => rfl) (VA c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats VA VB 0 c).Φ 0 = Φn c from rfl]
    iintro ⟨-, -, Hr⟩; iexact Hr
  hout c := by
    rw [Pipeline.ownSems0_none, show (pdats VA VB 0 c).Φ (Fin.last _) = Φn c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats VA VB) ((pdats VA VB 0 c).share_full fun _ => rfl) (VA c) (Vp c) ((pdats VA VB 0 c).arrAt · cfg0.N)
      (fun w => by
        by_cases hw : 4 ≤ w.val
        · exact (hVp_out c w hw).symm
        · exact ((pdats VA VB 0 c).arrAt_in w (in0 w (not_le.mp hw)) _).trans (hVp_ne c _ fun w' h' => ref0_ne w w' (not_le.mp hw) h').symm)
      (fun b hb => hVp_ne c b fun w' _ h => hb (h ▸ Finset.mem_image.mpr ⟨w', Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option maxHeartbeats 1000000 in
set_option backward.isDefEq.respectTransparency.types false in
/-- The edge call as a region: entered with every buffer at its entry valuation, left with its results in place. -/
def reg1 (hVp_out : ∀ c : Dev nD, Vp c main_v32 = (dat1 VB c).arrAt 2 cfg1.N)
    (hVp_ne : ∀ (c : Dev nD) (b : Ref sig .tc), b ≠ main_v32 → Vp c b = VB c b) :
    RegionSeg (pcfgs (F := F)) adm (pdats VA VB) () defs₀ 𝒱₀ L lv 1 where
  win := launch1.win.to₀
  block_pos := launch1.block_pos
  stage_whole := launch1.stage_whole
  K := PEmpty
  osem k := k.elim
  ho := Pipeline.OwnSemFacts.none _
  hbody c := (body1 VB c).loose
  hwaits := Pipeline.hwaits_of_owed_zero _ _ _ _ L lv 1 fun _ _ => rfl
  pre c := iprop(unscopedBufs c (VB c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UU) (Lvl := ℕ) spec1 c (VB c)
  hentry c := by
    rw [Pipeline.ownSems0_none]
    have hsplit := Pipeline.arrays_of_unscopedBufs (p := 1) (pcfgs (F := F)) adm (pdats VA VB) launch1.win launch1.arr_whole c
      ((pdats VA VB 1 c).share_full fun _ => rfl) (VB c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats VA VB 1 c).Φ 0 = Pipeline.scopedRest (Ix := Unit) (Name := ℕ) (U := UU) (Lvl := ℕ) (Val := Elt F) spec1 c from rfl]
    iintro ⟨-, -, Hr⟩; iexact Hr
  hout c := by
    rw [Pipeline.ownSems0_none, show (pdats VA VB 1 c).Φ (Fin.last _) = Pipeline.scopedRest (Ix := Unit) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) launch1.win launch1.arr_whole c
      (pdats VA VB) ((pdats VA VB 1 c).share_full fun _ => rfl) (VB c) (Vp c) ((pdats VA VB 1 c).arrAt · cfg1.N)
      (fun w => by
        fin_cases w
        · exact ((pdats VA VB 1 c).arrAt_in 0 rfl _).trans (hVp_ne c _ (ref1_ne 0 (by decide))).symm
        · exact ((pdats VA VB 1 c).arrAt_in 1 rfl _).trans (hVp_ne c _ (ref1_ne 1 (by decide))).symm
        · exact (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Own

end
-- ==== Proof.KI.Outs.lean ====
module

public import proofs.«01_k».proof.Proof.KI.Region
public import Idealize.ShloMosaic.Lib.Pipeline.RegionsLoop
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf RegionSeg HostSeg Seg)

variable {F : FTy → Type} [FloatOps F]

/-- The resource algebra of the run. -/
local notation "MM" => MT nD τ sig Unit (Elt F) ℕ (UR sig nD τ) ℕ

/-! What the two calls leave, and every buffer after them. -/

variable (m : (ℓ : Loc nD τ sig) → Buf (Elt F) ℓ)
/-- Every buffer on entry to the node call. -/
def VA1 : Vals F := fun c b => V1 m c b
/-- What the node call leaves. -/
def out2 (r : Ref sig .tc) (c : Dev nD) : Buf (Elt F) ((c : Thread nD τ).loc r) :=
  (Function.update (Function.update (Function.update (Function.update (Function.update (Function.update (Function.update (Function.update (Function.update (Function.update (Function.update (Function.update (VA1 m c) main_v10_0 ((dat0 (VA1 m) c).arrAt 4 cfg0.N)) main_v10_1 ((dat0 (VA1 m) c).arrAt 5 cfg0.N)) main_v10_2 ((dat0 (VA1 m) c).arrAt 6 cfg0.N)) main_v10_3 ((dat0 (VA1 m) c).arrAt 7 cfg0.N)) main_v10_4 ((dat0 (VA1 m) c).arrAt 8 cfg0.N)) main_v10_5 ((dat0 (VA1 m) c).arrAt 9 cfg0.N)) main_v10_6 ((dat0 (VA1 m) c).arrAt 10 cfg0.N)) main_v10_7 ((dat0 (VA1 m) c).arrAt 11 cfg0.N)) main_v10_8 ((dat0 (VA1 m) c).arrAt 12 cfg0.N)) main_v10_9 ((dat0 (VA1 m) c).arrAt 13 cfg0.N)) main_v10_10 ((dat0 (VA1 m) c).arrAt 14 cfg0.N)) main_v10_11 ((dat0 (VA1 m) c).arrAt 15 cfg0.N)) r
/-- Every buffer on entry to the edge call. -/
def VB5 : Vals F := fun c b => V5 m (fun _ r c => out2 m r c) c b
/-- What the two calls leave. -/
def outs : Outs (F := F) := fun J r c =>
  if J = 6 then (Function.update (VB5 m c) main_v32 ((dat1 (VB5 m) c).arrAt 2 cfg1.N)) r else out2 m r c

theorem outs_2 (r : Ref sig .tc) (c : Dev nD) : outs m 2 r c = out2 m r c := if_neg (by decide)
theorem outs_6 (r : Ref sig .tc) (c : Dev nD) : outs m 6 r c = (Function.update (VB5 m c) main_v32 ((dat1 (VB5 m) c).arrAt 2 cfg1.N)) r := if_pos rfl

theorem V2_outs (c : Dev nD) : V2 m (outs m) c = V2 m (fun _ r c => out2 m r c) c := by
  unfold V2
  simp only [outs_2]
theorem V5_outs (c : Dev nD) : V5 m (outs m) c = V5 m (fun _ r c => out2 m r c) c := by
  unfold V5 V4 V3
  rw [V2_outs]

theorem V2_main_v10_0 (c : Dev nD) : V2 m (outs m) c main_v10_0 = (dat0 (VA1 m) c).arrAt 4 cfg0.N := by
  have h : out2 m main_v10_0 c = (dat0 (VA1 m) c).arrAt 4 cfg0.N := by
    unfold out2
    rw [Function.update_of_ne (by decide)]
    rw [Function.update_of_ne (by decide)]
    rw [Function.update_of_ne (by decide)]
    rw [Function.update_of_ne (by decide)]
    rw [Function.update_of_ne (by decide)]
    rw [Function.update_of_ne (by decide)]
    rw [Function.update_of_ne (by decide)]
    rw [Function.update_of_ne (by decide)]
    rw [Function.update_of_ne (by decide)]
    rw [Function.update_of_ne (by decide)]
    rw [Function.update_of_ne (by decide)]
    rw [Function.update_self]
  rw [← h, ← outs_2]
  unfold V2
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_self]

theorem V2_main_v10_1 (c : Dev nD) : V2 m (outs m) c main_v10_1 = (dat0 (VA1 m) c).arrAt 5 cfg0.N := by
  have h : out2 m main_v10_1 c = (dat0 (VA1 m) c).arrAt 5 cfg0.N := by
    unfold out2
    rw [Function.update_of_ne (by decide)]
    rw [Function.update_of_ne (by decide)]
    rw [Function.update_of_ne (by decide)]
    rw [Function.update_of_ne (by decide)]
    rw [Function.update_of_ne (by decide)]
    rw [Function.update_of_ne (by decide)]
    rw [Function.update_of_ne (by decide)]
    rw [Function.update_of_ne (by decide)]
    rw [Function.update_of_ne (by decide)]
    rw [Function.update_of_ne (by decide)]
    rw [Function.update_self]
  rw [← h, ← outs_2]
  unfold V2
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_self]

theorem V2_main_v10_2 (c : Dev nD) : V2 m (outs m) c main_v10_2 = (dat0 (VA1 m) c).arrAt 6 cfg0.N := by
  have h : out2 m main_v10_2 c = (dat0 (VA1 m) c).arrAt 6 cfg0.N := by
    unfold out2
    rw [Function.update_of_ne (by decide)]
    rw [Function.update_of_ne (by decide)]
    rw [Function.update_of_ne (by decide)]
    rw [Function.update_of_ne (by decide)]
    rw [Function.update_of_ne (by decide)]
    rw [Function.update_of_ne (by decide)]
    rw [Function.update_of_ne (by decide)]
    rw [Function.update_of_ne (by decide)]
    rw [Function.update_of_ne (by decide)]
    rw [Function.update_self]
  rw [← h, ← outs_2]
  unfold V2
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_self]

theorem V2_main_v10_3 (c : Dev nD) : V2 m (outs m) c main_v10_3 = (dat0 (VA1 m) c).arrAt 7 cfg0.N := by
  have h : out2 m main_v10_3 c = (dat0 (VA1 m) c).arrAt 7 cfg0.N := by
    unfold out2
    rw [Function.update_of_ne (by decide)]
    rw [Function.update_of_ne (by decide)]
    rw [Function.update_of_ne (by decide)]
    rw [Function.update_of_ne (by decide)]
    rw [Function.update_of_ne (by decide)]
    rw [Function.update_of_ne (by decide)]
    rw [Function.update_of_ne (by decide)]
    rw [Function.update_of_ne (by decide)]
    rw [Function.update_self]
  rw [← h, ← outs_2]
  unfold V2
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_self]

theorem V2_main_v10_4 (c : Dev nD) : V2 m (outs m) c main_v10_4 = (dat0 (VA1 m) c).arrAt 8 cfg0.N := by
  have h : out2 m main_v10_4 c = (dat0 (VA1 m) c).arrAt 8 cfg0.N := by
    unfold out2
    rw [Function.update_of_ne (by decide)]
    rw [Function.update_of_ne (by decide)]
    rw [Function.update_of_ne (by decide)]
    rw [Function.update_of_ne (by decide)]
    rw [Function.update_of_ne (by decide)]
    rw [Function.update_of_ne (by decide)]
    rw [Function.update_of_ne (by decide)]
    rw [Function.update_self]
  rw [← h, ← outs_2]
  unfold V2
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_self]

theorem V2_main_v10_5 (c : Dev nD) : V2 m (outs m) c main_v10_5 = (dat0 (VA1 m) c).arrAt 9 cfg0.N := by
  have h : out2 m main_v10_5 c = (dat0 (VA1 m) c).arrAt 9 cfg0.N := by
    unfold out2
    rw [Function.update_of_ne (by decide)]
    rw [Function.update_of_ne (by decide)]
    rw [Function.update_of_ne (by decide)]
    rw [Function.update_of_ne (by decide)]
    rw [Function.update_of_ne (by decide)]
    rw [Function.update_of_ne (by decide)]
    rw [Function.update_self]
  rw [← h, ← outs_2]
  unfold V2
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_self]

theorem V2_main_v10_6 (c : Dev nD) : V2 m (outs m) c main_v10_6 = (dat0 (VA1 m) c).arrAt 10 cfg0.N := by
  have h : out2 m main_v10_6 c = (dat0 (VA1 m) c).arrAt 10 cfg0.N := by
    unfold out2
    rw [Function.update_of_ne (by decide)]
    rw [Function.update_of_ne (by decide)]
    rw [Function.update_of_ne (by decide)]
    rw [Function.update_of_ne (by decide)]
    rw [Function.update_of_ne (by decide)]
    rw [Function.update_self]
  rw [← h, ← outs_2]
  unfold V2
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_self]

theorem V2_main_v10_7 (c : Dev nD) : V2 m (outs m) c main_v10_7 = (dat0 (VA1 m) c).arrAt 11 cfg0.N := by
  have h : out2 m main_v10_7 c = (dat0 (VA1 m) c).arrAt 11 cfg0.N := by
    unfold out2
    rw [Function.update_of_ne (by decide)]
    rw [Function.update_of_ne (by decide)]
    rw [Function.update_of_ne (by decide)]
    rw [Function.update_of_ne (by decide)]
    rw [Function.update_self]
  rw [← h, ← outs_2]
  unfold V2
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_self]

theorem V2_main_v10_8 (c : Dev nD) : V2 m (outs m) c main_v10_8 = (dat0 (VA1 m) c).arrAt 12 cfg0.N := by
  have h : out2 m main_v10_8 c = (dat0 (VA1 m) c).arrAt 12 cfg0.N := by
    unfold out2
    rw [Function.update_of_ne (by decide)]
    rw [Function.update_of_ne (by decide)]
    rw [Function.update_of_ne (by decide)]
    rw [Function.update_self]
  rw [← h, ← outs_2]
  unfold V2
  rw [Function.update_of_ne (StableHlo.devRef_ne_of_ne (by decide))]
  rw [Function.update_of_ne (StableHlo.devRef_ne_of_ne (by decide))]
  rw [Function.update_of_ne (StableHlo.devRef_ne_of_ne (by decide))]
  rw [Function.update_self]

theorem V2_main_v10_9 (c : Dev nD) : V2 m (outs m) c main_v10_9 = (dat0 (VA1 m) c).arrAt 13 cfg0.N := by
  have h : out2 m main_v10_9 c = (dat0 (VA1 m) c).arrAt 13 cfg0.N := by
    unfold out2
    rw [Function.update_of_ne (by decide)]
    rw [Function.update_of_ne (by decide)]
    rw [Function.update_self]
  rw [← h, ← outs_2]
  unfold V2
  rw [Function.update_of_ne (StableHlo.devRef_ne_of_ne (by decide))]
  rw [Function.update_of_ne (StableHlo.devRef_ne_of_ne (by decide))]
  rw [Function.update_self]

theorem V2_main_v10_10 (c : Dev nD) : V2 m (outs m) c main_v10_10 = (dat0 (VA1 m) c).arrAt 14 cfg0.N := by
  have h : out2 m main_v10_10 c = (dat0 (VA1 m) c).arrAt 14 cfg0.N := by
    unfold out2
    rw [Function.update_of_ne (by decide)]
    rw [Function.update_self]
  rw [← h, ← outs_2]
  unfold V2
  rw [Function.update_of_ne (StableHlo.devRef_ne_of_ne (by decide))]
  rw [Function.update_self]

theorem V2_main_v10_11 (c : Dev nD) : V2 m (outs m) c main_v10_11 = (dat0 (VA1 m) c).arrAt 15 cfg0.N := by
  have h : out2 m main_v10_11 c = (dat0 (VA1 m) c).arrAt 15 cfg0.N := by
    unfold out2
    rw [Function.update_self]
  rw [← h, ← outs_2]
  unfold V2
  rw [Function.update_self]

theorem V2_out (c : Dev nD) : ∀ (w : Fin 16), 4 ≤ w.val → V2 m (outs m) c (Pipeline.arrRef spec0 w) = (dat0 (VA1 m) c).arrAt w cfg0.N
  | ⟨0, _⟩, hw | ⟨1, _⟩, hw | ⟨2, _⟩, hw | ⟨3, _⟩, hw => absurd hw (by dsimp only; decide)
  | ⟨4, _⟩, _ => V2_main_v10_0 m c
  | ⟨5, _⟩, _ => V2_main_v10_1 m c
  | ⟨6, _⟩, _ => V2_main_v10_2 m c
  | ⟨7, _⟩, _ => V2_main_v10_3 m c
  | ⟨8, _⟩, _ => V2_main_v10_4 m c
  | ⟨9, _⟩, _ => V2_main_v10_5 m c
  | ⟨10, _⟩, _ => V2_main_v10_6 m c
  | ⟨11, _⟩, _ => V2_main_v10_7 m c
  | ⟨12, _⟩, _ => V2_main_v10_8 m c
  | ⟨13, _⟩, _ => V2_main_v10_9 m c
  | ⟨14, _⟩, _ => V2_main_v10_10 m c
  | ⟨15, _⟩, _ => V2_main_v10_11 m c
  | ⟨_ + 16, h⟩, _ => absurd h (Nat.not_lt.mpr (Nat.le_add_left 16 _))

theorem V2_ne (c : Dev nD) (b : Ref sig .tc) (h : ∀ w : Fin 16, 4 ≤ w.val → b ≠ Pipeline.arrRef spec0 w) : V2 m (outs m) c b = VA1 m c b := by
  refine V2_of m (outs m) c b ?_
  simp only [List.mem_cons, List.not_mem_nil, or_false, not_or]
  exact ⟨h 4 (by decide), h 5 (by decide), h 6 (by decide), h 7 (by decide), h 8 (by decide), h 9 (by decide), h 10 (by decide), h 11 (by decide), h 12 (by decide), h 13 (by decide), h 14 (by decide), h 15 (by decide)⟩

theorem V6_out (c : Dev nD) : V6 m (outs m) c main_v32 = (dat1 (VB5 m) c).arrAt 2 cfg1.N := by
  unfold V6
  rw [Function.update_self, outs_6, Function.update_self]

theorem V6_ne (c : Dev nD) (b : Ref sig .tc) (h : b ≠ main_v32) : V6 m (outs m) c b = VB5 m c b :=
  (V6_of m (outs m) c b (by simpa using h)).trans (congrFun (V5_outs m c) b)

end Cert.KernelIdeal.Own

end
-- ==== Proof.KI.Run.lean ====
module

public import proofs.«01_k».proof.Proof.KI.Calls
public import proofs.«01_k».proof.Proof.KI.Outs
public import proofs.«01_k».proof.Proof.KI.Region
public import Idealize.ShloMosaic.Lib.Pipeline.RegionsLoop
public import Idealize.ShloMosaic.Lib.Pipeline.Kit
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf RegionSeg HostSeg Seg)

variable {F : FTy → Type} [FloatOps F]

/-- The resource algebra of the run. -/
local notation "MM" => MT nD τ sig Unit (Elt F) ℕ (UR sig nD τ) ℕ

/-! The whole program's run: every buffer at the end. -/

variable (m : (ℓ : Loc nD τ sig) → Buf (Elt F) ℓ)
/-- Nothing is owed between the items. -/
def EE (_ : Fin 3) (c : Dev nD) : sProp MM := iprop(∃ W, owes (c : Thread nD τ) (0 : CellTallies nD τ sig Unit) W)

/-- The node call in the program. -/
def R0 := reg0 (VA1 m) (VB5 m) (fun c b => V2 m (outs m) c b) (V2_out m) (V2_ne m)
/-- The edge call in the program. -/
def R1 := reg1 (VA1 m) (VB5 m) (fun c b => V6 m (outs m) c b) (V6_out m) (V6_ne m)

theorem pre0 (c : Dev nD) : iprop(StableHlo.held (c : Thread nD τ) (Pipeline.ucRefs τ sig) (V1 m c) ∗ EE (F := F) 0 c) ⊢ (R0 m).pre c := by
  rw [← Pipeline.unscopedBufs_held]; exact .rfl
theorem post0 (c : Dev nD) : (R0 m).post c ⊢ iprop(StableHlo.held (c : Thread nD τ) (Pipeline.ucRefs τ sig) (V2 m (outs m) c) ∗ EE (F := F) 1 c) := by
  rw [← Pipeline.unscopedBufs_held]; exact .rfl
theorem pre1 (c : Dev nD) : iprop(StableHlo.held (c : Thread nD τ) (Pipeline.ucRefs τ sig) (V5 m (outs m) c) ∗ EE (F := F) 1 c) ⊢ (R1 m).pre c := by
  rw [V5_outs, ← Pipeline.unscopedBufs_held]; exact .rfl
theorem post1 (c : Dev nD) : (R1 m).post c ⊢ iprop(StableHlo.held (c : Thread nD τ) (Pipeline.ucRefs τ sig) (V6 m (outs m) c) ∗ EE (F := F) 2 c) := by
  rw [← Pipeline.unscopedBufs_held]; exact .rfl

/-- The program's segments. -/
abbrev sgs (c : Dev nD) := segs m (outs m) 𝒱₀ L lv (EE (F := F)) () (pdats (VA1 m) (VB5 m)) (R0 m) (R1 m) c

set_option maxHeartbeats 1000000 in
set_option backward.isDefEq.respectTransparency.types false in
/-- The program ends with every buffer at its last valuation, and every counter at zero. -/
theorem run (ρ : Dev nD → PrngReg) :
    θ_run defs (onTc (τ := τ) (main (F := F))) ⟨m, fun _ => 0, ρ⟩ (fun r => (∀ c : Dev nD, ∀ b : Ref sig .tc, b.isScoped = false → r.2.mem ((c.tc : Thread nD τ).loc b) = V7 m (outs m) c b) ∧ r.2.sem = fun _ => 0) := by
  refine Pipeline.θ_run_regions_kit_dev_sems (pcfgs (F := F)) adm (pdats (VA1 m) (VB5 m)) () cellOf_inj emb₁ defs₀ 𝒱₀ L lv m ρ main
    (sgs m)
    (fun c Q => by
      rewrite [main_chain c, Seg.run_eq_chain,
        show (sgs m c).map Seg.prog = [StableHlo.seq hostOps0, Prog.lift (.customCall (Pipeline.entry 0) ()), StableHlo.seq hostOps1, StableHlo.seq hostOps1_1,
          StableHlo.seq hostOps1_2, Prog.lift (.customCall (Pipeline.entry 1) ()), StableHlo.seq hostOps2] from rfl]
      exact .rfl)
    (fun c => by simp only [segs, Seg.pipes_host, Seg.pipes_region, Seg.pipes_nil]; decide) (fun _ => 0) (fun _ _ => rfl) (fun _ => iprop(emp))
    (Rounds.initOf (Pipeline.cells cfgs cellOf_inj) (Pipeline.launchToks cfgs cellOf_inj))
    (by
      iintro Hu; imodintro
      isplitl [Hu]; · iapply (show (ownU _ : sProp MM) ⊢ BI.own (emb₁ (Rounds.initOf (Pipeline.cells cfgs cellOf_inj) (Pipeline.launchToks cfgs cellOf_inj))) from .rfl); iexact Hu
      iapply (show (BI.emp : sProp MM) ⊢ bigSep Finset.univ (fun _ : Dev nD => (BI.emp : sProp MM)) from by rw [BI.bigSep_emp_const])
      iempintro)
    (T₀ := fun c => iprop(StableHlo.held (c : Thread nD τ) (Pipeline.ucRefs τ sig) (V0 m c) ∗ EE (F := F) 0 c))
    (Tₙ := fun c => StableHlo.held (c : Thread nD τ) (Pipeline.ucRefs τ sig) (V7 m (outs m) c))
    (hch := fun c => ⟨.rfl, pre0 m c, post0 m c, .rfl, .rfl, pre1 m c, post1 m c, .rfl⟩)
    (hinit := ?_) (QY := fun c s => ∀ b : Ref sig .tc, b.isScoped = false → s.mem ((c.tc : Thread nD τ).loc b) = V7 m (outs m) c b)
    (hfin := fun c s' => ?_) (hQ := fun _ h hz => ⟨h, funext fun g => hz g (.inr (regions_no_unscoped g.2))⟩)
  · have key : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ (BI.emp : sProp MM)))
        ⊢ (bigSep Finset.univ fun c : Dev nD => iprop(StableHlo.held (c : Thread nD τ) (Pipeline.ucRefs τ sig) (V0 m c) ∗ EE (F := F) 0 c) : sProp MM) := by
      refine bigSep_mono fun c _ => ?_
      show (iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ (BI.emp : sProp MM)) : sProp MM)
        ⊢ iprop(StableHlo.held (c : Thread nD τ) (Pipeline.ucRefs τ sig) (V0 m c) ∗ EE (F := F) 0 c)
      rw [← Pipeline.unscopedBufs_held (Ix := Unit) (Name := ℕ) (U := UU) (Lvl := ℕ) c (V0 m c)]
      unfold EE
      iintro ⟨Hb, -, HO, -⟩
      isplitl [Hb]; · iexact Hb
      iexists _; iexact HO
    iintro ⟨H, -⟩
    imodintro
    iapply key; iexact H
  · unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by simpa using hb⟩)
    · iexact HSI

/-- From every memory the program ends with its arguments unchanged and every counter at zero. -/
theorem quiet (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c main_arg0 (by decide)).trans (V7_main_arg0 m (outs m) c),
    (h.1 c main_arg1 (by decide)).trans (V7_main_arg1 m (outs m) c), (h.1 c main_arg2 (by decide)).trans (V7_main_arg2 m (outs m) c),
    (h.1 c main_arg3 (by decide)).trans (V7_main_arg3 m (outs m) c)⟩, h.2⟩) (run m ρ)

end Cert.KernelIdeal.Own

end
-- ==== Proof.EV.Common.lean ====
module

public import Idealize.ShloMosaic.Lib.Routing.OpsSet
public import Idealize.ShloMosaic.Lib.ReduceAll
public import Idealize.ShloMosaic.Lib.Pipeline.Value
public import Idealize.ShloMosaic.PureOps.Ideal.Laws

@[expose] public section

noncomputable section

namespace Cert.EV

open Idealize.ShloMosaic Idealize.ShloMosaic.ValueIdx

/-! What the edge stage computes, and the index facts both programs are read with. -/

/-- The seven attributes of an edge (and the unused eighth row) from the nine features of its two end nodes. -/
def ev (a b : Fin 9 → EReal) (j : Fin 8) : EReal :=
  match j with
  | 0 => a 0 - b 0
  | 1 => Ideal.sqrt (∑ k : Fin 3, (a ⟨1 + k.val, by omega⟩ - b ⟨1 + k.val, by omega⟩) * (a ⟨1 + k.val, by omega⟩ - b ⟨1 + k.val, by omega⟩))
  | 2 => ∑ k : Fin 3, a ⟨4 + k.val, by omega⟩ * b ⟨4 + k.val, by omega⟩
  | 3 => Ideal.sign (a 7 - b 7)
  | 4 => max (a 7 - b 7) (-(a 7 - b 7))
  | 5 => Ideal.sign (a 8 - b 8)
  | 6 => max (a 8 - b 8) (-(a 8 - b 8))
  | 7 => 0

/-- A feature array of a hundred rows, read at a node. -/
def node {α : Type} (x : (⟨2, ![100, 1000]⟩ : Shape).Idx → α) (n : Fin 100000) : α :=
  x (ix2 ⟨n.val / 1000, by omega⟩ ⟨n.val % 1000, by omega⟩)

/-- The node a word names. -/
def nd (x : BitVec 32) : Fin 100000 := ⟨min x.toNat 99999, by omega⟩

/-- A word that names a node. -/
def InR (x : BitVec 32) : Prop := x.toNat < 100000

theorem nd_ofNat {x : BitVec 32} (h : InR x) : x = BitVec.ofNat 32 (nd x).val := by
  unfold InR at h
  apply BitVec.eq_of_toNat_eq
  show x.toNat = (BitVec.ofNat 32 (min x.toNat 99999)).toNat
  rw [BitVec.toNat_ofNat, Nat.min_eq_left (by omega), Nat.mod_eq_of_lt (by omega)]

theorem InR.toInt {x : BitVec 32} (h : InR x) : x.toInt = x.toNat := by
  unfold InR at h
  exact BitVec.toInt_eq_toNat_of_lt (by omega)

/-- The two comparisons of the precondition say the word names a node. -/
theorem InR.of_cmp {x : BitVec 32} (h : IntOp.andi (IntOp.cmpi .sge x 0#32) (IntOp.cmpi .slt x 100000#32) = 1#1) : InR x := by
  have h1 := IntOp.cmpi_sge.1 (IntOp.andi_eq_one.1 h).1
  have h2 := IntOp.cmpi_slt.1 (IntOp.andi_eq_one.1 h).2
  have e0 : (0#32 : BitVec 32).toInt = 0 := by decide
  have e1 : (100000#32 : BitVec 32).toInt = 100000 := by decide
  rw [e0] at h1; rw [e1] at h2
  unfold InR
  rw [BitVec.toInt_eq_toNat_cond] at h1 h2
  split at h1 <;> omega

/-- Such a word is not counted from the end. -/
theorem InR.select {x : BitVec 32} (h : InR x) : Scalar.select (IntOp.cmpi .slt x 0#32) (IntOp.addi x 100000#32) x = x := by
  have e : IntOp.cmpi .slt x 0#32 = 0#1 := by
    by_contra hne
    have h1 := IntOp.cmpi_slt.1 ((BitVec.eq_zero_or_eq_one _).resolve_left hne)
    rw [h.toInt] at h1
    have e0 : (0#32 : BitVec 32).toInt = 0 := by decide
    omega
  rw [e]; rfl

/-- And it passes the take's bound test. -/
theorem InR.mask {x : BitVec 32} (h : InR x) : IntOp.andi (IntOp.cmpi .sge x 0#32) (IntOp.cmpi .sle x 99999#32) = 1#1 := by
  have hi := h.toInt
  unfold InR at h
  refine IntOp.andi_eq_one.2 ⟨IntOp.cmpi_sge.2 ?_, IntOp.cmpi_sle.2 ?_⟩
  · have e0 : (0#32 : BitVec 32).toInt = 0 := by decide
    omega
  · have e0 : (99999#32 : BitVec 32).toInt = 99999 := by decide
    omega

/-- A table's columns taken at given numbers: column `c` of the result is the table's column `b`, whose number the indices hold there. -/
theorem gather_col {α : Type} {R N n : Nat} (d : GatherDims (⟨2, ![R, N]⟩ : Shape) (⟨2, ![n, 1]⟩ : Shape) (⟨2, ![R, n]⟩ : Shape))
    (hoff : d.offsetDims = [0]) (hcoll : d.collapsedSliceDims = [1]) (hob : d.operandBatchingDims = [])
    (hsim : d.startIndexMap = [1]) (hivd : d.indexVectorDim = 1) (x : (⟨2, ![R, N]⟩ : Shape).Idx → α)
    (idx : IVec (⟨2, ![n, 1]⟩ : Shape) 32) (r : Fin R) (c : Fin n) (b : Fin N)
    (hb : idx (ix2 c (0 : Fin 1)) = BitVec.ofNat 32 b.val) (hN : N < 2 ^ 31) :
    Host.gather d x idx (ix2 r c) = x (ix2 r b) := by
  unfold Host.gather
  refine congrArg x (funext fun a => Fin.ext ?_)
  have nob : ∀ a', a' ∉ d.operandBatchingDims := fun a' => by rw [hob]; exact List.not_mem_nil
  -- the one axis of the result that runs over the indices is the second, the one that runs over the slice the first
  have bat : ∀ k ∈ d.batchDims, k = (1 : Fin 2) := fun k hk => by
    have hk' : k ∉ d.offsetDims := of_decide_eq_true (List.mem_filter.1 hk).2
    rw [hoff] at hk'
    have h1 : k.val ≠ 0 := fun e => hk' (List.mem_singleton.2 (Fin.ext e))
    have h2 : k.val < 2 := k.isLt
    exact Fin.ext (by show k.val = 1; omega)
  have off : ∀ k ∈ d.offsetDims, k = (0 : Fin 2) := fun k hk => by rw [hoff] at hk; exact List.mem_singleton.1 hk
  have atr : ∀ X : Fin 2, X = 0 → (ix2 r c X).val = r.val := fun X h => by subst h; rfl
  have atc : ∀ X : Fin 2, X = 1 → (ix2 r c X).val = c.val := fun X h => by subst h; rfl
  have ne10 : (0 : Fin 2) ∉ ([1] : List (Fin 2)) := by decide
  match a with
  | ⟨0, _⟩ =>
    have hk : (0 : Fin 2) ∈ d.sKept := (d.mem_sKept 0).2 ⟨by rw [hcoll]; exact ne10, nob 0⟩
    have hm : (0 : Fin 2) ∉ d.startIndexMap := by rw [hsim]; exact ne10
    show d.start (ix2 r c) idx 0 + d.batchCoord (ix2 r c) 0 + d.offCoord (ix2 r c) 0 = r.val
    rw [d.batchCoord_eq_zero _ _ (nob 0), Nat.add_zero]
    unfold GatherDims.start GatherDims.offCoord
    rw [dif_neg hm, dif_pos hk, Nat.zero_add]
    exact atr _ (off _ (List.getElem_mem _))
  | ⟨1, _⟩ =>
    have hk : (1 : Fin 2) ∉ d.sKept := fun h => ((d.mem_sKept 1).1 h).1 (by rw [hcoll]; exact List.mem_singleton.2 rfl)
    have hm : (1 : Fin 2) ∈ d.startIndexMap := by rw [hsim]; exact List.mem_singleton.2 rfl
    have hsl : d.sliceSizes 1 = 1 := d.slice_collapsed 1 (by rw [hcoll]; exact List.mem_singleton.2 rfl)
    show d.start (ix2 r c) idx 1 + d.batchCoord (ix2 r c) 1 + d.offCoord (ix2 r c) 1 = b.val
    rw [d.batchCoord_eq_zero _ _ (nob 1), d.offCoord_eq_zero _ _ hk]
    simp only [Nat.add_zero]
    unfold GatherDims.start
    rw [dif_pos hm]
    have hsi : d.siIdx (ix2 r c) ⟨d.startIndexMap.idxOf 1, List.idxOf_lt_length_iff.2 hm⟩ = ix2 c (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact atc _ (bat _ (List.getElem_mem _))
      | ⟨1, _⟩ =>
        unfold GatherDims.siIdx
        rw [dif_pos (by rw [hivd])]
        show List.idxOf (1 : Fin 2) d.startIndexMap = 0
        rw [hsim]; simp
    have hbl := b.isLt
    rw [hsi, hb, hsl, StableHlo.Predicate.toInt_ofNat_small _ (by omega)]
    show min ((b.val : Int)).toNat (N - 1) = b.val
    omega

end Cert.EV

end
-- ==== Proof.EV.Entry.lean ====
module

public import proofs.«01_k».proof.Proof.Gen.EdgeIdeal.Frame
public import proofs.«01_k».proof.Proof.EV.Common
public import Idealize.ShloMosaic.Lib.StableHlo.Run
public import Idealize.ShloMosaic.Lib.StableHlo.RunRead

@[expose] public section

set_option maxRecDepth 16384

noncomputable section

namespace Cert.EV

open Idealize.ShloMosaic Idealize.ShloMosaic.ValueIdx Idealize.ShloMosaic.TcCoe Cert.EdgeIdeal Cert.EdgeIdeal.Gen

variable {F : FTy → Type} [FloatOps F]

/-! The two feature tables that the edge call reads, from the arguments. -/

/-- The table of node features: nine rows of features, seven rows of zeros. -/
def tab (x0 x1 x2 x3 x4 x5 x6 x7 x8 : FVec F S100x1000 .f32) : FVec F S16x100000 .f32 :=
  concatenate S16x100000 0 [⟨S1x100000, shapeCast S1x100000 x0 shapeCasts_S100x1000_S1x100000⟩, ⟨S1x100000, shapeCast S1x100000 x1 shapeCasts_S100x1000_S1x100000⟩,
    ⟨S1x100000, shapeCast S1x100000 x2 shapeCasts_S100x1000_S1x100000⟩, ⟨S1x100000, shapeCast S1x100000 x3 shapeCasts_S100x1000_S1x100000⟩,
    ⟨S1x100000, shapeCast S1x100000 x4 shapeCasts_S100x1000_S1x100000⟩, ⟨S1x100000, shapeCast S1x100000 x5 shapeCasts_S100x1000_S1x100000⟩,
    ⟨S1x100000, shapeCast S1x100000 x6 shapeCasts_S100x1000_S1x100000⟩, ⟨S1x100000, shapeCast S1x100000 x7 shapeCasts_S100x1000_S1x100000⟩,
    ⟨S1x100000, shapeCast S1x100000 x8 shapeCasts_S100x1000_S1x100000⟩,
    ⟨S7x100000, broadcastInDim S7x100000 ![] bcast_S_S7x100000 (constant S_ .f32 0x00000000#32)⟩]
    concatenates_S1x100000_S1x100000_S1x100000_S1x100000_S1x100000_S1x100000_S1x100000_S1x100000_S1x100000_S7x100000_S16x100000_d0

/-- The numbers of the columns to take. -/
def cols (x : IVec S1600000 32) : IVec S1600000x1 32 :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 100000#32))) x)

/-- The columns of a table taken at given numbers, those out of bounds filled. -/
def takeV (T : FVec F S16x100000 .f32) (x : IVec S1600000 32) : FVec F S16x1600000 .f32 :=
  select
    (broadcastInDim S16x1600000 ![1] bcast_S1600000_S16x1600000_1
      (Host.reduce IntOp.andi
        (andi (cmpi .sge (cols x) (broadcastInDim S1600000x1 ![] bcast_S_S1600000x1 (constantI S_ 32 0#32)))
          (cmpi .sle (cols x) (broadcastInDim S1600000x1 ![0, 1] bcast_S1x1_S1600000x1_0_1
            (broadcastInDim S1x1 ![1] bcast_S1_S1x1_1 (constantI S1 32 99999#32)))))
        (constantI S_ 1 1#1) reducesTo_S1600000x1_S1600000_d1 h_S_))
    (Host.gather gather_S16x100000_S1600000x1_S16x1600000_0_1_n_n_1_1_161 T (cols x))
    (broadcastInDim S16x1600000 ![] bcast_S_S16x1600000 (constant S_ .f32 0x7FC00000#32))

/-- What the first take leaves. -/
theorem after_take1 (W : Valuation τ sig (Elt F)) : StableHlo.after hostOps0_1 W (Proc.devRef .tc main_v11)
    = takeV (W (Proc.devRef .tc main_v10)) (W (Proc.devRef .tc main_arg9)) := by
  unfold hostOps0_1
  after_results_simp
  generalize W (Proc.devRef .tc main_v10) = T
  generalize W (Proc.devRef .tc main_arg9) = x
  simp only [StableHlo.TRef.ofBuf_toBuf]
  have hx : ∀ h₁ h₂ h₃, (StableHlo.TRef.of main_arg9 h₁ h₂ h₃ : StableHlo.TRef sig ⟨S1600000, .i32⟩).ofBuf x = x := fun _ _ _ => rfl
  have hT : ∀ h₁ h₂ h₃, (StableHlo.TRef.of main_v10 h₁ h₂ h₃ : StableHlo.TRef sig ⟨S16x100000, .f32⟩).ofBuf T = T := fun _ _ _ => rfl
  have hv : ∀ h₁ h₂ h₃ (v : FVec F S16x1600000 .f32),
      (StableHlo.TRef.of main_v11 h₁ h₂ h₃ : StableHlo.TRef sig ⟨S16x1600000, .f32⟩).toBuf (Val := Elt F) v = v := fun _ _ _ _ => rfl
  simp only [hx, hT]
  unfold takeV cols
  exact hv _ _ _ _

/-- What the second take leaves. -/
theorem after_take2 (W : Valuation τ sig (Elt F)) : StableHlo.after hostOps0_2 W (Proc.devRef .tc main_v12)
    = takeV (W (Proc.devRef .tc main_v10)) (W (Proc.devRef .tc main_arg10)) := by
  unfold hostOps0_2
  after_results_simp
  generalize W (Proc.devRef .tc main_v10) = T
  generalize W (Proc.devRef .tc main_arg10) = x
  simp only [StableHlo.TRef.ofBuf_toBuf]
  have hx : ∀ h₁ h₂ h₃, (StableHlo.TRef.of main_arg10 h₁ h₂ h₃ : StableHlo.TRef sig ⟨S1600000, .i32⟩).ofBuf x = x := fun _ _ _ => rfl
  have hT : ∀ h₁ h₂ h₃, (StableHlo.TRef.of main_v10 h₁ h₂ h₃ : StableHlo.TRef sig ⟨S16x100000, .f32⟩).ofBuf T = T := fun _ _ _ => rfl
  have hv : ∀ h₁ h₂ h₃ (v : FVec F S16x1600000 .f32),
      (StableHlo.TRef.of main_v12 h₁ h₂ h₃ : StableHlo.TRef sig ⟨S16x1600000, .f32⟩).toBuf (Val := Elt F) v = v := fun _ _ _ _ => rfl
  simp only [hx, hT]
  unfold takeV cols
  exact hv _ _ _ _

theorem after_two (l₁ l₂ : List (HloOp τ sig (Elt F))) (W : Valuation τ sig (Elt F)) :
    StableHlo.after (l₁ ++ l₂) W = StableHlo.after l₂ (StableHlo.after l₁ W) := by
  induction l₁ generalizing W with
  | nil => rfl
  | cons o l ih => exact ih _

variable (m : (ℓ : Loc nD τ sig) → Buf (Elt F) ℓ)

theorem V0_split (c : Dev nD) : V0 m c
    = StableHlo.after hostOps0_2 (StableHlo.after hostOps0_1 (StableHlo.after hostOps0 fun b => m (c, b))) := by
  show StableHlo.after (hostOps0 ++ (hostOps0_1 ++ (hostOps0_2 ++ []))) _ = _
  rw [List.append_nil, after_two, after_two]

set_option maxHeartbeats 4000000 in
theorem V_v10 (c : Dev nD) : V m c main_v10
    = tab (m (c.tc.loc main_arg0)) (m (c.tc.loc main_arg1)) (m (c.tc.loc main_arg2)) (m (c.tc.loc main_arg3)) (m (c.tc.loc main_arg4))
        (m (c.tc.loc main_arg5)) (m (c.tc.loc main_arg6)) (m (c.tc.loc main_arg7)) (m (c.tc.loc main_arg8)) := by
  show StableHlo.after (List.flatten [hostOps0, hostOps0_1, hostOps0_2]) (fun b => m (c, b)) (Proc.devRef .tc main_v10) = _
  simp only [hostOps0, hostOps0_1, hostOps0_2, List.flatten_cons, List.flatten_nil, List.append_nil, List.cons_append, List.nil_append]
  after_reads_simp
  rfl

theorem keep1_v10 (W : Valuation τ sig (Elt F)) :
    StableHlo.after hostOps0_1 W (Proc.devRef .tc main_v10) = W (Proc.devRef .tc main_v10) := by
  unfold hostOps0_1; after_results_simp

theorem keep1_arg10 (W : Valuation τ sig (Elt F)) :
    StableHlo.after hostOps0_1 W (Proc.devRef .tc main_arg10) = W (Proc.devRef .tc main_arg10) := by
  unfold hostOps0_1; after_results_simp

theorem keep2_v10 (W : Valuation τ sig (Elt F)) :
    StableHlo.after hostOps0_2 W (Proc.devRef .tc main_v10) = W (Proc.devRef .tc main_v10) := by
  unfold hostOps0_2; after_results_simp

theorem keep2_v11 (W : Valuation τ sig (Elt F)) :
    StableHlo.after hostOps0_2 W (Proc.devRef .tc main_v11) = W (Proc.devRef .tc main_v11) := by
  unfold hostOps0_2; after_results_simp

theorem keep0_arg9 (W : Valuation τ sig (Elt F)) :
    StableHlo.after hostOps0 W (Proc.devRef .tc main_arg9) = W (Proc.devRef .tc main_arg9) := by
  unfold hostOps0; after_results_simp

theorem keep0_arg10 (W : Valuation τ sig (Elt F)) :
    StableHlo.after hostOps0 W (Proc.devRef .tc main_arg10) = W (Proc.devRef .tc main_arg10) := by
  unfold hostOps0; after_results_simp

theorem V_v11 (c : Dev nD) : V m c main_v11 = takeV (V m c main_v10) (m (c.tc.loc main_arg9)) := by
  show V0 m c (Proc.devRef .tc main_v11) = takeV (V0 m c (Proc.devRef .tc main_v10)) _
  rw [V0_split, keep2_v11, keep2_v10, after_take1, keep1_v10, keep0_arg9]

theorem V_v12 (c : Dev nD) : V m c main_v12 = takeV (V m c main_v10) (m (c.tc.loc main_arg10)) := by
  show V0 m c (Proc.devRef .tc main_v12) = takeV (V0 m c (Proc.devRef .tc main_v10)) _
  rw [V0_split, after_take2, keep2_v10, keep1_arg10, keep0_arg10]

/-- A feature row of the table is the feature array, node by node. -/
theorem tab_apply (x : Fin 9 → FVec F S100x1000 .f32) (r : Fin 9) (n : Fin 100000) :
    tab (x 0) (x 1) (x 2) (x 3) (x 4) (x 5) (x 6) (x 7) (x 8) (ix2 ⟨r.val, by omega⟩ n) = node (x r) n := by
  unfold tab
  have flat : ∀ y : FVec F S100x1000 .f32, shapeCast S1x100000 y shapeCasts_S100x1000_S1x100000 (ix2 0 n) = node y n := fun y =>
    shapeCast_apply y _ (ix2 0 n) (ix2 ⟨n.val / 1000, by omega⟩ ⟨n.val % 1000, by omega⟩)
      (by rw [Shape.rowMajor_val_two, Shape.rowMajor_val_two]; show n.val / 1000 * 1000 + n.val % 1000 = 0 * 100000 + n.val; omega)
  refine Eq.trans ?_ (flat (x r))
  have hr := r.isLt
  have h10 : r.val < 10 := Nat.lt_of_lt_of_le hr (by decide)
  have h16 : r.val < 16 := Nat.lt_of_lt_of_le hr (by decide)
  refine concatenate_apply_piece (t := S16x100000) 0 [_, _, _, _, _, _, _, _, _, _] _ (ix2 (⟨r.val, h16⟩ : Fin 16) n) r.val
    h10 S1x100000 (shapeCast S1x100000 (x r) shapeCasts_S100x1000_S1x100000) ?_ rfl r.val ?_ (ix2 0 n) ?_ ?_
  · fin_cases r <;> rfl
  · fin_cases r <;> rfl
  · intro b hb
    match b with
    | ⟨0, _⟩ => exact absurd rfl hb
    | ⟨1, _⟩ => rfl
  · rfl

/-- The numbers of the columns are the words themselves. -/
theorem cols_apply (x : IVec S1600000 32) (e : Fin 1600000) (h : InR (x (ix1 e))) : cols x (ix2 e 0) = x (ix1 e) := by
  unfold cols
  rw [broadcastInDim_apply _ _ _ (ix2 e 0) (ix1 e) (fun a => match a with | ⟨0, _⟩ => rfl)]
  exact h.select

theorem sel_one {s : Shape} {t : Type} (c : IVec s 1) (a b : s.Idx → t) (i : s.Idx) (h : c i = 1#1) : select c a b i = a i := by
  show Scalar.select (c i) (a i) (b i) = a i
  rw [h]; rfl

/-- The columns taken, entry by entry. -/
theorem takeV_apply (T : FVec F S16x100000 .f32) (x : IVec S1600000 32) (h : ∀ e, InR (x (ix1 e))) (r : Fin 16) (e : Fin 1600000) :
    takeV T x (ix2 r e) = T (ix2 r (nd (x (ix1 e)))) := by
  have hm : Host.reduce IntOp.andi
        (andi (cmpi .sge (cols x) (broadcastInDim S1600000x1 ![] bcast_S_S1600000x1 (constantI S_ 32 0#32)))
          (cmpi .sle (cols x) (broadcastInDim S1600000x1 ![0, 1] bcast_S1x1_S1600000x1_0_1
            (broadcastInDim S1x1 ![1] bcast_S1_S1x1_1 (constantI S1 32 99999#32)))))
        (constantI S_ 1 1#1) reducesTo_S1600000x1_S1600000_d1 h_S_ (ix1 e) = 1#1 := by
    refine Host.reduce_andi_one _ _ _ _ _ rfl fun i => ?_
    obtain ⟨e', z, rfl⟩ : ∃ (e' : Fin 1600000) (z : Fin 1), i = ix2 e' z := ⟨i 0, i 1, eq_ix2 i⟩
    obtain rfl : z = 0 := Subsingleton.elim _ _
    show IntOp.andi (IntOp.cmpi .sge (cols x (ix2 e' 0)) 0#32) (IntOp.cmpi .sle (cols x (ix2 e' 0)) 99999#32) = 1#1
    rw [cols_apply x e' (h e')]
    exact (h e').mask
  unfold takeV
  refine (sel_one _ _ _ _ ((broadcastInDim_apply _ _ _ (ix2 r e) (ix1 e) (fun a => match a with | ⟨0, _⟩ => rfl)).trans hm)).trans ?_
  exact gather_col _ rfl rfl rfl rfl rfl T (cols x) r e (nd (x (ix1 e))) ((cols_apply x e (h e)).trans (nd_ofNat (h e))) (by norm_num)

end Cert.EV

end
-- ==== Proof.EV.Body.lean ====
module

public import proofs.«01_k».proof.Proof.Gen.EdgeIdeal.Skeleton
public import proofs.«01_k».proof.Proof.EV.Common

@[expose] public section

noncomputable section

namespace Cert.EV

open Idealize.ShloMosaic Idealize.ShloMosaic.ValueIdx Cert.EdgeIdeal Cert.EdgeIdeal.Gen

/-! The edge kernel's block, read at an entry. -/

/-- A run of rows cut out of a block. -/
theorem cut_apply {α : Type} {k o : Nat} (X : S16x6400.Idx → α) (h : S16x6400.Slices ![o, 0] (⟨2, ![k, 6400]⟩ : Shape))
    (ho : ∀ r : Fin k, o + r.val < 16) (r : Fin k) (l : Fin 6400) :
    extractStridedSlice (⟨2, ![k, 6400]⟩ : Shape) ![o, 0] X h (ix2 r l) = X (ix2 ⟨o + r.val, ho r⟩ l) :=
  extractStridedSlice_apply _ X h _ _ fun a => match a with
    | ⟨0, _⟩ => rfl
    | ⟨1, _⟩ => (Nat.zero_add _).symm

/-- The sum of a three-row block down its columns. -/
theorem sum_apply (X : FVec Ideal S3x6400 .f32) (h : S3x6400.Reduces [0] S6400) (l : Fin 6400) :
    shapeCast S1x6400 (multiReduction .add [0] S6400 X 0x00000000#32 h (.inl rfl) rfl) shapeCasts_S6400_S1x6400 (ix2 0 l)
      = ∑ k : Fin 3, X (ix2 k l) := by
  rw [shapeCast_apply _ _ (ix2 0 l) (ix1 l) (by rw [Shape.rowMajor_val_one, Shape.rowMajor_val_two]; show l.val = 0 * 6400 + l.val; omega)]
  refine (Ideal.multiReduction_add_single X _ h _ _ (ix1 l)).trans ?_
  refine Finset.sum_congr rfl fun k _ => congrArg X (funext fun a => Fin.ext ?_)
  match a with
  | ⟨0, _⟩ => rfl
  | ⟨1, _⟩ => rfl

/-- The eight rows joined, read at one of them. -/
theorem join_apply (x : Fin 8 → FVec Ideal S1x6400 .f32)
    (h : Shape.Concatenates ([⟨S1x6400, x 0⟩, ⟨S1x6400, x 1⟩, ⟨S1x6400, x 2⟩, ⟨S1x6400, x 3⟩, ⟨S1x6400, x 4⟩, ⟨S1x6400, x 5⟩, ⟨S1x6400, x 6⟩,
      ⟨S1x6400, x 7⟩].map (fun p : (s : Shape) × (s.Idx → Ideal .f32) => p.1)) S8x6400 0) (j : Fin 8) (l : Fin 6400) :
    concatenate S8x6400 0 [⟨S1x6400, x 0⟩, ⟨S1x6400, x 1⟩, ⟨S1x6400, x 2⟩, ⟨S1x6400, x 3⟩, ⟨S1x6400, x 4⟩, ⟨S1x6400, x 5⟩, ⟨S1x6400, x 6⟩,
      ⟨S1x6400, x 7⟩] h (ix2 j l) = x j (ix2 0 l) := by
  have hx : ([⟨S1x6400, x 0⟩, ⟨S1x6400, x 1⟩, ⟨S1x6400, x 2⟩, ⟨S1x6400, x 3⟩, ⟨S1x6400, x 4⟩, ⟨S1x6400, x 5⟩, ⟨S1x6400, x 6⟩,
      ⟨S1x6400, x 7⟩] : List ((s : Shape) × (s.Idx → Ideal .f32)))[j.val]'(j.isLt) = ⟨S1x6400, x j⟩ := by
    fin_cases j <;> rfl
  refine concatenate_apply_piece 0 _ h (ix2 j l) j.val j.isLt S1x6400 (x j) hx rfl j.val ?_ (ix2 0 l) ?_ ?_
  · fin_cases j <;> rfl
  · intro b hb
    match b with
    | ⟨0, _⟩ => exact absurd rfl hb
    | ⟨1, _⟩ => rfl
  · rfl

set_option maxRecDepth 16384 in
/-- One entry of the edge kernel's block is the attribute of that edge. -/
theorem pay_apply (A B : Vec Ideal S16x6400 .f32) (j : Fin 8) (l : Fin 6400) :
    k0_pay1 (F := Ideal) A B (ix2 j l)
      = ev (fun r => A (ix2 ⟨r.val, by omega⟩ l)) (fun r => B (ix2 ⟨r.val, by omega⟩ l)) j := by
  have hA : shapeCast S16x6400 A shapeCasts_S16x6400_S16x6400 = A := shapeCast_self _ _
  have hB : shapeCast S16x6400 B shapeCasts_S16x6400_S16x6400 = B := shapeCast_self _ _
  unfold k0_pay1
  dsimp only
  rw [hA, hB]
  refine (join_apply (fun i => match i with | 0 => _ | 1 => _ | 2 => _ | 3 => _ | 4 => _ | 5 => _ | 6 => _ | 7 => _) _ j l).trans ?_
  have one : ∀ (o : Nat) (X : Vec Ideal S16x6400 .f32) (h : S16x6400.Slices ![o, 0] S1x6400) (ho : o < 16),
      extractStridedSlice S1x6400 ![o, 0] X h (ix2 0 l) = X (ix2 ⟨o, ho⟩ l) := fun o X h ho =>
    cut_apply X h (fun r => by omega) 0 l
  have three : ∀ (o : Nat) (X : Vec Ideal S16x6400 .f32) (h : S16x6400.Slices ![o, 0] S3x6400) (ho : ∀ r : Fin 3, o + r.val < 16) (r : Fin 3),
      extractStridedSlice S3x6400 ![o, 0] X h (ix2 r l) = X (ix2 ⟨o + r.val, ho r⟩ l) := fun o X h ho r =>
    cut_apply X h ho r l
  fin_cases j
  · exact congrArg₂ (fun u v : EReal => u - v) (one 0 A _ (by omega)) (one 0 B _ (by omega))
  · refine congrArg Ideal.sqrt ((sum_apply _ _ l).trans (Finset.sum_congr rfl fun k _ => ?_))
    have d := congrArg₂ (fun u v : EReal => u - v) (three 1 A slices_S16x6400_o1_0_S3x6400 (by omega) k) (three 1 B slices_S16x6400_o1_0_S3x6400 (by omega) k)
    exact congrArg₂ (fun u v : EReal => u * v) d d
  · refine (sum_apply _ _ l).trans (Finset.sum_congr rfl fun k _ => ?_)
    exact congrArg₂ (fun u v : EReal => u * v) (three 4 A _ (by omega) k) (three 4 B _ (by omega) k)
  · refine (Ideal.jnp_sign_eq_sign_f32 _).trans (congrArg Ideal.sign ?_)
    exact congrArg₂ (fun u v : EReal => u - v) (one 7 A _ (by omega)) (one 7 B _ (by omega))
  · exact congrArg (fun u : EReal => max u (-u)) (congrArg₂ (fun u v : EReal => u - v) (one 7 A _ (by omega)) (one 7 B _ (by omega)))
  · refine (Ideal.jnp_sign_eq_sign_f32 _).trans (congrArg Ideal.sign ?_)
    exact congrArg₂ (fun u v : EReal => u - v) (one 8 A _ (by omega)) (one 8 B _ (by omega))
  · exact congrArg (fun u : EReal => max u (-u)) (congrArg₂ (fun u v : EReal => u - v) (one 8 A _ (by omega)) (one 8 B _ (by omega)))
  · exact Ideal.ofBits_zero_f32

end Cert.EV

end
-- ==== Proof.EV.Run.lean ====
module

public import proofs.«01_k».proof.Proof.EV.Entry
public import proofs.«01_k».proof.Proof.EV.Body
public import Idealize.ShloMosaic.Lib.Pipeline.Value
public import Idealize.ShloMosaic.Lib.ValueLayout

@[expose] public section

set_option maxRecDepth 16384

noncomputable section

namespace Cert.EV

open Idealize.ShloMosaic Idealize.ShloMosaic.ValueIdx Idealize.ShloMosaic.TcCoe Cert.EdgeIdeal Cert.EdgeIdeal.Gen Idealize.SL.Sem

/-! The run of the edge call: the attribute array in terms of the arguments. -/

theorem hz : (![0, 0] : Fin 2 → Nat) = fun _ => 0 := funext fun a => by fin_cases a <;> rfl

variable (m : (ℓ : Loc nD τ sig) → Buf (Elt Ideal) ℓ) (ρ : Dev nD → PrngReg)

theorem idx0 : ∀ t : Fin cfg0.N, win0_0.index t (0 : Fin 2) = 0 ∧ win0_0.index t (1 : Fin 2) = t.val :=
  (by decide +kernel : ∀ t : Fin grid0.N, _)
theorem idx1 : ∀ t : Fin cfg0.N, win0_1.index t (0 : Fin 2) = 0 ∧ win0_1.index t (1 : Fin 2) = t.val :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)

theorem pts (t : Fin cfg0.N) : t.val < 250 := t.isLt.trans_eq N_0

/-- The edge that a column of a block stands for. -/
def edge (t : Fin cfg0.N) (l : Fin 6400) : Fin 1600000 := ⟨t.val * 6400 + l.val, by have := pts t; omega⟩

theorem emb0 (t : Fin cfg0.N) (r : Fin 16) (l : Fin 6400) : ((cfg0.win 0).blk t).view.emb (ix2 r l) = (ix2 r (edge t l) : S16x1600000.Idx) := by
  obtain ⟨e0, e1⟩ := idx0 t
  funext a; apply Fin.ext
  match a with
  | ⟨0, _⟩ => show win0_0.index t (0 : Fin 2) * 16 + 1 * r.val = r.val; omega
  | ⟨1, _⟩ => show win0_0.index t (1 : Fin 2) * 6400 + 1 * l.val = t.val * 6400 + l.val; omega

theorem emb1 (t : Fin cfg0.N) (r : Fin 16) (l : Fin 6400) : ((cfg0.win 1).blk t).view.emb (ix2 r l) = (ix2 r (edge t l) : S16x1600000.Idx) := by
  obtain ⟨e0, e1⟩ := idx1 t
  funext a; apply Fin.ext
  match a with
  | ⟨0, _⟩ => show win0_1.index t (0 : Fin 2) * 16 + 1 * r.val = r.val; omega
  | ⟨1, _⟩ => show win0_1.index t (1 : Fin 2) * 6400 + 1 * l.val = t.val * 6400 + l.val; omega

theorem emb2 (t : Fin cfg0.N) (j : Fin 8) (l : Fin 6400) : ((cfg0.win 2).blk t).view.emb (ix2 j l) = (ix2 j (edge t l) : S8x1600000.Idx) := by
  obtain ⟨e0, e1⟩ := idx2 t
  funext a; apply Fin.ext
  match a with
  | ⟨0, _⟩ => show win0_2.index t (0 : Fin 2) * 8 + 1 * j.val = j.val; omega
  | ⟨1, _⟩ => show win0_2.index t (1 : Fin 2) * 6400 + 1 * l.val = t.val * 6400 + l.val; omega

theorem iblk0_apply (c : Dev nD) (t : Fin cfg0.N) (r : Fin 16) (l : Fin 6400) :
    iblk m c 0 t (ix2 r l) = V m c main_v11 (ix2 r (edge t l)) := by
  unfold iblk
  generalize V m c = X
  show X main_v11 (((cfg0.win 0).blk t).view.emb (ix2 r l)) = _
  rw [emb0]

theorem iblk1_apply (c : Dev nD) (t : Fin cfg0.N) (r : Fin 16) (l : Fin 6400) :
    iblk m c 1 t (ix2 r l) = V m c main_v12 (ix2 r (edge t l)) := by
  unfold iblk
  generalize V m c = X
  show X main_v12 (((cfg0.win 1).blk t).view.emb (ix2 r l)) = _
  rw [emb1]

/-- The attribute array, feature by feature, edge by edge. -/
def G (A B : FVec Ideal S16x1600000 .f32) : FVec Ideal S8x1600000 .f32 := fun i =>
  ev (fun r => A (ix2 ⟨r.val, by omega⟩ (i 1))) (fun r => B (ix2 ⟨r.val, by omega⟩ (i 1))) (i 0)

theorem after_apply (c : Dev nD) (t : Fin cfg0.N) (j : Fin 8) (l : Fin 6400) :
    (dats m 0 c).after 2 t (ix2 j l) = G (V m c main_v11) (V m c main_v12) (ix2 j (edge t l)) := by
  rw [after0_2]
  unfold out0_2
  rw [View.canon_unit_zero hz, View.ld_unit_zero hz, View.ld_unit_zero hz]
  refine (pay_apply _ _ j l).trans ?_
  simp only [iblk0_apply, iblk1_apply]
  rfl

theorem flushed_eq (c : Dev nD) (t : Fin cfg0.N) :
    (dats m 0 c).flushed 2 t = ((cfg0.win 2).blk t).view.read (Elt Ideal) (G (V m c main_v11) (V m c main_v12)) := by
  funext i
  obtain ⟨j, l, rfl⟩ : ∃ (j : Fin 8) (l : Fin 6400), i = ix2 j l := ⟨i 0, i 1, eq_ix2 i⟩
  show (dats m 0 c).after 2 t (ix2 j l) = G (V m c main_v11) (V m c main_v12) (((cfg0.win 2).blk t).view.emb (ix2 j l))
  rw [emb2, after_apply]

theorem covered (i : S8x1600000.Idx) : ∃ t : Fin cfg0.N, (cfg0.win 2).flush t = true ∧ i ∈ ((cfg0.win 2).blk t).view.set := by
  obtain ⟨j, e, rfl⟩ : ∃ (j : Fin 8) (e : Fin 1600000), i = ix2 j e := ⟨i 0, i 1, eq_ix2 i⟩
  have ht : e.val / 6400 < cfg0.N := Nat.lt_of_lt_of_eq (by omega) N_0.symm
  refine ⟨⟨e.val / 6400, ht⟩, flush0_2 _, ?_⟩
  have h := ((cfg0.win 2).blk ⟨e.val / 6400, ht⟩).view.emb_mem_set (ix2 j (⟨e.val % 6400, by omega⟩ : Fin 6400))
  rw [emb2] at h
  have he : edge ⟨e.val / 6400, ht⟩ ⟨e.val % 6400, by omega⟩ = e := Fin.ext (by show e.val / 6400 * 6400 + e.val % 6400 = e.val; omega)
  rwa [he] at h

theorem final (c : Dev nD) : (dats m 0 c).arrAt 2 cfg0.N = G (V m c main_v11) (V m c main_v12) :=
  (dats m 0 c).arrAt_eq_of_cover 2 _ (fun t _ => flushed_eq m c t) covered

/-- The result array as the run leaves it. -/
def res (c : Dev nD) : Buf (Elt Ideal) ((c.tc : Thread nD τ).loc main_v15) :=
  Pipeline.afterTail₀ cfgs (dats m) 0 (V0 m) [hostOps1] c main_v15

theorem res_eq (c : Dev nD) : res m c
    = transpose S1600000x7 [1, 0] (extractStridedSlice S7x1600000 ![0, 0] (G (V m c main_v11) (V m c main_v12)) slices_S8x1600000_S7x1600000_0_0)
        transposes_S7x1600000_S1600000x7_1_0 := by
  unfold res Pipeline.afterTail₀
  show StableHlo.after hostOps1 _ (Proc.devRef .tc main_v15) = _
  generalize hW : (Pipeline.withArrays (cfgs 0).spec c (V0 m c) fun w => (dats m 0 c).arrAt w (cfgs 0).N) = W
  have h13 : W (Proc.devRef .tc main_v13) = G (V m c main_v11) (V m c main_v12) := by
    rw [← hW]
    exact (Pipeline.withArrays_arr spec0 launch0.win.arr_inj c (V0 m c) (fun w => (dats m 0 c).arrAt w cfg0.N) 2).trans (final m c)
  unfold hostOps1
  after_results_simp
  rw [h13]

/-- The feature arrays of a memory, numbered. -/
def feat (c : Dev nD) : Fin 9 → FVec Ideal S100x1000 .f32
  | 0 => m (c.tc.loc main_arg0) | 1 => m (c.tc.loc main_arg1) | 2 => m (c.tc.loc main_arg2) | 3 => m (c.tc.loc main_arg3)
  | 4 => m (c.tc.loc main_arg4) | 5 => m (c.tc.loc main_arg5) | 6 => m (c.tc.loc main_arg6) | 7 => m (c.tc.loc main_arg7)
  | 8 => m (c.tc.loc main_arg8)

theorem v10_apply (c : Dev nD) (r : Fin 9) (n : Fin 100000) :
    V m c main_v10 (ix2 (⟨r.val, by omega⟩ : Fin 16) n) = node (feat m c r) n := by
  rw [V_v10]
  exact tab_apply (feat m c) r n

theorem v11_apply (c : Dev nD) (h : ∀ e, InR (m (c.tc.loc main_arg9) (ix1 e))) (r : Fin 9) (e : Fin 1600000) :
    V m c main_v11 (ix2 (⟨r.val, by omega⟩ : Fin 16) e) = node (feat m c r) (nd (m (c.tc.loc main_arg9) (ix1 e))) := by
  rw [V_v11]
  exact (takeV_apply _ _ h _ e).trans (v10_apply m c r _)

theorem v12_apply (c : Dev nD) (h : ∀ e, InR (m (c.tc.loc main_arg10) (ix1 e))) (r : Fin 9) (e : Fin 1600000) :
    V m c main_v12 (ix2 (⟨r.val, by omega⟩ : Fin 16) e) = node (feat m c r) (nd (m (c.tc.loc main_arg10) (ix1 e))) := by
  rw [V_v12]
  exact (takeV_apply _ _ h _ e).trans (v10_apply m c r _)

/-- One attribute of one edge, in terms of the arguments. -/
theorem res_apply (c : Dev nD) (h9 : ∀ e, InR (m (c.tc.loc main_arg9) (ix1 e))) (h10 : ∀ e, InR (m (c.tc.loc main_arg10) (ix1 e)))
    (e : Fin 1600000) (j : Fin 7) :
    res m c (ix2 e j) = ev (fun r => node (feat m c r) (nd (m (c.tc.loc main_arg9) (ix1 e))))
      (fun r => node (feat m c r) (nd (m (c.tc.loc main_arg10) (ix1 e)))) ⟨j.val, by omega⟩ := by
  rw [res_eq]
  refine (transpose_ix2_apply _ transposes_S7x1600000_S1600000x7_1_0 e j).trans ?_
  refine (extractStridedSlice_apply ![0, 0] _ slices_S8x1600000_S7x1600000_0_0 (ix2 j e) (ix2 (⟨j.val, by omega⟩ : Fin 8) e)
    (fun a => match a with | ⟨0, _⟩ => (Nat.zero_add _).symm | ⟨1, _⟩ => (Nat.zero_add _).symm)).trans ?_
  show ev (fun r => V m c main_v11 (ix2 (⟨r.val, by omega⟩ : Fin 16) e)) (fun r => V m c main_v12 (ix2 (⟨r.val, by omega⟩ : Fin 16) e)) _ = _
  simp only [v11_apply m c h9, v12_apply m c h10]

/-- The run with its result named. -/
theorem run : θ_run defs (onTc (τ := τ) (main (F := Ideal))) ⟨m, fun _ => 0, ρ⟩ (fun r => (∀ c : Dev nD,
      r.2.mem ((c.tc : Thread nD τ).loc main_v15) = res m c)) :=
  (θ_run defs _ _).mono
    (fun r h c => (h c).2 main_v15 (Pipeline.mem_restRefs_of main_v15 (by decide) (by decide))) (run_main m ρ)

end Cert.EV

end
-- ==== Proof.EV.Ref.lean ====
module

public import proofs.«01_k».proof.Proof.Gen.EdgeRefIdeal.Read
public import proofs.«01_k».proof.Proof.EV.Common
public import Idealize.ShloMosaic.Lib.Pipeline.Value
public import Idealize.ShloMosaic.Lib.Routing.Ops
public import Idealize.ShloMosaic.Lib.Routing.OpsSet

@[expose] public section

set_option maxRecDepth 16384

noncomputable section

namespace Cert.EV.Ref

open Idealize.ShloMosaic Idealize.ShloMosaic.ValueIdx Cert.EdgeRefIdeal Cert.EdgeRefIdeal.Value Cert.EdgeRefIdeal.Gen Cert.EdgeRefIdeal.Read

/-! The reference's attribute array, entry by entry. -/

/-- A column of node numbers, negative ones counted from the end. -/
def cols (x : IVec S1600000 32) : IVec S1600000x1 32 :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 100000#32))) x)

/-- The node numbers are the words themselves. -/
theorem cols_apply (x : IVec S1600000 32) (e : Fin 1600000) (h : InR (x (ix1 e))) : cols x (ix2 e 0) = BitVec.ofNat 32 (nd (x (ix1 e))).val := by
  unfold cols
  rw [broadcastInDim_apply _ _ _ (ix2 e 0) (ix1 e) (fun a => match a with | ⟨0, _⟩ => rfl)]
  exact h.select.trans (nd_ofNat h)

abbrev Nodes := FVec Ideal S100x1000 .f32

/-- A feature laid out flat. -/
theorem flat_apply (x : Nodes) (n : Fin 100000) : shapeCast S100000 x shapeCasts_S100x1000_S100000 (ix1 n) = node x n :=
  shapeCast_apply x _ (ix1 n) (ix2 ⟨n.val / 1000, by omega⟩ ⟨n.val % 1000, by omega⟩)
    (by rw [Shape.rowMajor_val_two, Shape.rowMajor_val_one]; show n.val / 1000 * 1000 + n.val % 1000 = n.val; omega)

/-- A feature laid out as a column. -/
theorem col_apply (x : Nodes) (n : Fin 100000) : shapeCast S100000x1 x shapeCasts_S100x1000_S100000x1 (ix2 n 0) = node x n :=
  shapeCast_apply x _ (ix2 n 0) (ix2 ⟨n.val / 1000, by omega⟩ ⟨n.val % 1000, by omega⟩)
    (by rw [Shape.rowMajor_val_two, Shape.rowMajor_val_two]; show n.val / 1000 * 1000 + n.val % 1000 = n.val * 1 + 0; omega)

/-- Three columns side by side. -/
theorem join3 (y : Fin 3 → FVec Ideal S100000x1 .f32)
    (h : Shape.Concatenates ([⟨S100000x1, y 0⟩, ⟨S100000x1, y 1⟩, ⟨S100000x1, y 2⟩].map (fun p : (s : Shape) × (s.Idx → Ideal .f32) => p.1)) S100000x3 1)
    (k : Fin 3) (n : Fin 100000) :
    concatenate S100000x3 1 [⟨S100000x1, y 0⟩, ⟨S100000x1, y 1⟩, ⟨S100000x1, y 2⟩] h (ix2 n k) = y k (ix2 n 0) := by
  have hx : ([⟨S100000x1, y 0⟩, ⟨S100000x1, y 1⟩, ⟨S100000x1, y 2⟩] : List ((s : Shape) × (s.Idx → Ideal .f32)))[k.val]'(k.isLt) = ⟨S100000x1, y k⟩ := by
    fin_cases k <;> rfl
  refine concatenate_apply_piece 1 _ h (ix2 n k) k.val k.isLt S100000x1 (y k) hx rfl k.val ?_ (ix2 n 0) ?_ ?_
  · fin_cases k <;> rfl
  · intro b hb
    match b with
    | ⟨0, _⟩ => rfl
    | ⟨1, _⟩ => exact absurd rfl hb
  · rfl

/-- A feature as one of the columns. -/
theorem one_apply (y : Nodes) (n : Fin 100000) :
    broadcastInDim S100000x1 ![0] bcast_S100000_S100000x1_0 (shapeCast S100000 y shapeCasts_S100x1000_S100000) (ix2 n 0) = node y n :=
  (broadcastInDim_apply ![0] bcast_S100000_S100000x1_0 _ (ix2 n 0) (ix1 n)
    (fun a => match a with | ⟨0, _⟩ => by show n.val = if (100000 : Nat) = 1 then 0 else n.val; rw [if_neg (by decide)])).trans (flat_apply y n)

/-- Three features side by side. -/
theorem three_apply (x : Fin 3 → Nodes) (k : Fin 3) (n : Fin 100000) : val_main_v7 (F := Ideal) (x 0) (x 1) (x 2) (ix2 n k) = node (x k) n := by
  refine Eq.trans ?_ (one_apply (x k) n)
  obtain ⟨y, hy⟩ : ∃ y : Fin 3 → FVec Ideal S100000x1 .f32, y
      = fun k => broadcastInDim S100000x1 ![0] bcast_S100000_S100000x1_0 (shapeCast S100000 (x k) shapeCasts_S100x1000_S100000) := ⟨_, rfl⟩
  have e0 : val_main_v4 (F := Ideal) (x 0) = y 0 := by rw [hy]; rfl
  have e1 : val_main_v5 (F := Ideal) (x 1) = y 1 := by rw [hy]; rfl
  have e2 : val_main_v6 (F := Ideal) (x 2) = y 2 := by rw [hy]; rfl
  have ek : broadcastInDim S100000x1 ![0] bcast_S100000_S100000x1_0 (shapeCast S100000 (x k) shapeCasts_S100x1000_S100000) = y k := by rw [hy]
  rw [ek]
  unfold val_main_v7
  rw [e0, e1, e2]
  exact join3 y _ k n

/-- A feature taken at node numbers, flat. -/
theorem take1 (x : Nodes) (i : IVec S1600000 32) (e : Fin 1600000) (h : InR (i (ix1 e))) :
    Host.gather gather_S100000_S1600000x1_S1600000_n_0_n_n_0_1_1 (shapeCast S100000 x shapeCasts_S100x1000_S100000) (cols i) (ix1 e)
      = node x (nd (i (ix1 e))) :=
  (Routing.gather_take1 _ rfl rfl rfl rfl _ _ e (nd (i (ix1 e))) (cols_apply i e h) (by norm_num)).trans (flat_apply x _)

/-- A feature taken at node numbers, as a column. -/
theorem takeCol (x : Nodes) (i : IVec S1600000 32) (e : Fin 1600000) (h : InR (i (ix1 e))) :
    Host.gather gather_S100000x1_S1600000x1_S1600000x1_1_0_n_n_0_1_11 (shapeCast S100000x1 x shapeCasts_S100x1000_S100000x1) (cols i) (ix2 e 0)
      = node x (nd (i (ix1 e))) :=
  (Routing.gather_row _ rfl rfl rfl rfl rfl _ _ e 0 (nd (i (ix1 e))) (cols_apply i e h) (by norm_num)).trans (col_apply x _)

/-- Three features taken at node numbers. -/
theorem take3 (x : Fin 3 → Nodes) (i : IVec S1600000 32) (e : Fin 1600000) (k : Fin 3) (h : InR (i (ix1 e))) :
    Host.gather gather_S100000x3_S1600000x1_S1600000x3_1_0_n_n_0_1_13 (val_main_v7 (F := Ideal) (x 0) (x 1) (x 2)) (cols i) (ix2 e k)
      = node (x k) (nd (i (ix1 e))) :=
  (Routing.gather_row _ rfl rfl rfl rfl rfl _ _ e k (nd (i (ix1 e))) (cols_apply i e h) (by norm_num)).trans (three_apply x k _)

variable (x : Fin 9 → Nodes) (i j : IVec S1600000 32) (e : Fin 1600000)

/-- The features of the two ends of an edge. -/
def at' (i : IVec S1600000 32) (r : Fin 9) : EReal := node (x r) (nd (i (ix1 e)))

/-- The difference of the first feature. -/
theorem c0 (hi : InR (i (ix1 e))) (hj : InR (j (ix1 e))) :
    val_main_v32 (F := Ideal) (x 0) i j (ix2 e 0) = at' x e i 0 - at' x e j 0 := by
  rw [val_main_v32_apply]
  have he : idx_main_v32 (ix2 e 0) = ix1 e := funext fun a => by match a with | ⟨0, _⟩ => exact Fin.ext (by show e.val * 1 + 0 = e.val; omega)
  rw [he]
  exact congrArg₂ (fun u v : EReal => u - v) (take1 (x 0) i e hi) (take1 (x 0) j e hj)

theorem zero_bits : (FloatOps.ofBits .f32 0#32 : Ideal .f32) = (0 : EReal) := Ideal.ofBits_zero_f32

/-- The length of the difference of the next three. -/
theorem c1 (hi : InR (i (ix1 e))) (hj : InR (j (ix1 e))) : val_main_v67 (F := Ideal) (x 1) (x 2) (x 3) i j (ix2 e 0)
    = Ideal.sqrt (∑ k : Fin 3, (at' x e i ⟨1 + k.val, by omega⟩ - at' x e j ⟨1 + k.val, by omega⟩) * (at' x e i ⟨1 + k.val, by omega⟩ - at' x e j ⟨1 + k.val, by omega⟩)) := by
  rw [val_main_v67_apply]
  have he : idx_main_v67 (ix2 e 0) = ix1 e := funext fun a => by match a with | ⟨0, _⟩ => exact Fin.ext (by show e.val * 1 + 0 = e.val; omega)
  rw [he, val_main_v50_apply, Ideal.hostUnary_sqrt_def, val_main_v49_apply]
  refine congrArg Ideal.sqrt ?_
  rw [val_main_cst_apply, zero_bits, zero_add]
  refine Finset.sum_congr rfl fun k _ => ?_
  have hk : idx_main_v49 (ix1 e) k = ix2 e k := funext fun a => by match a with | ⟨0, _⟩ => rfl | ⟨1, _⟩ => rfl
  rw [hk]
  have d := congrArg₂ (fun u v : EReal => u - v) (take3 (fun k => x ⟨1 + k.val, by omega⟩) i e k hi) (take3 (fun k => x ⟨1 + k.val, by omega⟩) j e k hj)
  exact congrArg₂ (fun u v : EReal => u * v) d d

/-- The inner product of the next three. -/
theorem c2 (hi : InR (i (ix1 e))) (hj : InR (j (ix1 e))) : val_main_v68 (F := Ideal) (x 4) (x 5) (x 6) i j (ix2 e 0)
    = ∑ k : Fin 3, at' x e i ⟨4 + k.val, by omega⟩ * at' x e j ⟨4 + k.val, by omega⟩ := by
  rw [val_main_v68_apply]
  have he : idx_main_v68 (ix2 e 0) = ix1 e := funext fun a => by match a with | ⟨0, _⟩ => exact Fin.ext (by show e.val * 1 + 0 = e.val; omega)
  rw [he, val_main_v66_apply]
  rw [val_main_cst_11_apply, zero_bits, zero_add]
  refine Finset.sum_congr rfl fun k _ => ?_
  have hk : idx_main_v66 (ix1 e) k = ix2 e k := funext fun a => by match a with | ⟨0, _⟩ => rfl | ⟨1, _⟩ => rfl
  rw [hk]
  exact congrArg₂ (fun u v : EReal => u * v) (take3 (fun k => x ⟨4 + k.val, by omega⟩) i e k hi) (take3 (fun k => x ⟨4 + k.val, by omega⟩) j e k hj)

/-- The difference of one of the last two features. -/
theorem d7 (y : Nodes) (hi : InR (i (ix1 e))) (hj : InR (j (ix1 e))) : val_main_v83 (F := Ideal) y i j (ix2 e 0)
    = node y (nd (i (ix1 e))) - node y (nd (j (ix1 e))) :=
  congrArg₂ (fun u v : EReal => u - v) (takeCol y i e hi) (takeCol y j e hj)

/-- The sign of such a difference. -/
theorem sgn (y : Nodes) (hi : InR (i (ix1 e))) (hj : InR (j (ix1 e))) : val_main_v84 (F := Ideal) y i j (ix2 e 0)
    = Ideal.sign (node y (nd (i (ix1 e))) - node y (nd (j (ix1 e)))) := by
  rw [val_main_v84_apply, Ideal.hostUnary_sign_def, d7 i j e y hi hj]

/-- The magnitude of such a difference. -/
theorem mag (y : Nodes) (hi : InR (i (ix1 e))) (hj : InR (j (ix1 e))) : val_main_v100 (F := Ideal) y i j (ix2 e 0)
    = max (node y (nd (i (ix1 e))) - node y (nd (j (ix1 e)))) (-(node y (nd (i (ix1 e))) - node y (nd (j (ix1 e))))) := by
  rw [val_main_v100_apply, Ideal.hostAbsf_def]
  exact congrArg (fun u : EReal => max u (-u)) (d7 i j e y hi hj)

/-- One attribute of one edge. -/
theorem val_apply (hi : InR (i (ix1 e))) (hj : InR (j (ix1 e))) (k : Fin 7) :
    val_main_v133 (F := Ideal) (x 0) (x 1) (x 2) (x 3) (x 4) (x 5) (x 6) (x 7) (x 8) i j (ix2 e k)
      = ev (at' x e i) (at' x e j) ⟨k.val, by omega⟩ := by
  let p : Fin 7 → FVec Ideal S1600000x1 .f32 := fun k => match k with
    | 0 => val_main_v32 (F := Ideal) (x 0) i j | 1 => val_main_v67 (F := Ideal) (x 1) (x 2) (x 3) i j
    | 2 => val_main_v68 (F := Ideal) (x 4) (x 5) (x 6) i j | 3 => val_main_v84 (F := Ideal) (x 7) i j
    | 4 => val_main_v100 (F := Ideal) (x 7) i j | 5 => val_main_v116 (F := Ideal) (x 8) i j | 6 => val_main_v132 (F := Ideal) (x 8) i j
  have hp : val_main_v133 (F := Ideal) (x 0) (x 1) (x 2) (x 3) (x 4) (x 5) (x 6) (x 7) (x 8) i j (ix2 e k) = p k (ix2 e 0) := by
    unfold val_main_v133
    refine concatenate_apply_piece (t := S1600000x7) 1 [_, _, _, _, _, _, _] _ (ix2 e k) k.val k.isLt S1600000x1 (p k) ?_ rfl k.val ?_ (ix2 e 0) ?_ ?_
    · fin_cases k <;> rfl
    · fin_cases k <;> rfl
    · intro b hb
      match b with
      | ⟨0, _⟩ => rfl
      | ⟨1, _⟩ => exact absurd rfl hb
    · rfl
  rw [hp]
  fin_cases k
  · exact c0 x i j e hi hj
  · exact c1 x i j e hi hj
  · exact c2 x i j e hi hj
  · exact sgn i j e (x 7) hi hj
  · exact mag i j e (x 7) hi hj
  · exact sgn i j e (x 8) hi hj
  · exact mag i j e (x 8) hi hj

end Cert.EV.Ref

end
-- ==== Proof.EV.Claims.lean ====
module

public import proofs.«01_k».proof.Defs
public import proofs.«01_k».proof.Proof.Gen.Edge.Frame
public import proofs.«01_k».proof.Proof.EV.Run
public import proofs.«01_k».proof.Proof.EV.Ref

@[expose] public section

set_option maxRecDepth 16384

noncomputable section

namespace Cert.EV

open Idealize.ShloMosaic Idealize.ShloMosaic.ValueIdx Idealize.ShloMosaic.TcCoe Idealize.SL.Sem

/-! The claims about the edge stage. -/

theorem pre_facts : Cert.Pre_in_range.Facts := ⟨Cert.EdgeIdeal.Gen.bcast_S_S1600000⟩

theorem frame_p2 : Cert.quiescent_Edge (hEdge := Cert.Edge.Gen.facts) := fun m ρ _ => Cert.Edge.Gen.frame m ρ

theorem frame_pi2 : Cert.quiescent_EdgeIdeal (hEdgeIdeal := Cert.EdgeIdeal.Gen.facts) := fun m ρ _ => Cert.EdgeIdeal.Gen.frame m ρ

theorem frame_pi2_pre : Cert.quiescent_EdgeIdeal_pre_in_range (hEdgeIdeal := Cert.EdgeIdeal.Gen.facts) (hPre_in_range := pre_facts) :=
  fun m ρ _ => Cert.EdgeIdeal.Gen.frame m ρ

theorem frame_ri2 : Cert.quiescent_EdgeRefIdeal (hEdgeRefIdeal := Cert.EdgeRefIdeal.Gen.facts) := fun m ρ _ =>
  (θ_run Cert.EdgeRefIdeal.defs _ _).mono
    (fun r h => ⟨fun c => (h c).2, Idealize.ShloMosaic.sem_eq_zero_of_no_sems (by decide) r.2⟩)
    (Cert.EdgeRefIdeal.Value.run m ρ)

theorem frame_ri2_pre : Cert.quiescent_EdgeRefIdeal_pre_in_range (hEdgeRefIdeal := Cert.EdgeRefIdeal.Gen.facts) (hPre_in_range := pre_facts) :=
  fun m ρ _ => frame_ri2 m ρ trivial

/-- The reference's result from a memory is the kernel's from another that agrees on the arguments. -/
theorem same (m : (ℓ : Loc Cert.EdgeIdeal.nD Cert.EdgeIdeal.τ Cert.EdgeIdeal.sig) → Buf (Elt Ideal) ℓ) (c : Dev Cert.EdgeIdeal.nD)
    (h9 : ∀ e, InR (m (c.tc.loc Cert.EdgeIdeal.main_arg9) (ix1 e))) (h10 : ∀ e, InR (m (c.tc.loc Cert.EdgeIdeal.main_arg10) (ix1 e))) :
    Cert.EdgeRefIdeal.Read.val_main_v133 (F := Ideal) (feat m c 0) (feat m c 1) (feat m c 2) (feat m c 3) (feat m c 4) (feat m c 5) (feat m c 6)
      (feat m c 7) (feat m c 8) (m (c.tc.loc Cert.EdgeIdeal.main_arg9)) (m (c.tc.loc Cert.EdgeIdeal.main_arg10)) = res m c := by
  funext i
  obtain ⟨e, k, rfl⟩ : ∃ (e : Fin 1600000) (k : Fin 7), i = ix2 e k := ⟨i 0, i 1, eq_ix2 i⟩
  exact (Ref.val_apply (feat m c) _ _ e (h9 e) (h10 e) k).trans (res_apply m c h9 h10 e k).symm

theorem algebraic : Cert.algebraic_EdgeIdeal_EdgeRefIdeal_pre_in_range (hEdgeIdeal := Cert.EdgeIdeal.Gen.facts)
    (hEdgeRefIdeal := Cert.EdgeRefIdeal.Gen.facts) (hPre_in_range := pre_facts) := by
  intro m g m' g' hpre hag
  refine ⟨res m, ?_, ?_⟩
  · exact (θ_run Cert.EdgeIdeal.defs _ _).mono (fun r h c => ⟨h.1 c, h.2 c⟩) (θ_run_and (run m g) (Cert.EdgeIdeal.Gen.unchanged m g))
  · refine (θ_run Cert.EdgeRefIdeal.defs _ _).mono (fun r h c => ⟨(h c).1.trans ?_, (h c).2⟩) (Cert.EdgeRefIdeal.Value.run m' g')
    obtain ⟨a0, a1, a2, a3, a4, a5, a6, a7, a8, a9, a10⟩ := hag c
    rw [Cert.EdgeRefIdeal.Read.val_main_v133_eq, a0, a1, a2, a3, a4, a5, a6, a7, a8, a9, a10]
    exact same m c (fun e => InR.of_cmp (congrFun (hpre c).1 (ix1 e))) (fun e => InR.of_cmp (congrFun (hpre c).2 (ix1 e)))

end Cert.EV

end
-- ==== Proof.NI.Loops.lean ====
module

public import proofs.«01_k».proof.Proof.Gen.NodeIdeal.Skeleton
public import proofs.«01_k».proof.Proof.Rows
public import Idealize.ShloMosaic.Lib.Exec
public import Idealize.ShloMosaic.Lib.Tactic
public import Idealize.ShloMosaic.Lib.Pipeline.Kit

@[expose] public section

set_option maxRecDepth 16384

noncomputable section

namespace Cert.NodeIdeal.Own

open Cert.NodeIdeal Cert.NodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf RegionSeg HostSeg Seg)

variable {F : FTy → Type} [FloatOps F]

/-- The resource algebra of the run. -/
local notation "MM" => MT nD τ sig Unit (Elt F) ℕ (UR sig nD τ) ℕ

/-! The three counted loops of the node body. Each invariant states what every written array holds
before a trip: the rows stored by the earlier trips, over what the array held before the loop. -/

/-! ### What the trips store, as functions of the arrays read -/

/-- An array of words. -/
abbrev WA := S100x1000.Idx → BitVec 32
/-- An array of numbers. -/
abbrev FA (F : FTy → Type) := S100x1000.Idx → F .f32

/-- The carried sum of the first loop before trip `k`. -/
def acc1 (init : FVec F S16x1000 .f32) (B : WA) (px py pz dx dy dz : FA F) : ℕ → FVec F S16x1000 .f32
  | 0 => init
  | k + 1 => k0_pay36 (acc1 init B px py pz dx dy dz k) (Rows.row B k) (Rows.row px k) (Rows.row py k) (Rows.row pz k) (Rows.row dx k) (Rows.row dy k) (Rows.row dz k)

/-- The second loop's rows of the scaled displacements. -/
abbrev dxRow (v66 : IVec S1000x1 32) (w : FVec F S3x1000 .f32) (B : WA) (dx : FA F) (k : ℕ) : FVec F S1x1000 .f32 := k0_pay17 v66 w (Rows.row B k) (Rows.row dx k)
abbrev dyRow (v66 : IVec S1000x1 32) (w : FVec F S3x1000 .f32) (B : WA) (dy : FA F) (k : ℕ) : FVec F S1x1000 .f32 := k0_pay18 v66 w (Rows.row B k) (Rows.row dy k)
abbrev dzRow (v66 : IVec S1000x1 32) (w : FVec F S3x1000 .f32) (B : WA) (dz : FA F) (k : ℕ) : FVec F S1x1000 .f32 := k0_pay19 v66 w (Rows.row B k) (Rows.row dz k)
/-- The second loop's rows of the scaled coordinates. -/
abbrev pxRow (v66 : IVec S1000x1 32) (w : FVec F S3x1000 .f32) (B : WA) (px : FA F) (k : ℕ) : FVec F S1x1000 .f32 := k0_pay14 v66 w (Rows.row B k) (Rows.row px k)
abbrev pyRow (v66 : IVec S1000x1 32) (w : FVec F S3x1000 .f32) (B : WA) (py : FA F) (k : ℕ) : FVec F S1x1000 .f32 := k0_pay15 v66 w (Rows.row B k) (Rows.row py k)
abbrev pzRow (v66 : IVec S1000x1 32) (w : FVec F S3x1000 .f32) (B : WA) (pz : FA F) (k : ℕ) : FVec F S1x1000 .f32 := k0_pay16 v66 w (Rows.row B k) (Rows.row pz k)
/-- The second loop's rows of the displacement lengths. -/
abbrev dnRow (v66 : IVec S1000x1 32) (w : FVec F S3x1000 .f32) (B : WA) (dx dy dz : FA F) (k : ℕ) : FVec F S1x1000 .f32 := k0_pay20 (dxRow v66 w B dx k) (dyRow v66 w B dy k) (dzRow v66 w B dz k)
/-- The second loop's rows of the normalised positions. -/
abbrev tnRow (v66 : IVec S1000x1 32) (v67 : IVec S1x1 32) (v72 : FVec F S1x1 .f32) (w : FVec F S3x1000 .f32) (B : WA) (k : ℕ) : FVec F S1x1000 .f32 := k0_pay21 v67 v72 (Scf.iv 0#32 1#32 k) (k0_pay7 (F := F) (Rows.row B k)) (k0_pay11 v66 w (Rows.row B k)) (k0_pay12 v66 w (Rows.row B k))
/-- The carried sum of the second loop before trip `k`. -/
def acc2 (init : FVec F S8x1000 .f32) (v66 : IVec S1000x1 32) (w : FVec F S3x1000 .f32) (B : WA) (dx dy dz fp : FA F) : ℕ → FVec F S8x1000 .f32
  | 0 => init
  | k + 1 => k0_pay22 (acc2 init v66 w B dx dy dz fp k) (k0_pay9 v66 (Rows.row B k)) (dxRow v66 w B dx k) (dyRow v66 w B dy k) (dzRow v66 w B dz k) (Rows.row fp k)

/-- The third loop's rows. -/
abbrev cdRow (v66 : IVec S1000x1 32) (v67 : IVec S1x1 32) (v72 : FVec F S1x1 .f32) (v117 : FVec F S3x1000 .f32) (v219 : FVec F S1x1 .f32) (B : WA) (g : FA F) (k : ℕ) : FVec F S1x1000 .f32 := k0_pay4 v66 v67 v72 v117 v219 (Rows.row B k) (Rows.row g k)
abbrev cmRow (v66 : IVec S1000x1 32) (v67 : IVec S1x1 32) (v72 : FVec F S1x1 .f32) (v117 : FVec F S3x1000 .f32) (v219 : FVec F S1x1 .f32) (B : WA) (g : FA F) (k : ℕ) : FVec F S1x1000 .f32 := k0_pay5 v66 v67 v72 v117 v219 (Rows.row B k) (Rows.row g k)
abbrev cxRow (v66 : IVec S1000x1 32) (v117 : FVec F S3x1000 .f32) (B : WA) (g : FA F) (k : ℕ) : FVec F S1x1000 .f32 := k0_pay6 v66 v117 (Rows.row B k) (Rows.row g k)

section
variable (arg0 : Memref sig .tc .vmem S100x1000 .i32) (harg0 : arg0.IsWhole)
variable (arg1 : Memref sig .tc .vmem S100x1000 .f32) (harg1 : arg1.IsWhole)
variable (arg2 : Memref sig .tc .vmem S100x1000 .f32) (harg2 : arg2.IsWhole)
variable (arg3 : Memref sig .tc .vmem S100x1000 .f32) (harg3 : arg3.IsWhole)
variable (arg4 : Memref sig .tc .vmem S100x1000 .f32) (harg4 : arg4.IsWhole)
variable (arg5 : Memref sig .tc .vmem S100x1000 .f32) (harg5 : arg5.IsWhole)
variable (arg6 : Memref sig .tc .vmem S100x1000 .f32) (harg6 : arg6.IsWhole)
variable (arg7 : Memref sig .tc .vmem S100x1000 .f32) (harg7 : arg7.IsWhole)
variable (arg8 : Memref sig .tc .vmem S100x1000 .f32) (harg8 : arg8.IsWhole)
variable (arg9 : Memref sig .tc .vmem S100x1000 .f32) (harg9 : arg9.IsWhole)
variable (arg10 : Memref sig .tc .vmem S100x1000 .f32) (harg10 : arg10.IsWhole)
variable (arg11 : Memref sig .tc .vmem S100x1000 .f32) (harg11 : arg11.IsWhole)
variable (arg12 : Memref sig .tc .vmem S100x1000 .f32) (harg12 : arg12.IsWhole)
variable (arg13 : Memref sig .tc .vmem S100x1000 .f32) (harg13 : arg13.IsWhole)
variable (arg14 : Memref sig .tc .vmem S100x1000 .f32) (harg14 : arg14.IsWhole)
variable (arg15 : Memref sig .tc .vmem S8x1000 .f32) (harg15 : arg15.IsWhole)
variable (arg16 : Memref sig .tc .vmem S100x1000 .f32) (harg16 : arg16.IsWhole)
variable (arg17 : Memref sig .tc .vmem S100x1000 .f32) (harg17 : arg17.IsWhole)
variable (arg18 : Memref sig .tc .vmem S100x1000 .f32) (harg18 : arg18.IsWhole)
variable (arg19 : Memref sig .tc .vmem S100x1000 .f32) (harg19 : arg19.IsWhole)

/-- The invariants of the first loop. -/
abbrev Inv1Ty (𝒱 : Variants) (c : Dev nD) (bd : Option 𝒱.V) (E : Set ℕ) (v1 : IVec S100x1000 32) (v7 : FVec F S100x1000 .f32) (v30 : FVec F S100x1000 .f32) (v38 : FVec F S100x1000 .f32) (v46 : FVec F S100x1000 .f32) (v47 : FVec F S100x1 .f32) (init : FVec F S16x1000 .f32) :=
  Idealize.ShloMosaic.LoopInv (M := MM) Idealize.ShloMosaic.frame (wpE (defs₀ (F := F)) 𝒱 (c : Thread nD τ) bd) E
    k0_t1_loop.lb k0_t1_loop.ub k0_t1_loop.st k0_t1_ok init (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v7 v30 v38 v46 v47)

set_option warn.classDefReducibility false in
/-- The first loop's invariant. -/
@[sl_loop] def inv1 (𝒱 : Variants) (c : Dev nD) (bd : Option 𝒱.V) (E : Set ℕ) (v1 : IVec S100x1000 32) (v7 : FVec F S100x1000 .f32) (v30 : FVec F S100x1000 .f32) (v38 : FVec F S100x1000 .f32) (v46 : FVec F S100x1000 .f32) (v47 : FVec F S100x1 .f32) (X0 : BufTy.Contents (Elt F) arg0.view.ty) (X1 : BufTy.Contents (Elt F) arg1.view.ty) (X2 : BufTy.Contents (Elt F) arg2.view.ty) (X3 : BufTy.Contents (Elt F) arg3.view.ty) (X12 : BufTy.Contents (Elt F) arg12.view.ty) (X13 : BufTy.Contents (Elt F) arg13.view.ty) (X14 : BufTy.Contents (Elt F) arg14.view.ty)  (init : FVec F S16x1000 .f32) :
    Inv1Ty (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 𝒱 c bd E v1 v7 v30 v38 v46 v47 init where
  inv k acc := iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ ⌜acc = acc1 init (arg0.view.read (Elt F) X0) (arg1.view.read (Elt F) X1) (arg2.view.read (Elt F) X2) (arg3.view.read (Elt F) X3) (arg12.view.read (Elt F) X12) (arg13.view.read (Elt F) X13) (arg14.view.read (Elt F) X14) k⌝)
  step k acc := by
    have hk : k.val < 100 := Nat.lt_of_lt_of_le k.isLt k0_t1_abs.2.1
    iintro ⟨R0, R1, R2, R3, R12, R13, R14, %hacc⟩
    subst hacc
    unfold k0_t1_body
    sl_exec
    sl_step
    isplitl [R0]; · iexact R0
    isplitl [R1]; · iexact R1
    isplitl [R2]; · iexact R2
    isplitl [R3]; · iexact R3
    isplitl [R12]; · iexact R12
    isplitl [R13]; · iexact R13
    isplitl [R14]; · iexact R14
    ipureintro
    simp only [Rows.readAt_row _ _ hk (k0_off1_eq k)]; rfl

/-- The invariants of the second loop. -/
abbrev Inv2Ty (𝒱 : Variants) (c : Dev nD) (bd : Option 𝒱.V) (E : Set ℕ) (v62 : FVec F S1000x1000 .f32) (v65 : FVec F S1000x1000 .f32) (v66 : IVec S1000x1 32) (v67 : IVec S1x1 32) (v72 : FVec F S1x1 .f32) (v75 : FVec F S16x1000 .f32) (v76 : FVec F S1x1000 .f32) (v78 : FVec F S1x1000 .f32) (v90 : FVec F S1x1000 .f32) (init : FVec F S8x1000 .f32) :=
  Idealize.ShloMosaic.LoopInv (M := MM) Idealize.ShloMosaic.frame (wpE (defs₀ (F := F)) 𝒱 (c : Thread nD τ) bd) E
    k0_t2_loop.lb k0_t2_loop.ub k0_t2_loop.st k0_t2_ok init (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v62 v65 v66 v67 v72 v75 v76 v78 v90)

set_option maxHeartbeats 2000000 in
set_option warn.classDefReducibility false in
/-- The second loop's invariant. -/
@[sl_loop] def inv2 (𝒱 : Variants) (c : Dev nD) (bd : Option 𝒱.V) (E : Set ℕ) (v62 : FVec F S1000x1000 .f32) (v65 : FVec F S1000x1000 .f32) (v66 : IVec S1000x1 32) (v67 : IVec S1x1 32) (v72 : FVec F S1x1 .f32) (v75 : FVec F S16x1000 .f32) (v76 : FVec F S1x1000 .f32) (v78 : FVec F S1x1000 .f32) (v90 : FVec F S1x1000 .f32) (X0 : BufTy.Contents (Elt F) arg0.view.ty) (X1 : BufTy.Contents (Elt F) arg1.view.ty) (X2 : BufTy.Contents (Elt F) arg2.view.ty) (X3 : BufTy.Contents (Elt F) arg3.view.ty) (X16 : BufTy.Contents (Elt F) arg16.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G7 : BufTy.Contents (Elt F) arg7.view.ty) (G4 : BufTy.Contents (Elt F) arg4.view.ty) (init : FVec F S8x1000 .f32) :
    Inv2Ty (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 𝒱 c bd E v62 v65 v66 v67 v72 v75 v76 v78 v90 init where
  inv k acc := iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg16.view.loc (c : Thread nD τ) ↦[arg16.view.set]{fullShare} X16) ∗ (∃ f, (arg9.view.loc (c : Thread nD τ) ↦[arg9.view.set]{fullShare} f) ∗ ⌜f = arg9.view.writes (Elt F) G9 (Rows.pieces (pxRow v66 (k0_pay42 v65 v76 v90) (arg0.view.read (Elt F) X0) (arg1.view.read (Elt F) X1)) k)⌝) ∗ (∃ f, (arg10.view.loc (c : Thread nD τ) ↦[arg10.view.set]{fullShare} f) ∗ ⌜f = arg10.view.writes (Elt F) G10 (Rows.pieces (pyRow v66 (k0_pay42 v65 v76 v90) (arg0.view.read (Elt F) X0) (arg2.view.read (Elt F) X2)) k)⌝) ∗ (∃ f, (arg11.view.loc (c : Thread nD τ) ↦[arg11.view.set]{fullShare} f) ∗ ⌜f = arg11.view.writes (Elt F) G11 (Rows.pieces (pzRow v66 (k0_pay42 v65 v76 v90) (arg0.view.read (Elt F) X0) (arg3.view.read (Elt F) X3)) k)⌝) ∗ (∃ f, (arg12.view.loc (c : Thread nD τ) ↦[arg12.view.set]{fullShare} f) ∗ ⌜f = arg12.view.writes (Elt F) G12 (Rows.pieces (dxRow v66 (k0_pay42 v65 v76 v90) (arg0.view.read (Elt F) X0) (arg12.view.read (Elt F) G12)) k)⌝) ∗ (∃ f, (arg13.view.loc (c : Thread nD τ) ↦[arg13.view.set]{fullShare} f) ∗ ⌜f = arg13.view.writes (Elt F) G13 (Rows.pieces (dyRow v66 (k0_pay42 v65 v76 v90) (arg0.view.read (Elt F) X0) (arg13.view.read (Elt F) G13)) k)⌝) ∗ (∃ f, (arg14.view.loc (c : Thread nD τ) ↦[arg14.view.set]{fullShare} f) ∗ ⌜f = arg14.view.writes (Elt F) G14 (Rows.pieces (dzRow v66 (k0_pay42 v65 v76 v90) (arg0.view.read (Elt F) X0) (arg14.view.read (Elt F) G14)) k)⌝) ∗ (∃ f, (arg7.view.loc (c : Thread nD τ) ↦[arg7.view.set]{fullShare} f) ∗ ⌜f = arg7.view.writes (Elt F) G7 (Rows.pieces (dnRow v66 (k0_pay42 v65 v76 v90) (arg0.view.read (Elt F) X0) (arg12.view.read (Elt F) G12) (arg13.view.read (Elt F) G13) (arg14.view.read (Elt F) G14)) k)⌝) ∗ (∃ f, (arg4.view.loc (c : Thread nD τ) ↦[arg4.view.set]{fullShare} f) ∗ ⌜f = arg4.view.writes (Elt F) G4 (Rows.pieces (tnRow v66 v67 v72 (k0_pay42 v65 v76 v90) (arg0.view.read (Elt F) X0)) k)⌝) ∗ ⌜acc = acc2 init v66 (k0_pay42 v65 v76 v90) (arg0.view.read (Elt F) X0) (arg12.view.read (Elt F) G12) (arg13.view.read (Elt F) G13) (arg14.view.read (Elt F) G14) (arg16.view.read (Elt F) X16) k⌝)
  step k acc := by
    have hk : k.val < 100 := Nat.lt_of_lt_of_le k.isLt k0_t2_abs.2.1
    iintro ⟨R0, R1, R2, R3, R16, ⟨%f9, W9, %h9⟩, ⟨%f10, W10, %h10⟩, ⟨%f11, W11, %h11⟩, ⟨%f12, W12, %h12⟩, ⟨%f13, W13, %h13⟩, ⟨%f14, W14, %h14⟩, ⟨%f7, W7, %h7⟩, ⟨%f4, W4, %h4⟩, %hacc⟩
    subst hacc
    unfold k0_t2_body
    sl_exec
    sl_step
    isplitl [R0]; · iexact R0
    isplitl [R1]; · iexact R1
    isplitl [R2]; · iexact R2
    isplitl [R3]; · iexact R3
    isplitl [R16]; · iexact R16
    isplitl [W9]
    · iexists _
      isplitl [W9]; · iexact W9
      ipureintro
      refine Rows.writes_succ _ _ _ hk (k0_off2_eq k) _ _ ?_ _ h9
      simp only [Rows.readAt_row _ _ hk (k0_off2_eq k)]
    isplitl [W10]
    · iexists _
      isplitl [W10]; · iexact W10
      ipureintro
      refine Rows.writes_succ _ _ _ hk (k0_off2_eq k) _ _ ?_ _ h10
      simp only [Rows.readAt_row _ _ hk (k0_off2_eq k)]
    isplitl [W11]
    · iexists _
      isplitl [W11]; · iexact W11
      ipureintro
      refine Rows.writes_succ _ _ _ hk (k0_off2_eq k) _ _ ?_ _ h11
      simp only [Rows.readAt_row _ _ hk (k0_off2_eq k)]
    isplitl [W12]
    · iexists _
      isplitl [W12]; · iexact W12
      ipureintro
      refine Rows.writes_succ _ _ _ hk (k0_off2_eq k) _ _ ?_ _ h12
      unfold inv2.sl.r_4
      simp only [Rows.readAt_row _ _ hk (k0_off2_eq k)]
      simp only [h12, h13, h14, Rows.read_pieces _ _ _ _ hk.le, Rows.row_upTo _ _ _ hk]
    isplitl [W13]
    · iexists _
      isplitl [W13]; · iexact W13
      ipureintro
      refine Rows.writes_succ _ _ _ hk (k0_off2_eq k) _ _ ?_ _ h13
      unfold inv2.sl.r_5
      simp only [Rows.readAt_row _ _ hk (k0_off2_eq k)]
      simp only [h12, h13, h14, Rows.read_pieces _ _ _ _ hk.le, Rows.row_upTo _ _ _ hk]
    isplitl [W14]
    · iexists _
      isplitl [W14]; · iexact W14
      ipureintro
      refine Rows.writes_succ _ _ _ hk (k0_off2_eq k) _ _ ?_ _ h14
      unfold inv2.sl.r_6
      simp only [Rows.readAt_row _ _ hk (k0_off2_eq k)]
      simp only [h12, h13, h14, Rows.read_pieces _ _ _ _ hk.le, Rows.row_upTo _ _ _ hk]
    isplitl [W7]
    · iexists _
      isplitl [W7]; · iexact W7
      ipureintro
      refine Rows.writes_succ _ _ _ hk (k0_off2_eq k) _ _ ?_ _ h7
      unfold inv2.sl.r_4 inv2.sl.r_5 inv2.sl.r_6
      simp only [Rows.readAt_row _ _ hk (k0_off2_eq k)]
      simp only [h12, h13, h14, Rows.read_pieces _ _ _ _ hk.le, Rows.row_upTo _ _ _ hk]
    isplitl [W4]
    · iexists _
      isplitl [W4]; · iexact W4
      ipureintro
      refine Rows.writes_succ _ _ _ hk (k0_off2_eq k) _ _ ?_ _ h4
      unfold inv2.sl.arg20 inv2.sl.r inv2.sl.r_2 inv2.sl.r_3
      simp only [Rows.readAt_row _ _ hk (k0_off2_eq k)]
    ipureintro
    unfold inv2.sl.r_1 inv2.sl.r_4 inv2.sl.r_5 inv2.sl.r_6
    simp only [Rows.readAt_row _ _ hk (k0_off2_eq k)]
    simp only [h12, h13, h14, Rows.read_pieces _ _ _ _ hk.le, Rows.row_upTo _ _ _ hk]; rfl

/-- The invariants of the third loop. -/
abbrev Inv3Ty (𝒱 : Variants) (c : Dev nD) (bd : Option 𝒱.V) (E : Set ℕ) (v66 : IVec S1000x1 32) (v67 : IVec S1x1 32) (v72 : FVec F S1x1 .f32) (v117 : FVec F S3x1000 .f32) (v219 : FVec F S1x1 .f32) :=
  Idealize.ShloMosaic.LoopInv (M := MM) Idealize.ShloMosaic.frame (wpE (defs₀ (F := F)) 𝒱 (c : Thread nD τ) bd) E
    k0_t3_loop.lb k0_t3_loop.ub k0_t3_loop.st k0_t3_ok (⟨⟩ : PUnit) (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v66 v67 v72 v117 v219)

set_option warn.classDefReducibility false in
/-- The third loop's invariant. -/
@[sl_loop] def inv3 (𝒱 : Variants) (c : Dev nD) (bd : Option 𝒱.V) (E : Set ℕ) (v66 : IVec S1000x1 32) (v67 : IVec S1x1 32) (v72 : FVec F S1x1 .f32) (v117 : FVec F S3x1000 .f32) (v219 : FVec F S1x1 .f32) (X0 : BufTy.Contents (Elt F) arg0.view.ty) (X17 : BufTy.Contents (Elt F) arg17.view.ty) (X18 : BufTy.Contents (Elt F) arg18.view.ty) (X19 : BufTy.Contents (Elt F) arg19.view.ty) (G5 : BufTy.Contents (Elt F) arg5.view.ty) (G6 : BufTy.Contents (Elt F) arg6.view.ty) (G8 : BufTy.Contents (Elt F) arg8.view.ty) :
    Inv3Ty (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 𝒱 c bd E v66 v67 v72 v117 v219 where
  inv k acc := iprop((arg0.view.loc (c : Thread nD τ) ↦[arg0.view.set]{fullShare} X0) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (∃ f, (arg5.view.loc (c : Thread nD τ) ↦[arg5.view.set]{fullShare} f) ∗ ⌜f = arg5.view.writes (Elt F) G5 (Rows.pieces (cdRow v66 v67 v72 v117 v219 (arg0.view.read (Elt F) X0) (arg17.view.read (Elt F) X17)) k)⌝) ∗ (∃ f, (arg6.view.loc (c : Thread nD τ) ↦[arg6.view.set]{fullShare} f) ∗ ⌜f = arg6.view.writes (Elt F) G6 (Rows.pieces (cmRow v66 v67 v72 v117 v219 (arg0.view.read (Elt F) X0) (arg18.view.read (Elt F) X18)) k)⌝) ∗ (∃ f, (arg8.view.loc (c : Thread nD τ) ↦[arg8.view.set]{fullShare} f) ∗ ⌜f = arg8.view.writes (Elt F) G8 (Rows.pieces (cxRow v66 v117 (arg0.view.read (Elt F) X0) (arg19.view.read (Elt F) X19)) k)⌝))
  step k acc := by
    have hk : k.val < 100 := Nat.lt_of_lt_of_le k.isLt k0_t3_abs.2.1
    iintro ⟨R0, R17, R18, R19, ⟨%f5, W5, %h5⟩, ⟨%f6, W6, %h6⟩, ⟨%f8, W8, %h8⟩⟩
    unfold k0_t3_body
    sl_exec
    sl_step
    isplitl [R0]; · iexact R0
    isplitl [R17]; · iexact R17
    isplitl [R18]; · iexact R18
    isplitl [R19]; · iexact R19
    isplitl [W5]
    · iexists _
      isplitl [W5]; · iexact W5
      ipureintro
      refine Rows.writes_succ _ _ _ hk (k0_off3_eq k) _ _ ?_ _ h5
      simp only [Rows.readAt_row _ _ hk (k0_off3_eq k)]
    isplitl [W6]
    · iexists _
      isplitl [W6]; · iexact W6
      ipureintro
      refine Rows.writes_succ _ _ _ hk (k0_off3_eq k) _ _ ?_ _ h6
      simp only [Rows.readAt_row _ _ hk (k0_off3_eq k)]
    · iexists _
      isplitl [W8]; · iexact W8
      ipureintro
      refine Rows.writes_succ _ _ _ hk (k0_off3_eq k) _ _ ?_ _ h8
      simp only [Rows.readAt_row _ _ hk (k0_off3_eq k)]

end

end Cert.NodeIdeal.Own

end
-- ==== Proof.NI.NodeVals.lean ====
module

public import proofs.«01_k».proof.Proof.NI.Loops

@[expose] public section

set_option maxRecDepth 16384

noncomputable section

namespace Cert.NodeIdeal.Own

open Cert.NodeIdeal Cert.NodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf RegionSeg HostSeg Seg)

variable {F : FTy → Type} [FloatOps F]

/-- The resource algebra of the run. -/
local notation "MM" => MT nD τ sig Unit (Elt F) ℕ (UR sig nD τ) ℕ

/-! The node body: what it leaves in each array it writes, as functions of the four it reads. -/

theorem trips100 : Scf.trips (0#32) (Scalar.addi 0#32 100#32) 1#32 = 100 := by decide +kernel

/-- The array of rows. -/
def allRows {α : Type} (pay : ℕ → S1x1000.Idx → α) : S100x1000.Idx → α := fun i => pay (i 0).val (Rows.col1 (i 1))

/-- The lane numbers of a column. -/
abbrev nCol : IVec S1000x1 32 := iota .tc S1000x1 32 [0] iota_S1000x1_d0_w32

section Values
variable (B : WA) (px py pz : FA F)
/-- Displacements to the next point. -/
def nDx : FA F := k0_pay27 (F := F) B px
def nDy : FA F := k0_pay28 (F := F) B py
def nDz : FA F := k0_pay30 (k0_pay24 pz) (k0_pay26 (F := F) B) (k0_pay29 pz)
/-- The first loop's sums. -/
def nAcc1 : FVec F S16x1000 .f32 := acc1 (k0_pay35 (F := F)) B px py pz (nDx B px) (nDy B py) (nDz B pz) 100
/-- The per-segment values the second loop spreads. -/
def nW : FVec F S3x1000 .f32 := k0_pay42 (k0_pay32 (F := F)) (k0_pay37 (nAcc1 B px py pz)) (k0_pay39 (nAcc1 B px py pz))
def nSeg : FVec F S8x1000 .f32 := k0_pay41 (nAcc1 B px py pz) (k0_pay37 (nAcc1 B px py pz)) (k0_pay38 (nAcc1 B px py pz)) (k0_pay39 (nAcc1 B px py pz))
/-- The first-point marks. -/
def nFp : FA F := k0_pay25 (F := F) B
/-- The second loop's sums. -/
def nAcc2 : FVec F S8x1000 .f32 := acc2 (k0_pay43 (F := F)) nCol (nW B px py pz) B (nDx B px) (nDy B py) (nDz B pz) (nFp (F := F) B) 100
def nPrev : FVec F S3x1000 .f32 := k0_pay44 (k0_pay32 (F := F)) (nAcc2 B px py pz)
def nPx : FA F := allRows (pxRow nCol (nW B px py pz) B px)
def nPy : FA F := allRows (pyRow nCol (nW B px py pz) B py)
def nPz : FA F := allRows (pzRow nCol (nW B px py pz) B pz)
def nQx : FA F := allRows (dxRow nCol (nW B px py pz) B (nDx B px))
def nQy : FA F := allRows (dyRow nCol (nW B px py pz) B (nDy B py))
def nQz : FA F := allRows (dzRow nCol (nW B px py pz) B (nDz B pz))
def nDn : FA F := allRows (dnRow nCol (nW B px py pz) B (nDx B px) (nDy B py) (nDz B pz))
def nTn : FA F := allRows (tnRow nCol (k0_pay33 (k0_pay23 (F := F) B)) (k0_pay34 (F := F) (k0_pay23 (F := F) B)) (nW B px py pz) B)
/-- Running sums and running maximum of the lengths. -/
def nG1 : FA F := k0_pay48 (k0_pay47 (k0_pay31 (F := F)) (nDn B px py pz))
def nG2 : FA F := k0_pay49 (k0_pay31 (F := F)) (k0_pay45 (nDn B px py pz)) (k0_pay46 (F := F))
def nMx : FA F := k0_pay53 (k0_pay50 (k0_pay45 (nDn B px py pz))) (k0_pay51 (F := F)) (k0_pay52 (k0_pay45 (nDn B px py pz)))
def nTop : FVec F S1x1 .f32 := k0_pay54 (k0_pay45 (nDn B px py pz))
def nCd : FA F := allRows (cdRow nCol (k0_pay33 (k0_pay23 (F := F) B)) (k0_pay34 (F := F) (k0_pay23 (F := F) B)) (nPrev B px py pz) (nTop B px py pz) B (nG1 B px py pz))
def nCm : FA F := allRows (cmRow nCol (k0_pay33 (k0_pay23 (F := F) B)) (k0_pay34 (F := F) (k0_pay23 (F := F) B)) (nPrev B px py pz) (nTop B px py pz) B (nG2 B px py pz))
def nCx : FA F := allRows (cxRow nCol (nPrev B px py pz) B (nMx B px py pz))
end Values

/-- What the array reads after all the row stores. -/
theorem read_all {sig' : RefSig} {κ : Kind} {sp : Space} {e : EltTy} (v : View sig' κ sp S100x1000 e) (G : v.ty.Contents (Elt F)) (pay : ℕ → S1x1000.Idx → Elt F e) :
    v.read (Elt F) (v.writes (Elt F) G (Rows.pieces pay 100)) = allRows pay := by
  exact (Rows.read_pieces v G pay 100 le_rfl).trans (Rows.upTo_all pay _)

/-- A load of the whole array. -/
theorem readAt_all {sig' : RefSig} {κ : Kind} {sp : Space} {e : EltTy} (v : View sig' κ sp S100x1000 e) (f : v.ty.Contents (Elt F)) :
    v.readAt (Elt F) (Rect.unit (s := S100x1000) ![0, 0] ![100, 1000] inb_S100x1000_S100x1000_0_0).toLoadRect f = v.read (Elt F) f :=
  View.readAt_full v f _

/-- A store of the whole array. -/
theorem read_store {sig' : RefSig} {κ : Kind} {sp : Space} {e : EltTy} (v : View sig' κ sp S100x1000 e) (f : v.ty.Contents (Elt F)) (w : S100x1000.Idx → Elt F e) :
    v.read (Elt F) (v.writes (Elt F) f [⟨Rect.unit (s := S100x1000) ![0, 0] ![100, 1000] inb_S100x1000_S100x1000_0_0, w⟩]) = w :=
  View.read_writes_full v f _ w []

/-- A store of the whole table of segment values. -/
theorem read_store8 {sig' : RefSig} {κ : Kind} {sp : Space} {e : EltTy} (v : View sig' κ sp S8x1000 e) (f : v.ty.Contents (Elt F)) (w : S8x1000.Idx → Elt F e) :
    v.read (Elt F) (v.writes (Elt F) f [⟨Rect.unit (s := S8x1000) ![0, 0] ![8, 1000] inb_S8x1000_S8x1000_0_0, w⟩]) = w :=
  View.read_writes_full v f _ w []

end Cert.NodeIdeal.Own

end
-- ==== Proof.NI.Node.lean ====
module

public import proofs.«01_k».proof.Proof.NI.NodeVals

@[expose] public section

set_option maxRecDepth 16384

noncomputable section

namespace Cert.NodeIdeal.Own

open Cert.NodeIdeal Cert.NodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf RegionSeg HostSeg Seg)

variable {F : FTy → Type} [FloatOps F]

/-- The resource algebra of the run. -/
local notation "MM" => MT nD τ sig Unit (Elt F) ℕ (UR sig nD τ) ℕ

/-! The node body. -/

variable (arg0 : Memref sig .tc .vmem S100x1000 .i32) (harg0 : arg0.IsWhole)
variable (arg1 : Memref sig .tc .vmem S100x1000 .f32) (harg1 : arg1.IsWhole)
variable (arg2 : Memref sig .tc .vmem S100x1000 .f32) (harg2 : arg2.IsWhole)
variable (arg3 : Memref sig .tc .vmem S100x1000 .f32) (harg3 : arg3.IsWhole)
variable (arg4 : Memref sig .tc .vmem S100x1000 .f32) (harg4 : arg4.IsWhole)
variable (arg5 : Memref sig .tc .vmem S100x1000 .f32) (harg5 : arg5.IsWhole)
variable (arg6 : Memref sig .tc .vmem S100x1000 .f32) (harg6 : arg6.IsWhole)
variable (arg7 : Memref sig .tc .vmem S100x1000 .f32) (harg7 : arg7.IsWhole)
variable (arg8 : Memref sig .tc .vmem S100x1000 .f32) (harg8 : arg8.IsWhole)
variable (arg9 : Memref sig .tc .vmem S100x1000 .f32) (harg9 : arg9.IsWhole)
variable (arg10 : Memref sig .tc .vmem S100x1000 .f32) (harg10 : arg10.IsWhole)
variable (arg11 : Memref sig .tc .vmem S100x1000 .f32) (harg11 : arg11.IsWhole)
variable (arg12 : Memref sig .tc .vmem S100x1000 .f32) (harg12 : arg12.IsWhole)
variable (arg13 : Memref sig .tc .vmem S100x1000 .f32) (harg13 : arg13.IsWhole)
variable (arg14 : Memref sig .tc .vmem S100x1000 .f32) (harg14 : arg14.IsWhole)
variable (arg15 : Memref sig .tc .vmem S8x1000 .f32) (harg15 : arg15.IsWhole)
variable (arg16 : Memref sig .tc .vmem S100x1000 .f32) (harg16 : arg16.IsWhole)
variable (arg17 : Memref sig .tc .vmem S100x1000 .f32) (harg17 : arg17.IsWhole)
variable (arg18 : Memref sig .tc .vmem S100x1000 .f32) (harg18 : arg18.IsWhole)
variable (arg19 : Memref sig .tc .vmem S100x1000 .f32) (harg19 : arg19.IsWhole)

set_option maxHeartbeats 2000000 in
/-- The node body runs, and leaves these arrays. -/
theorem node_body (𝒱 : Variants) (c : Dev nD) (bd : Option 𝒱.V) (E : Set ℕ) (X0 : BufTy.Contents (Elt F) arg0.view.ty) (X1 : BufTy.Contents (Elt F) arg1.view.ty) (X2 : BufTy.Contents (Elt F) arg2.view.ty) (X3 : BufTy.Contents (Elt F) arg3.view.ty) (G4 : BufTy.Contents (Elt F) arg4.view.ty) (G5 : BufTy.Contents (Elt F) arg5.view.ty) (G6 : BufTy.Contents (Elt F) arg6.view.ty) (G7 : BufTy.Contents (Elt F) arg7.view.ty) (G8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) :
    iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} G4) ∗ (arg5.view.loc (c : Thread nD τ) ↦[arg5.view.set]{fullShare} G5) ∗ (arg6.view.loc (c : Thread nD τ) ↦[arg6.view.set]{fullShare} G6) ∗ (arg7.view.loc (c : Thread nD τ) ↦[arg7.view.set]{fullShare} G7) ∗ (arg8.view.loc (c : Thread nD τ) ↦[arg8.view.set]{fullShare} G8) ∗ (arg9.view.loc (c : Thread nD τ) ↦[arg9.view.set]{fullShare} G9) ∗ (arg10.view.loc (c : Thread nD τ) ↦[arg10.view.set]{fullShare} G10) ∗ (arg11.view.loc (c : Thread nD τ) ↦[arg11.view.set]{fullShare} G11) ∗ (arg12.view.loc (c : Thread nD τ) ↦[arg12.view.set]{fullShare} G12) ∗ (arg13.view.loc (c : Thread nD τ) ↦[arg13.view.set]{fullShare} G13) ∗ (arg14.view.loc (c : Thread nD τ) ↦[arg14.view.set]{fullShare} G14) ∗ (arg15.view.loc (c : Thread nD τ) ↦[arg15.view.set]{fullShare} G15) ∗ (arg16.view.loc (c : Thread nD τ) ↦[arg16.view.set]{fullShare} G16) ∗ (arg17.view.loc (c : Thread nD τ) ↦[arg17.view.set]{fullShare} G17) ∗ (arg18.view.loc (c : Thread nD τ) ↦[arg18.view.set]{fullShare} G18) ∗ (arg19.view.loc (c : Thread nD τ) ↦[arg19.view.set]{fullShare} G19))
    ⊢ wp (M := MM) frame (wpE (defs₀ (F := F)) 𝒱 (c : Thread nD τ) bd) E (cc0__node_kernel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (∃ f, (arg4.view.loc (c : Thread nD τ) ↦[arg4.view.set]{fullShare} f) ∗ ⌜arg4.view.read (Elt F) f = nTn (arg0.view.read (Elt F) X0) (arg1.view.read (Elt F) X1) (arg2.view.read (Elt F) X2) (arg3.view.read (Elt F) X3)⌝) ∗ (∃ f, (arg5.view.loc (c : Thread nD τ) ↦[arg5.view.set]{fullShare} f) ∗ ⌜arg5.view.read (Elt F) f = nCd (arg0.view.read (Elt F) X0) (arg1.view.read (Elt F) X1) (arg2.view.read (Elt F) X2) (arg3.view.read (Elt F) X3)⌝) ∗ (∃ f, (arg6.view.loc (c : Thread nD τ) ↦[arg6.view.set]{fullShare} f) ∗ ⌜arg6.view.read (Elt F) f = nCm (arg0.view.read (Elt F) X0) (arg1.view.read (Elt F) X1) (arg2.view.read (Elt F) X2) (arg3.view.read (Elt F) X3)⌝) ∗ (∃ f, (arg7.view.loc (c : Thread nD τ) ↦[arg7.view.set]{fullShare} f) ∗ ⌜arg7.view.read (Elt F) f = nDn (arg0.view.read (Elt F) X0) (arg1.view.read (Elt F) X1) (arg2.view.read (Elt F) X2) (arg3.view.read (Elt F) X3)⌝) ∗ (∃ f, (arg8.view.loc (c : Thread nD τ) ↦[arg8.view.set]{fullShare} f) ∗ ⌜arg8.view.read (Elt F) f = nCx (arg0.view.read (Elt F) X0) (arg1.view.read (Elt F) X1) (arg2.view.read (Elt F) X2) (arg3.view.read (Elt F) X3)⌝) ∗ (∃ f, (arg9.view.loc (c : Thread nD τ) ↦[arg9.view.set]{fullShare} f) ∗ ⌜arg9.view.read (Elt F) f = nPx (arg0.view.read (Elt F) X0) (arg1.view.read (Elt F) X1) (arg2.view.read (Elt F) X2) (arg3.view.read (Elt F) X3)⌝) ∗ (∃ f, (arg10.view.loc (c : Thread nD τ) ↦[arg10.view.set]{fullShare} f) ∗ ⌜arg10.view.read (Elt F) f = nPy (arg0.view.read (Elt F) X0) (arg1.view.read (Elt F) X1) (arg2.view.read (Elt F) X2) (arg3.view.read (Elt F) X3)⌝) ∗ (∃ f, (arg11.view.loc (c : Thread nD τ) ↦[arg11.view.set]{fullShare} f) ∗ ⌜arg11.view.read (Elt F) f = nPz (arg0.view.read (Elt F) X0) (arg1.view.read (Elt F) X1) (arg2.view.read (Elt F) X2) (arg3.view.read (Elt F) X3)⌝) ∗ (∃ f, (arg12.view.loc (c : Thread nD τ) ↦[arg12.view.set]{fullShare} f) ∗ ⌜arg12.view.read (Elt F) f = nQx (arg0.view.read (Elt F) X0) (arg1.view.read (Elt F) X1) (arg2.view.read (Elt F) X2) (arg3.view.read (Elt F) X3)⌝) ∗ (∃ f, (arg13.view.loc (c : Thread nD τ) ↦[arg13.view.set]{fullShare} f) ∗ ⌜arg13.view.read (Elt F) f = nQy (arg0.view.read (Elt F) X0) (arg1.view.read (Elt F) X1) (arg2.view.read (Elt F) X2) (arg3.view.read (Elt F) X3)⌝) ∗ (∃ f, (arg14.view.loc (c : Thread nD τ) ↦[arg14.view.set]{fullShare} f) ∗ ⌜arg14.view.read (Elt F) f = nQz (arg0.view.read (Elt F) X0) (arg1.view.read (Elt F) X1) (arg2.view.read (Elt F) X2) (arg3.view.read (Elt F) X3)⌝) ∗ (∃ f, (arg15.view.loc (c : Thread nD τ) ↦[arg15.view.set]{fullShare} f) ∗ ⌜arg15.view.read (Elt F) f = nSeg (arg0.view.read (Elt F) X0) (arg1.view.read (Elt F) X1) (arg2.view.read (Elt F) X2) (arg3.view.read (Elt F) X3)⌝) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)))) := by
  iintro ⟨H0, H1, H2, H3, H4, H5, H6, H7, H8, H9, H10, H11, H12, H13, H14, H15, H16, H17, H18, H19⟩
  rw [cc0__node_kernel_eq_skeleton]
  unfold cc0__node_kernel_skel
  sl_exec
  sl_step
  have t1 : Scf.trips k0_t1_loop.lb k0_t1_loop.ub k0_t1_loop.st = 100 := by decide +kernel
  have t2 : Scf.trips k0_t2_loop.lb k0_t2_loop.ub k0_t2_loop.st = 100 := by decide +kernel
  have t3 : Scf.trips k0_t3_loop.lb k0_t3_loop.ub k0_t3_loop.st = 100 := by decide +kernel
  have e0 : node_body.sl.r arg0 X0 = k0_pay23 (arg0.view.read (Elt F) X0) := by
    delta node_body.sl.r
    simp only [readAt_all]
    try rfl
  have e12 : arg12.view.read (Elt F) (arg12.view.writes (Elt F) arg12.view.junk (node_body.sl.H12_1 arg0 arg1 X0 X1)) = nDx (arg0.view.read (Elt F) X0) (arg1.view.read (Elt F) X1) := by
    delta node_body.sl.H12_1 node_body.sl.r_3
    simp only [read_store, readAt_all]
    try rfl
  have e13 : arg13.view.read (Elt F) (arg13.view.writes (Elt F) arg13.view.junk (node_body.sl.H13_1 arg0 arg2 X0 X2)) = nDy (arg0.view.read (Elt F) X0) (arg2.view.read (Elt F) X2) := by
    delta node_body.sl.H13_1 node_body.sl.r_4
    simp only [read_store, readAt_all]
    try rfl
  have e14 : arg14.view.read (Elt F) (arg14.view.writes (Elt F) arg14.view.junk (node_body.sl.H14_1 arg0 arg3 X0 X3)) = nDz (arg0.view.read (Elt F) X0) (arg3.view.read (Elt F) X3) := by
    delta node_body.sl.H14_1 node_body.sl.r_1 node_body.sl.r_2 node_body.sl.r_5
    simp only [read_store, readAt_all]
    try rfl
  have e16 : arg16.view.read (Elt F) (arg16.view.writes (Elt F) arg16.view.junk (node_body.sl.H16_1 arg0 X0)) = nFp (F := F) (arg0.view.read (Elt F) X0) := by
    delta node_body.sl.H16_1
    simp only [read_store, readAt_all]
    try rfl
  have e6 : node_body.sl.r_6 arg0 X0 = k0_pay33 (k0_pay23 (F := F) (arg0.view.read (Elt F) X0)) := by
    delta node_body.sl.r_6
    simp only [e0]
    try rfl
  have e7 : node_body.sl.r_7 arg0 X0 = k0_pay34 (F := F) (k0_pay23 (F := F) (arg0.view.read (Elt F) X0)) := by
    delta node_body.sl.r_7
    simp only [e0]
    try rfl
  have f8 : node_body.sl.r_8 arg0 arg1 arg2 arg3 arg12 arg13 arg14 X0 X1 X2 X3 = nAcc1 (arg0.view.read (Elt F) X0) (arg1.view.read (Elt F) X1) (arg2.view.read (Elt F) X2) (arg3.view.read (Elt F) X3) := by
    delta node_body.sl.r_8
    simp only [e12, e13, e14, t1]
    try rfl
  have f9 : node_body.sl.r_9 arg0 arg1 arg2 arg3 arg12 arg13 arg14 X0 X1 X2 X3 = k0_pay37 (nAcc1 (arg0.view.read (Elt F) X0) (arg1.view.read (Elt F) X1) (arg2.view.read (Elt F) X2) (arg3.view.read (Elt F) X3)) := by
    delta node_body.sl.r_9
    simp only [e12, e13, e14, t1]
    try rfl
  have f10 : node_body.sl.r_10 arg0 arg1 arg2 arg3 arg12 arg13 arg14 X0 X1 X2 X3 = k0_pay38 (nAcc1 (arg0.view.read (Elt F) X0) (arg1.view.read (Elt F) X1) (arg2.view.read (Elt F) X2) (arg3.view.read (Elt F) X3)) := by
    delta node_body.sl.r_10
    simp only [e12, e13, e14, t1]
    try rfl
  have f11 : node_body.sl.r_11 arg0 arg1 arg2 arg3 arg12 arg13 arg14 X0 X1 X2 X3 = k0_pay39 (nAcc1 (arg0.view.read (Elt F) X0) (arg1.view.read (Elt F) X1) (arg2.view.read (Elt F) X2) (arg3.view.read (Elt F) X3)) := by
    delta node_body.sl.r_11
    simp only [e12, e13, e14, t1]
    try rfl
  have g12 : node_body.sl.r_12 arg0 arg1 arg2 arg3 arg12 arg13 arg14 arg16 X0 X1 X2 X3 = nPrev (arg0.view.read (Elt F) X0) (arg1.view.read (Elt F) X1) (arg2.view.read (Elt F) X2) (arg3.view.read (Elt F) X3) := by
    delta node_body.sl.r_12 node_body.sl.v66
    simp only [e12, e13, e14, e16, f9, f11, t2]
    try rfl
  have g118 : node_body.sl.v118 arg0 arg1 arg2 arg3 arg7 arg12 arg13 arg14 X0 X1 X2 X3 = nDn (arg0.view.read (Elt F) X0) (arg1.view.read (Elt F) X1) (arg2.view.read (Elt F) X2) (arg3.view.read (Elt F) X3) := by
    delta node_body.sl.v118 node_body.sl.v66
    simp only [View.readCov, readAt_all, read_all, e12, e13, e14, f9, f11, t2]
    try rfl
  have g13 : node_body.sl.r_13 arg0 arg1 arg2 arg3 arg7 arg12 arg13 arg14 X0 X1 X2 X3 = k0_pay45 (nDn (arg0.view.read (Elt F) X0) (arg1.view.read (Elt F) X1) (arg2.view.read (Elt F) X2) (arg3.view.read (Elt F) X3)) := by
    delta node_body.sl.r_13
    simp only [g118]
    try rfl
  have g14 : node_body.sl.r_14 arg0 arg1 arg2 arg3 arg7 arg12 arg13 arg14 X0 X1 X2 X3 = k0_pay47 (k0_pay31 (F := F)) (nDn (arg0.view.read (Elt F) X0) (arg1.view.read (Elt F) X1) (arg2.view.read (Elt F) X2) (arg3.view.read (Elt F) X3)) := by
    delta node_body.sl.r_14
    simp only [g118]
    try rfl
  have g16 : node_body.sl.r_16 arg0 arg1 arg2 arg3 arg7 arg12 arg13 arg14 X0 X1 X2 X3 = k0_pay50 (k0_pay45 (nDn (arg0.view.read (Elt F) X0) (arg1.view.read (Elt F) X1) (arg2.view.read (Elt F) X2) (arg3.view.read (Elt F) X3))) := by
    delta node_body.sl.r_16
    simp only [g13]
    try rfl
  have g17 : node_body.sl.r_17 arg0 arg1 arg2 arg3 arg7 arg12 arg13 arg14 X0 X1 X2 X3 = k0_pay52 (k0_pay45 (nDn (arg0.view.read (Elt F) X0) (arg1.view.read (Elt F) X1) (arg2.view.read (Elt F) X2) (arg3.view.read (Elt F) X3))) := by
    delta node_body.sl.r_17
    simp only [g13]
    try rfl
  have g18 : node_body.sl.r_18 arg0 arg1 arg2 arg3 arg7 arg12 arg13 arg14 X0 X1 X2 X3 = nTop (arg0.view.read (Elt F) X0) (arg1.view.read (Elt F) X1) (arg2.view.read (Elt F) X2) (arg3.view.read (Elt F) X3) := by
    delta node_body.sl.r_18
    simp only [g13]
    try rfl
  have h17 : arg17.view.read (Elt F) (arg17.view.writes (Elt F) arg17.view.junk (node_body.sl.H17_1 arg0 arg1 arg2 arg3 arg7 arg12 arg13 arg14 X0 X1 X2 X3)) = nG1 (arg0.view.read (Elt F) X0) (arg1.view.read (Elt F) X1) (arg2.view.read (Elt F) X2) (arg3.view.read (Elt F) X3) := by
    delta node_body.sl.H17_1
    simp only [read_store, g14]
    try rfl
  have h18 : arg18.view.read (Elt F) (arg18.view.writes (Elt F) arg18.view.junk (node_body.sl.H18_1 arg0 arg1 arg2 arg3 arg7 arg12 arg13 arg14 X0 X1 X2 X3)) = nG2 (arg0.view.read (Elt F) X0) (arg1.view.read (Elt F) X1) (arg2.view.read (Elt F) X2) (arg3.view.read (Elt F) X3) := by
    delta node_body.sl.H18_1
    simp only [read_store, g13]
    try rfl
  have h19 : arg19.view.read (Elt F) (arg19.view.writes (Elt F) arg19.view.junk (node_body.sl.H19_1 arg0 arg1 arg2 arg3 arg7 arg12 arg13 arg14 X0 X1 X2 X3)) = nMx (arg0.view.read (Elt F) X0) (arg1.view.read (Elt F) X1) (arg2.view.read (Elt F) X2) (arg3.view.read (Elt F) X3) := by
    delta node_body.sl.H19_1
    simp only [read_store, g16, g17]
    try rfl
  isplitl [H0]; · iexact H0
  isplitl [H1]; · iexact H1
  isplitl [H2]; · iexact H2
  isplitl [H3]; · iexact H3
  isplitl [H4]
  · iexists _
    isplitl [H4]; · iexact H4
    ipureintro
    try delta node_body.sl.v66
    simp only [read_all, t2, e6, e7, f9, f11, e12, e13, e14]
    try rfl
  isplitl [H5]
  · iexists _
    isplitl [H5]; · iexact H5
    ipureintro
    try delta node_body.sl.v66
    simp only [read_all, t3, e6, e7, g12, g18, h17, h18, h19]
    try rfl
  isplitl [H6]
  · iexists _
    isplitl [H6]; · iexact H6
    ipureintro
    try delta node_body.sl.v66
    simp only [read_all, t3, e6, e7, g12, g18, h17, h18, h19]
    try rfl
  isplitl [H7]
  · iexists _
    isplitl [H7]; · iexact H7
    ipureintro
    try delta node_body.sl.v66
    simp only [read_all, t2, f9, f11, e12, e13, e14]
    try rfl
  isplitl [H8]
  · iexists _
    isplitl [H8]; · iexact H8
    ipureintro
    try delta node_body.sl.v66
    simp only [read_all, t3, e6, e7, g12, g18, h17, h18, h19]
    try rfl
  isplitl [H9]
  · iexists _
    isplitl [H9]; · iexact H9
    ipureintro
    try delta node_body.sl.v66
    simp only [View.writes_append, read_all, t2, f9, f11, e12, e13, e14]
    try rfl
  isplitl [H10]
  · iexists _
    isplitl [H10]; · iexact H10
    ipureintro
    try delta node_body.sl.v66
    simp only [View.writes_append, read_all, t2, f9, f11, e12, e13, e14]
    try rfl
  isplitl [H11]
  · iexists _
    isplitl [H11]; · iexact H11
    ipureintro
    try delta node_body.sl.v66
    simp only [View.writes_append, read_all, t2, f9, f11, e12, e13, e14]
    try rfl
  isplitl [H12]
  · iexists _
    isplitl [H12]; · iexact H12
    ipureintro
    try delta node_body.sl.v66
    simp only [View.writes_append, read_all, t2, f9, f11, e12, e13, e14]
    try rfl
  isplitl [H13]
  · iexists _
    isplitl [H13]; · iexact H13
    ipureintro
    try delta node_body.sl.v66
    simp only [View.writes_append, read_all, t2, f9, f11, e12, e13, e14]
    try rfl
  isplitl [H14]
  · iexists _
    isplitl [H14]; · iexact H14
    ipureintro
    try delta node_body.sl.v66
    simp only [View.writes_append, read_all, t2, f9, f11, e12, e13, e14]
    try rfl
  isplitl [H15]
  · iexists _
    isplitl [H15]; · iexact H15
    ipureintro
    try delta node_body.sl.H15_1
    simp only [read_store8, f8, f9, f10, f11]
    try rfl
  isplitl [H16]
  · iexists _; iexact H16
  isplitl [H17]
  · iexists _; iexact H17
  isplitl [H18]
  · iexists _; iexact H18
  · iexists _; iexact H19

end Cert.NodeIdeal.Own

end
-- ==== Proof.NI.NodeOwns.lean ====
module

public import proofs.«01_k».proof.Proof.NI.Node
public import Idealize.ShloMosaic.Lib.Tactic

@[expose] public section

set_option maxRecDepth 16384

noncomputable section

namespace Cert.NodeIdeal.Own

open Cert.NodeIdeal Cert.NodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf RegionSeg HostSeg Seg)

variable {F : FTy → Type} [FloatOps F]

/-- The resource algebra of the run. -/
local notation "MM" => MT nD τ sig Unit (Elt F) ℕ (UR sig nD τ) ℕ

/-! The node body over memrefs held at their contents. -/

variable (arg0 : Memref sig .tc .vmem S100x1000 .i32) (harg0 : arg0.IsWhole)
variable (arg1 : Memref sig .tc .vmem S100x1000 .f32) (harg1 : arg1.IsWhole)
variable (arg2 : Memref sig .tc .vmem S100x1000 .f32) (harg2 : arg2.IsWhole)
variable (arg3 : Memref sig .tc .vmem S100x1000 .f32) (harg3 : arg3.IsWhole)
variable (arg4 : Memref sig .tc .vmem S100x1000 .f32) (harg4 : arg4.IsWhole)
variable (arg5 : Memref sig .tc .vmem S100x1000 .f32) (harg5 : arg5.IsWhole)
variable (arg6 : Memref sig .tc .vmem S100x1000 .f32) (harg6 : arg6.IsWhole)
variable (arg7 : Memref sig .tc .vmem S100x1000 .f32) (harg7 : arg7.IsWhole)
variable (arg8 : Memref sig .tc .vmem S100x1000 .f32) (harg8 : arg8.IsWhole)
variable (arg9 : Memref sig .tc .vmem S100x1000 .f32) (harg9 : arg9.IsWhole)
variable (arg10 : Memref sig .tc .vmem S100x1000 .f32) (harg10 : arg10.IsWhole)
variable (arg11 : Memref sig .tc .vmem S100x1000 .f32) (harg11 : arg11.IsWhole)
variable (arg12 : Memref sig .tc .vmem S100x1000 .f32) (harg12 : arg12.IsWhole)
variable (arg13 : Memref sig .tc .vmem S100x1000 .f32) (harg13 : arg13.IsWhole)
variable (arg14 : Memref sig .tc .vmem S100x1000 .f32) (harg14 : arg14.IsWhole)
variable (arg15 : Memref sig .tc .vmem S8x1000 .f32) (harg15 : arg15.IsWhole)
variable (arg16 : Memref sig .tc .vmem S100x1000 .f32) (harg16 : arg16.IsWhole)
variable (arg17 : Memref sig .tc .vmem S100x1000 .f32) (harg17 : arg17.IsWhole)
variable (arg18 : Memref sig .tc .vmem S100x1000 .f32) (harg18 : arg18.IsWhole)
variable (arg19 : Memref sig .tc .vmem S100x1000 .f32) (harg19 : arg19.IsWhole)

/-- A triple applied under a continuation. -/
theorem wp_use {α : Type} {𝒱 : Variants} {c : Dev nD} {E : Set ℕ} {p : Prog (TpuEff nD τ sig (Elt F) Λ₀ .tc) α} {P R : sProp MM} {Q : α → sProp MM}
    (h : P ⊢ wp frame (wpE (defs₀ (F := F)) 𝒱 (c : Thread nD τ) none) E p (fun _ => R)) :
    iprop(P ∗ (∀ a, R -∗ Q a)) ⊢ wp frame (wpE (defs₀ (F := F)) 𝒱 (c : Thread nD τ) none) E p Q :=
  (sep_mono h .rfl).trans (wp_wand_r _ _ _)

set_option maxHeartbeats 1000000 in
/-- The node body, each memref held at what it reads. -/
theorem node_owns (𝒱 : Variants) (c : Dev nD) (E : Set ℕ) (Y0 : S100x1000.Idx → Elt F .i32) (Y1 : S100x1000.Idx → Elt F .f32) (Y2 : S100x1000.Idx → Elt F .f32) (Y3 : S100x1000.Idx → Elt F .f32) :
    (iprop(owns (c : Thread nD τ) arg0 fullShare Y0 ∗ owns (c : Thread nD τ) arg1 fullShare Y1 ∗ owns (c : Thread nD τ) arg2 fullShare Y2 ∗ owns (c : Thread nD τ) arg3 fullShare Y3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) : sProp MM)
    ⊢ wp (M := MM) frame (wpE (defs₀ (F := F)) 𝒱 (c : Thread nD τ) none) E (cc0__node_kernel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop(owns (c : Thread nD τ) arg0 fullShare Y0 ∗ owns (c : Thread nD τ) arg1 fullShare Y1 ∗ owns (c : Thread nD τ) arg2 fullShare Y2 ∗ owns (c : Thread nD τ) arg3 fullShare Y3 ∗ owns (c : Thread nD τ) arg4 fullShare (nTn (F := F) Y0 Y1 Y2 Y3) ∗ owns (c : Thread nD τ) arg5 fullShare (nCd (F := F) Y0 Y1 Y2 Y3) ∗ owns (c : Thread nD τ) arg6 fullShare (nCm (F := F) Y0 Y1 Y2 Y3) ∗ owns (c : Thread nD τ) arg7 fullShare (nDn (F := F) Y0 Y1 Y2 Y3) ∗ owns (c : Thread nD τ) arg8 fullShare (nCx (F := F) Y0 Y1 Y2 Y3) ∗ owns (c : Thread nD τ) arg9 fullShare (nPx (F := F) Y0 Y1 Y2 Y3) ∗ owns (c : Thread nD τ) arg10 fullShare (nPy (F := F) Y0 Y1 Y2 Y3) ∗ owns (c : Thread nD τ) arg11 fullShare (nPz (F := F) Y0 Y1 Y2 Y3) ∗ owns (c : Thread nD τ) arg12 fullShare (nQx (F := F) Y0 Y1 Y2 Y3) ∗ owns (c : Thread nD τ) arg13 fullShare (nQy (F := F) Y0 Y1 Y2 Y3) ∗ owns (c : Thread nD τ) arg14 fullShare (nQz (F := F) Y0 Y1 Y2 Y3) ∗ owns (c : Thread nD τ) arg15 fullShare (nSeg (F := F) Y0 Y1 Y2 Y3) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d))) := by
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  subst hf0 hf1 hf2 hf3
  iapply (wp_use (node_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 𝒱 c none E f0 f1 f2 f3 f4 f5 f6 f7 f8 f9 f10 f11 f12 f13 f14 f15 f16 f17 f18 f19))
  isplitl [H0 H1 H2 H3 H4 H5 H6 H7 H8 H9 H10 H11 H12 H13 H14 H15 H16 H17 H18 H19]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  iintro %a ⟨H0, H1, H2, H3, ⟨%g4, H4, %hg4⟩, ⟨%g5, H5, %hg5⟩, ⟨%g6, H6, %hg6⟩, ⟨%g7, H7, %hg7⟩, ⟨%g8, H8, %hg8⟩, ⟨%g9, H9, %hg9⟩, ⟨%g10, H10, %hg10⟩, ⟨%g11, H11, %hg11⟩, ⟨%g12, H12, %hg12⟩, ⟨%g13, H13, %hg13⟩, ⟨%g14, H14, %hg14⟩, ⟨%g15, H15, %hg15⟩, ⟨%g16, H16⟩, ⟨%g17, H17⟩, ⟨%g18, H18⟩, ⟨%g19, H19⟩⟩
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; exact hg4
  isplitl [H5]; · iexists _; isplitr; swap; (· iexact H5); ipureintro; exact hg5
  isplitl [H6]; · iexists _; isplitr; swap; (· iexact H6); ipureintro; exact hg6
  isplitl [H7]; · iexists _; isplitr; swap; (· iexact H7); ipureintro; exact hg7
  isplitl [H8]; · iexists _; isplitr; swap; (· iexact H8); ipureintro; exact hg8
  isplitl [H9]; · iexists _; isplitr; swap; (· iexact H9); ipureintro; exact hg9
  isplitl [H10]; · iexists _; isplitr; swap; (· iexact H10); ipureintro; exact hg10
  isplitl [H11]; · iexists _; isplitr; swap; (· iexact H11); ipureintro; exact hg11
  isplitl [H12]; · iexists _; isplitr; swap; (· iexact H12); ipureintro; exact hg12
  isplitl [H13]; · iexists _; isplitr; swap; (· iexact H13); ipureintro; exact hg13
  isplitl [H14]; · iexists _; isplitr; swap; (· iexact H14); ipureintro; exact hg14
  isplitl [H15]; · iexists _; isplitr; swap; (· iexact H15); ipureintro; exact hg15
  isplitl [H16]; · iexists _; iexists _; isplitr; swap; (· iexact H16); ipureintro; rfl
  isplitl [H17]; · iexists _; iexists _; isplitr; swap; (· iexact H17); ipureintro; rfl
  isplitl [H18]; · iexists _; iexists _; isplitr; swap; (· iexact H18); ipureintro; rfl
  iexists _; iexists _; isplitr; swap; (· iexact H19); ipureintro; rfl

end Cert.NodeIdeal.Own

end
-- ==== Proof.NI.Run.lean ====
module

public import proofs.«01_k».proof.Proof.NI.NodeOwns
public import proofs.«01_k».proof.Proof.Gen.NodeIdeal.Frame
public import Idealize.ShloMosaic.Lib.Pipeline.Frame
public import Idealize.ShloMosaic.Lib.Pipeline.FrameBody
public import Idealize.ShloMosaic.Lib.Tactic
public import Idealize.ShloMosaic.Lib.Claim

@[expose] public section

set_option maxRecDepth 16384

noncomputable section

namespace Cert.NodeIdeal.Own

open Cert.NodeIdeal Cert.NodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf RegionSeg HostSeg Seg)

variable {F : FTy → Type} [FloatOps F]

/-- The resource algebra of the run. -/
local notation "MM" => MT nD τ sig Unit (Elt F) ℕ (UR sig nD τ) ℕ

/-! The node call as the region of the launch, and the run of the node stage. -/

abbrev UU : Type := UR sig nD τ
/-- A valuation of the buffers of every core. -/
abbrev Vals (F : FTy → Type) : Type := (c : Dev nD) → (b : Ref sig .tc) → Buf (Elt F) ((c : Thread nD τ).loc b)
abbrev 𝒱₀ : Variants := Variants.none

section Node
variable (V : Vals F)
/-- Input 0 of the node call, as staged. -/
def sIn0 (c : Dev nD) : (cfg0.win 0).block.Idx → Elt F (cfg0.win 0).elt := ((cfg0.win 0).blk t0_0).view.read (Elt F) (V c main_v0)
/-- Input 1 of the node call, as staged. -/
def sIn1 (c : Dev nD) : (cfg0.win 1).block.Idx → Elt F (cfg0.win 1).elt := ((cfg0.win 1).blk t0_0).view.read (Elt F) (V c main_v3)
/-- Input 2 of the node call, as staged. -/
def sIn2 (c : Dev nD) : (cfg0.win 2).block.Idx → Elt F (cfg0.win 2).elt := ((cfg0.win 2).blk t0_0).view.read (Elt F) (V c main_v6)
/-- Input 3 of the node call, as staged. -/
def sIn3 (c : Dev nD) : (cfg0.win 3).block.Idx → Elt F (cfg0.win 3).elt := ((cfg0.win 3).blk t0_0).view.read (Elt F) (V c main_v9)
/-- The scratch arrays and the generator register. -/
abbrev Φn (c : Dev nD) : sProp MM := Pipeline.ΦA spec0 c

/-- The generator register. -/
def Φrest (c : Dev nD) : sProp MM := iprop(∃ r, prngReg c r)
theorem Φn_eq (c : Dev nD) : Φn (F := F) c = iprop(((∃ f, owns (c : Thread nD τ) (Memref.whole cc0_scratch0) fullShare f) ∗ (∃ f, owns (c : Thread nD τ) (Memref.whole cc0_scratch1) fullShare f) ∗ (∃ f, owns (c : Thread nD τ) (Memref.whole cc0_scratch2) fullShare f) ∗ (∃ f, owns (c : Thread nD τ) (Memref.whole cc0_scratch3) fullShare f)) ∗ Φrest c) := by
  unfold Φn Pipeline.ΦA
  rw [scopedRest0_eq]
  simp only [owns_whole]
  rfl

/-- The node call's data: the arrays on entry, and what the body leaves in each window. -/
def dat0 (c : Dev nD) : Dat τ (Elt F) Unit ℕ UU ℕ cfg0 c where
  A w := V c (Pipeline.arrRef spec0 w)
  after w _ := match w with
    | ⟨0, _⟩ => sIn0 V c
    | ⟨1, _⟩ => sIn1 V c
    | ⟨2, _⟩ => sIn2 V c
    | ⟨3, _⟩ => sIn3 V c
    | ⟨4, _⟩ => nTn (F := F) (sIn0 V c) (sIn1 V c) (sIn2 V c) (sIn3 V c)
    | ⟨5, _⟩ => nCd (F := F) (sIn0 V c) (sIn1 V c) (sIn2 V c) (sIn3 V c)
    | ⟨6, _⟩ => nCm (F := F) (sIn0 V c) (sIn1 V c) (sIn2 V c) (sIn3 V c)
    | ⟨7, _⟩ => nDn (F := F) (sIn0 V c) (sIn1 V c) (sIn2 V c) (sIn3 V c)
    | ⟨8, _⟩ => nCx (F := F) (sIn0 V c) (sIn1 V c) (sIn2 V c) (sIn3 V c)
    | ⟨9, _⟩ => nPx (F := F) (sIn0 V c) (sIn1 V c) (sIn2 V c) (sIn3 V c)
    | ⟨10, _⟩ => nPy (F := F) (sIn0 V c) (sIn1 V c) (sIn2 V c) (sIn3 V c)
    | ⟨11, _⟩ => nPz (F := F) (sIn0 V c) (sIn1 V c) (sIn2 V c) (sIn3 V c)
    | ⟨12, _⟩ => nQx (F := F) (sIn0 V c) (sIn1 V c) (sIn2 V c) (sIn3 V c)
    | ⟨13, _⟩ => nQy (F := F) (sIn0 V c) (sIn1 V c) (sIn2 V c) (sIn3 V c)
    | ⟨14, _⟩ => nQz (F := F) (sIn0 V c) (sIn1 V c) (sIn2 V c) (sIn3 V c)
    | ⟨15, _⟩ => nSeg (F := F) (sIn0 V c) (sIn1 V c) (sIn2 V c) (sIn3 V c)
    | ⟨_ + 16, h⟩ => absurd h (Nat.not_lt.mpr (Nat.le_add_left 16 _))
  Φ _ := Φn c
  q _ := fullShare
  owed _ := 0

theorem before0_0 (c : Dev nD) (d) : (dat0 V c).before 0 t0_0 d = sIn0 V c := by
  unfold Dat.before; rw [if_pos (by decide)]; rfl
theorem before0_1 (c : Dev nD) (d) : (dat0 V c).before 1 t0_0 d = sIn1 V c := by
  unfold Dat.before; rw [if_pos (by decide)]; rfl
theorem before0_2 (c : Dev nD) (d) : (dat0 V c).before 2 t0_0 d = sIn2 V c := by
  unfold Dat.before; rw [if_pos (by decide)]; rfl
theorem before0_3 (c : Dev nD) (d) : (dat0 V c).before 3 t0_0 d = sIn3 V c := by
  unfold Dat.before; rw [if_pos (by decide)]; rfl
theorem after0_0 (c : Dev nD) : (dat0 V c).after 0 t0_0 = sIn0 V c := by dsimp only [dat0]
theorem after0_1 (c : Dev nD) : (dat0 V c).after 1 t0_0 = sIn1 V c := by dsimp only [dat0]
theorem after0_2 (c : Dev nD) : (dat0 V c).after 2 t0_0 = sIn2 V c := by dsimp only [dat0]
theorem after0_3 (c : Dev nD) : (dat0 V c).after 3 t0_0 = sIn3 V c := by dsimp only [dat0]
theorem after0_4 (c : Dev nD) : (dat0 V c).after 4 t0_0 = nTn (F := F) (sIn0 V c) (sIn1 V c) (sIn2 V c) (sIn3 V c) := by dsimp only [dat0]
theorem after0_5 (c : Dev nD) : (dat0 V c).after 5 t0_0 = nCd (F := F) (sIn0 V c) (sIn1 V c) (sIn2 V c) (sIn3 V c) := by dsimp only [dat0]
theorem after0_6 (c : Dev nD) : (dat0 V c).after 6 t0_0 = nCm (F := F) (sIn0 V c) (sIn1 V c) (sIn2 V c) (sIn3 V c) := by dsimp only [dat0]
theorem after0_7 (c : Dev nD) : (dat0 V c).after 7 t0_0 = nDn (F := F) (sIn0 V c) (sIn1 V c) (sIn2 V c) (sIn3 V c) := by dsimp only [dat0]
theorem after0_8 (c : Dev nD) : (dat0 V c).after 8 t0_0 = nCx (F := F) (sIn0 V c) (sIn1 V c) (sIn2 V c) (sIn3 V c) := by dsimp only [dat0]
theorem after0_9 (c : Dev nD) : (dat0 V c).after 9 t0_0 = nPx (F := F) (sIn0 V c) (sIn1 V c) (sIn2 V c) (sIn3 V c) := by dsimp only [dat0]
theorem after0_10 (c : Dev nD) : (dat0 V c).after 10 t0_0 = nPy (F := F) (sIn0 V c) (sIn1 V c) (sIn2 V c) (sIn3 V c) := by dsimp only [dat0]
theorem after0_11 (c : Dev nD) : (dat0 V c).after 11 t0_0 = nPz (F := F) (sIn0 V c) (sIn1 V c) (sIn2 V c) (sIn3 V c) := by dsimp only [dat0]
theorem after0_12 (c : Dev nD) : (dat0 V c).after 12 t0_0 = nQx (F := F) (sIn0 V c) (sIn1 V c) (sIn2 V c) (sIn3 V c) := by dsimp only [dat0]
theorem after0_13 (c : Dev nD) : (dat0 V c).after 13 t0_0 = nQy (F := F) (sIn0 V c) (sIn1 V c) (sIn2 V c) (sIn3 V c) := by dsimp only [dat0]
theorem after0_14 (c : Dev nD) : (dat0 V c).after 14 t0_0 = nQz (F := F) (sIn0 V c) (sIn1 V c) (sIn2 V c) (sIn3 V c) := by dsimp only [dat0]
theorem after0_15 (c : Dev nD) : (dat0 V c).after 15 t0_0 = nSeg (F := F) (sIn0 V c) (sIn1 V c) (sIn2 V c) (sIn3 V c) := by dsimp only [dat0]

set_option maxHeartbeats 2000000 in
/-- The node body on its staged blocks. -/
theorem run0 (c : Dev nD) :
    iprop((dat0 V c).Φ t0_0.castSucc ∗ (dat0 V c).owesAt () t0_0.castSucc ∗ (∃ d, owns (c : Thread nD τ) (st0_0 t0_0) fullShare ((dat0 V c).before 0 t0_0 d)) ∗ (∃ d, owns (c : Thread nD τ) (st0_1 t0_0) fullShare ((dat0 V c).before 1 t0_0 d)) ∗ (∃ d, owns (c : Thread nD τ) (st0_2 t0_0) fullShare ((dat0 V c).before 2 t0_0 d)) ∗ (∃ d, owns (c : Thread nD τ) (st0_3 t0_0) fullShare ((dat0 V c).before 3 t0_0 d)) ∗ (∃ d, owns (c : Thread nD τ) (st0_4 t0_0) fullShare ((dat0 V c).before 4 t0_0 d)) ∗ (∃ d, owns (c : Thread nD τ) (st0_5 t0_0) fullShare ((dat0 V c).before 5 t0_0 d)) ∗ (∃ d, owns (c : Thread nD τ) (st0_6 t0_0) fullShare ((dat0 V c).before 6 t0_0 d)) ∗ (∃ d, owns (c : Thread nD τ) (st0_7 t0_0) fullShare ((dat0 V c).before 7 t0_0 d)) ∗ (∃ d, owns (c : Thread nD τ) (st0_8 t0_0) fullShare ((dat0 V c).before 8 t0_0 d)) ∗ (∃ d, owns (c : Thread nD τ) (st0_9 t0_0) fullShare ((dat0 V c).before 9 t0_0 d)) ∗ (∃ d, owns (c : Thread nD τ) (st0_10 t0_0) fullShare ((dat0 V c).before 10 t0_0 d)) ∗ (∃ d, owns (c : Thread nD τ) (st0_11 t0_0) fullShare ((dat0 V c).before 11 t0_0 d)) ∗ (∃ d, owns (c : Thread nD τ) (st0_12 t0_0) fullShare ((dat0 V c).before 12 t0_0 d)) ∗ (∃ d, owns (c : Thread nD τ) (st0_13 t0_0) fullShare ((dat0 V c).before 13 t0_0 d)) ∗ (∃ d, owns (c : Thread nD τ) (st0_14 t0_0) fullShare ((dat0 V c).before 14 t0_0 d)) ∗ (∃ d, owns (c : Thread nD τ) (st0_15 t0_0) fullShare ((dat0 V c).before 15 t0_0 d)))
    ⊢ wp frame (wpE (defs₀ (F := F)) 𝒱₀ (c : Thread nD τ) none) Set.univ (bodyAt0 t0_0) (fun _ =>
      iprop((dat0 V c).Φ t0_0.succ ∗ (dat0 V c).owesAt () t0_0.succ ∗ owns (c : Thread nD τ) (st0_0 t0_0) fullShare ((dat0 V c).after 0 t0_0) ∗ owns (c : Thread nD τ) (st0_1 t0_0) fullShare ((dat0 V c).after 1 t0_0) ∗ owns (c : Thread nD τ) (st0_2 t0_0) fullShare ((dat0 V c).after 2 t0_0) ∗ owns (c : Thread nD τ) (st0_3 t0_0) fullShare ((dat0 V c).after 3 t0_0) ∗ owns (c : Thread nD τ) (st0_4 t0_0) fullShare ((dat0 V c).after 4 t0_0) ∗ owns (c : Thread nD τ) (st0_5 t0_0) fullShare ((dat0 V c).after 5 t0_0) ∗ owns (c : Thread nD τ) (st0_6 t0_0) fullShare ((dat0 V c).after 6 t0_0) ∗ owns (c : Thread nD τ) (st0_7 t0_0) fullShare ((dat0 V c).after 7 t0_0) ∗ owns (c : Thread nD τ) (st0_8 t0_0) fullShare ((dat0 V c).after 8 t0_0) ∗ owns (c : Thread nD τ) (st0_9 t0_0) fullShare ((dat0 V c).after 9 t0_0) ∗ owns (c : Thread nD τ) (st0_10 t0_0) fullShare ((dat0 V c).after 10 t0_0) ∗ owns (c : Thread nD τ) (st0_11 t0_0) fullShare ((dat0 V c).after 11 t0_0) ∗ owns (c : Thread nD τ) (st0_12 t0_0) fullShare ((dat0 V c).after 12 t0_0) ∗ owns (c : Thread nD τ) (st0_13 t0_0) fullShare ((dat0 V c).after 13 t0_0) ∗ owns (c : Thread nD τ) (st0_14 t0_0) fullShare ((dat0 V c).after 14 t0_0) ∗ owns (c : Thread nD τ) (st0_15 t0_0) fullShare ((dat0 V c).after 15 t0_0))) := by
  rw [show (dat0 V c).Φ t0_0.castSucc = Φn c from rfl, show (dat0 V c).Φ t0_0.succ = Φn c from rfl,
    show (dat0 V c).owesAt () t0_0.succ = (dat0 V c).owesAt () t0_0.castSucc from rfl]
  simp only [before0_0, before0_1, before0_2, before0_3, after0_0, after0_1, after0_2, after0_3, after0_4, after0_5, after0_6, after0_7, after0_8, after0_9, after0_10, after0_11, after0_12, after0_13, after0_14, after0_15]
  rw [Φn_eq]
  iintro ⟨⟨⟨S16, S17, S18, S19⟩, Hrest⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (wp_use (node_owns (F := F) (st0_0 t0_0) (hstage0_0 0) (st0_1 t0_0) (hstage0_1 0) (st0_2 t0_0) (hstage0_2 0) (st0_3 t0_0) (hstage0_3 0) (st0_4 t0_0) (hstage0_4 0) (st0_5 t0_0) (hstage0_5 0) (st0_6 t0_0) (hstage0_6 0) (st0_7 t0_0) (hstage0_7 0) (st0_8 t0_0) (hstage0_8 0) (st0_9 t0_0) (hstage0_9 0) (st0_10 t0_0) (hstage0_10 0) (st0_11 t0_0) (hstage0_11 0) (st0_12 t0_0) (hstage0_12 0) (st0_13 t0_0) (hstage0_13 0) (st0_14 t0_0) (hstage0_14 0) (st0_15 t0_0) (hstage0_15 0) (Memref.whole cc0_scratch0) (Memref.isWhole_whole _) (Memref.whole cc0_scratch1) (Memref.isWhole_whole _) (Memref.whole cc0_scratch2) (Memref.isWhole_whole _) (Memref.whole cc0_scratch3) (Memref.isWhole_whole _) 𝒱₀ c Set.univ (sIn0 V c) (sIn1 V c) (sIn2 V c) (sIn3 V c)))
  isplitl [H0 H1 H2 H3 H4 H5 H6 H7 H8 H9 H10 H11 H12 H13 H14 H15 S16 S17 S18 S19]
  · isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [S16]; · iexact S16
    isplitl [S17]; · iexact S17
    isplitl [S18]; · iexact S18
    iexact S19
  iintro %a ⟨H0, H1, H2, H3, H4, H5, H6, H7, H8, H9, H10, H11, H12, H13, H14, H15, S16, S17, S18, S19⟩
  isplitl [S16 S17 S18 S19 Hrest]
  · isplitr [Hrest]
    · isplitl [S16]; · iexact S16
      isplitl [S17]; · iexact S17
      isplitl [S18]; · iexact S18
      iexact S19
    iexact Hrest
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row is the body. -/
theorem row0 (t : Fin cfg0.N) : defs₀ (F := F) .tc cfg0.body (cfg0.bodyArgs t (cfg0.slots t)) = bodyAt0 t := by
  unfold defs₀; rw [Defs.onTc_tc]

/-- The node body meets its obligation. -/
theorem body0 (c : Dev nD) : BodyObligation (dat0 V c) (defs₀ (F := F)) 𝒱₀ () Set.univ := fun t => by
  obtain rfl := fin_N0 t
  rw [bigSep_W0, bigSep_W0, row0]
  exact triple_restated (run0 V c) rfl .rfl fun _ => .rfl
end Node

variable (m : (ℓ : Loc nD τ sig) → Buf (Elt F) ℓ) (ρ : Dev nD → PrngReg)

/-- The call's data at a memory. -/
abbrev dats (_ : Fin 1) (c : Dev nD) : Dat τ (Elt F) Unit ℕ UU ℕ cfg0 c := dat0 (V m) c

theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body0 (V m) c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => by dsimp only [dats, dat0]) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (fun _ _ => by dsimp only [dats, dat0]) (run_main m ρ)

/-- The frame of the node stage. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_and (unchanged m ρ) ((θ_run defs _ _).mono (fun _ h => h.2) (run_main_quiescent m ρ))

end Cert.NodeIdeal.Own

end
-- ==== Proof.NV.Sums.lean ====
module

public import Idealize.ShloMosaic.Lib.Routing.Ops
public import Idealize.ShloMosaic.Lib.Routing.OpsPair
public import Idealize.ShloMosaic.Lib.ValueIdxCore
public import Idealize.ShloMosaic.Lib.IdealHost
public import Idealize.ShloMosaic.PureOps.Ideal.Laws

@[expose] public section

noncomputable section

namespace Cert.NV

open Idealize.ShloMosaic Idealize.ShloMosaic.ValueIdx Idealize.ShloMosaic.Routing

/-! Sums over the points of a segment: as a scatter, as a count, and over rows of a hundred. -/

/-- The sum of `x` over the points that the words `B` put in segment `s`. -/
def tot {N : ℕ} (B : Fin N → BitVec 32) (x : Fin N → EReal) (s : ℕ) : EReal :=
  ∑ n, if (B n).toInt = (s : Int) then x n else 0

/-- A sum over the indices of a vector. -/
theorem sum1 {N : ℕ} (f : (shape1 N).Idx → EReal) : (∑ i, f i) = ∑ n : Fin N, f (ix1 n) :=
  Fintype.sum_equiv ⟨fun i => i 0, fun n => ix1 n, fun i => funext fun a => by
    obtain rfl : a = (0 : Fin 1) := Subsingleton.elim _ _
    rfl, fun _ => rfl⟩ _ _ fun i => congrArg f (funext fun a => by
    obtain rfl : a = (0 : Fin 1) := Subsingleton.elim _ _
    rfl)

/-- An update of a scatter by one index word each starts at its word. -/
theorem start_word {s u : Shape} {N : Nat} (d : ScatterDims s (shape2 N 1) u) (a : Fin s.rank)
    (hsd : d.scatterDimsToOperandDims = [a]) (hivd : d.indexVectorDim = 1) (idx : IVec (shape2 N 1) 32) (k : u.Idx) (i : Fin N)
    (hk : ∀ q ∈ d.uScatter, (k q).val = i.val) :
    d.start k idx a = (idx (ix2 i (0 : Fin 1))).toInt := by
  have hm : a ∈ d.scatterDimsToOperandDims := by rw [hsd]; exact List.mem_singleton.2 rfl
  unfold ScatterDims.start
  rw [dif_pos hm]
  have hsi : d.siIdx k ⟨d.scatterDimsToOperandDims.idxOf a, List.idxOf_lt_length_iff.2 hm⟩ = ix2 i (0 : Fin 1) := by
    funext b'
    apply Fin.ext
    match b' with
    | ⟨0, _⟩ =>
      unfold ScatterDims.siIdx
      rw [dif_neg (by rw [hivd]; exact Nat.zero_ne_one)]
      unfold ScatterDims.siCoord
      simp only [Fin.val_cast]
      exact hk _ (List.getElem_mem _)
    | ⟨1, _⟩ =>
      unfold ScatterDims.siIdx
      rw [dif_pos (by rw [hivd])]
      show List.idxOf a d.scatterDimsToOperandDims = 0
      rw [hsd]; simp
  rw [hsi]

/-- Where a scalar update lands. -/
theorem lands1 {R N : Nat} (d : ScatterDims (shape1 R) (shape2 N 1) (shape1 N)) (hiw : d.insertedWindowDims = [0])
    (hsd : d.scatterDimsToOperandDims = [0]) (hivd : d.indexVectorDim = 1) (idx : IVec (shape2 N 1) 32) (i : Fin N) (x : Fin R) :
    d.resultIdx? (ix1 i) idx = some (ix1 x) ↔ (idx (ix2 i (0 : Fin 1))).toInt = (x.val : Int) := by
  have hwin : d.window (ix1 i) 0 = 0 := by
    unfold ScatterDims.window
    rw [dif_neg fun h => (of_decide_eq_true (List.mem_filter.1 h).2) (by rw [hiw]; exact List.mem_singleton.2 rfl)]
  rw [resultIdx?_ix1, start_word d 0 hsd hivd idx (ix1 i) i (fun q _ => by
    obtain rfl : q = (0 : Fin 1) := Subsingleton.elim _ _
    rfl), hwin]
  simp

theorem one_ne : (1 : Fin 2) ≠ 0 := by decide

/-- Where an entry of a row update lands. -/
theorem lands2 {R C N : Nat} (d : ScatterDims (shape2 R C) (shape2 N 1) (shape2 N C)) (huw : d.updateWindowDims = [1])
    (hiw : d.insertedWindowDims = [0]) (hsd : d.scatterDimsToOperandDims = [0]) (hivd : d.indexVectorDim = 1)
    (idx : IVec (shape2 N 1) 32) (i : Fin N) (j : Fin C) (x : Fin R) (y : Fin C) :
    d.resultIdx? (ix2 i j) idx = some (ix2 x y) ↔ (idx (ix2 i (0 : Fin 1))).toInt = (x.val : Int) ∧ j = y := by
  have hwin0 : d.window (ix2 i j) 0 = 0 := by
    unfold ScatterDims.window
    rw [dif_neg fun h => (of_decide_eq_true (List.mem_filter.1 h).2) (by rw [hiw]; exact List.mem_singleton.2 rfl)]
  have hk1 : (1 : Fin 2) ∈ d.sKept := List.mem_filter.2 ⟨List.mem_finRange _, decide_eq_true (by rw [hiw]; exact fun h => one_ne (List.mem_singleton.1 h))⟩
  have hwin1 : d.window (ix2 i j) 1 = j.val := by
    unfold ScatterDims.window
    rw [dif_pos hk1]
    have hq : ∀ q ∈ d.updateWindowDims, (ix2 i j q).val = j.val := fun q h => by
      rw [huw] at h
      obtain rfl : q = (1 : Fin 2) := List.mem_singleton.1 h
      rfl
    exact hq _ (List.getElem_mem _)
  have hst1 : d.start (ix2 i j) idx 1 = 0 := by
    unfold ScatterDims.start
    rw [dif_neg (by rw [hsd]; exact fun h => one_ne (List.mem_singleton.1 h))]
  rw [resultIdx?_ix2, start_word d 0 hsd hivd idx (ix2 i j) i (fun q h => by
    have h' : q ∉ d.updateWindowDims := of_decide_eq_true (List.mem_filter.1 h).2
    rw [huw] at h'
    have h1 : q.val ≠ 1 := fun e => h' (List.mem_singleton.2 (Fin.ext e))
    have h2 : q.val < 2 := q.isLt
    obtain rfl : q = (0 : Fin 2) := Fin.ext (by show q.val = 0; omega)
    rfl), hwin0, hwin1, hst1]
  constructor
  · rintro ⟨h, h'⟩
    exact ⟨by simpa using h, Fin.ext (by simpa using h')⟩
  · rintro ⟨h, rfl⟩
    exact ⟨by simpa using h, by simp⟩

/-- A scatter of scalars, added into zeros. -/
theorem scatterAdd1 {R N : ℕ} (d : ScatterDims (shape1 R) (shape2 N 1) (shape1 N)) (hiw : d.insertedWindowDims = [0])
    (hsd : d.scatterDimsToOperandDims = [0]) (hivd : d.indexVectorDim = 1) (z : FVec Ideal (shape1 R) .f32) (hz : ∀ i, z i = (0 : EReal))
    (idx : IVec (shape2 N 1) 32) (upd : FVec Ideal (shape1 N) .f32) (s : Fin R) :
    Host.scatterAdd d z idx upd (ix1 s) = tot (fun n => idx (ix2 n (0 : Fin 1))) (fun n => upd (ix1 n)) s.val := by
  show z (ix1 s) + (∑ j ∈ Finset.univ.filter (fun j => d.resultIdx? j idx = some (ix1 s)), upd j : EReal) = _
  rw [hz, zero_add, Finset.sum_filter, sum1]
  unfold tot
  refine Finset.sum_congr rfl fun n _ => ?_
  simp only [lands1 d hiw hsd hivd]

/-- A scatter of rows, added into zeros. -/
theorem scatterAdd2 {R N C : ℕ} (d : ScatterDims (shape2 R C) (shape2 N 1) (shape2 N C)) (huw : d.updateWindowDims = [1])
    (hiw : d.insertedWindowDims = [0]) (hsd : d.scatterDimsToOperandDims = [0]) (hivd : d.indexVectorDim = 1)
    (z : FVec Ideal (shape2 R C) .f32) (hz : ∀ i, z i = (0 : EReal)) (idx : IVec (shape2 N 1) 32)
    (upd : FVec Ideal (shape2 N C) .f32) (s : Fin R) (a : Fin C) :
    Host.scatterAdd d z idx upd (ix2 s a) = tot (fun n => idx (ix2 n (0 : Fin 1))) (fun n => upd (ix2 n a)) s.val := by
  show z (ix2 s a) + (∑ j ∈ Finset.univ.filter (fun j => d.resultIdx? j idx = some (ix2 s a)), upd j : EReal) = _
  rw [hz, zero_add, Finset.sum_filter, sum_idx2]
  unfold tot
  refine Finset.sum_congr rfl fun n _ => ?_
  simp only [lands2 d huw hiw hsd hivd]
  by_cases h : (idx (ix2 n (0 : Fin 1))).toInt = (s.val : Int)
  · rw [if_pos h]
    simp [h]
  · rw [if_neg h]
    simp [h]

/-- A count as a sum of ones. -/
theorem count_sum {N : ℕ} (p : Fin N → Prop) [DecidablePred p] :
    (∑ n, if p n then (1 : EReal) else 0) = ((((Finset.univ.filter p).card : ℕ) : ℝ) : EReal) := by
  rw [Finset.sum_ite, Finset.sum_const_zero, add_zero, Finset.sum_const, EReal.nsmul_eq_mul, mul_one]
  rfl

theorem countP_card {M N : ℕ} (h : M = N) (p : Fin N → Prop) [DecidablePred p] :
    (List.finRange M).countP (fun n => decide (p (Fin.cast h n))) = (Finset.univ.filter p).card := by
  subst h
  rw [List.countP_eq_length_filter]
  rfl

/-- A scatter of integer ones, added into zeros, counts. -/
theorem scatterOnes {R N : ℕ} (d : ScatterDims (shape1 R) (shape2 N 1) (shape1 N)) (hiw : d.insertedWindowDims = [0])
    (hsd : d.scatterDimsToOperandDims = [0]) (hivd : d.indexVectorDim = 1) (z : IVec (shape1 R) 32) (hz : ∀ i, z i = 0#32)
    (idx : IVec (shape2 N 1) 32) (upd : IVec (shape1 N) 32) (hu : ∀ i, upd i = 1#32) (s : Fin R) :
    Host.scatter d IntOp.addi z idx upd (ix1 s)
      = BitVec.ofNat 32 ((Finset.univ.filter fun n : Fin N => (idx (ix2 n (0 : Fin 1))).toInt = (s.val : Int)).card) := by
  rw [scatter_at, hz]
  have key : ∀ (l : List (Fin (shape1 N).numel)) (z : ℕ),
      l.foldl (fun a n => if d.resultIdx? ((shape1 N).rowMajor.symm n) idx = some (ix1 s) then IntOp.addi a (upd ((shape1 N).rowMajor.symm n)) else a) (BitVec.ofNat 32 z)
        = BitVec.ofNat 32 (z + l.countP fun n => decide ((idx (ix2 (n.cast (numel1 N)) (0 : Fin 1))).toInt = (s.val : Int))) := by
    intro l
    induction l with
    | nil => intro z; rfl
    | cons n l ih =>
      intro z
      rw [List.foldl_cons, symm1, List.countP_cons]
      by_cases h : (idx (ix2 (n.cast (numel1 N)) (0 : Fin 1))).toInt = (s.val : Int)
      · rw [if_pos ((lands1 d hiw hsd hivd idx _ s).2 h), hu, if_pos (decide_eq_true h)]
        have e : IntOp.addi (BitVec.ofNat 32 z) 1#32 = BitVec.ofNat 32 (z + 1) := by
          show BitVec.ofNat 32 z + BitVec.ofNat 32 1 = _
          rw [BitVec.ofNat_add]
        rw [e, ih]
        congr 1; omega
      · rw [if_neg (fun e => h ((lands1 d hiw hsd hivd idx _ s).1 e)), if_neg (by simpa using h), ih, Nat.add_zero]
  refine (key _ 0).trans ?_
  rw [Nat.zero_add]
  exact congrArg (BitVec.ofNat 32) (countP_card (numel1 N) fun n : Fin N => (idx (ix2 n (0 : Fin 1))).toInt = (s.val : Int))

/-- The count made a float is the sum of float ones. -/
theorem scatterOnes_float {R N : ℕ} (hN : N < 2 ^ 31) (d : ScatterDims (shape1 R) (shape2 N 1) (shape1 N)) (hiw : d.insertedWindowDims = [0])
    (hsd : d.scatterDimsToOperandDims = [0]) (hivd : d.indexVectorDim = 1) (z : IVec (shape1 R) 32) (hz : ∀ i, z i = 0#32)
    (idx : IVec (shape2 N 1) 32) (upd : IVec (shape1 N) 32) (hu : ∀ i, upd i = 1#32) (s : Fin R) :
    (((Host.scatter d IntOp.addi z idx upd (ix1 s)).toInt : ℝ) : EReal) = tot (fun n => idx (ix2 n (0 : Fin 1))) (fun _ => 1) s.val := by
  unfold tot
  rw [count_sum, scatterOnes d hiw hsd hivd z hz idx upd hu]
  have hle : (Finset.univ.filter fun n : Fin N => (idx (ix2 n (0 : Fin 1))).toInt = (s.val : Int)).card ≤ N :=
    (Finset.card_filter_le _ _).trans (by simp)
  rw [StableHlo.Predicate.toInt_ofNat_small _ (by omega)]
  norm_cast

/-- The sum over all points, row by row. -/
theorem sum_rows {R C : ℕ} (g : Fin (R * C) → EReal) :
    (∑ k : Fin R, ∑ c : Fin C, g (finProdFinEquiv (k, c))) = ∑ n, g n := by
  rw [← Fintype.sum_prod_type', ← Equiv.sum_comp (finProdFinEquiv (m := R) (n := C))]

/-- A root of a value that is not negative, squared. -/
theorem sqrt_sq (v : EReal) : Ideal.sqrt (max v 0) * Ideal.sqrt (max v 0) = max v 0 := by
  have h : (0 : EReal) ≤ max v 0 := le_max_right _ _
  generalize max v 0 = w at h
  induction w with
  | bot => exact absurd h (by simp)
  | top => rfl
  | coe r =>
    have hr : 0 ≤ r := by exact_mod_cast h
    rw [Ideal.sqrt_coe, if_neg (by linarith), ← EReal.coe_mul, Real.mul_self_sqrt hr]

end Cert.NV

end
-- ==== Proof.NV.Body.lean ====
module

public import proofs.«01_k».proof.Proof.NI.NodeVals
public import proofs.«01_k».proof.Proof.NV.Sums
public import Idealize.ShloMosaic.Lib.Pipeline.Value
public import Idealize.ShloMosaic.Lib.ValueLayout
public import Idealize.ShloMosaic.Lib.MatmulPlain
public import Idealize.ShloMosaic.Lib.KernelVsHost

@[expose] public section

set_option maxRecDepth 16384

noncomputable section

namespace Cert.NV

open Idealize.ShloMosaic Idealize.ShloMosaic.ValueIdx Cert.NodeIdeal Cert.NodeIdeal.Gen Cert.NodeIdeal.Own

/-! The node kernel's sums per segment, and the two rows of segment values made of them. -/

/-- What one point adds to the sums of its segment: one, its coordinates, their squares. -/
def ft (j : Fin 7) (x y z : EReal) : EReal :=
  match j with
  | 0 => 1 | 1 => x | 2 => y | 3 => z | 4 => x * x | 5 => y * y | 6 => z * z

/-- The feature rows joined, read at one of the first ten. -/
theorem join10 (x : Fin 10 → FVec Ideal S1x1000 .f32) (u : FVec Ideal S6x1000 .f32)
    (h : Shape.Concatenates ([⟨S1x1000, x 0⟩, ⟨S1x1000, x 1⟩, ⟨S1x1000, x 2⟩, ⟨S1x1000, x 3⟩, ⟨S1x1000, x 4⟩, ⟨S1x1000, x 5⟩, ⟨S1x1000, x 6⟩,
      ⟨S1x1000, x 7⟩, ⟨S1x1000, x 8⟩, ⟨S1x1000, x 9⟩, ⟨S6x1000, u⟩].map (fun p : (s : Shape) × (s.Idx → Ideal .f32) => p.1)) S16x1000 0) (j : Fin 10) (l : Fin 1000) :
    concatenate S16x1000 0 [⟨S1x1000, x 0⟩, ⟨S1x1000, x 1⟩, ⟨S1x1000, x 2⟩, ⟨S1x1000, x 3⟩, ⟨S1x1000, x 4⟩, ⟨S1x1000, x 5⟩, ⟨S1x1000, x 6⟩,
      ⟨S1x1000, x 7⟩, ⟨S1x1000, x 8⟩, ⟨S1x1000, x 9⟩, ⟨S6x1000, u⟩] h (ix2 ⟨j.val, by omega⟩ l) = x j (ix2 0 l) := by
  have hx : ([⟨S1x1000, x 0⟩, ⟨S1x1000, x 1⟩, ⟨S1x1000, x 2⟩, ⟨S1x1000, x 3⟩, ⟨S1x1000, x 4⟩, ⟨S1x1000, x 5⟩, ⟨S1x1000, x 6⟩,
      ⟨S1x1000, x 7⟩, ⟨S1x1000, x 8⟩, ⟨S1x1000, x 9⟩, ⟨S6x1000, u⟩] : List ((s : Shape) × (s.Idx → Ideal .f32)))[j.val]'(by show j.val < 11; omega) = ⟨S1x1000, x j⟩ := by
    fin_cases j <;> rfl
  refine concatenate_apply_piece 0 _ h (ix2 _ l) j.val (by show j.val < 11; omega) S1x1000 (x j) hx rfl j.val ?_ (ix2 0 l) ?_ ?_
  · fin_cases j <;> rfl
  · intro b hb
    match b with
    | ⟨0, _⟩ => exact absurd rfl hb
    | ⟨1, _⟩ => rfl
  · rfl

/-- A word is the number of a segment just when it reads as that number. -/
theorem word_eq (b : BitVec 32) (s : Fin 1000) : BitVec.ofNat 32 s.val = b ↔ b.toInt = (s.val : Int) := by
  have hs := StableHlo.Predicate.toInt_ofNat_small s.val (by omega)
  constructor
  · rintro rfl; exact hs
  · intro h; exact BitVec.eq_of_toInt_eq (hs.trans h.symm)

/-- The marks of a row of points: column by column, which segment each is in. -/
theorem marks (v : IVec S1000x1 32) (hv : ∀ s : Fin 1000, v (ix2 s (0 : Fin 1)) = BitVec.ofNat 32 s.val) (b : IVec S1x1000 32) (c s : Fin 1000) :
    transpose S1000x1000 [1, 0] (sitofp (F := Ideal) .f32 (extui 32 (cmpi .eq (broadcastTo S1000x1000 v broadcasts_S1000x1_S1000x1000)
      (broadcastTo S1000x1000 b broadcasts_S1x1000_S1000x1000)) natLt_1_32)) transposes_S1000x1000_p1_0_S1000x1000 (ix2 c s)
      = (if (b (ix2 (0 : Fin 1) c)).toInt = (s.val : Int) then 1 else 0 : EReal) := by
  rw [transpose_ix2_apply, sitofp_extui_eq_uitofp]
  have h1 : broadcastTo S1000x1000 v broadcasts_S1000x1_S1000x1000 (ix2 s c) = BitVec.ofNat 32 s.val :=
    (broadcastTo_apply v _ (ix2 s c) (ix2 s (0 : Fin 1)) fun a => match a with | ⟨0, _⟩ => rfl | ⟨1, _⟩ => rfl).trans (hv s)
  have h2 : broadcastTo S1000x1000 b broadcasts_S1x1000_S1000x1000 (ix2 s c) = b (ix2 (0 : Fin 1) c) :=
    broadcastTo_1b_ab_apply b _ s c
  show (((BitVec.ofBool (broadcastTo S1000x1000 v broadcasts_S1000x1_S1000x1000 (ix2 s c) == broadcastTo S1000x1000 b broadcasts_S1x1000_S1000x1000 (ix2 s c))).toNat : ℝ) : EReal) = _
  rw [h1, h2]
  by_cases h : BitVec.ofNat 32 s.val = b (ix2 (0 : Fin 1) c)
  · rw [if_pos ((word_eq _ s).1 h), beq_iff_eq.2 h]
    simp
  · rw [if_neg (fun e => h ((word_eq _ s).2 e)), beq_eq_false_iff_ne.2 h]
    simp

/-- One trip of the first loop: the row of points added to the sums. -/
theorem pay36_apply (acc : FVec Ideal S16x1000 .f32) (b : IVec S1x1000 32) (x y z dx dy dz : FVec Ideal S1x1000 .f32) (j : Fin 7) (s : Fin 1000) :
    k0_pay36 (F := Ideal) acc b x y z dx dy dz (ix2 ⟨j.val, by omega⟩ s)
      = acc (ix2 ⟨j.val, by omega⟩ s) + ∑ c : Fin 1000, (if (b (ix2 (0 : Fin 1) c)).toInt = (s.val : Int)
          then ft j (x (ix2 (0 : Fin 1) c)) (y (ix2 (0 : Fin 1) c)) (z (ix2 (0 : Fin 1) c)) else 0 : EReal) := by
  have cf : ∀ u : FVec Ideal S1x1000 .f32, shapeCast S1x1000 u shapeCasts_S1x1000_S1x1000 = u := fun u => shapeCast_self _ _
  have cb : shapeCast S1x1000 b shapeCasts_S1x1000_S1x1000 = b := shapeCast_self _ _
  unfold k0_pay36
  dsimp only
  rw [cf x, cf y, cf z, cf dx, cf dy, cf dz, cb]
  refine congrArg (fun v : EReal => acc (ix2 ⟨j.val, by omega⟩ s) + v) ?_
  refine (Ideal.matmul_plain_apply (M := 16) (K := 1000) (N := 1000) (some .fp32) _ _ _ ⟨j.val, by omega⟩ s).trans ?_
  refine (congrArg (fun v : EReal => v + _) Ideal.ofBits_zero_f32).trans ((zero_add _).trans ?_)
  refine Finset.sum_congr rfl fun c _ => ?_
  rw [marks _ (fun s => iota_single_apply .tc S1000x1 32 0 _ (ix2 s (0 : Fin 1)))]
  have hj := join10 (fun i => match i with
      | 0 => broadcast S1x1000 (Scalar.ofBits .f32 0x3F800000#32) | 1 => x | 2 => y | 3 => z | 4 => mulf x x | 5 => mulf y y | 6 => mulf z z
      | 7 => dx | 8 => dy | 9 => dz) (broadcast S6x1000 (Scalar.ofBits .f32 0x00000000#32))
      concatenates_S1x1000_S1x1000_S1x1000_S1x1000_S1x1000_S1x1000_S1x1000_S1x1000_S1x1000_S1x1000_S6x1000_S16x1000_d0 ⟨j.val, by omega⟩ c
  refine (congrArg (fun v : EReal => v * (if (b (ix2 (0 : Fin 1) c)).toInt = (s.val : Int) then 1 else 0 : EReal)) hj).trans ?_
  have hf : ∀ (p : Prop) [Decidable p] (u v : EReal), u = v → u * (if p then 1 else 0) = if p then v else 0 := by
    intro p _ u v e
    subst e
    split
    · exact mul_one u
    · exact mul_zero u
  refine hf _ _ _ ?_
  fin_cases j
  · exact Ideal.ofBits_one_f32
  all_goals rfl

/-- The point in row `k` and column `c`. -/
def pt (k : Fin 100) (c : Fin 1000) : Fin 100000 := ⟨c.val + 1000 * k.val, by omega⟩

/-- An array of a hundred rows, point by point. -/
def flat {α : Type} (X : S100x1000.Idx → α) (n : Fin 100000) : α := X (ix2 (⟨n.val / 1000, by omega⟩ : Fin 100) (⟨n.val % 1000, by omega⟩ : Fin 1000))

theorem flat_pt {α : Type} (X : S100x1000.Idx → α) (k : Fin 100) (c : Fin 1000) : flat X (pt k c) = X (ix2 k c) := by
  have h0 : (c.val + 1000 * k.val) / 1000 = k.val := by omega
  have h1 : (c.val + 1000 * k.val) % 1000 = c.val := by omega
  exact congrArg X (congrArg₂ ix2 (Fin.ext h0) (Fin.ext h1))

section Sums
variable (B : WA) (px py pz dx dy dz : FA Ideal)

/-- The sums of the points of a segment. -/
abbrev T (j : Fin 7) (s : ℕ) : EReal := tot (flat B) (fun n => ft j (flat px n) (flat py n) (flat pz n)) s

/-- The sums after `k` trips. -/
theorem acc1_apply (j : Fin 7) (s : Fin 1000) (k : ℕ) (hk : k ≤ 100) :
    acc1 (k0_pay35 (F := Ideal)) B px py pz dx dy dz k (ix2 ⟨j.val, by omega⟩ s)
      = ∑ r ∈ Finset.range k, ∑ c : Fin 1000, (if (B (Rows.at2 r c)).toInt = (s.val : Int)
          then ft j (px (Rows.at2 r c)) (py (Rows.at2 r c)) (pz (Rows.at2 r c)) else 0 : EReal) := by
  induction k with
  | zero => exact Ideal.ofBits_zero_f32
  | succ k ih =>
    rw [Finset.sum_range_succ, ← ih (by omega)]
    exact pay36_apply _ _ _ _ _ _ _ _ j s

theorem acc1_all (j : Fin 7) (s : Fin 1000) :
    acc1 (k0_pay35 (F := Ideal)) B px py pz dx dy dz 100 (ix2 ⟨j.val, by omega⟩ s) = T B px py pz j s.val := by
  rw [acc1_apply _ _ _ _ _ _ _ j s 100 le_rfl, Finset.sum_range]
  unfold T tot
  refine Eq.trans ?_ (sum_rows (R := 100) (C := 1000) fun n => if (flat B n).toInt = (s.val : Int) then ft j (flat px n) (flat py n) (flat pz n) else 0)
  refine Finset.sum_congr rfl fun k _ => Finset.sum_congr rfl fun c _ => ?_
  have e : (finProdFinEquiv (k, c) : Fin (100 * 1000)) = pt k c := Fin.ext rfl
  have a : Rows.at2 k.val c = ix2 k c := congrArg₂ ix2 (Fin.ext (Nat.mod_eq_of_lt k.isLt)) rfl
  rw [e, flat_pt, flat_pt, flat_pt, flat_pt, a]

end Sums

end Cert.NV

end
-- ==== Proof.NV.Seg.lean ====
module

public import proofs.«01_k».proof.Proof.NV.Body

@[expose] public section

set_option maxRecDepth 16384

noncomputable section

namespace Cert.NV

open Idealize.ShloMosaic Idealize.ShloMosaic.ValueIdx Cert.NodeIdeal Cert.NodeIdeal.Gen Cert.NodeIdeal.Own

/-! The rows of segment values made of the sums. -/

/-- The spread of a segment: the root of the summed variances, from its count, its sums and its sums of squares. -/
def spread (n : EReal) (p q : Fin 3 → EReal) : EReal :=
  Ideal.sqrt (∑ a, max (Ideal.div (q a) (max n 1) - Ideal.div (p a) (max n 1) * Ideal.div (p a) (max n 1)) 0)

/-- A run of rows cut out of the sums. -/
theorem cut_apply {α : Type} {k o : Nat} (X : S16x1000.Idx → α) (h : S16x1000.Slices ![o, 0] (⟨2, ![k, 1000]⟩ : Shape))
    (ho : ∀ r : Fin k, o + r.val < 16) (r : Fin k) (l : Fin 1000) :
    extractStridedSlice (⟨2, ![k, 1000]⟩ : Shape) ![o, 0] X h (ix2 r l) = X (ix2 ⟨o + r.val, ho r⟩ l) :=
  extractStridedSlice_apply _ X h _ _ fun a => match a with
    | ⟨0, _⟩ => rfl
    | ⟨1, _⟩ => (Nat.zero_add _).symm

/-- The sum of a three-row block down its columns. -/
theorem sum_apply (X : FVec Ideal S3x1000 .f32) (h : S3x1000.Reduces [0] S1000) (l : Fin 1000) :
    shapeCast S1x1000 (multiReduction .add [0] S1000 X 0x00000000#32 h (.inl rfl) rfl) shapeCasts_S1000_S1x1000 (ix2 0 l)
      = ∑ k : Fin 3, X (ix2 k l) := by
  rw [shapeCast_apply _ _ (ix2 0 l) (ix1 l) (by rw [Shape.rowMajor_val_one, Shape.rowMajor_val_two]; show l.val = 0 * 1000 + l.val; omega)]
  refine (Ideal.multiReduction_add_single X _ h _ _ (ix1 l)).trans ?_
  refine Finset.sum_congr rfl fun k _ => congrArg X (funext fun a => Fin.ext ?_)
  match a with
  | ⟨0, _⟩ => rfl
  | ⟨1, _⟩ => rfl

/-- The count row. -/
theorem pay37_apply (A : FVec Ideal S16x1000 .f32) (s : Fin 1000) : k0_pay37 A (ix2 0 s) = A (ix2 0 s) :=
  cut_apply A slices_S16x1000_o0_0_S1x1000 (fun r => by omega) 0 s

/-- The count row, at least one. -/
theorem pay38_apply (A : FVec Ideal S16x1000 .f32) (s : Fin 1000) : k0_pay38 A (ix2 0 s) = max (A (ix2 0 s)) (1 : EReal) := by
  unfold k0_pay38
  exact congrArg₂ (fun u v : EReal => max u v) (pay37_apply A s) Ideal.ofBits_one_f32

/-- A mean: a row of sums over the count. -/
theorem mean_apply {o : Nat} (A : FVec Ideal S16x1000 .f32) (h : S16x1000.Slices ![o, 0] S3x1000) (ho : ∀ r : Fin 3, o + r.val < 16) (r : Fin 3) (s : Fin 1000) :
    divf (extractStridedSlice S3x1000 ![o, 0] A h) (broadcastTo S3x1000 (k0_pay38 A) broadcasts_S1x1000_S3x1000) (ix2 r s)
      = Ideal.div (A (ix2 ⟨o + r.val, ho r⟩ s)) (max (A (ix2 0 s)) 1) :=
  congrArg₂ Ideal.div (cut_apply A h ho r s) ((broadcastTo_1b_ab_apply (k0_pay38 A) _ r s).trans (pay38_apply A s))

/-- The first row: the spread. -/
theorem pay40_apply (A : FVec Ideal S16x1000 .f32) (s : Fin 1000) :
    k0_pay40 (k0_pay39 A) (ix2 0 s)
      = spread (A (ix2 0 s)) (fun r => A (ix2 ⟨1 + r.val, by omega⟩ s)) (fun r => A (ix2 ⟨4 + r.val, by omega⟩ s)) := by
  unfold k0_pay40 k0_pay39 spread
  dsimp only
  refine congrArg Ideal.sqrt ((sum_apply _ _ s).trans (Finset.sum_congr rfl fun r _ => ?_))
  have m := mean_apply A slices_S16x1000_o1_0_S3x1000 (fun r => by omega) r s
  have q := mean_apply A slices_S16x1000_o4_0_S3x1000 (fun r => by omega) r s
  exact congrArg₂ (fun u v : EReal => max u v) (congrArg₂ (fun u v : EReal => u - v) q (congrArg₂ (fun u v : EReal => u * v) m m)) Ideal.ofBits_zero_f32

/-- The rows joined, read at one of the first two. -/
theorem join2 (x : Fin 2 → FVec Ideal S1x1000 .f32) (u v : FVec Ideal S3x1000 .f32)
    (h : Shape.Concatenates ([⟨S1x1000, x 0⟩, ⟨S1x1000, x 1⟩, ⟨S3x1000, u⟩, ⟨S3x1000, v⟩].map (fun p : (s : Shape) × (s.Idx → Ideal .f32) => p.1)) S8x1000 0)
    (j : Fin 2) (l : Fin 1000) :
    concatenate S8x1000 0 [⟨S1x1000, x 0⟩, ⟨S1x1000, x 1⟩, ⟨S3x1000, u⟩, ⟨S3x1000, v⟩] h (ix2 ⟨j.val, by omega⟩ l) = x j (ix2 0 l) := by
  have hx : ([⟨S1x1000, x 0⟩, ⟨S1x1000, x 1⟩, ⟨S3x1000, u⟩, ⟨S3x1000, v⟩] : List ((s : Shape) × (s.Idx → Ideal .f32)))[j.val]'(by show j.val < 4; omega) = ⟨S1x1000, x j⟩ := by
    fin_cases j <;> rfl
  refine concatenate_apply_piece 0 _ h (ix2 _ l) j.val (by show j.val < 4; omega) S1x1000 (x j) hx rfl j.val ?_ (ix2 0 l) ?_ ?_
  · fin_cases j <;> rfl
  · intro b hb
    match b with
    | ⟨0, _⟩ => exact absurd rfl hb
    | ⟨1, _⟩ => rfl
  · rfl

theorem pay41_row (A : FVec Ideal S16x1000 .f32) (c d e : FVec Ideal S1x1000 .f32) (j : Fin 2) (s : Fin 1000) :
    k0_pay41 A c d e (ix2 ⟨j.val, by omega⟩ s) = (match j with | 0 => k0_pay40 e | 1 => log c : FVec Ideal S1x1000 .f32) (ix2 0 s) := by
  unfold k0_pay41
  dsimp only
  exact join2 (fun i => match i with | 0 => k0_pay40 e | 1 => log c) _ _ _ j s

/-- The first row of segment values. -/
theorem row0_apply (A : FVec Ideal S16x1000 .f32) (c d : FVec Ideal S1x1000 .f32) (s : Fin 1000) :
    k0_pay41 A c d (k0_pay39 A) (ix2 0 s)
      = spread (A (ix2 0 s)) (fun r => A (ix2 ⟨1 + r.val, by omega⟩ s)) (fun r => A (ix2 ⟨4 + r.val, by omega⟩ s)) :=
  (pay41_row A c d (k0_pay39 A) 0 s).trans (pay40_apply A s)

/-- The second row: the logarithm of the count. -/
theorem row1_apply (A : FVec Ideal S16x1000 .f32) (d e : FVec Ideal S1x1000 .f32) (s : Fin 1000) :
    k0_pay41 A (k0_pay37 A) d e (ix2 1 s) = Ideal.log (A (ix2 0 s)) :=
  (pay41_row A (k0_pay37 A) d e 1 s).trans (congrArg Ideal.log (pay37_apply A s))

section Rows
variable (B : WA) (px py pz : FA Ideal)

theorem nAcc1_apply (j : Fin 7) (k : Fin 16) (hk : k.val = j.val) (s : Fin 1000) : nAcc1 B px py pz (ix2 k s) = T B px py pz j s.val := by
  have e : k = ⟨j.val, by omega⟩ := Fin.ext hk
  rw [e]
  unfold nAcc1
  exact acc1_all B px py pz _ _ _ j s

theorem nSeg0 (s : Fin 1000) : nSeg B px py pz (ix2 0 s)
    = spread (T B px py pz 0 s.val) (fun r => T B px py pz ⟨1 + r.val, by omega⟩ s.val) (fun r => T B px py pz ⟨4 + r.val, by omega⟩ s.val) := by
  unfold nSeg
  rw [row0_apply, nAcc1_apply B px py pz 0 0 rfl]
  exact congrArg₂ (spread _) (funext fun r => nAcc1_apply B px py pz ⟨1 + r.val, by omega⟩ _ rfl s)
    (funext fun r => nAcc1_apply B px py pz ⟨4 + r.val, by omega⟩ _ rfl s)

theorem nSeg1 (s : Fin 1000) : nSeg B px py pz (ix2 1 s) = Ideal.log (T B px py pz 0 s.val) := by
  unfold nSeg
  rw [row1_apply, nAcc1_apply B px py pz 0 0 rfl]

end Rows

end Cert.NV

end
-- ==== Proof.NV.Step.lean ====
module

public import proofs.«01_k».proof.Proof.NV.Seg

@[expose] public section

set_option maxRecDepth 16384

noncomputable section

namespace Cert.NV

open Idealize.ShloMosaic Idealize.ShloMosaic.ValueIdx Cert.NodeIdeal Cert.NodeIdeal.Gen Cert.NodeIdeal.Own

/-! The displacements to the next point, and the three rows of segment values made of them. -/

/-- The point after this one; the first after the last. -/
def nx (n : Fin 100000) : Fin 100000 := ⟨(n.val + 1) % 100000, Nat.mod_lt _ (by norm_num)⟩

/-- The displacement to the next point, zero where it is in another segment. -/
def jump (b b' : BitVec 32) (x x' : EReal) : EReal := if b = b' then x' - x else 0

/-- An array of a hundred rows, every point's entry taken from the next point. -/
def shiftL {α : Type} (X : S100x1000.Idx → α) : S100x1000.Idx → α :=
  concatenate S100x1000 1 [⟨S100x999, extractStridedSlice S100x999 ![0, 1] X slices_S100x1000_o0_1_S100x999⟩,
    ⟨S100x1, concatenate S100x1 0 [⟨S99x1, extractStridedSlice S99x1 ![1, 0] (extractStridedSlice S100x1 ![0, 0] X slices_S100x1000_o0_0_S100x1) slices_S100x1_o1_0_S99x1⟩,
      ⟨S1x1, extractStridedSlice S1x1 ![0, 0] (extractStridedSlice S100x1 ![0, 0] X slices_S100x1000_o0_0_S100x1) slices_S100x1_o0_0_S1x1⟩] concatenates_S99x1_S1x1_S100x1_d0⟩]
    concatenates_S100x999_S100x1_S100x1000_d1

/-- Inside a row the entry comes from the next column. -/
theorem shiftL_in {α : Type} (X : S100x1000.Idx → α) (k : Fin 100) (c : Fin 1000) (h : c.val < 999) :
    shiftL X (ix2 k c) = X (ix2 k (⟨c.val + 1, by omega⟩ : Fin 1000)) := by
  unfold shiftL
  refine (concatenate_pair_apply_left (t := S100x1000) (s₁ := S100x999) (s₂ := S100x1) 1 _ _ _ (ix2 k c) rfl (ix2 k (⟨c.val, h⟩ : Fin 999)) (fun b => match b with
    | ⟨0, _⟩ => rfl
    | ⟨1, _⟩ => rfl)).trans ?_
  exact extractStridedSlice_apply _ X _ _ _ fun a => match a with
    | ⟨0, _⟩ => (Nat.zero_add _).symm
    | ⟨1, _⟩ => Nat.add_comm _ _

theorem first_col {α : Type} (X : S100x1000.Idx → α) (k : Fin 100) :
    extractStridedSlice S100x1 ![0, 0] X slices_S100x1000_o0_0_S100x1 (ix2 k (0 : Fin 1)) = X (ix2 k (0 : Fin 1000)) :=
  extractStridedSlice_apply _ X _ _ _ fun a => match a with
    | ⟨0, _⟩ => (Nat.zero_add _).symm
    | ⟨1, _⟩ => rfl

/-- At the end of a row it comes from the start of the next row. -/
theorem shiftL_end {α : Type} (X : S100x1000.Idx → α) (k : Fin 100) (c : Fin 1000) (h : c.val = 999) :
    shiftL X (ix2 k c) = X (ix2 (⟨(k.val + 1) % 100, Nat.mod_lt _ (by norm_num)⟩ : Fin 100) (0 : Fin 1000)) := by
  unfold shiftL
  refine (concatenate_pair_apply_right (t := S100x1000) (s₁ := S100x999) (s₂ := S100x1) 1 _ _ _ (ix2 k c) rfl rfl (ix2 k (0 : Fin 1)) (fun b hb => match b with
    | ⟨0, _⟩ => rfl
    | ⟨1, _⟩ => absurd rfl hb) (by show 0 + 999 = c.val; omega)).trans ?_
  by_cases hk : k.val < 99
  · refine (concatenate_pair_apply_left (t := S100x1) (s₁ := S99x1) (s₂ := S1x1) 0 _ _ _ (ix2 k (0 : Fin 1)) rfl (ix2 (⟨k.val, hk⟩ : Fin 99) (0 : Fin 1)) (fun b => match b with
      | ⟨0, _⟩ => rfl
      | ⟨1, _⟩ => rfl)).trans ?_
    refine (extractStridedSlice_apply _ _ _ _ (ix2 (⟨(k.val + 1) % 100, Nat.mod_lt _ (by norm_num)⟩ : Fin 100) (0 : Fin 1)) fun a => match a with
      | ⟨0, _⟩ => by show (k.val + 1) % 100 = 1 + k.val; omega
      | ⟨1, _⟩ => rfl).trans (first_col X _)
  · refine (concatenate_pair_apply_right (t := S100x1) (s₁ := S99x1) (s₂ := S1x1) 0 _ _ _ (ix2 k (0 : Fin 1)) rfl rfl (ix2 (0 : Fin 1) (0 : Fin 1)) (fun b hb => match b with
      | ⟨0, _⟩ => absurd rfl hb
      | ⟨1, _⟩ => rfl) (by show 0 + 99 = k.val; omega)).trans ?_
    refine (extractStridedSlice_apply _ _ _ _ (ix2 (⟨(k.val + 1) % 100, Nat.mod_lt _ (by norm_num)⟩ : Fin 100) (0 : Fin 1)) fun a => match a with
      | ⟨0, _⟩ => by show (k.val + 1) % 100 = 0 + 0; omega
      | ⟨1, _⟩ => rfl).trans (first_col X _)

theorem flat_shiftL {α : Type} (X : S100x1000.Idx → α) (n : Fin 100000) : flat (shiftL X) n = flat X (nx n) := by
  unfold flat
  by_cases h : n.val % 1000 < 999
  · rw [shiftL_in _ _ _ h]
    refine congrArg X (congrArg₂ ix2 (Fin.ext ?_) (Fin.ext ?_))
    · show n.val / 1000 = (n.val + 1) % 100000 / 1000; omega
    · show n.val % 1000 + 1 = (n.val + 1) % 100000 % 1000; omega
  · rw [shiftL_end _ _ _ (by show n.val % 1000 = 999; omega)]
    refine congrArg X (congrArg₂ ix2 (Fin.ext ?_) (Fin.ext ?_))
    · show (n.val / 1000 + 1) % 100 = (n.val + 1) % 100000 / 1000; omega
    · show 0 = (n.val + 1) % 100000 % 1000; omega

/-- One less the mark of a change of segment. -/
theorem keep_eq (B : WA) : k0_pay26 (F := Ideal) B
    = subf (broadcast S100x1000 (Scalar.ofBits .f32 0x3F800000#32)) (sitofp (F := Ideal) .f32 (extui 32 (cmpi .ne B (shiftL B)) natLt_1_32)) := by
  have h : k0_pay23 (F := Ideal) B = B := shapeCast_self _ _
  unfold k0_pay26
  rw [h]
  rfl

theorem keep_apply (B : WA) (n : Fin 100000) : flat (k0_pay26 (F := Ideal) B) n = (if flat B n = flat B (nx n) then 1 else 0 : EReal) := by
  rw [keep_eq, sitofp_extui_eq_uitofp, ← flat_shiftL]
  show (Scalar.ofBits (F := Ideal) .f32 0x3F800000#32 : EReal) - (((BitVec.ofBool (flat B n != flat (shiftL B) n)).toNat : ℝ) : EReal) = _
  refine (congrArg (fun u : EReal => u - _) Ideal.ofBits_one_f32).trans ?_
  by_cases h : flat B n = flat (shiftL B) n
  · rw [if_pos h, h]; simp
  · rw [if_neg h, bne_iff_ne.2 h]
    show (1 : EReal) - (((1 : ℕ) : ℝ) : EReal) = 0
    rw [Nat.cast_one, EReal.coe_one]
    exact EReal.sub_self (by decide) (by decide)

/-- A displacement array, read at a point. -/
theorem jump_apply (B : WA) (X : FA Ideal) (n : Fin 100000) :
    flat (mulf (subf (shiftL X) X) (k0_pay26 (F := Ideal) B) : FA Ideal) n = jump (flat B n) (flat B (nx n)) (flat X n) (flat X (nx n)) := by
  show (flat (shiftL X) n - flat X n : EReal) * flat (k0_pay26 (F := Ideal) B) n = _
  rw [keep_apply, flat_shiftL]
  unfold jump
  split
  · exact mul_one _
  · exact mul_zero _

theorem nDx_apply (B : WA) (X : FA Ideal) (n : Fin 100000) : flat (nDx B X) n = jump (flat B n) (flat B (nx n)) (flat X n) (flat X (nx n)) := by
  have h : shapeCast S100x1000 X shapeCasts_S100x1000_S100x1000 = X := shapeCast_self _ _
  have e : nDx B X = mulf (subf (shiftL X) X) (k0_pay26 (F := Ideal) B) := by
    unfold nDx k0_pay27
    rw [h]
    rfl
  rw [e]; exact jump_apply B X n

theorem nDy_apply (B : WA) (X : FA Ideal) (n : Fin 100000) : flat (nDy B X) n = jump (flat B n) (flat B (nx n)) (flat X n) (flat X (nx n)) := by
  have h : shapeCast S100x1000 X shapeCasts_S100x1000_S100x1000 = X := shapeCast_self _ _
  have e : nDy B X = mulf (subf (shiftL X) X) (k0_pay26 (F := Ideal) B) := by
    unfold nDy k0_pay28
    rw [h]
    rfl
  rw [e]; exact jump_apply B X n

theorem nDz_apply (B : WA) (X : FA Ideal) (n : Fin 100000) : flat (nDz B X) n = jump (flat B n) (flat B (nx n)) (flat X n) (flat X (nx n)) := by
  have h : k0_pay24 X = X := shapeCast_self _ _
  have e : nDz B X = mulf (subf (shiftL X) X) (k0_pay26 (F := Ideal) B) := by
    unfold nDz k0_pay29 k0_pay30
    rw [h]
    rfl
  rw [e]; exact jump_apply B X n

/-- One of three values. -/
def pick (j : Fin 3) (x y z : EReal) : EReal :=
  match j with
  | 0 => x | 1 => y | 2 => z

/-- One trip of the first loop: the row of displacements added to the sums. -/
theorem pay36_step (acc : FVec Ideal S16x1000 .f32) (b : IVec S1x1000 32) (x y z dx dy dz : FVec Ideal S1x1000 .f32) (j : Fin 3) (s : Fin 1000) :
    k0_pay36 (F := Ideal) acc b x y z dx dy dz (ix2 ⟨7 + j.val, by omega⟩ s)
      = acc (ix2 ⟨7 + j.val, by omega⟩ s) + ∑ c : Fin 1000, (if (b (ix2 (0 : Fin 1) c)).toInt = (s.val : Int)
          then pick j (dx (ix2 (0 : Fin 1) c)) (dy (ix2 (0 : Fin 1) c)) (dz (ix2 (0 : Fin 1) c)) else 0 : EReal) := by
  have cf : ∀ u : FVec Ideal S1x1000 .f32, shapeCast S1x1000 u shapeCasts_S1x1000_S1x1000 = u := fun u => shapeCast_self _ _
  have cb : shapeCast S1x1000 b shapeCasts_S1x1000_S1x1000 = b := shapeCast_self _ _
  unfold k0_pay36
  dsimp only
  rw [cf x, cf y, cf z, cf dx, cf dy, cf dz, cb]
  refine congrArg (fun v : EReal => acc (ix2 ⟨7 + j.val, by omega⟩ s) + v) ?_
  refine (Ideal.matmul_plain_apply (M := 16) (K := 1000) (N := 1000) (some .fp32) _ _ _ ⟨7 + j.val, by omega⟩ s).trans ?_
  refine (congrArg (fun v : EReal => v + _) Ideal.ofBits_zero_f32).trans ((zero_add _).trans ?_)
  refine Finset.sum_congr rfl fun c _ => ?_
  rw [marks _ (fun s => iota_single_apply .tc S1000x1 32 0 _ (ix2 s (0 : Fin 1)))]
  have hj := join10 (fun i => match i with
      | 0 => broadcast S1x1000 (Scalar.ofBits .f32 0x3F800000#32) | 1 => x | 2 => y | 3 => z | 4 => mulf x x | 5 => mulf y y | 6 => mulf z z
      | 7 => dx | 8 => dy | 9 => dz) (broadcast S6x1000 (Scalar.ofBits .f32 0x00000000#32))
      concatenates_S1x1000_S1x1000_S1x1000_S1x1000_S1x1000_S1x1000_S1x1000_S1x1000_S1x1000_S1x1000_S6x1000_S16x1000_d0 ⟨7 + j.val, by omega⟩ c
  refine (congrArg (fun v : EReal => v * (if (b (ix2 (0 : Fin 1) c)).toInt = (s.val : Int) then 1 else 0 : EReal)) hj).trans ?_
  have hf : ∀ (p : Prop) [Decidable p] (u v : EReal), u = v → u * (if p then 1 else 0) = if p then v else 0 := by
    intro p _ u v e
    subst e
    split
    · exact mul_one u
    · exact mul_zero u
  refine hf _ _ _ ?_
  fin_cases j <;> rfl

section Sums
variable (B : WA) (px py pz dx dy dz : FA Ideal)

/-- The sums of three arrays over the points of a segment. -/
abbrev J (j : Fin 3) (s : ℕ) : EReal := tot (flat B) (fun n => pick j (flat dx n) (flat dy n) (flat dz n)) s

/-- The sums after `k` trips. -/
theorem acc1_step (j : Fin 3) (s : Fin 1000) (k : ℕ) (hk : k ≤ 100) :
    acc1 (k0_pay35 (F := Ideal)) B px py pz dx dy dz k (ix2 ⟨7 + j.val, by omega⟩ s)
      = ∑ r ∈ Finset.range k, ∑ c : Fin 1000, (if (B (Rows.at2 r c)).toInt = (s.val : Int)
          then pick j (dx (Rows.at2 r c)) (dy (Rows.at2 r c)) (dz (Rows.at2 r c)) else 0 : EReal) := by
  induction k with
  | zero => exact Ideal.ofBits_zero_f32
  | succ k ih =>
    rw [Finset.sum_range_succ, ← ih (by omega)]
    exact pay36_step _ _ _ _ _ _ _ _ j s

theorem acc1_steps (j : Fin 3) (s : Fin 1000) :
    acc1 (k0_pay35 (F := Ideal)) B px py pz dx dy dz 100 (ix2 ⟨7 + j.val, by omega⟩ s) = J B dx dy dz j s.val := by
  rw [acc1_step _ _ _ _ _ _ _ j s 100 le_rfl, Finset.sum_range]
  unfold J tot
  refine Eq.trans ?_ (sum_rows (R := 100) (C := 1000) fun n => if (flat B n).toInt = (s.val : Int) then pick j (flat dx n) (flat dy n) (flat dz n) else 0)
  refine Finset.sum_congr rfl fun k _ => Finset.sum_congr rfl fun c _ => ?_
  have e : (finProdFinEquiv (k, c) : Fin (100 * 1000)) = pt k c := Fin.ext rfl
  have a : Rows.at2 k.val c = ix2 k c := congrArg₂ ix2 (Fin.ext (Nat.mod_eq_of_lt k.isLt)) rfl
  rw [e, flat_pt, flat_pt, flat_pt, flat_pt, a]

end Sums

/-- The small constant under the root. -/
def eps : EReal := Scalar.ofBits (F := Ideal) .f32 0x3727C5AC#32

/-- A mean displacement over its length, from the count and the sums of displacements. -/
def dir (n : EReal) (w : Fin 3 → EReal) (a : Fin 3) : EReal :=
  Ideal.div (Ideal.div (w a) (max n 1)) (Ideal.sqrt (eps + ∑ r, Ideal.div (w r) (max n 1) * Ideal.div (w r) (max n 1)))

/-- The rows joined, read at one of the third to fifth. -/
theorem join3 (p q : FVec Ideal S1x1000 .f32) (u v : FVec Ideal S3x1000 .f32)
    (h : Shape.Concatenates ([⟨S1x1000, p⟩, ⟨S1x1000, q⟩, ⟨S3x1000, u⟩, ⟨S3x1000, v⟩].map (fun p : (s : Shape) × (s.Idx → Ideal .f32) => p.1)) S8x1000 0)
    (j : Fin 3) (l : Fin 1000) :
    concatenate S8x1000 0 [⟨S1x1000, p⟩, ⟨S1x1000, q⟩, ⟨S3x1000, u⟩, ⟨S3x1000, v⟩] h (ix2 ⟨2 + j.val, by omega⟩ l) = u (ix2 j l) := by
  refine concatenate_apply_piece 0 _ h (ix2 _ l) 2 (by show 2 < 4; omega) S3x1000 u rfl rfl 2 rfl (ix2 j l) ?_ rfl
  intro b hb
  match b with
  | ⟨0, _⟩ => exact absurd rfl hb
  | ⟨1, _⟩ => rfl

/-- The third to fifth rows of segment values. -/
theorem rows2_apply (A : FVec Ideal S16x1000 .f32) (c e : FVec Ideal S1x1000 .f32) (a : Fin 3) (s : Fin 1000) :
    k0_pay41 A c (k0_pay38 A) e (ix2 ⟨2 + a.val, by omega⟩ s) = dir (A (ix2 0 s)) (fun r => A (ix2 ⟨7 + r.val, by omega⟩ s)) a := by
  have m := fun r => mean_apply A slices_S16x1000_o7_0_S3x1000 (fun r => by omega) r s
  unfold k0_pay41 dir
  dsimp only
  refine (join3 _ _ _ _ _ a s).trans ?_
  refine congrArg₂ Ideal.div (m a) ((broadcastTo_1b_ab_apply _ _ a s).trans ?_)
  refine congrArg Ideal.sqrt (congrArg (fun u : EReal => eps + u) ((sum_apply _ _ s).trans (Finset.sum_congr rfl fun r _ => ?_)))
  exact congrArg₂ (fun u v : EReal => u * v) (m r) (m r)

section Rows
variable (B : WA) (px py pz : FA Ideal)

theorem nAcc1_step (j : Fin 3) (s : Fin 1000) : nAcc1 B px py pz (ix2 ⟨7 + j.val, by omega⟩ s)
    = tot (flat B) (fun n => jump (flat B n) (flat B (nx n)) (pick j (flat px n) (flat py n) (flat pz n)) (pick j (flat px (nx n)) (flat py (nx n)) (flat pz (nx n)))) s.val := by
  unfold nAcc1
  refine (acc1_steps B px py pz _ _ _ j s).trans ?_
  unfold J
  refine congrArg (fun x => tot (flat B) x s.val) (funext fun n => ?_)
  rw [nDx_apply, nDy_apply, nDz_apply]
  fin_cases j <;> rfl

theorem nSeg2 (a : Fin 3) (s : Fin 1000) : nSeg B px py pz (ix2 ⟨2 + a.val, by omega⟩ s)
    = dir (T B px py pz 0 s.val) (fun j => tot (flat B) (fun n => jump (flat B n) (flat B (nx n)) (pick j (flat px n) (flat py n) (flat pz n))
        (pick j (flat px (nx n)) (flat py (nx n)) (flat pz (nx n)))) s.val) a := by
  unfold nSeg
  rw [rows2_apply, nAcc1_apply B px py pz 0 0 rfl]
  exact congrArg (fun w => dir _ w a) (funext fun r => nAcc1_step B px py pz r s)

end Rows

end Cert.NV

end
-- ==== Proof.NV.Len.lean ====
module

public import proofs.«01_k».proof.Proof.NV.Step

@[expose] public section

set_option maxRecDepth 16384

noncomputable section

namespace Cert.NV

open Idealize.ShloMosaic Idealize.ShloMosaic.ValueIdx Cert.NodeIdeal Cert.NodeIdeal.Gen Cert.NodeIdeal.Own

/-! The lengths of the scaled displacements. -/

/-- The length of a displacement scaled by a spread. -/
def len (s : EReal) (w : Fin 3 → EReal) : EReal := Ideal.sqrt (eps + ∑ r, Ideal.div (w r) s * Ideal.div (w r) s)

/-- A row of an array, read at a column. -/
theorem row_apply {α : Type} (X : S100x1000.Idx → α) (k : Fin 100) (c : Fin 1000) : Rows.row X k.val (ix2 (0 : Fin 1) c) = X (ix2 k c) :=
  congrArg X (congrArg₂ ix2 (Fin.ext (Nat.mod_eq_of_lt k.isLt)) rfl)

/-- The numbers down the column of segments. -/
theorem nCol_apply (s : Fin 1000) : nCol (ix2 s (0 : Fin 1)) = BitVec.ofNat 32 s.val := iota_single_apply .tc S1000x1 32 0 _ (ix2 s (0 : Fin 1))

/-- The marks of a row of points, segment by segment. -/
theorem pay8_apply (b : IVec S1x1000 32) (s c : Fin 1000) :
    k0_pay8 (F := Ideal) nCol b (ix2 s c) = (if (b (ix2 (0 : Fin 1) c)).toInt = (s.val : Int) then 1 else 0 : EReal) := by
  have h := marks nCol nCol_apply b c s
  rw [transpose_ix2_apply] at h
  have cb : k0_pay7 (F := Ideal) b = b := shapeCast_self _ _
  unfold k0_pay8
  rw [cb]
  exact h

/-- A table of segment values spread over a row of points: each point reads the value of its segment. -/
theorem spread_row (w : FVec Ideal S3x1000 .f32) (b : IVec S1x1000 32) (j : Fin 3) (c s : Fin 1000) (h : (b (ix2 (0 : Fin 1) c)).toInt = (s.val : Int)) :
    k0_pay10 nCol w b (ix2 j c) = w (ix2 j s) := by
  unfold k0_pay10
  refine (Ideal.matmul_plain_apply (M := 3) (K := 1000) (N := 1000) (some .fp32) _ _ _ j c).trans ?_
  refine (congrArg (fun v : EReal => v + _) Ideal.ofBits_zero_f32).trans ((zero_add _).trans ?_)
  refine (Finset.sum_eq_single s (fun s' _ hne => ?_) (fun hn => absurd (Finset.mem_univ s) hn)).trans ?_
  · rw [pay8_apply, if_neg (fun e => hne (Fin.ext (by rw [h] at e; exact_mod_cast e.symm)))]
    exact mul_zero _
  · rw [pay8_apply, if_pos h]
    exact mul_one _

theorem pay13_apply (w : FVec Ideal S3x1000 .f32) (b : IVec S1x1000 32) (c s : Fin 1000) (h : (b (ix2 (0 : Fin 1) c)).toInt = (s.val : Int)) :
    k0_pay13 nCol w b (ix2 (0 : Fin 1) c) = w (ix2 (2 : Fin 3) s) := by
  unfold k0_pay13
  exact (extractStridedSlice_apply _ (k0_pay10 nCol w b) slices_S3x1000_o2_0_S1x1000 (ix2 (0 : Fin 1) c) (ix2 (2 : Fin 3) c) (fun a => match a with
    | ⟨0, _⟩ => rfl
    | ⟨1, _⟩ => (Nat.zero_add _).symm)).trans (spread_row w b 2 c s h)

/-- Three rows joined, read at one of them. -/
theorem join111 (x : Fin 3 → FVec Ideal S1x1000 .f32)
    (h : Shape.Concatenates ([⟨S1x1000, x 0⟩, ⟨S1x1000, x 1⟩, ⟨S1x1000, x 2⟩].map (fun p : (s : Shape) × (s.Idx → Ideal .f32) => p.1)) S3x1000 0)
    (j : Fin 3) (l : Fin 1000) :
    concatenate S3x1000 0 [⟨S1x1000, x 0⟩, ⟨S1x1000, x 1⟩, ⟨S1x1000, x 2⟩] h (ix2 j l) = x j (ix2 0 l) := by
  have hx : ([⟨S1x1000, x 0⟩, ⟨S1x1000, x 1⟩, ⟨S1x1000, x 2⟩] : List ((s : Shape) × (s.Idx → Ideal .f32)))[j.val]'(by show j.val < 3; omega) = ⟨S1x1000, x j⟩ := by
    fin_cases j <;> rfl
  refine concatenate_apply_piece 0 _ h (ix2 _ l) j.val (by show j.val < 3; omega) S1x1000 (x j) hx rfl j.val ?_ (ix2 0 l) ?_ ?_
  · fin_cases j <;> rfl
  · intro b hb
    match b with
    | ⟨0, _⟩ => exact absurd rfl hb
    | ⟨1, _⟩ => rfl
  · rfl

/-- The row of lengths. -/
theorem pay20_apply (x y z : FVec Ideal S1x1000 .f32) (i : S1x1000.Idx) :
    k0_pay20 x y z i = Ideal.sqrt (eps + x i * x i + y i * y i + z i * z i) := rfl

section Rows
variable (B : WA) (px py pz : FA Ideal)

/-- The spread of a segment in the table. -/
theorem nW2 (s : Fin 1000) : nW B px py pz (ix2 (2 : Fin 3) s)
    = spread (T B px py pz 0 s.val) (fun r => T B px py pz ⟨1 + r.val, by omega⟩ s.val) (fun r => T B px py pz ⟨4 + r.val, by omega⟩ s.val) := by
  unfold nW k0_pay42
  refine (join111 (fun i => match i with
    | 0 => k0_pay37 (nAcc1 B px py pz)
    | 1 => matmul dot_S1x1000_S1000x1000_S1x1000_1_0_0_1_n_n (some .fp32) (k0_pay37 (nAcc1 B px py pz)) (k0_pay32 (F := Ideal)) (constant S1x1000 .f32 0x00000000#32)
    | 2 => k0_pay40 (k0_pay39 (nAcc1 B px py pz))) _ 2 s).trans ?_
  refine (pay40_apply (nAcc1 B px py pz) s).trans ?_
  rw [nAcc1_apply B px py pz 0 0 rfl]
  exact congrArg₂ (spread _) (funext fun r => nAcc1_apply B px py pz ⟨1 + r.val, by omega⟩ _ rfl s)
    (funext fun r => nAcc1_apply B px py pz ⟨4 + r.val, by omega⟩ _ rfl s)

theorem scaled (X : FA Ideal) (k : Fin 100) (c s : Fin 1000) (h : (B (ix2 k c)).toInt = (s.val : Int)) :
    dxRow nCol (nW B px py pz) B X k.val (ix2 (0 : Fin 1) c) = Ideal.div (X (ix2 k c)) (nW B px py pz (ix2 (2 : Fin 3) s)) := by
  have cf : shapeCast S1x1000 (Rows.row X k.val) shapeCasts_S1x1000_S1x1000 = Rows.row X k.val := shapeCast_self _ _
  unfold dxRow k0_pay17
  rw [cf]
  exact congrArg₂ Ideal.div (row_apply X k c) (pay13_apply _ _ c s ((congrArg BitVec.toInt (row_apply B k c)).trans h))

/-- The length of a scaled displacement. -/
theorem nDn_apply (n : Fin 100000) (s : Fin 1000) (h : (flat B n).toInt = (s.val : Int)) : flat (nDn B px py pz) n
    = len (spread (T B px py pz 0 s.val) (fun r => T B px py pz ⟨1 + r.val, by omega⟩ s.val) (fun r => T B px py pz ⟨4 + r.val, by omega⟩ s.val))
        (fun r => jump (flat B n) (flat B (nx n)) (pick r (flat px n) (flat py n) (flat pz n)) (pick r (flat px (nx n)) (flat py (nx n)) (flat pz (nx n)))) := by
  rw [← nW2]
  have e := fun X : FA Ideal => scaled B px py pz X ⟨n.val / 1000, by omega⟩ ⟨n.val % 1000, by omega⟩ s h
  show k0_pay20 (dxRow nCol (nW B px py pz) B (nDx B px) (n.val / 1000)) (dxRow nCol (nW B px py pz) B (nDy B py) (n.val / 1000))
    (dxRow nCol (nW B px py pz) B (nDz B pz) (n.val / 1000)) (ix2 (0 : Fin 1) ⟨n.val % 1000, by omega⟩) = _
  rw [pay20_apply, e, e, e]
  unfold len
  rw [Fin.sum_univ_three, add_assoc, add_assoc, ← add_assoc (_ * _ : EReal) (_ * _) (_ * _)]
  have x := nDx_apply B px n
  have y := nDy_apply B py n
  have z := nDz_apply B pz n
  unfold flat at x y z
  rw [x, y, z]
  rfl

end Rows

end Cert.NV

end
-- ==== Proof.NV.Run.lean ====
module

public import proofs.«01_k».proof.Proof.NI.Run
public import proofs.«01_k».proof.Proof.Gen.NodeIdeal.Points
public import proofs.«01_k».proof.Proof.NV.Len
public import Idealize.ShloMosaic.Lib.StableHlo.Run
public import Idealize.ShloMosaic.Lib.StableHlo.RunRead

@[expose] public section

set_option maxRecDepth 16384

noncomputable section

namespace Cert.NV

open Idealize.ShloMosaic Idealize.ShloMosaic.ValueIdx Idealize.ShloMosaic.TcCoe Cert.NodeIdeal Cert.NodeIdeal.Gen Cert.NodeIdeal.Own Idealize.SL.Sem

/-! The run of the node stage: its results in terms of the arguments. -/

variable (m : (ℓ : Loc nD τ sig) → Buf (Elt Ideal) ℓ) (ρ : Dev nD → PrngReg)

theorem V_v0 (c : Dev nD) : V m c main_v0 = shapeCast S100x1000 (m (c.tc.loc main_arg1)) shapeCasts_S100000_S100x1000 := by
  show StableHlo.after (List.flatten [hostOps0]) (fun b => m (c, b)) (Proc.devRef .tc main_v0) = _
  simp only [hostOps0, List.flatten_cons, List.flatten_nil, List.append_nil]
  after_reads_simp
  rfl

/-- One coordinate of the points, laid out in a hundred rows. -/
def lay (o : ℕ) (h : S100000x3.Slices ![0, o] S100000x1) (P : FVec Ideal S100000x3 .f32) : FVec Ideal S100x1000 .f32 :=
  shapeCast S100x1000 (shapeCast S100000 (extractStridedSlice S100000x1 ![0, o] P h) shapeCasts_S100000x1_S100000) shapeCasts_S100000_S100x1000

theorem V_v3 (c : Dev nD) : V m c main_v3 = lay 0 slices_S100000x3_S100000x1_0_0 (m (c.tc.loc main_arg0)) := by
  show StableHlo.after (List.flatten [hostOps0]) (fun b => m (c, b)) (Proc.devRef .tc main_v3) = _
  simp only [hostOps0, List.flatten_cons, List.flatten_nil, List.append_nil]
  after_reads_simp
  rfl

theorem V_v6 (c : Dev nD) : V m c main_v6 = lay 1 slices_S100000x3_S100000x1_0_1 (m (c.tc.loc main_arg0)) := by
  show StableHlo.after (List.flatten [hostOps0]) (fun b => m (c, b)) (Proc.devRef .tc main_v6) = _
  simp only [hostOps0, List.flatten_cons, List.flatten_nil, List.append_nil]
  after_reads_simp
  rfl

theorem V_v9 (c : Dev nD) : V m c main_v9 = lay 2 slices_S100000x3_S100000x1_0_2 (m (c.tc.loc main_arg0)) := by
  show StableHlo.after (List.flatten [hostOps0]) (fun b => m (c, b)) (Proc.devRef .tc main_v9) = _
  simp only [hostOps0, List.flatten_cons, List.flatten_nil, List.append_nil]
  after_reads_simp
  rfl

/-- A vector laid out in a hundred rows, read back point by point. -/
theorem flat_cast {α : Type} (x : S100000.Idx → α) (n : Fin 100000) : flat (shapeCast S100x1000 x shapeCasts_S100000_S100x1000) n = x (ix1 n) :=
  shapeCast_apply x _ _ (ix1 n) (by
    rw [Shape.rowMajor_val_one, Shape.rowMajor_val_two]
    show n.val = n.val / 1000 * 1000 + n.val % 1000
    omega)

theorem flat_lay (o : Fin 3) (h : S100000x3.Slices ![0, o.val] S100000x1) (P : FVec Ideal S100000x3 .f32) (n : Fin 100000) :
    flat (lay o.val h P) n = P (ix2 n o) := by
  unfold lay
  rw [flat_cast, shapeCast_apply _ shapeCasts_S100000x1_S100000 (ix1 n) (ix2 n (0 : Fin 1)) (by
    rw [Shape.rowMajor_val_one, Shape.rowMajor_val_two]; show n.val * 1 + 0 = n.val; omega)]
  exact extractStridedSlice_apply _ P h _ _ fun a => match a with
    | ⟨0, _⟩ => (Nat.zero_add _).symm
    | ⟨1, _⟩ => rfl

theorem emb0 (i : S100x1000.Idx) : ((cfg0.win 0).blk t0_0).view.emb i = (i : S100x1000.Idx) :=
  funext fun a => Fin.ext (match a with
    | ⟨0, _⟩ => by show 0 * 100 + 1 * (i 0).val = (i 0).val; omega
    | ⟨1, _⟩ => by show 0 * 1000 + 1 * (i 1).val = (i 1).val; omega)
theorem emb1 (i : S100x1000.Idx) : ((cfg0.win 1).blk t0_0).view.emb i = (i : S100x1000.Idx) :=
  funext fun a => Fin.ext (match a with
    | ⟨0, _⟩ => by show 0 * 100 + 1 * (i 0).val = (i 0).val; omega
    | ⟨1, _⟩ => by show 0 * 1000 + 1 * (i 1).val = (i 1).val; omega)
theorem emb2 (i : S100x1000.Idx) : ((cfg0.win 2).blk t0_0).view.emb i = (i : S100x1000.Idx) :=
  funext fun a => Fin.ext (match a with
    | ⟨0, _⟩ => by show 0 * 100 + 1 * (i 0).val = (i 0).val; omega
    | ⟨1, _⟩ => by show 0 * 1000 + 1 * (i 1).val = (i 1).val; omega)
theorem emb3 (i : S100x1000.Idx) : ((cfg0.win 3).blk t0_0).view.emb i = (i : S100x1000.Idx) :=
  funext fun a => Fin.ext (match a with
    | ⟨0, _⟩ => by show 0 * 100 + 1 * (i 0).val = (i 0).val; omega
    | ⟨1, _⟩ => by show 0 * 1000 + 1 * (i 1).val = (i 1).val; omega)
theorem emb15 (i : S8x1000.Idx) : ((cfg0.win 15).blk t0_0).view.emb i = (i : S8x1000.Idx) :=
  funext fun a => Fin.ext (match a with
    | ⟨0, _⟩ => by show 0 * 8 + 1 * (i 0).val = (i 0).val; omega
    | ⟨1, _⟩ => by show 0 * 1000 + 1 * (i 1).val = (i 1).val; omega)

section Ins
variable (W : Vals Ideal) (c : Dev nD)
theorem in0 : sIn0 W c = W c main_v0 := funext fun i => congrArg (W c main_v0) (emb0 i)
theorem in1 : sIn1 W c = W c main_v3 := funext fun i => congrArg (W c main_v3) (emb1 i)
theorem in2 : sIn2 W c = W c main_v6 := funext fun i => congrArg (W c main_v6) (emb2 i)
theorem in3 : sIn3 W c = W c main_v9 := funext fun i => congrArg (W c main_v9) (emb3 i)
end Ins

/-- The segment values as the call leaves them. -/
def seg (c : Dev nD) : FVec Ideal S8x1000 .f32 := nSeg (V m c main_v0) (V m c main_v3) (V m c main_v6) (V m c main_v9)

theorem one_pt (t : Fin cfg0.N) : t = t0_0 := Fin.ext (by
  have h : t.val < 1 := t.isLt.trans_eq N_0
  have h0 : t0_0.val < 1 := t0_0.isLt.trans_eq N_0
  omega)

theorem flushed_eq (c : Dev nD) (t : Fin cfg0.N) :
    (dats m 0 c).flushed 15 t = ((cfg0.win 15).blk t).view.read (Elt Ideal) (seg m c) := by
  rw [one_pt t]
  have e : (dats m 0 c).after 15 t0_0 = seg m c := by
    refine (after0_15 (V m) c).trans ?_
    rw [in0, in1, in2, in3]
    rfl
  refine Eq.trans e ?_
  generalize seg m c = X
  exact funext fun i => congrArg X (emb15 i).symm

theorem covered (i : S8x1000.Idx) : ∃ t : Fin cfg0.N, (cfg0.win 15).flush t = true ∧ i ∈ ((cfg0.win 15).blk t).view.set := by
  refine ⟨t0_0, flush0_15 _, ?_⟩
  have h := ((cfg0.win 15).blk t0_0).view.emb_mem_set i
  rwa [emb15] at h

theorem final (c : Dev nD) : (dats m 0 c).arrAt 15 cfg0.N = seg m c :=
  (dats m 0 c).arrAt_eq_of_cover 15 _ (fun t _ => flushed_eq m c t) covered

theorem emb7 (i : S100x1000.Idx) : ((cfg0.win 7).blk t0_0).view.emb i = (i : S100x1000.Idx) :=
  funext fun a => Fin.ext (match a with
    | ⟨0, _⟩ => by show 0 * 100 + 1 * (i 0).val = (i 0).val; omega
    | ⟨1, _⟩ => by show 0 * 1000 + 1 * (i 1).val = (i 1).val; omega)

/-- The lengths as the call leaves them. -/
def lens (c : Dev nD) : FVec Ideal S100x1000 .f32 := nDn (V m c main_v0) (V m c main_v3) (V m c main_v6) (V m c main_v9)

theorem flushed7_eq (c : Dev nD) (t : Fin cfg0.N) :
    (dats m 0 c).flushed 7 t = ((cfg0.win 7).blk t).view.read (Elt Ideal) (lens m c) := by
  rw [one_pt t]
  have e : (dats m 0 c).after 7 t0_0 = lens m c := by
    refine (after0_7 (V m) c).trans ?_
    rw [in0, in1, in2, in3]
    rfl
  refine Eq.trans e ?_
  generalize lens m c = X
  exact funext fun i => congrArg X (emb7 i).symm

theorem covered7 (i : S100x1000.Idx) : ∃ t : Fin cfg0.N, (cfg0.win 7).flush t = true ∧ i ∈ ((cfg0.win 7).blk t).view.set := by
  refine ⟨t0_0, flush0_7 _, ?_⟩
  have h := ((cfg0.win 7).blk t0_0).view.emb_mem_set i
  rwa [emb7] at h

theorem final7 (c : Dev nD) : (dats m 0 c).arrAt 7 cfg0.N = lens m c :=
  (dats m 0 c).arrAt_eq_of_cover 7 _ (fun t _ => flushed7_eq m c t) covered7

/-- The results as the run leaves them. -/
def resL (c : Dev nD) : Buf (Elt Ideal) ((c.tc : Thread nD τ).loc main_v11) := Pipeline.afterTail₀ cfgs (dats m) 0 (V0 m) [hostOps1] c main_v11
def res0 (c : Dev nD) : Buf (Elt Ideal) ((c.tc : Thread nD τ).loc main_v13) := Pipeline.afterTail₀ cfgs (dats m) 0 (V0 m) [hostOps1] c main_v13
def res1 (c : Dev nD) : Buf (Elt Ideal) ((c.tc : Thread nD τ).loc main_v15) := Pipeline.afterTail₀ cfgs (dats m) 0 (V0 m) [hostOps1] c main_v15
def res2 (c : Dev nD) : Buf (Elt Ideal) ((c.tc : Thread nD τ).loc main_v17) := Pipeline.afterTail₀ cfgs (dats m) 0 (V0 m) [hostOps1] c main_v17

theorem resL_eq (c : Dev nD) : resL m c = shapeCast S100000 (lens m c) shapeCasts_S100x1000_S100000 := by
  unfold resL Pipeline.afterTail₀
  show StableHlo.after hostOps1 _ (Proc.devRef .tc main_v11) = _
  generalize hW : (Pipeline.withArrays (cfgs 0).spec c (V0 m c) fun w => (dats m 0 c).arrAt w (cfgs 0).N) = W
  have h : W (Proc.devRef .tc main_v10_3) = lens m c := by
    rw [← hW]
    exact (Pipeline.withArrays_arr spec0 launch0.win.arr_inj c (V0 m c) (fun w => (dats m 0 c).arrAt w cfg0.N) 7).trans (final7 m c)
  unfold hostOps1
  after_results_simp
  rw [h]
  rfl

theorem res0_eq (c : Dev nD) : res0 m c = shapeCast S1000 (extractStridedSlice S1x1000 ![0, 0] (seg m c) slices_S8x1000_S1x1000_0_0) shapeCasts_S1x1000_S1000 := by
  unfold res0 Pipeline.afterTail₀
  show StableHlo.after hostOps1 _ (Proc.devRef .tc main_v13) = _
  generalize hW : (Pipeline.withArrays (cfgs 0).spec c (V0 m c) fun w => (dats m 0 c).arrAt w (cfgs 0).N) = W
  have h : W (Proc.devRef .tc main_v10_11) = seg m c := by
    rw [← hW]
    exact (Pipeline.withArrays_arr spec0 launch0.win.arr_inj c (V0 m c) (fun w => (dats m 0 c).arrAt w cfg0.N) 15).trans (final m c)
  unfold hostOps1
  after_results_simp
  rw [h]
  rfl

theorem res1_eq (c : Dev nD) : res1 m c = shapeCast S1000 (extractStridedSlice S1x1000 ![1, 0] (seg m c) slices_S8x1000_S1x1000_1_0) shapeCasts_S1x1000_S1000 := by
  unfold res1 Pipeline.afterTail₀
  show StableHlo.after hostOps1 _ (Proc.devRef .tc main_v15) = _
  generalize hW : (Pipeline.withArrays (cfgs 0).spec c (V0 m c) fun w => (dats m 0 c).arrAt w (cfgs 0).N) = W
  have h : W (Proc.devRef .tc main_v10_11) = seg m c := by
    rw [← hW]
    exact (Pipeline.withArrays_arr spec0 launch0.win.arr_inj c (V0 m c) (fun w => (dats m 0 c).arrAt w cfg0.N) 15).trans (final m c)
  unfold hostOps1
  after_results_simp
  rw [h]
  rfl

theorem res2_eq (c : Dev nD) : res2 m c = transpose S1000x3 [1, 0] (extractStridedSlice S3x1000 ![2, 0] (seg m c) slices_S8x1000_S3x1000_2_0) transposes_S3x1000_S1000x3_1_0 := by
  unfold res2 Pipeline.afterTail₀
  show StableHlo.after hostOps1 _ (Proc.devRef .tc main_v17) = _
  generalize hW : (Pipeline.withArrays (cfgs 0).spec c (V0 m c) fun w => (dats m 0 c).arrAt w (cfgs 0).N) = W
  have h : W (Proc.devRef .tc main_v10_11) = seg m c := by
    rw [← hW]
    exact (Pipeline.withArrays_arr spec0 launch0.win.arr_inj c (V0 m c) (fun w => (dats m 0 c).arrAt w cfg0.N) 15).trans (final m c)
  unfold hostOps1
  after_results_simp
  rw [h]

/-- The sums of a segment, in terms of the arguments. -/
theorem T_eq (c : Dev nD) (j : Fin 7) (s : ℕ) : T (V m c main_v0) (V m c main_v3) (V m c main_v6) (V m c main_v9) j s
    = tot (fun n => m (c.tc.loc main_arg1) (ix1 n)) (fun n => ft j (m (c.tc.loc main_arg0) (ix2 n (0 : Fin 3))) (m (c.tc.loc main_arg0) (ix2 n (1 : Fin 3)))
        (m (c.tc.loc main_arg0) (ix2 n (2 : Fin 3)))) s := by
  unfold T
  have e0 : flat (V m c main_v0) = fun n => m (c.tc.loc main_arg1) (ix1 n) := funext fun n => by rw [V_v0]; exact flat_cast _ n
  have e1 : flat (V m c main_v3) = fun n => m (c.tc.loc main_arg0) (ix2 n (0 : Fin 3)) := funext fun n => by rw [V_v3]; exact flat_lay 0 _ _ n
  have e2 : flat (V m c main_v6) = fun n => m (c.tc.loc main_arg0) (ix2 n (1 : Fin 3)) := funext fun n => by rw [V_v6]; exact flat_lay 1 _ _ n
  have e3 : flat (V m c main_v9) = fun n => m (c.tc.loc main_arg0) (ix2 n (2 : Fin 3)) := funext fun n => by rw [V_v9]; exact flat_lay 2 _ _ n
  rw [e0, e1, e2, e3]

/-- The points and the segment words of a memory. -/
abbrev PP (c : Dev nD) : FVec Ideal S100000x3 .f32 := m (c.tc.loc main_arg0)
abbrev BB (c : Dev nD) : IVec S100000 32 := m (c.tc.loc main_arg1)

/-- The spread of one segment. -/
theorem res0_apply (c : Dev nD) (s : Fin 1000) : res0 m c (ix1 s)
    = spread (tot (fun n => BB m c (ix1 n)) (fun _ => 1) s.val)
        (fun a => tot (fun n => BB m c (ix1 n)) (fun n => PP m c (ix2 n a)) s.val)
        (fun a => tot (fun n => BB m c (ix1 n)) (fun n => (PP m c (ix2 n a) : EReal) * PP m c (ix2 n a)) s.val) := by
  rw [res0_eq, shapeCast_1a_a_apply]
  refine (extractStridedSlice_apply _ (seg m c) slices_S8x1000_S1x1000_0_0 (ix2 (0 : Fin 1) s) (ix2 (0 : Fin 8) s) (fun a => match a with
    | ⟨0, _⟩ => rfl
    | ⟨1, _⟩ => (Nat.zero_add _).symm)).trans ?_
  refine (nSeg0 _ _ _ _ s).trans ?_
  refine (congr (congrArg₂ spread (T_eq m c 0 s.val) (funext fun a => T_eq m c _ s.val)) (funext fun a => T_eq m c _ s.val)).trans ?_
  refine congrArg₂ (spread _) (funext fun a => ?_) (funext fun a => ?_)
  · fin_cases a <;> rfl
  · fin_cases a <;> rfl

/-- The logarithm of the size of one segment. -/
theorem res1_apply (c : Dev nD) (s : Fin 1000) : res1 m c (ix1 s)
    = Ideal.log (tot (fun n => BB m c (ix1 n)) (fun _ => 1) s.val) := by
  rw [res1_eq, shapeCast_1a_a_apply]
  refine (extractStridedSlice_apply _ (seg m c) slices_S8x1000_S1x1000_1_0 (ix2 (0 : Fin 1) s) (ix2 (1 : Fin 8) s) (fun a => match a with
    | ⟨0, _⟩ => rfl
    | ⟨1, _⟩ => (Nat.zero_add _).symm)).trans ?_
  refine (nSeg1 _ _ _ _ s).trans ?_
  exact congrArg Ideal.log (T_eq m c 0 s.val)

/-- The direction of one segment. -/
theorem res2_apply (c : Dev nD) (s : Fin 1000) (a : Fin 3) : res2 m c (ix2 s a)
    = dir (tot (fun n => BB m c (ix1 n)) (fun _ => 1) s.val)
        (fun r => tot (fun n => BB m c (ix1 n)) (fun n => jump (BB m c (ix1 n)) (BB m c (ix1 (nx n))) (PP m c (ix2 n r)) (PP m c (ix2 (nx n) r))) s.val) a := by
  rw [res2_eq, transpose_ix2_apply]
  refine (extractStridedSlice_apply _ (seg m c) slices_S8x1000_S3x1000_2_0 (ix2 a s) (ix2 (⟨2 + a.val, by omega⟩ : Fin 8) s) (fun b => match b with
    | ⟨0, _⟩ => rfl
    | ⟨1, _⟩ => (Nat.zero_add _).symm)).trans ?_
  refine (nSeg2 _ _ _ _ a s).trans ?_
  rw [T_eq m c 0 s.val]
  have e0 : flat (V m c main_v0) = fun n => m (c.tc.loc main_arg1) (ix1 n) := funext fun n => by rw [V_v0]; exact flat_cast _ n
  have e1 : flat (V m c main_v3) = fun n => m (c.tc.loc main_arg0) (ix2 n (0 : Fin 3)) := funext fun n => by rw [V_v3]; exact flat_lay 0 _ _ n
  have e2 : flat (V m c main_v6) = fun n => m (c.tc.loc main_arg0) (ix2 n (1 : Fin 3)) := funext fun n => by rw [V_v6]; exact flat_lay 1 _ _ n
  have e3 : flat (V m c main_v9) = fun n => m (c.tc.loc main_arg0) (ix2 n (2 : Fin 3)) := funext fun n => by rw [V_v9]; exact flat_lay 2 _ _ n
  rw [e0, e1, e2, e3]
  refine congrArg (fun w => dir _ w a) (funext fun r => congrArg (fun x => tot _ x s.val) (funext fun n => ?_))
  fin_cases r <;> rfl

/-- The length of one scaled displacement. -/
theorem resL_apply (c : Dev nD) (n : Fin 100000) (s : Fin 1000) (hs : (BB m c (ix1 n)).toInt = (s.val : Int)) : resL m c (ix1 n)
    = len (spread (tot (fun n => BB m c (ix1 n)) (fun _ => 1) s.val)
        (fun a => tot (fun n => BB m c (ix1 n)) (fun n => PP m c (ix2 n a)) s.val)
        (fun a => tot (fun n => BB m c (ix1 n)) (fun n => (PP m c (ix2 n a) : EReal) * PP m c (ix2 n a)) s.val))
        (fun r => jump (BB m c (ix1 n)) (BB m c (ix1 (nx n))) (PP m c (ix2 n r)) (PP m c (ix2 (nx n) r))) := by
  have e0 : flat (V m c main_v0) = fun n => m (c.tc.loc main_arg1) (ix1 n) := funext fun n => by rw [V_v0]; exact flat_cast _ n
  have e1 : flat (V m c main_v3) = fun n => m (c.tc.loc main_arg0) (ix2 n (0 : Fin 3)) := funext fun n => by rw [V_v3]; exact flat_lay 0 _ _ n
  have e2 : flat (V m c main_v6) = fun n => m (c.tc.loc main_arg0) (ix2 n (1 : Fin 3)) := funext fun n => by rw [V_v6]; exact flat_lay 1 _ _ n
  have e3 : flat (V m c main_v9) = fun n => m (c.tc.loc main_arg0) (ix2 n (2 : Fin 3)) := funext fun n => by rw [V_v9]; exact flat_lay 2 _ _ n
  have hl : resL m c (ix1 n) = flat (lens m c) n := by
    rw [resL_eq]
    exact shapeCast_apply _ _ (ix1 n) _ (by
      rw [Shape.rowMajor_val_one, Shape.rowMajor_val_two]
      show n.val / 1000 * 1000 + n.val % 1000 = n.val
      omega)
  rw [hl]
  unfold lens
  rw [nDn_apply _ _ _ _ n s (by rw [e0]; exact hs)]
  refine congrArg₂ len ?_ ?_
  · refine (congr (congrArg₂ spread (T_eq m c 0 s.val) (funext fun a => T_eq m c _ s.val)) (funext fun a => T_eq m c _ s.val)).trans ?_
    refine congrArg₂ (spread _) (funext fun a => ?_) (funext fun a => ?_)
    · fin_cases a <;> rfl
    · fin_cases a <;> rfl
  · rw [e0, e1, e2, e3]
    funext r
    fin_cases r <;> rfl

/-- The run with its results named. -/
theorem run : θ_run defs (onTc (τ := τ) (main (F := Ideal))) ⟨m, fun _ => 0, ρ⟩ (fun r => (∀ c : Dev nD,
      r.2.mem ((c.tc : Thread nD τ).loc main_v11) = resL m c ∧ r.2.mem ((c.tc : Thread nD τ).loc main_v13) = res0 m c ∧ r.2.mem ((c.tc : Thread nD τ).loc main_v15) = res1 m c
      ∧ r.2.mem ((c.tc : Thread nD τ).loc main_v17) = res2 m c)) :=
  (θ_run defs _ _).mono
    (fun r h c => ⟨(h c).2 main_v11 (Pipeline.mem_restRefs_of main_v11 (by decide) (by decide)), (h c).2 main_v13 (Pipeline.mem_restRefs_of main_v13 (by decide) (by decide)),
      (h c).2 main_v15 (Pipeline.mem_restRefs_of main_v15 (by decide) (by decide)),
      (h c).2 main_v17 (Pipeline.mem_restRefs_of main_v17 (by decide) (by decide))⟩) (run_main m ρ)

end Cert.NV

end
-- ==== Proof.NV.Ref.lean ====
module

public import proofs.«01_k».proof.Proof.Gen.NodeRefIdeal.Read
public import proofs.«01_k».proof.Proof.NV.Len
public import Idealize.ShloMosaic.Lib.Routing.OpsSet
public import Idealize.ShloMosaic.Lib.ReduceAll

@[expose] public section

set_option maxRecDepth 16384

noncomputable section

namespace Cert.NV.Ref

open Idealize.ShloMosaic Idealize.ShloMosaic.ValueIdx Cert.NodeRefIdeal Cert.NodeRefIdeal.Gen Cert.NodeRefIdeal.Read

/-! The reference's results, read at a segment. -/

variable (P : FVec Ideal S100000x3 .f32) (B : IVec S100000 32)

/-- The segment words of the points. -/
abbrev words (n : Fin 100000) : BitVec 32 := B (ix1 n)

theorem words_idx (i : S100000.Idx) (n : Fin 100000) (h : (i 0).val = n.val) : B i = words B n :=
  congrArg B (funext fun b => match b with | ⟨0, _⟩ => Fin.ext h)

theorem tot_congr {N : ℕ} {B B' : Fin N → BitVec 32} {x x' : Fin N → EReal} (hB : ∀ n, B n = B' n) (hx : ∀ n, x n = x' n) (s : ℕ) : tot B x s = tot B' x' s := by
  rw [funext hB, funext hx]

theorem one_v4 (i : S100000.Idx) : val_main_v4 (F := Ideal) i = (1 : EReal) := by rw [val_main_v4_apply]; exact Ideal.ofBits_one_f32

theorem one_v16 (i : S100000.Idx) : val_main_v16 (F := Ideal) i = (1 : EReal) := by rw [val_main_v16_apply]; exact Ideal.ofBits_one_f32

theorem v3_apply (s : Fin 1000) (a : Fin 3) : val_main_v3 (F := Ideal) P B (ix2 s a) = tot (words B) (fun n => (P (ix2 n a) : EReal) * P (ix2 n a)) s.val := by
  unfold val_main_v3
  refine (scatterAdd2 scatter_S1000x3_S100000x1_S100000x3_1_0_0_1 rfl rfl rfl rfl _ (fun i => ?_) _ _ s a).trans ?_
  · rw [val_main_v1_apply]; exact Ideal.ofBits_zero_f32
  · exact tot_congr (fun n => (val_main_v2_apply B _).trans (words_idx B _ n rfl)) (fun n => rfl) _

theorem v15_apply (s : Fin 1000) (a : Fin 3) : val_main_v15 (F := Ideal) P B (ix2 s a) = tot (words B) (fun n => P (ix2 n a)) s.val := by
  unfold val_main_v15
  refine (scatterAdd2 scatter_S1000x3_S100000x1_S100000x3_1_0_0_1 rfl rfl rfl rfl _ (fun i => ?_) _ _ s a).trans ?_
  · rw [val_main_v13_apply]; exact Ideal.ofBits_zero_f32
  · exact tot_congr (fun n => (val_main_v14_apply B _).trans (words_idx B _ n rfl)) (fun n => rfl) _

theorem v7_apply (s : Fin 1000) : val_main_v7 (F := Ideal) B (ix1 s) = tot (words B) (fun _ => 1) s.val := by
  unfold val_main_v7
  refine (scatterAdd1 scatter_S1000_S100000x1_S100000_n_0_0_1 rfl rfl rfl _ (fun i => ?_) _ _ s).trans ?_
  · rw [val_main_v5_apply]; exact Ideal.ofBits_zero_f32
  · exact tot_congr (fun n => (val_main_v6_apply B _).trans (words_idx B _ n rfl)) (fun n => one_v4 (ix1 n)) _

theorem v19_apply (s : Fin 1000) : val_main_v19 (F := Ideal) B (ix1 s) = tot (words B) (fun _ => 1) s.val := by
  unfold val_main_v19
  refine (scatterAdd1 scatter_S1000_S100000x1_S100000_n_0_0_1 rfl rfl rfl _ (fun i => ?_) _ _ s).trans ?_
  · rw [val_main_v17_apply]; exact Ideal.ofBits_zero_f32
  · exact tot_congr (fun n => (val_main_v18_apply B _).trans (words_idx B _ n rfl)) (fun n => one_v16 (ix1 n)) _

theorem v11_apply (s : Fin 1000) (a : Fin 3) : val_main_v11 (F := Ideal) B (ix2 s a) = max (tot (words B) (fun _ => 1) s.val) (1 : EReal) := by
  rw [val_main_v11_apply, val_main_v10_apply, val_main_v8_apply, val_main_v9_apply]
  refine congrArg₂ (fun u v : EReal => max u v) ?_ Ideal.ofBits_one_f32
  refine Eq.trans (congrArg _ ?_) (v7_apply B s)
  funext b
  match b with
  | ⟨0, _⟩ => exact Fin.ext (by show s.val * 1 + 0 = s.val; omega)

theorem v23_apply (s : Fin 1000) (a : Fin 3) : val_main_v23 (F := Ideal) B (ix2 s a) = max (tot (words B) (fun _ => 1) s.val) (1 : EReal) := by
  rw [val_main_v23_apply, val_main_v22_apply, val_main_v20_apply, val_main_v21_apply]
  refine congrArg₂ (fun u v : EReal => max u v) ?_ Ideal.ofBits_one_f32
  refine Eq.trans (congrArg _ ?_) (v19_apply B s)
  funext b
  match b with
  | ⟨0, _⟩ => exact Fin.ext (by show s.val * 1 + 0 = s.val; omega)

/-- The spread of a segment. -/
theorem v32_apply (s : Fin 1000) : val_main_v32 (F := Ideal) P B (ix1 s)
    = spread (tot (words B) (fun _ => 1) s.val) (fun a => tot (words B) (fun n => P (ix2 n a)) s.val)
        (fun a => tot (words B) (fun n => (P (ix2 n a) : EReal) * P (ix2 n a)) s.val) := by
  rw [val_main_v32_apply, val_main_v31_apply]
  unfold spread
  have z8 : val_main_cst_8 (F := Ideal) (Shape.Idx.first h_S_) = (0 : EReal) := Ideal.ofBits_zero_f32
  rw [z8, zero_add, Ideal.hostUnary_sqrt_def]
  refine congrArg Ideal.sqrt (Finset.sum_congr rfl fun a _ => ?_)
  have hi : idx_main_v31 (ix1 s) a = ix2 s a := funext fun b => match b with | ⟨0, _⟩ => rfl | ⟨1, _⟩ => rfl
  rw [hi, val_main_v30_apply, val_main_v29_apply, val_main_v28_apply, val_main_v26_apply, val_main_v25_apply, val_main_v24_apply, val_main_v12_apply,
    val_main_v27_apply, v3_apply, v15_apply, v11_apply, v23_apply]
  have z : val_main_cst_7 (F := Ideal) (idx_main_v27 (ix2 s a)) = (0 : EReal) := Ideal.ofBits_zero_f32
  rw [z]
  simp only [Ideal.hostUnary_sqrt_def, Ideal.mulf_def, Ideal.subf_def, Ideal.hostDivf_def, Ideal.maximumf_def]
  exact sqrt_sq _

/-- The logarithm of a segment's size. -/
theorem v70_apply (s : Fin 1000) : val_main_v70 (F := Ideal) B (ix1 s) = Ideal.log (tot (words B) (fun _ => 1) s.val) := by
  rw [val_main_v70_apply, val_main_v69_apply]
  refine (congrArg Ideal.log (?_ : (((val_main_v36 (F := Ideal) B (ix1 s)).toInt : ℝ) : EReal) = _) :)
  unfold val_main_v36
  refine (scatterOnes_float (by norm_num) scatter_S1000_S100000x1_S100000_n_0_0_1 rfl rfl rfl _ (fun i => ?_) _ _ (fun i => ?_) s).trans ?_
  · rw [val_main_v34_apply]; rfl
  · rw [val_main_v33_apply]; rfl
  · exact tot_congr (fun n => (val_main_v35_apply B _).trans (words_idx B _ n rfl)) (fun n => rfl) _

/-- The points, each taken from the next. -/
theorem v37_apply (n : Fin 100000) (a : Fin 3) : val_main_v37 (F := Ideal) P (ix2 n a) = P (ix2 (nx n) a) := by
  unfold val_main_v37
  by_cases h : n.val < 99999
  · refine (concatenate_pair_apply_left (t := S100000x3) (s₁ := S99999x3) (s₂ := S1x3) 0 _ _ _ (ix2 n a) rfl (ix2 (⟨n.val, h⟩ : Fin 99999) a) (fun b => match b with
      | ⟨0, _⟩ => rfl
      | ⟨1, _⟩ => rfl)).trans ?_
    rw [val_main_call0_v0_apply]
    exact congrArg P (funext fun b => match b with
      | ⟨0, _⟩ => Fin.ext (by show 1 + n.val = (n.val + 1) % 100000; omega)
      | ⟨1, _⟩ => rfl)
  · refine (concatenate_pair_apply_right (t := S100000x3) (s₁ := S99999x3) (s₂ := S1x3) 0 _ _ _ (ix2 n a) rfl rfl (ix2 (0 : Fin 1) a) (fun b hb => match b with
      | ⟨0, _⟩ => absurd rfl hb
      | ⟨1, _⟩ => rfl) (by show 0 + 99999 = n.val; omega)).trans ?_
    rw [val_main_call0_v1_apply]
    exact congrArg P (funext fun b => match b with
      | ⟨0, _⟩ => Fin.ext (by show 0 = (n.val + 1) % 100000; omega)
      | ⟨1, _⟩ => rfl)

/-- The segment words, each taken from the next point. -/
theorem v39_apply (n : Fin 100000) : val_main_v39 (F := Ideal) B (ix1 n) = words B (nx n) := by
  unfold val_main_v39
  by_cases h : n.val < 99999
  · refine (concatenate_pair_apply_left (t := S100000) (s₁ := S99999) (s₂ := S1) 0 _ _ _ (ix1 n) rfl (ix1 (⟨n.val, h⟩ : Fin 99999)) (fun b => match b with
      | ⟨0, _⟩ => rfl)).trans ?_
    rw [val_main_call1_v0_apply]
    exact words_idx B _ _ (by show 1 + n.val = (n.val + 1) % 100000; omega)
  · refine (concatenate_pair_apply_right (t := S100000) (s₁ := S99999) (s₂ := S1) 0 _ _ _ (ix1 n) rfl rfl (ix1 (0 : Fin 1)) (fun b hb => match b with
      | ⟨0, _⟩ => absurd rfl hb) (by show 0 + 99999 = n.val; omega)).trans ?_
    rw [val_main_call1_v1_apply]
    exact words_idx B _ _ (by show 0 = (n.val + 1) % 100000; omega)

/-- Of two words that are not negative, the difference has a positive size just when they differ. -/
theorem differ {x y : BitVec 32} (hx : 0 ≤ x.toInt) (hy : 0 ≤ y.toInt) :
    IntOp.cmpi .sgt (IntOp.absi (IntOp.subi x y)) 0#32 = BitVec.ofBool (x != y) := by
  show BitVec.ofBool ((0#32 : BitVec 32).slt (if (x - y).msb then -(x - y) else x - y)) = _
  congr 1
  have hx' : x.toNat < 2 ^ 31 := by rw [BitVec.toInt_eq_toNat_cond] at hx; split at hx <;> omega
  have hy' : y.toNat < 2 ^ 31 := by rw [BitVec.toInt_eq_toNat_cond] at hy; split at hy <;> omega
  have key : ∀ z : BitVec 32, z.toNat < 2 ^ 31 → ((0#32 : BitVec 32).slt z = true ↔ z ≠ 0#32) := by
    intro z hz
    rw [BitVec.slt_iff_toInt_lt, BitVec.toInt_eq_toNat_cond, BitVec.toInt_eq_toNat_cond]
    have e : (0#32 : BitVec 32).toNat = 0 := rfl
    rw [e, if_pos (by omega), if_pos (by omega)]
    constructor
    · rintro h rfl
      rw [e] at h; omega
    · intro h
      have h' : z.toNat ≠ 0 := fun c => h (BitVec.eq_of_toNat_eq c)
      omega
  rw [Bool.eq_iff_iff, bne_iff_ne, key]
  · have hs : x - y = 0#32 ↔ x = y := by
      constructor
      · intro h
        have h2 := congrArg BitVec.toNat h
        rw [BitVec.toNat_sub] at h2
        have e : (0#32 : BitVec 32).toNat = 0 := rfl
        rw [e] at h2
        exact BitVec.eq_of_toNat_eq (by omega)
      · rintro rfl
        exact BitVec.sub_self x
    split
    · rw [ne_eq, BitVec.neg_eq_zero_iff, hs]
    · rw [ne_eq, hs]
  · split
    · next h =>
      rw [BitVec.msb_eq_decide, decide_eq_true_eq] at h
      rw [BitVec.toNat_neg]
      rw [BitVec.toNat_sub] at h ⊢
      omega
    · next h =>
      rw [BitVec.msb_eq_decide, decide_eq_true_eq] at h
      omega

/-- Three columns joined, read at one of them. -/
theorem join_cols (x : Fin 3 → IVec S100000x1 1)
    (h : Shape.Concatenates ([⟨S100000x1, x 0⟩, ⟨S100000x1, x 1⟩, ⟨S100000x1, x 2⟩].map (fun p : (s : Shape) × (s.Idx → BitVec 1) => p.1)) S100000x3 1) (n : Fin 100000) (a : Fin 3) :
    concatenate S100000x3 1 [⟨S100000x1, x 0⟩, ⟨S100000x1, x 1⟩, ⟨S100000x1, x 2⟩] h (ix2 n a) = x a (ix2 n (0 : Fin 1)) := by
  have hx : ([⟨S100000x1, x 0⟩, ⟨S100000x1, x 1⟩, ⟨S100000x1, x 2⟩] : List ((s : Shape) × (s.Idx → BitVec 1)))[a.val]'(by show a.val < 3; omega) = ⟨S100000x1, x a⟩ := by
    fin_cases a <;> rfl
  refine concatenate_apply_piece 1 _ h (ix2 n a) a.val (by show a.val < 3; omega) S100000x1 (x a) hx rfl a.val ?_ (ix2 n (0 : Fin 1)) ?_ ?_
  · fin_cases a <;> rfl
  · intro b hb
    match b with
    | ⟨0, _⟩ => rfl
    | ⟨1, _⟩ => exact absurd rfl hb
  · rfl

theorem v47_apply (n : Fin 100000) (a : Fin 3) : val_main_v47 (F := Ideal) B (ix2 n a) = val_main_v43 (F := Ideal) B (ix1 n) := by
  have hi : ∀ i : S100000.Idx, (i 0).val = n.val → val_main_v43 (F := Ideal) B i = val_main_v43 (F := Ideal) B (ix1 n) := fun i h =>
    congrArg _ (funext fun b => match b with | ⟨0, _⟩ => Fin.ext h)
  unfold val_main_v47
  refine (join_cols (fun j => match j with | 0 => val_main_v44 (F := Ideal) B | 1 => val_main_v45 (F := Ideal) B | 2 => val_main_v46 (F := Ideal) B) _ n a).trans ?_
  match a with
  | ⟨0, _⟩ => exact (val_main_v44_apply B _).trans (hi _ rfl)
  | ⟨1, _⟩ => exact (val_main_v45_apply B _).trans (hi _ rfl)
  | ⟨2, _⟩ => exact (val_main_v46_apply B _).trans (hi _ rfl)

section Dir
variable (hB : ∀ n, 0 ≤ (words B n).toInt)
include hB

/-- The displacement of a point. -/
theorem v48_apply (n : Fin 100000) (a : Fin 3) : val_main_v48 (F := Ideal) P B (ix2 n a)
    = jump (words B n) (words B (nx n)) (P (ix2 n a)) (P (ix2 (nx n) a)) := by
  rw [val_main_v48_apply, v47_apply, val_main_v43_apply, val_main_v41_apply, val_main_v40_apply, v39_apply, val_main_v42_apply, val_main_c_10_apply,
    differ (hB n) (hB (nx n)), val_main_v38_apply, v37_apply]
  have z : val_main_call2_v1 (F := Ideal) (ix2 n a) = (0 : EReal) := by rw [val_main_call2_v1_apply]; exact Ideal.ofBits_zero_f32
  rw [z]
  unfold jump Scalar.select
  by_cases h : words B n = words B (nx n)
  · rw [if_pos h, if_neg (by rw [h]; simp)]
    rfl
  · rw [if_neg h, if_pos (by rw [bne_iff_ne.2 h]; rfl)]

theorem v51_apply (s : Fin 1000) (a : Fin 3) : val_main_v51 (F := Ideal) P B (ix2 s a)
    = tot (words B) (fun n => jump (words B n) (words B (nx n)) (P (ix2 n a)) (P (ix2 (nx n) a))) s.val := by
  unfold val_main_v51
  refine (scatterAdd2 scatter_S1000x3_S100000x1_S100000x3_1_0_0_1 rfl rfl rfl rfl _ (fun i => ?_) _ _ s a).trans ?_
  · rw [val_main_v49_apply]; exact Ideal.ofBits_zero_f32
  · exact tot_congr (fun n => (val_main_v50_apply B _).trans (words_idx B _ n rfl)) (fun n => v48_apply P B hB n a) _

omit hB in
theorem one_v52 (i : S100000.Idx) : val_main_v52 (F := Ideal) i = (1 : EReal) := by rw [val_main_v52_apply]; exact Ideal.ofBits_one_f32

omit hB in
theorem v55_apply (s : Fin 1000) : val_main_v55 (F := Ideal) B (ix1 s) = tot (words B) (fun _ => 1) s.val := by
  unfold val_main_v55
  refine (scatterAdd1 scatter_S1000_S100000x1_S100000_n_0_0_1 rfl rfl rfl _ (fun i => ?_) _ _ s).trans ?_
  · rw [val_main_v53_apply]; exact Ideal.ofBits_zero_f32
  · exact tot_congr (fun n => (val_main_v54_apply B _).trans (words_idx B _ n rfl)) (fun n => one_v52 (ix1 n)) _

omit hB in
theorem v59_apply (s : Fin 1000) (a : Fin 3) : val_main_v59 (F := Ideal) B (ix2 s a) = max (tot (words B) (fun _ => 1) s.val) (1 : EReal) := by
  rw [val_main_v59_apply, val_main_v58_apply, val_main_v56_apply, val_main_v57_apply]
  refine congrArg₂ (fun u v : EReal => max u v) ?_ Ideal.ofBits_one_f32
  refine Eq.trans (congrArg _ ?_) (v55_apply B s)
  funext b
  match b with
  | ⟨0, _⟩ => exact Fin.ext (by show s.val * 1 + 0 = s.val; omega)

/-- A mean displacement. -/
theorem v60_apply (s : Fin 1000) (a : Fin 3) : val_main_v60 (F := Ideal) P B (ix2 s a)
    = Ideal.div (tot (words B) (fun n => jump (words B n) (words B (nx n)) (P (ix2 n a)) (P (ix2 (nx n) a))) s.val) (max (tot (words B) (fun _ => 1) s.val) (1 : EReal)) := by
  rw [val_main_v60_apply, v51_apply P B hB, v59_apply]
  rfl

/-- The direction of a segment. -/
theorem v68_apply (s : Fin 1000) (a : Fin 3) : val_main_v68 (F := Ideal) P B (ix2 s a)
    = dir (tot (words B) (fun _ => 1) s.val) (fun r => tot (words B) (fun n => jump (words B n) (words B (nx n)) (P (ix2 n r)) (P (ix2 (nx n) r))) s.val) a := by
  rw [val_main_v68_apply, v60_apply P B hB, val_main_v67_apply, val_main_v66_apply, val_main_v65_apply, val_main_v63_apply, val_main_v62_apply, val_main_v64_apply]
  unfold dir
  have z : val_main_cst_16 (F := Ideal) (Shape.Idx.first h_S_) = (0 : EReal) := Ideal.ofBits_zero_f32
  rw [z, zero_add, Ideal.hostUnary_sqrt_def, Ideal.hostDivf_def, Ideal.addf_def]
  refine congrArg (Ideal.div _) (congrArg Ideal.sqrt (congrArg (fun u : EReal => eps + u) (Finset.sum_congr rfl fun r _ => ?_)))
  have hi : idx_main_v62 (idx_main_v63 (idx_main_v67 (ix2 s a))) r = ix2 s r := funext fun b => match b with
    | ⟨0, _⟩ => Fin.ext (by show s.val * 1 + 0 = s.val; omega)
    | ⟨1, _⟩ => rfl
  rw [hi, val_main_v61_apply, v60_apply P B hB]
  rfl

end Dir

section Len
variable (hR : ∀ n, ∃ s : Fin 1000, (words B n).toInt = (s.val : Int))
include hR

/-- The numbers the table is read at are the words themselves. -/
theorem cols_apply (n : Fin 100000) : val_main_call3_v5 (F := Ideal) B (ix2 n (0 : Fin 1)) = words B n := by
  have hi : idx_main_call3_v5 (ix2 n (0 : Fin 1)) = ix1 n := funext fun b => match b with | ⟨0, _⟩ => rfl
  rw [val_main_call3_v5_apply, hi, val_main_call3_v4_apply, val_main_call3_v1_apply, val_main_call3_v0_apply, val_main_call3_c_apply]
  have e : IntOp.cmpi .slt (B (ix1 n)) 0#32 = 0#1 := by
    by_contra hne
    have h1 := IntOp.cmpi_slt.1 ((BitVec.eq_zero_or_eq_one _).resolve_left hne)
    obtain ⟨s, hs⟩ := hR n
    have e0 : (0#32 : BitVec 32).toInt = 0 := by decide
    change (B (ix1 n)).toInt = _ at hs
    omega
  rw [e]; rfl

/-- A table of segment values, read at each point's segment. -/
theorem take_apply (n : Fin 100000) (s : Fin 1000) (hs : (words B n).toInt = (s.val : Int)) : val_main_v71 (F := Ideal) P B (ix1 n) = val_main_v32 (F := Ideal) P B (ix1 s) := by
  have hm : val_main_call3_v12 (F := Ideal) B (ix1 n) = 1#1 := by
    unfold val_main_call3_v12
    refine Host.reduce_andi_one _ _ _ _ _ rfl fun i => ?_
    obtain ⟨n', z, rfl⟩ : ∃ (n' : Fin 100000) (z : Fin 1), i = ix2 n' z := ⟨i 0, i 1, eq_ix2 i⟩
    obtain rfl : z = 0 := Subsingleton.elim _ _
    rw [val_main_call3_v11_apply, val_main_call3_v7_apply, val_main_call3_v10_apply, cols_apply B hR, val_main_call3_v6_apply, val_main_call3_v9_apply,
      val_main_call3_v8_apply, val_main_call3_c_2_apply, val_main_call3_c_1_apply]
    obtain ⟨s', hs'⟩ := hR n'
    have hlt := s'.isLt
    refine IntOp.andi_eq_one.2 ⟨IntOp.cmpi_sge.2 ?_, IntOp.cmpi_sle.2 ?_⟩
    · have e0 : (0#32 : BitVec 32).toInt = 0 := by decide
      omega
    · have e0 : (999#32 : BitVec 32).toInt = 999 := by decide
      omega
  rw [val_main_v71_apply, hm]
  show val_main_call3_v13 (F := Ideal) P B (ix1 n) = _
  unfold val_main_call3_v13
  exact Routing.gather_take1 _ rfl rfl rfl rfl _ _ n s ((cols_apply B hR n).trans ((word_eq _ s).2 hs).symm) (by norm_num)

/-- The length of a scaled displacement. -/
theorem v79_apply (n : Fin 100000) (s : Fin 1000) (hs : (words B n).toInt = (s.val : Int)) : val_main_v79 (F := Ideal) P B (ix1 n)
    = len (spread (tot (words B) (fun _ => 1) s.val) (fun a => tot (words B) (fun n => P (ix2 n a)) s.val)
        (fun a => tot (words B) (fun n => (P (ix2 n a) : EReal) * P (ix2 n a)) s.val))
        (fun r => jump (words B n) (words B (nx n)) (P (ix2 n r)) (P (ix2 (nx n) r))) := by
  have hB : ∀ n, 0 ≤ (words B n).toInt := fun n => by obtain ⟨s, hs⟩ := hR n; omega
  rw [val_main_v79_apply, val_main_v78_apply, val_main_v77_apply, val_main_v76_apply, ← v32_apply]
  unfold len
  have z : val_main_cst_18 (F := Ideal) (Shape.Idx.first h_S_) = (0 : EReal) := Ideal.ofBits_zero_f32
  rw [z, zero_add, Ideal.hostUnary_sqrt_def, Ideal.addf_def]
  refine congrArg Ideal.sqrt (congrArg (fun u : EReal => eps + u) (Finset.sum_congr rfl fun r _ => ?_))
  have hi : idx_main_v76 (ix1 n) r = ix2 n r := funext fun b => match b with | ⟨0, _⟩ => rfl | ⟨1, _⟩ => rfl
  have hj : idx_main_v72 (idx_main_v73 (ix2 n r)) = ix1 n := funext fun b => match b with | ⟨0, _⟩ => Fin.ext (by show n.val * 1 + 0 = n.val; omega)
  rw [hi, val_main_v75_apply, val_main_v74_apply, v48_apply P B hB, val_main_v73_apply, val_main_v72_apply, hj, take_apply P B hR n s hs]
  rfl

end Len

end Cert.NV.Ref

end
-- ==== Proof.NV.Claims.lean ====
module

public import proofs.«01_k».proof.Defs
public import proofs.«01_k».proof.Proof.N.Run
public import proofs.«01_k».proof.Proof.NV.Run
public import proofs.«01_k».proof.Proof.NV.Ref

@[expose] public section

set_option maxRecDepth 16384

noncomputable section

namespace Cert.NV

open Idealize.ShloMosaic Idealize.ShloMosaic.ValueIdx Idealize.ShloMosaic.TcCoe Idealize.SL.Sem

/-! The claims about the node stage. -/

theorem pre_facts : Cert.Pre_labelled.Facts := ⟨Cert.NodeRefIdeal.Gen.bcast_S_S100000⟩

theorem frame_p3 : Cert.quiescent_Node (hNode := Cert.Node.Gen.facts) := fun m ρ _ => Cert.Node.Own.quiet m ρ

theorem frame_pi3 : Cert.quiescent_NodeIdeal (hNodeIdeal := Cert.NodeIdeal.Gen.facts) := fun m ρ _ => Cert.NodeIdeal.Own.quiet m ρ

theorem frame_ri3 : Cert.quiescent_NodeRefIdeal (hNodeRefIdeal := Cert.NodeRefIdeal.Gen.facts) := fun m ρ _ =>
  (θ_run Cert.NodeRefIdeal.defs _ _).mono
    (fun r h => ⟨fun c => (h c).2.2.2.2, Idealize.ShloMosaic.sem_eq_zero_of_no_sems (by decide) r.2⟩)
    (Cert.NodeRefIdeal.Value.run m ρ)

theorem frame_pi3_pre : Cert.quiescent_NodeIdeal_pre_labelled (hNodeIdeal := Cert.NodeIdeal.Gen.facts) (hPre_labelled := pre_facts) :=
  fun m ρ _ => Cert.NodeIdeal.Own.quiet m ρ

theorem frame_ri3_pre : Cert.quiescent_NodeRefIdeal_pre_labelled (hNodeRefIdeal := Cert.NodeRefIdeal.Gen.facts) (hPre_labelled := pre_facts) :=
  fun m ρ _ => frame_ri3 m ρ trivial

theorem same0 (m : (ℓ : Loc Cert.NodeIdeal.nD Cert.NodeIdeal.τ Cert.NodeIdeal.sig) → Buf (Elt Ideal) ℓ) (c : Dev Cert.NodeIdeal.nD) :
    Cert.NodeRefIdeal.Read.val_main_v32 (F := Ideal) (m (c.tc.loc Cert.NodeIdeal.main_arg0)) (m (c.tc.loc Cert.NodeIdeal.main_arg1)) = res0 m c := by
  funext i
  obtain ⟨s, rfl⟩ : ∃ s : Fin 1000, i = ix1 s := ⟨i 0, eq_ix1 i⟩
  exact (Ref.v32_apply _ _ s).trans (res0_apply m c s).symm

theorem same1 (m : (ℓ : Loc Cert.NodeIdeal.nD Cert.NodeIdeal.τ Cert.NodeIdeal.sig) → Buf (Elt Ideal) ℓ) (c : Dev Cert.NodeIdeal.nD) :
    Cert.NodeRefIdeal.Read.val_main_v70 (F := Ideal) (m (c.tc.loc Cert.NodeIdeal.main_arg1)) = res1 m c := by
  funext i
  obtain ⟨s, rfl⟩ : ∃ s : Fin 1000, i = ix1 s := ⟨i 0, eq_ix1 i⟩
  exact (Ref.v70_apply _ s).trans (res1_apply m c s).symm

/-- A word compared to be at least zero and less than a thousand names a segment. -/
theorem names {x : BitVec 32} (h : IntOp.andi (IntOp.cmpi .sge x 0#32) (IntOp.cmpi .slt x 1000#32) = 1#1) : ∃ s : Fin 1000, x.toInt = (s.val : Int) := by
  have h1 := IntOp.cmpi_sge.1 (IntOp.andi_eq_one.1 h).1
  have h2 := IntOp.cmpi_slt.1 (IntOp.andi_eq_one.1 h).2
  have e0 : (0#32 : BitVec 32).toInt = 0 := by decide
  have e1 : (1000#32 : BitVec 32).toInt = 1000 := by decide
  rw [e0] at h1; rw [e1] at h2
  exact ⟨⟨x.toInt.toNat, by omega⟩, by show x.toInt = ((x.toInt.toNat : ℕ) : Int); omega⟩

theorem sameL (m : (ℓ : Loc Cert.NodeIdeal.nD Cert.NodeIdeal.τ Cert.NodeIdeal.sig) → Buf (Elt Ideal) ℓ) (c : Dev Cert.NodeIdeal.nD)
    (hR : ∀ n, ∃ s : Fin 1000, (Ref.words (m (c.tc.loc Cert.NodeIdeal.main_arg1)) n).toInt = (s.val : Int)) :
    Cert.NodeRefIdeal.Read.val_main_v79 (F := Ideal) (m (c.tc.loc Cert.NodeIdeal.main_arg0)) (m (c.tc.loc Cert.NodeIdeal.main_arg1)) = resL m c := by
  funext i
  obtain ⟨n, rfl⟩ : ∃ n : Fin 100000, i = ix1 n := ⟨i 0, eq_ix1 i⟩
  obtain ⟨s, hs⟩ := hR n
  exact (Ref.v79_apply _ _ hR n s hs).trans (resL_apply m c n s hs).symm

theorem same2 (m : (ℓ : Loc Cert.NodeIdeal.nD Cert.NodeIdeal.τ Cert.NodeIdeal.sig) → Buf (Elt Ideal) ℓ) (c : Dev Cert.NodeIdeal.nD)
    (hB : ∀ n, 0 ≤ (Ref.words (m (c.tc.loc Cert.NodeIdeal.main_arg1)) n).toInt) :
    Cert.NodeRefIdeal.Read.val_main_v68 (F := Ideal) (m (c.tc.loc Cert.NodeIdeal.main_arg0)) (m (c.tc.loc Cert.NodeIdeal.main_arg1)) = res2 m c := by
  funext i
  obtain ⟨s, a, rfl⟩ : ∃ (s : Fin 1000) (a : Fin 3), i = ix2 s a := ⟨i 0, i 1, eq_ix2 i⟩
  exact (Ref.v68_apply _ _ hB s a).trans (res2_apply m c s a).symm

theorem algebraic : Cert.algebraic_NodeIdeal_NodeRefIdeal_pre_labelled (hNodeIdeal := Cert.NodeIdeal.Gen.facts) (hNodeRefIdeal := Cert.NodeRefIdeal.Gen.facts)
    (hPre_labelled := pre_facts) := by
  intro m g m' g' hpre hag
  have hR : ∀ (c : Dev Cert.NodeIdeal.nD) (n : Fin 100000), ∃ s : Fin 1000, (Ref.words (m (c.tc.loc Cert.NodeIdeal.main_arg1)) n).toInt = (s.val : Int) := fun c n => names (congrFun (hpre c) (ix1 n))
  refine ⟨resL m, res0 m, res1 m, res2 m, ?_, ?_⟩
  · exact (θ_run Cert.NodeIdeal.defs _ _).mono (fun r h c => ⟨(h.1 c).1, (h.1 c).2.1, (h.1 c).2.2.1, (h.1 c).2.2.2, h.2 c⟩) (θ_run_and (run m g) (Cert.NodeIdeal.Own.unchanged m g))
  · refine (θ_run Cert.NodeRefIdeal.defs _ _).mono (fun r h c => ⟨(h c).1.trans ?_, (h c).2.1.trans ?_, (h c).2.2.1.trans ?_, (h c).2.2.2.1.trans ?_, (h c).2.2.2.2⟩) (Cert.NodeRefIdeal.Value.run m' g')
    · obtain ⟨a0, a1⟩ := hag c
      rw [Cert.NodeRefIdeal.Read.val_main_v79_eq, a0, a1]
      exact sameL m c (hR c)
    · obtain ⟨a0, a1⟩ := hag c
      rw [Cert.NodeRefIdeal.Read.val_main_v32_eq, a0, a1]
      exact same0 m c
    · obtain ⟨a0, a1⟩ := hag c
      rw [Cert.NodeRefIdeal.Read.val_main_v70_eq, a1]
      exact same1 m c
    · obtain ⟨a0, a1⟩ := hag c
      rw [Cert.NodeRefIdeal.Read.val_main_v68_eq, a0, a1]
      exact same2 m c (fun n => by obtain ⟨s, hs⟩ := hR c n; omega)

end Cert.NV

end
-- ==== Proof.lean ====
module

public import proofs.«01_k».proof.Defs
public import proofs.«01_k».proof.Proof.Gen.ReferenceIdeal.Run
public import proofs.«01_k».proof.Proof.K.Run
public import proofs.«01_k».proof.Proof.KI.Run
public import proofs.«01_k».proof.Proof.EV.Claims
public import proofs.«01_k».proof.Proof.Gen.Node.Frame
public import proofs.«01_k».proof.Proof.Gen.Node.Points
public import proofs.«01_k».proof.Proof.Gen.NodeIdeal.Frame
public import proofs.«01_k».proof.Proof.Gen.NodeIdeal.Points
public import proofs.«01_k».proof.Proof.NV.Claims

@[expose] public section

noncomputable section

namespace Cert.Proof

open Idealize.ShloMosaic Idealize.ShloMosaic.TcCoe Idealize.SL.Sem

theorem frame_k : Cert.quiescent_Kernel (hKernel := Cert.Kernel.Gen.facts) := fun m ρ _ => Cert.Kernel.Own.quiet m ρ

theorem frame_ki : Cert.quiescent_KernelIdeal (hKernelIdeal := Cert.KernelIdeal.Gen.facts) := fun m ρ _ => Cert.KernelIdeal.Own.quiet m ρ

theorem frame_ri : Cert.quiescent_ReferenceIdeal (hReferenceIdeal := Cert.ReferenceIdeal.Gen.facts) := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run m ρ)

theorem claim : Cert.Claim :=
  ⟨Cert.Kernel.Gen.facts, Cert.KernelIdeal.Gen.facts, Cert.ReferenceIdeal.Gen.facts, Cert.Edge.Gen.facts, Cert.EdgeIdeal.Gen.facts,
    Cert.EdgeRefIdeal.Gen.facts, Cert.Node.Gen.facts, Cert.NodeIdeal.Gen.facts, Cert.NodeRefIdeal.Gen.facts, Cert.EV.pre_facts, Cert.NV.pre_facts,
    frame_k, frame_ki, frame_ri, Cert.EV.frame_p2, Cert.EV.frame_pi2, Cert.EV.frame_pi2_pre, Cert.EV.frame_ri2, Cert.EV.frame_ri2_pre,
    Cert.NV.frame_p3, Cert.NV.frame_pi3, Cert.NV.frame_pi3_pre, Cert.NV.frame_ri3, Cert.NV.frame_ri3_pre, IdealRules.sign_bit.statement Cert.KernelIdeal.S1x6400 .f32,
    IdealRules.sign_bit.statement Cert.EdgeIdeal.S1x6400 .f32, Cert.EV.algebraic, trivial, Cert.NV.algebraic⟩

end Cert.Proof

end
